-- ==== Defs.lean ====
def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_Last (m : (ℓ : Loc Cert.Last.nD Cert.Last.τ Cert.Last.sig) → Buf (Elt Bits) ℓ) : Prop :=
  True

def Pre_LastIdeal (m : (ℓ : Loc Cert.LastIdeal.nD Cert.LastIdeal.τ Cert.LastIdeal.sig) → Buf (Elt Ideal) ℓ) : Prop :=
  True

def Pre_LastRefIdeal (m : (ℓ : Loc Cert.LastRefIdeal.nD Cert.LastRefIdeal.τ Cert.LastRefIdeal.sig) → Buf (Elt Ideal) ℓ) : Prop :=
  True

def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_OutRefIdeal (m : (ℓ : Loc Cert.OutRefIdeal.nD Cert.OutRefIdeal.τ Cert.OutRefIdeal.sig) → Buf (Elt Ideal) ℓ) : Prop :=
  True

def Pre_GlaProj (m : (ℓ : Loc Cert.GlaProj.nD Cert.GlaProj.τ Cert.GlaProj.sig) → Buf (Elt Bits) ℓ) : Prop :=
  True

def Pre_GlaProjIdeal (m : (ℓ : Loc Cert.GlaProjIdeal.nD Cert.GlaProjIdeal.τ Cert.GlaProjIdeal.sig) → Buf (Elt Ideal) ℓ) : Prop :=
  True

def Pre_GlaProjRefIdeal (m : (ℓ : Loc Cert.GlaProjRefIdeal.nD Cert.GlaProjRefIdeal.τ Cert.GlaProjRefIdeal.sig) → Buf (Elt Ideal) ℓ) : Prop :=
  True

def Pre_GdnProj (m : (ℓ : Loc Cert.GdnProj.nD Cert.GdnProj.τ Cert.GdnProj.sig) → Buf (Elt Bits) ℓ) : Prop :=
  True

def Pre_GdnProjIdeal (m : (ℓ : Loc Cert.GdnProjIdeal.nD Cert.GdnProjIdeal.τ Cert.GdnProjIdeal.sig) → Buf (Elt Ideal) ℓ) : Prop :=
  True

def Pre_GdnProjRefIdeal (m : (ℓ : Loc Cert.GdnProjRefIdeal.nD Cert.GdnProjRefIdeal.τ Cert.GdnProjRefIdeal.sig) → Buf (Elt Ideal) ℓ) : Prop :=
  True

def Pre_RwProj (m : (ℓ : Loc Cert.RwProj.nD Cert.RwProj.τ Cert.RwProj.sig) → Buf (Elt Bits) ℓ) : Prop :=
  True

def Pre_RwProjIdeal (m : (ℓ : Loc Cert.RwProjIdeal.nD Cert.RwProjIdeal.τ Cert.RwProjIdeal.sig) → Buf (Elt Ideal) ℓ) : Prop :=
  True

def Pre_RwProjRefIdeal (m : (ℓ : Loc Cert.RwProjRefIdeal.nD Cert.RwProjRefIdeal.τ Cert.RwProjRefIdeal.sig) → Buf (Elt Ideal) ℓ) : Prop :=
  True

def Pre_Mix (m : (ℓ : Loc Cert.Mix.nD Cert.Mix.τ Cert.Mix.sig) → Buf (Elt Bits) ℓ) : Prop :=
  True

def Pre_MixIdeal (m : (ℓ : Loc Cert.MixIdeal.nD Cert.MixIdeal.τ Cert.MixIdeal.sig) → Buf (Elt Ideal) ℓ) : Prop :=
  True

def Pre_MixRefIdeal (m : (ℓ : Loc Cert.MixRefIdeal.nD Cert.MixRefIdeal.τ Cert.MixRefIdeal.sig) → Buf (Elt Ideal) ℓ) : Prop :=
  True

def Pre_Norm (m : (ℓ : Loc Cert.Norm.nD Cert.Norm.τ Cert.Norm.sig) → Buf (Elt Bits) ℓ) : Prop :=
  True

def Pre_NormIdeal (m : (ℓ : Loc Cert.NormIdeal.nD Cert.NormIdeal.τ Cert.NormIdeal.sig) → Buf (Elt Ideal) ℓ) : Prop :=
  True

def Pre_NormRefIdeal (m : (ℓ : Loc Cert.NormRefIdeal.nD Cert.NormRefIdeal.τ Cert.NormRefIdeal.sig) → Buf (Elt Ideal) ℓ) : Prop :=
  True

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5))
      ∧ r.2.sem = fun _ => 0)

def quiescent_Last [hLast : Cert.Last.Facts] : Prop :=
  ∀ (m : (ℓ : Loc Cert.Last.nD Cert.Last.τ Cert.Last.sig) → Buf (Elt Bits) ℓ) (g : Dev Cert.Last.nD → PrngReg), Pre_Last m →
    θ_run (Cert.Last.defs (F := Bits)) (onTc (τ := Cert.Last.τ) (Cert.Last.main (F := Bits))) ⟨m, fun _ => 0, g⟩ (fun r => (∀ c : Dev Cert.Last.nD,
      r.2.mem ((c.tc : Thread Cert.Last.nD Cert.Last.τ).loc Cert.Last.main_arg0) = m ((c.tc : Thread Cert.Last.nD Cert.Last.τ).loc Cert.Last.main_arg0)
      ∧ r.2.mem ((c.tc : Thread Cert.Last.nD Cert.Last.τ).loc Cert.Last.main_arg1) = m ((c.tc : Thread Cert.Last.nD Cert.Last.τ).loc Cert.Last.main_arg1)
      ∧ r.2.mem ((c.tc : Thread Cert.Last.nD Cert.Last.τ).loc Cert.Last.main_arg2) = m ((c.tc : Thread Cert.Last.nD Cert.Last.τ).loc Cert.Last.main_arg2)
      ∧ r.2.mem ((c.tc : Thread Cert.Last.nD Cert.Last.τ).loc Cert.Last.main_arg3) = m ((c.tc : Thread Cert.Last.nD Cert.Last.τ).loc Cert.Last.main_arg3)
      ∧ r.2.mem ((c.tc : Thread Cert.Last.nD Cert.Last.τ).loc Cert.Last.main_arg4) = m ((c.tc : Thread Cert.Last.nD Cert.Last.τ).loc Cert.Last.main_arg4)
      ∧ r.2.mem ((c.tc : Thread Cert.Last.nD Cert.Last.τ).loc Cert.Last.main_arg5) = m ((c.tc : Thread Cert.Last.nD Cert.Last.τ).loc Cert.Last.main_arg5))
      ∧ r.2.sem = fun _ => 0)

def quiescent_LastIdeal [hLastIdeal : Cert.LastIdeal.Facts] : Prop :=
  ∀ (m : (ℓ : Loc Cert.LastIdeal.nD Cert.LastIdeal.τ Cert.LastIdeal.sig) → Buf (Elt Ideal) ℓ) (g : Dev Cert.LastIdeal.nD → PrngReg), Pre_LastIdeal m →
    θ_run (Cert.LastIdeal.defs (F := Ideal)) (onTc (τ := Cert.LastIdeal.τ) (Cert.LastIdeal.main (F := Ideal))) ⟨m, fun _ => 0, g⟩ (fun r => (∀ c : Dev Cert.LastIdeal.nD,
      r.2.mem ((c.tc : Thread Cert.LastIdeal.nD Cert.LastIdeal.τ).loc Cert.LastIdeal.main_arg0) = m ((c.tc : Thread Cert.LastIdeal.nD Cert.LastIdeal.τ).loc Cert.LastIdeal.main_arg0)
      ∧ r.2.mem ((c.tc : Thread Cert.LastIdeal.nD Cert.LastIdeal.τ).loc Cert.LastIdeal.main_arg1) = m ((c.tc : Thread Cert.LastIdeal.nD Cert.LastIdeal.τ).loc Cert.LastIdeal.main_arg1)
      ∧ r.2.mem ((c.tc : Thread Cert.LastIdeal.nD Cert.LastIdeal.τ).loc Cert.LastIdeal.main_arg2) = m ((c.tc : Thread Cert.LastIdeal.nD Cert.LastIdeal.τ).loc Cert.LastIdeal.main_arg2)
      ∧ r.2.mem ((c.tc : Thread Cert.LastIdeal.nD Cert.LastIdeal.τ).loc Cert.LastIdeal.main_arg3) = m ((c.tc : Thread Cert.LastIdeal.nD Cert.LastIdeal.τ).loc Cert.LastIdeal.main_arg3)
      ∧ r.2.mem ((c.tc : Thread Cert.LastIdeal.nD Cert.LastIdeal.τ).loc Cert.LastIdeal.main_arg4) = m ((c.tc : Thread Cert.LastIdeal.nD Cert.LastIdeal.τ).loc Cert.LastIdeal.main_arg4)
      ∧ r.2.mem ((c.tc : Thread Cert.LastIdeal.nD Cert.LastIdeal.τ).loc Cert.LastIdeal.main_arg5) = m ((c.tc : Thread Cert.LastIdeal.nD Cert.LastIdeal.τ).loc Cert.LastIdeal.main_arg5))
      ∧ r.2.sem = fun _ => 0)

def quiescent_LastRefIdeal [hLastRefIdeal : Cert.LastRefIdeal.Facts] : Prop :=
  ∀ (m : (ℓ : Loc Cert.LastRefIdeal.nD Cert.LastRefIdeal.τ Cert.LastRefIdeal.sig) → Buf (Elt Ideal) ℓ) (g : Dev Cert.LastRefIdeal.nD → PrngReg), Pre_LastRefIdeal m →
    θ_run (Cert.LastRefIdeal.defs (F := Ideal)) (onTc (τ := Cert.LastRefIdeal.τ) (Cert.LastRefIdeal.main (F := Ideal))) ⟨m, fun _ => 0, g⟩ (fun r => (∀ c : Dev Cert.LastRefIdeal.nD,
      r.2.mem ((c.tc : Thread Cert.LastRefIdeal.nD Cert.LastRefIdeal.τ).loc Cert.LastRefIdeal.main_arg0) = m ((c.tc : Thread Cert.LastRefIdeal.nD Cert.LastRefIdeal.τ).loc Cert.LastRefIdeal.main_arg0)
      ∧ r.2.mem ((c.tc : Thread Cert.LastRefIdeal.nD Cert.LastRefIdeal.τ).loc Cert.LastRefIdeal.main_arg1) = m ((c.tc : Thread Cert.LastRefIdeal.nD Cert.LastRefIdeal.τ).loc Cert.LastRefIdeal.main_arg1)
      ∧ r.2.mem ((c.tc : Thread Cert.LastRefIdeal.nD Cert.LastRefIdeal.τ).loc Cert.LastRefIdeal.main_arg2) = m ((c.tc : Thread Cert.LastRefIdeal.nD Cert.LastRefIdeal.τ).loc Cert.LastRefIdeal.main_arg2)
      ∧ r.2.mem ((c.tc : Thread Cert.LastRefIdeal.nD Cert.LastRefIdeal.τ).loc Cert.LastRefIdeal.main_arg3) = m ((c.tc : Thread Cert.LastRefIdeal.nD Cert.LastRefIdeal.τ).loc Cert.LastRefIdeal.main_arg3)
      ∧ r.2.mem ((c.tc : Thread Cert.LastRefIdeal.nD Cert.LastRefIdeal.τ).loc Cert.LastRefIdeal.main_arg4) = m ((c.tc : Thread Cert.LastRefIdeal.nD Cert.LastRefIdeal.τ).loc Cert.LastRefIdeal.main_arg4)
      ∧ r.2.mem ((c.tc : Thread Cert.LastRefIdeal.nD Cert.LastRefIdeal.τ).loc Cert.LastRefIdeal.main_arg5) = m ((c.tc : Thread Cert.LastRefIdeal.nD Cert.LastRefIdeal.τ).loc Cert.LastRefIdeal.main_arg5))
      ∧ r.2.sem = fun _ => 0)

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1)
      ∧ r.2.mem ((c.tc : Thread Cert.Out.nD Cert.Out.τ).loc Cert.Out.main_arg2) = m ((c.tc : Thread Cert.Out.nD Cert.Out.τ).loc Cert.Out.main_arg2)
      ∧ r.2.mem ((c.tc : Thread Cert.Out.nD Cert.Out.τ).loc Cert.Out.main_arg3) = m ((c.tc : Thread Cert.Out.nD Cert.Out.τ).loc Cert.Out.main_arg3)
      ∧ r.2.mem ((c.tc : Thread Cert.Out.nD Cert.Out.τ).loc Cert.Out.main_arg4) = m ((c.tc : Thread Cert.Out.nD Cert.Out.τ).loc Cert.Out.main_arg4)
      ∧ r.2.mem ((c.tc : Thread Cert.Out.nD Cert.Out.τ).loc Cert.Out.main_arg5) = m ((c.tc : Thread Cert.Out.nD Cert.Out.τ).loc Cert.Out.main_arg5))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
      ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
      ∧ r.2.mem ((c.tc : Thread Cert.OutIdeal.nD Cert.OutIdeal.τ).loc Cert.OutIdeal.main_arg3) = m ((c.tc : Thread Cert.OutIdeal.nD Cert.OutIdeal.τ).loc Cert.OutIdeal.main_arg3)
      ∧ r.2.mem ((c.tc : Thread Cert.OutIdeal.nD Cert.OutIdeal.τ).loc Cert.OutIdeal.main_arg4) = m ((c.tc : Thread Cert.OutIdeal.nD Cert.OutIdeal.τ).loc Cert.OutIdeal.main_arg4)
      ∧ r.2.mem ((c.tc : Thread Cert.OutIdeal.nD Cert.OutIdeal.τ).loc Cert.OutIdeal.main_arg5) = m ((c.tc : Thread Cert.OutIdeal.nD Cert.OutIdeal.τ).loc Cert.OutIdeal.main_arg5))
      ∧ r.2.sem = fun _ => 0)

def quiescent_OutRefIdeal [hOutRefIdeal : Cert.OutRefIdeal.Facts] : Prop :=
  ∀ (m : (ℓ : Loc Cert.OutRefIdeal.nD Cert.OutRefIdeal.τ Cert.OutRefIdeal.sig) → Buf (Elt Ideal) ℓ) (g : Dev Cert.OutRefIdeal.nD → PrngReg), Pre_OutRefIdeal m →
    θ_run (Cert.OutRefIdeal.defs (F := Ideal)) (onTc (τ := Cert.OutRefIdeal.τ) (Cert.OutRefIdeal.main (F := Ideal))) ⟨m, fun _ => 0, g⟩ (fun r => (∀ c : Dev Cert.OutRefIdeal.nD,
      r.2.mem ((c.tc : Thread Cert.OutRefIdeal.nD Cert.OutRefIdeal.τ).loc Cert.OutRefIdeal.main_arg0) = m ((c.tc : Thread Cert.OutRefIdeal.nD Cert.OutRefIdeal.τ).loc Cert.OutRefIdeal.main_arg0)
      ∧ r.2.mem ((c.tc : Thread Cert.OutRefIdeal.nD Cert.OutRefIdeal.τ).loc Cert.OutRefIdeal.main_arg1) = m ((c.tc : Thread Cert.OutRefIdeal.nD Cert.OutRefIdeal.τ).loc Cert.OutRefIdeal.main_arg1)
      ∧ r.2.mem ((c.tc : Thread Cert.OutRefIdeal.nD Cert.OutRefIdeal.τ).loc Cert.OutRefIdeal.main_arg2) = m ((c.tc : Thread Cert.OutRefIdeal.nD Cert.OutRefIdeal.τ).loc Cert.OutRefIdeal.main_arg2)
      ∧ r.2.mem ((c.tc : Thread Cert.OutRefIdeal.nD Cert.OutRefIdeal.τ).loc Cert.OutRefIdeal.main_arg3) = m ((c.tc : Thread Cert.OutRefIdeal.nD Cert.OutRefIdeal.τ).loc Cert.OutRefIdeal.main_arg3)
      ∧ r.2.mem ((c.tc : Thread Cert.OutRefIdeal.nD Cert.OutRefIdeal.τ).loc Cert.OutRefIdeal.main_arg4) = m ((c.tc : Thread Cert.OutRefIdeal.nD Cert.OutRefIdeal.τ).loc Cert.OutRefIdeal.main_arg4)
      ∧ r.2.mem ((c.tc : Thread Cert.OutRefIdeal.nD Cert.OutRefIdeal.τ).loc Cert.OutRefIdeal.main_arg5) = m ((c.tc : Thread Cert.OutRefIdeal.nD Cert.OutRefIdeal.τ).loc Cert.OutRefIdeal.main_arg5))
      ∧ r.2.sem = fun _ => 0)

def quiescent_GlaProj [hGlaProj : Cert.GlaProj.Facts] : Prop :=
  ∀ (m : (ℓ : Loc Cert.GlaProj.nD Cert.GlaProj.τ Cert.GlaProj.sig) → Buf (Elt Bits) ℓ) (g : Dev Cert.GlaProj.nD → PrngReg), Pre_GlaProj m →
    θ_run (Cert.GlaProj.defs (F := Bits)) (onTc (τ := Cert.GlaProj.τ) (Cert.GlaProj.main (F := Bits))) ⟨m, fun _ => 0, g⟩ (fun r => (∀ c : Dev Cert.GlaProj.nD,
      r.2.mem ((c.tc : Thread Cert.GlaProj.nD Cert.GlaProj.τ).loc Cert.GlaProj.main_arg0) = m ((c.tc : Thread Cert.GlaProj.nD Cert.GlaProj.τ).loc Cert.GlaProj.main_arg0)
      ∧ r.2.mem ((c.tc : Thread Cert.GlaProj.nD Cert.GlaProj.τ).loc Cert.GlaProj.main_arg1) = m ((c.tc : Thread Cert.GlaProj.nD Cert.GlaProj.τ).loc Cert.GlaProj.main_arg1))
      ∧ r.2.sem = fun _ => 0)

def quiescent_GlaProjIdeal [hGlaProjIdeal : Cert.GlaProjIdeal.Facts] : Prop :=
  ∀ (m : (ℓ : Loc Cert.GlaProjIdeal.nD Cert.GlaProjIdeal.τ Cert.GlaProjIdeal.sig) → Buf (Elt Ideal) ℓ) (g : Dev Cert.GlaProjIdeal.nD → PrngReg), Pre_GlaProjIdeal m →
    θ_run (Cert.GlaProjIdeal.defs (F := Ideal)) (onTc (τ := Cert.GlaProjIdeal.τ) (Cert.GlaProjIdeal.main (F := Ideal))) ⟨m, fun _ => 0, g⟩ (fun r => (∀ c : Dev Cert.GlaProjIdeal.nD,
      r.2.mem ((c.tc : Thread Cert.GlaProjIdeal.nD Cert.GlaProjIdeal.τ).loc Cert.GlaProjIdeal.main_arg0) = m ((c.tc : Thread Cert.GlaProjIdeal.nD Cert.GlaProjIdeal.τ).loc Cert.GlaProjIdeal.main_arg0)
      ∧ r.2.mem ((c.tc : Thread Cert.GlaProjIdeal.nD Cert.GlaProjIdeal.τ).loc Cert.GlaProjIdeal.main_arg1) = m ((c.tc : Thread Cert.GlaProjIdeal.nD Cert.GlaProjIdeal.τ).loc Cert.GlaProjIdeal.main_arg1))
      ∧ r.2.sem = fun _ => 0)

def quiescent_GlaProjRefIdeal [hGlaProjRefIdeal : Cert.GlaProjRefIdeal.Facts] : Prop :=
  ∀ (m : (ℓ : Loc Cert.GlaProjRefIdeal.nD Cert.GlaProjRefIdeal.τ Cert.GlaProjRefIdeal.sig) → Buf (Elt Ideal) ℓ) (g : Dev Cert.GlaProjRefIdeal.nD → PrngReg), Pre_GlaProjRefIdeal m →
    θ_run (Cert.GlaProjRefIdeal.defs (F := Ideal)) (onTc (τ := Cert.GlaProjRefIdeal.τ) (Cert.GlaProjRefIdeal.main (F := Ideal))) ⟨m, fun _ => 0, g⟩ (fun r => (∀ c : Dev Cert.GlaProjRefIdeal.nD,
      r.2.mem ((c.tc : Thread Cert.GlaProjRefIdeal.nD Cert.GlaProjRefIdeal.τ).loc Cert.GlaProjRefIdeal.main_arg0) = m ((c.tc : Thread Cert.GlaProjRefIdeal.nD Cert.GlaProjRefIdeal.τ).loc Cert.GlaProjRefIdeal.main_arg0)
      ∧ r.2.mem ((c.tc : Thread Cert.GlaProjRefIdeal.nD Cert.GlaProjRefIdeal.τ).loc Cert.GlaProjRefIdeal.main_arg1) = m ((c.tc : Thread Cert.GlaProjRefIdeal.nD Cert.GlaProjRefIdeal.τ).loc Cert.GlaProjRefIdeal.main_arg1))
      ∧ r.2.sem = fun _ => 0)

def quiescent_GdnProj [hGdnProj : Cert.GdnProj.Facts] : Prop :=
  ∀ (m : (ℓ : Loc Cert.GdnProj.nD Cert.GdnProj.τ Cert.GdnProj.sig) → Buf (Elt Bits) ℓ) (g : Dev Cert.GdnProj.nD → PrngReg), Pre_GdnProj m →
    θ_run (Cert.GdnProj.defs (F := Bits)) (onTc (τ := Cert.GdnProj.τ) (Cert.GdnProj.main (F := Bits))) ⟨m, fun _ => 0, g⟩ (fun r => (∀ c : Dev Cert.GdnProj.nD,
      r.2.mem ((c.tc : Thread Cert.GdnProj.nD Cert.GdnProj.τ).loc Cert.GdnProj.main_arg0) = m ((c.tc : Thread Cert.GdnProj.nD Cert.GdnProj.τ).loc Cert.GdnProj.main_arg0)
      ∧ r.2.mem ((c.tc : Thread Cert.GdnProj.nD Cert.GdnProj.τ).loc Cert.GdnProj.main_arg1) = m ((c.tc : Thread Cert.GdnProj.nD Cert.GdnProj.τ).loc Cert.GdnProj.main_arg1))
      ∧ r.2.sem = fun _ => 0)

def quiescent_GdnProjIdeal [hGdnProjIdeal : Cert.GdnProjIdeal.Facts] : Prop :=
  ∀ (m : (ℓ : Loc Cert.GdnProjIdeal.nD Cert.GdnProjIdeal.τ Cert.GdnProjIdeal.sig) → Buf (Elt Ideal) ℓ) (g : Dev Cert.GdnProjIdeal.nD → PrngReg), Pre_GdnProjIdeal m →
    θ_run (Cert.GdnProjIdeal.defs (F := Ideal)) (onTc (τ := Cert.GdnProjIdeal.τ) (Cert.GdnProjIdeal.main (F := Ideal))) ⟨m, fun _ => 0, g⟩ (fun r => (∀ c : Dev Cert.GdnProjIdeal.nD,
      r.2.mem ((c.tc : Thread Cert.GdnProjIdeal.nD Cert.GdnProjIdeal.τ).loc Cert.GdnProjIdeal.main_arg0) = m ((c.tc : Thread Cert.GdnProjIdeal.nD Cert.GdnProjIdeal.τ).loc Cert.GdnProjIdeal.main_arg0)
      ∧ r.2.mem ((c.tc : Thread Cert.GdnProjIdeal.nD Cert.GdnProjIdeal.τ).loc Cert.GdnProjIdeal.main_arg1) = m ((c.tc : Thread Cert.GdnProjIdeal.nD Cert.GdnProjIdeal.τ).loc Cert.GdnProjIdeal.main_arg1))
      ∧ r.2.sem = fun _ => 0)

def quiescent_GdnProjRefIdeal [hGdnProjRefIdeal : Cert.GdnProjRefIdeal.Facts] : Prop :=
  ∀ (m : (ℓ : Loc Cert.GdnProjRefIdeal.nD Cert.GdnProjRefIdeal.τ Cert.GdnProjRefIdeal.sig) → Buf (Elt Ideal) ℓ) (g : Dev Cert.GdnProjRefIdeal.nD → PrngReg), Pre_GdnProjRefIdeal m →
    θ_run (Cert.GdnProjRefIdeal.defs (F := Ideal)) (onTc (τ := Cert.GdnProjRefIdeal.τ) (Cert.GdnProjRefIdeal.main (F := Ideal))) ⟨m, fun _ => 0, g⟩ (fun r => (∀ c : Dev Cert.GdnProjRefIdeal.nD,
      r.2.mem ((c.tc : Thread Cert.GdnProjRefIdeal.nD Cert.GdnProjRefIdeal.τ).loc Cert.GdnProjRefIdeal.main_arg0) = m ((c.tc : Thread Cert.GdnProjRefIdeal.nD Cert.GdnProjRefIdeal.τ).loc Cert.GdnProjRefIdeal.main_arg0)
      ∧ r.2.mem ((c.tc : Thread Cert.GdnProjRefIdeal.nD Cert.GdnProjRefIdeal.τ).loc Cert.GdnProjRefIdeal.main_arg1) = m ((c.tc : Thread Cert.GdnProjRefIdeal.nD Cert.GdnProjRefIdeal.τ).loc Cert.GdnProjRefIdeal.main_arg1))
      ∧ r.2.sem = fun _ => 0)

def quiescent_RwProj [hRwProj : Cert.RwProj.Facts] : Prop :=
  ∀ (m : (ℓ : Loc Cert.RwProj.nD Cert.RwProj.τ Cert.RwProj.sig) → Buf (Elt Bits) ℓ) (g : Dev Cert.RwProj.nD → PrngReg), Pre_RwProj m →
    θ_run (Cert.RwProj.defs (F := Bits)) (onTc (τ := Cert.RwProj.τ) (Cert.RwProj.main (F := Bits))) ⟨m, fun _ => 0, g⟩ (fun r => (∀ c : Dev Cert.RwProj.nD,
      r.2.mem ((c.tc : Thread Cert.RwProj.nD Cert.RwProj.τ).loc Cert.RwProj.main_arg0) = m ((c.tc : Thread Cert.RwProj.nD Cert.RwProj.τ).loc Cert.RwProj.main_arg0)
      ∧ r.2.mem ((c.tc : Thread Cert.RwProj.nD Cert.RwProj.τ).loc Cert.RwProj.main_arg1) = m ((c.tc : Thread Cert.RwProj.nD Cert.RwProj.τ).loc Cert.RwProj.main_arg1))
      ∧ r.2.sem = fun _ => 0)

def quiescent_RwProjIdeal [hRwProjIdeal : Cert.RwProjIdeal.Facts] : Prop :=
  ∀ (m : (ℓ : Loc Cert.RwProjIdeal.nD Cert.RwProjIdeal.τ Cert.RwProjIdeal.sig) → Buf (Elt Ideal) ℓ) (g : Dev Cert.RwProjIdeal.nD → PrngReg), Pre_RwProjIdeal m →
    θ_run (Cert.RwProjIdeal.defs (F := Ideal)) (onTc (τ := Cert.RwProjIdeal.τ) (Cert.RwProjIdeal.main (F := Ideal))) ⟨m, fun _ => 0, g⟩ (fun r => (∀ c : Dev Cert.RwProjIdeal.nD,
      r.2.mem ((c.tc : Thread Cert.RwProjIdeal.nD Cert.RwProjIdeal.τ).loc Cert.RwProjIdeal.main_arg0) = m ((c.tc : Thread Cert.RwProjIdeal.nD Cert.RwProjIdeal.τ).loc Cert.RwProjIdeal.main_arg0)
      ∧ r.2.mem ((c.tc : Thread Cert.RwProjIdeal.nD Cert.RwProjIdeal.τ).loc Cert.RwProjIdeal.main_arg1) = m ((c.tc : Thread Cert.RwProjIdeal.nD Cert.RwProjIdeal.τ).loc Cert.RwProjIdeal.main_arg1))
      ∧ r.2.sem = fun _ => 0)

def quiescent_RwProjRefIdeal [hRwProjRefIdeal : Cert.RwProjRefIdeal.Facts] : Prop :=
  ∀ (m : (ℓ : Loc Cert.RwProjRefIdeal.nD Cert.RwProjRefIdeal.τ Cert.RwProjRefIdeal.sig) → Buf (Elt Ideal) ℓ) (g : Dev Cert.RwProjRefIdeal.nD → PrngReg), Pre_RwProjRefIdeal m →
    θ_run (Cert.RwProjRefIdeal.defs (F := Ideal)) (onTc (τ := Cert.RwProjRefIdeal.τ) (Cert.RwProjRefIdeal.main (F := Ideal))) ⟨m, fun _ => 0, g⟩ (fun r => (∀ c : Dev Cert.RwProjRefIdeal.nD,
      r.2.mem ((c.tc : Thread Cert.RwProjRefIdeal.nD Cert.RwProjRefIdeal.τ).loc Cert.RwProjRefIdeal.main_arg0) = m ((c.tc : Thread Cert.RwProjRefIdeal.nD Cert.RwProjRefIdeal.τ).loc Cert.RwProjRefIdeal.main_arg0)
      ∧ r.2.mem ((c.tc : Thread Cert.RwProjRefIdeal.nD Cert.RwProjRefIdeal.τ).loc Cert.RwProjRefIdeal.main_arg1) = m ((c.tc : Thread Cert.RwProjRefIdeal.nD Cert.RwProjRefIdeal.τ).loc Cert.RwProjRefIdeal.main_arg1))
      ∧ r.2.sem = fun _ => 0)

def quiescent_Mix [hMix : Cert.Mix.Facts] : Prop :=
  ∀ (m : (ℓ : Loc Cert.Mix.nD Cert.Mix.τ Cert.Mix.sig) → Buf (Elt Bits) ℓ) (g : Dev Cert.Mix.nD → PrngReg), Pre_Mix m →
    θ_run (Cert.Mix.defs (F := Bits)) (onTc (τ := Cert.Mix.τ) (Cert.Mix.main (F := Bits))) ⟨m, fun _ => 0, g⟩ (fun r => (∀ c : Dev Cert.Mix.nD,
      r.2.mem ((c.tc : Thread Cert.Mix.nD Cert.Mix.τ).loc Cert.Mix.main_arg0) = m ((c.tc : Thread Cert.Mix.nD Cert.Mix.τ).loc Cert.Mix.main_arg0)
      ∧ r.2.mem ((c.tc : Thread Cert.Mix.nD Cert.Mix.τ).loc Cert.Mix.main_arg1) = m ((c.tc : Thread Cert.Mix.nD Cert.Mix.τ).loc Cert.Mix.main_arg1)
      ∧ r.2.mem ((c.tc : Thread Cert.Mix.nD Cert.Mix.τ).loc Cert.Mix.main_arg2) = m ((c.tc : Thread Cert.Mix.nD Cert.Mix.τ).loc Cert.Mix.main_arg2)
      ∧ r.2.mem ((c.tc : Thread Cert.Mix.nD Cert.Mix.τ).loc Cert.Mix.main_arg3) = m ((c.tc : Thread Cert.Mix.nD Cert.Mix.τ).loc Cert.Mix.main_arg3)
      ∧ r.2.mem ((c.tc : Thread Cert.Mix.nD Cert.Mix.τ).loc Cert.Mix.main_arg4) = m ((c.tc : Thread Cert.Mix.nD Cert.Mix.τ).loc Cert.Mix.main_arg4)
      ∧ r.2.mem ((c.tc : Thread Cert.Mix.nD Cert.Mix.τ).loc Cert.Mix.main_arg5) = m ((c.tc : Thread Cert.Mix.nD Cert.Mix.τ).loc Cert.Mix.main_arg5)
      ∧ r.2.mem ((c.tc : Thread Cert.Mix.nD Cert.Mix.τ).loc Cert.Mix.main_arg6) = m ((c.tc : Thread Cert.Mix.nD Cert.Mix.τ).loc Cert.Mix.main_arg6)
      ∧ r.2.mem ((c.tc : Thread Cert.Mix.nD Cert.Mix.τ).loc Cert.Mix.main_arg7) = m ((c.tc : Thread Cert.Mix.nD Cert.Mix.τ).loc Cert.Mix.main_arg7)
      ∧ r.2.mem ((c.tc : Thread Cert.Mix.nD Cert.Mix.τ).loc Cert.Mix.main_arg8) = m ((c.tc : Thread Cert.Mix.nD Cert.Mix.τ).loc Cert.Mix.main_arg8)
      ∧ r.2.mem ((c.tc : Thread Cert.Mix.nD Cert.Mix.τ).loc Cert.Mix.main_arg9) = m ((c.tc : Thread Cert.Mix.nD Cert.Mix.τ).loc Cert.Mix.main_arg9)
      ∧ r.2.mem ((c.tc : Thread Cert.Mix.nD Cert.Mix.τ).loc Cert.Mix.main_arg10) = m ((c.tc : Thread Cert.Mix.nD Cert.Mix.τ).loc Cert.Mix.main_arg10)
      ∧ r.2.mem ((c.tc : Thread Cert.Mix.nD Cert.Mix.τ).loc Cert.Mix.main_arg11) = m ((c.tc : Thread Cert.Mix.nD Cert.Mix.τ).loc Cert.Mix.main_arg11)
      ∧ r.2.mem ((c.tc : Thread Cert.Mix.nD Cert.Mix.τ).loc Cert.Mix.main_arg12) = m ((c.tc : Thread Cert.Mix.nD Cert.Mix.τ).loc Cert.Mix.main_arg12)
      ∧ r.2.mem ((c.tc : Thread Cert.Mix.nD Cert.Mix.τ).loc Cert.Mix.main_arg13) = m ((c.tc : Thread Cert.Mix.nD Cert.Mix.τ).loc Cert.Mix.main_arg13)
      ∧ r.2.mem ((c.tc : Thread Cert.Mix.nD Cert.Mix.τ).loc Cert.Mix.main_arg14) = m ((c.tc : Thread Cert.Mix.nD Cert.Mix.τ).loc Cert.Mix.main_arg14)
      ∧ r.2.mem ((c.tc : Thread Cert.Mix.nD Cert.Mix.τ).loc Cert.Mix.main_arg15) = m ((c.tc : Thread Cert.Mix.nD Cert.Mix.τ).loc Cert.Mix.main_arg15)
      ∧ r.2.mem ((c.tc : Thread Cert.Mix.nD Cert.Mix.τ).loc Cert.Mix.main_arg16) = m ((c.tc : Thread Cert.Mix.nD Cert.Mix.τ).loc Cert.Mix.main_arg16)
      ∧ r.2.mem ((c.tc : Thread Cert.Mix.nD Cert.Mix.τ).loc Cert.Mix.main_arg17) = m ((c.tc : Thread Cert.Mix.nD Cert.Mix.τ).loc Cert.Mix.main_arg17)
      ∧ r.2.mem ((c.tc : Thread Cert.Mix.nD Cert.Mix.τ).loc Cert.Mix.main_arg18) = m ((c.tc : Thread Cert.Mix.nD Cert.Mix.τ).loc Cert.Mix.main_arg18)
      ∧ r.2.mem ((c.tc : Thread Cert.Mix.nD Cert.Mix.τ).loc Cert.Mix.main_arg19) = m ((c.tc : Thread Cert.Mix.nD Cert.Mix.τ).loc Cert.Mix.main_arg19)
      ∧ r.2.mem ((c.tc : Thread Cert.Mix.nD Cert.Mix.τ).loc Cert.Mix.main_arg20) = m ((c.tc : Thread Cert.Mix.nD Cert.Mix.τ).loc Cert.Mix.main_arg20)
      ∧ r.2.mem ((c.tc : Thread Cert.Mix.nD Cert.Mix.τ).loc Cert.Mix.main_arg21) = m ((c.tc : Thread Cert.Mix.nD Cert.Mix.τ).loc Cert.Mix.main_arg21)
      ∧ r.2.mem ((c.tc : Thread Cert.Mix.nD Cert.Mix.τ).loc Cert.Mix.main_arg22) = m ((c.tc : Thread Cert.Mix.nD Cert.Mix.τ).loc Cert.Mix.main_arg22)
      ∧ r.2.mem ((c.tc : Thread Cert.Mix.nD Cert.Mix.τ).loc Cert.Mix.main_arg23) = m ((c.tc : Thread Cert.Mix.nD Cert.Mix.τ).loc Cert.Mix.main_arg23)
      ∧ r.2.mem ((c.tc : Thread Cert.Mix.nD Cert.Mix.τ).loc Cert.Mix.main_arg24) = m ((c.tc : Thread Cert.Mix.nD Cert.Mix.τ).loc Cert.Mix.main_arg24)
      ∧ r.2.mem ((c.tc : Thread Cert.Mix.nD Cert.Mix.τ).loc Cert.Mix.main_arg25) = m ((c.tc : Thread Cert.Mix.nD Cert.Mix.τ).loc Cert.Mix.main_arg25)
      ∧ r.2.mem ((c.tc : Thread Cert.Mix.nD Cert.Mix.τ).loc Cert.Mix.main_arg26) = m ((c.tc : Thread Cert.Mix.nD Cert.Mix.τ).loc Cert.Mix.main_arg26)
      ∧ r.2.mem ((c.tc : Thread Cert.Mix.nD Cert.Mix.τ).loc Cert.Mix.main_arg27) = m ((c.tc : Thread Cert.Mix.nD Cert.Mix.τ).loc Cert.Mix.main_arg27)
      ∧ r.2.mem ((c.tc : Thread Cert.Mix.nD Cert.Mix.τ).loc Cert.Mix.main_arg28) = m ((c.tc : Thread Cert.Mix.nD Cert.Mix.τ).loc Cert.Mix.main_arg28)
      ∧ r.2.mem ((c.tc : Thread Cert.Mix.nD Cert.Mix.τ).loc Cert.Mix.main_arg29) = m ((c.tc : Thread Cert.Mix.nD Cert.Mix.τ).loc Cert.Mix.main_arg29))
      ∧ r.2.sem = fun _ => 0)

def quiescent_MixIdeal [hMixIdeal : Cert.MixIdeal.Facts] : Prop :=
  ∀ (m : (ℓ : Loc Cert.MixIdeal.nD Cert.MixIdeal.τ Cert.MixIdeal.sig) → Buf (Elt Ideal) ℓ) (g : Dev Cert.MixIdeal.nD → PrngReg), Pre_MixIdeal m →
    θ_run (Cert.MixIdeal.defs (F := Ideal)) (onTc (τ := Cert.MixIdeal.τ) (Cert.MixIdeal.main (F := Ideal))) ⟨m, fun _ => 0, g⟩ (fun r => (∀ c : Dev Cert.MixIdeal.nD,
      r.2.mem ((c.tc : Thread Cert.MixIdeal.nD Cert.MixIdeal.τ).loc Cert.MixIdeal.main_arg0) = m ((c.tc : Thread Cert.MixIdeal.nD Cert.MixIdeal.τ).loc Cert.MixIdeal.main_arg0)
      ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
      ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
      ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
      ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
      ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
      ∧ r.2.mem ((c.tc : Thread Cert.MixIdeal.nD Cert.MixIdeal.τ).loc Cert.MixIdeal.main_arg6) = m ((c.tc : Thread Cert.MixIdeal.nD Cert.MixIdeal.τ).loc Cert.MixIdeal.main_arg6)
      ∧ r.2.mem ((c.tc : Thread Cert.MixIdeal.nD Cert.MixIdeal.τ).loc Cert.MixIdeal.main_arg7) = m ((c.tc : Thread Cert.MixIdeal.nD Cert.MixIdeal.τ).loc Cert.MixIdeal.main_arg7)
      ∧ r.2.mem ((c.tc : Thread Cert.MixIdeal.nD Cert.MixIdeal.τ).loc Cert.MixIdeal.main_arg8) = m ((c.tc : Thread Cert.MixIdeal.nD Cert.MixIdeal.τ).loc Cert.MixIdeal.main_arg8)
      ∧ r.2.mem ((c.tc : Thread Cert.MixIdeal.nD Cert.MixIdeal.τ).loc Cert.MixIdeal.main_arg9) = m ((c.tc : Thread Cert.MixIdeal.nD Cert.MixIdeal.τ).loc Cert.MixIdeal.main_arg9)
      ∧ r.2.mem ((c.tc : Thread Cert.MixIdeal.nD Cert.MixIdeal.τ).loc Cert.MixIdeal.main_arg10) = m ((c.tc : Thread Cert.MixIdeal.nD Cert.MixIdeal.τ).loc Cert.MixIdeal.main_arg10)
      ∧ r.2.mem ((c.tc : Thread Cert.MixIdeal.nD Cert.MixIdeal.τ).loc Cert.MixIdeal.main_arg11) = m ((c.tc : Thread Cert.MixIdeal.nD Cert.MixIdeal.τ).loc Cert.MixIdeal.main_arg11)
      ∧ r.2.mem ((c.tc : Thread Cert.MixIdeal.nD Cert.MixIdeal.τ).loc Cert.MixIdeal.main_arg12) = m ((c.tc : Thread Cert.MixIdeal.nD Cert.MixIdeal.τ).loc Cert.MixIdeal.main_arg12)
      ∧ r.2.mem ((c.tc : Thread Cert.MixIdeal.nD Cert.MixIdeal.τ).loc Cert.MixIdeal.main_arg13) = m ((c.tc : Thread Cert.MixIdeal.nD Cert.MixIdeal.τ).loc Cert.MixIdeal.main_arg13)
      ∧ r.2.mem ((c.tc : Thread Cert.MixIdeal.nD Cert.MixIdeal.τ).loc Cert.MixIdeal.main_arg14) = m ((c.tc : Thread Cert.MixIdeal.nD Cert.MixIdeal.τ).loc Cert.MixIdeal.main_arg14)
      ∧ r.2.mem ((c.tc : Thread Cert.MixIdeal.nD Cert.MixIdeal.τ).loc Cert.MixIdeal.main_arg15) = m ((c.tc : Thread Cert.MixIdeal.nD Cert.MixIdeal.τ).loc Cert.MixIdeal.main_arg15)
      ∧ r.2.mem ((c.tc : Thread Cert.MixIdeal.nD Cert.MixIdeal.τ).loc Cert.MixIdeal.main_arg16) = m ((c.tc : Thread Cert.MixIdeal.nD Cert.MixIdeal.τ).loc Cert.MixIdeal.main_arg16)
      ∧ r.2.mem ((c.tc : Thread Cert.MixIdeal.nD Cert.MixIdeal.τ).loc Cert.MixIdeal.main_arg17) = m ((c.tc : Thread Cert.MixIdeal.nD Cert.MixIdeal.τ).loc Cert.MixIdeal.main_arg17)
      ∧ r.2.mem ((c.tc : Thread Cert.MixIdeal.nD Cert.MixIdeal.τ).loc Cert.MixIdeal.main_arg18) = m ((c.tc : Thread Cert.MixIdeal.nD Cert.MixIdeal.τ).loc Cert.MixIdeal.main_arg18)
      ∧ r.2.mem ((c.tc : Thread Cert.MixIdeal.nD Cert.MixIdeal.τ).loc Cert.MixIdeal.main_arg19) = m ((c.tc : Thread Cert.MixIdeal.nD Cert.MixIdeal.τ).loc Cert.MixIdeal.main_arg19)
      ∧ r.2.mem ((c.tc : Thread Cert.MixIdeal.nD Cert.MixIdeal.τ).loc Cert.MixIdeal.main_arg20) = m ((c.tc : Thread Cert.MixIdeal.nD Cert.MixIdeal.τ).loc Cert.MixIdeal.main_arg20)
      ∧ r.2.mem ((c.tc : Thread Cert.MixIdeal.nD Cert.MixIdeal.τ).loc Cert.MixIdeal.main_arg21) = m ((c.tc : Thread Cert.MixIdeal.nD Cert.MixIdeal.τ).loc Cert.MixIdeal.main_arg21)
      ∧ r.2.mem ((c.tc : Thread Cert.MixIdeal.nD Cert.MixIdeal.τ).loc Cert.MixIdeal.main_arg22) = m ((c.tc : Thread Cert.MixIdeal.nD Cert.MixIdeal.τ).loc Cert.MixIdeal.main_arg22)
      ∧ r.2.mem ((c.tc : Thread Cert.MixIdeal.nD Cert.MixIdeal.τ).loc Cert.MixIdeal.main_arg23) = m ((c.tc : Thread Cert.MixIdeal.nD Cert.MixIdeal.τ).loc Cert.MixIdeal.main_arg23)
      ∧ r.2.mem ((c.tc : Thread Cert.MixIdeal.nD Cert.MixIdeal.τ).loc Cert.MixIdeal.main_arg24) = m ((c.tc : Thread Cert.MixIdeal.nD Cert.MixIdeal.τ).loc Cert.MixIdeal.main_arg24)
      ∧ r.2.mem ((c.tc : Thread Cert.MixIdeal.nD Cert.MixIdeal.τ).loc Cert.MixIdeal.main_arg25) = m ((c.tc : Thread Cert.MixIdeal.nD Cert.MixIdeal.τ).loc Cert.MixIdeal.main_arg25)
      ∧ r.2.mem ((c.tc : Thread Cert.MixIdeal.nD Cert.MixIdeal.τ).loc Cert.MixIdeal.main_arg26) = m ((c.tc : Thread Cert.MixIdeal.nD Cert.MixIdeal.τ).loc Cert.MixIdeal.main_arg26)
      ∧ r.2.mem ((c.tc : Thread Cert.MixIdeal.nD Cert.MixIdeal.τ).loc Cert.MixIdeal.main_arg27) = m ((c.tc : Thread Cert.MixIdeal.nD Cert.MixIdeal.τ).loc Cert.MixIdeal.main_arg27)
      ∧ r.2.mem ((c.tc : Thread Cert.MixIdeal.nD Cert.MixIdeal.τ).loc Cert.MixIdeal.main_arg28) = m ((c.tc : Thread Cert.MixIdeal.nD Cert.MixIdeal.τ).loc Cert.MixIdeal.main_arg28)
      ∧ r.2.mem ((c.tc : Thread Cert.MixIdeal.nD Cert.MixIdeal.τ).loc Cert.MixIdeal.main_arg29) = m ((c.tc : Thread Cert.MixIdeal.nD Cert.MixIdeal.τ).loc Cert.MixIdeal.main_arg29))
      ∧ r.2.sem = fun _ => 0)

def quiescent_MixRefIdeal [hMixRefIdeal : Cert.MixRefIdeal.Facts] : Prop :=
  ∀ (m : (ℓ : Loc Cert.MixRefIdeal.nD Cert.MixRefIdeal.τ Cert.MixRefIdeal.sig) → Buf (Elt Ideal) ℓ) (g : Dev Cert.MixRefIdeal.nD → PrngReg), Pre_MixRefIdeal m →
    θ_run (Cert.MixRefIdeal.defs (F := Ideal)) (onTc (τ := Cert.MixRefIdeal.τ) (Cert.MixRefIdeal.main (F := Ideal))) ⟨m, fun _ => 0, g⟩ (fun r => (∀ c : Dev Cert.MixRefIdeal.nD,
      r.2.mem ((c.tc : Thread Cert.MixRefIdeal.nD Cert.MixRefIdeal.τ).loc Cert.MixRefIdeal.main_arg0) = m ((c.tc : Thread Cert.MixRefIdeal.nD Cert.MixRefIdeal.τ).loc Cert.MixRefIdeal.main_arg0)
      ∧ r.2.mem ((c.tc : Thread Cert.MixRefIdeal.nD Cert.MixRefIdeal.τ).loc Cert.MixRefIdeal.main_arg1) = m ((c.tc : Thread Cert.MixRefIdeal.nD Cert.MixRefIdeal.τ).loc Cert.MixRefIdeal.main_arg1)
      ∧ r.2.mem ((c.tc : Thread Cert.MixRefIdeal.nD Cert.MixRefIdeal.τ).loc Cert.MixRefIdeal.main_arg2) = m ((c.tc : Thread Cert.MixRefIdeal.nD Cert.MixRefIdeal.τ).loc Cert.MixRefIdeal.main_arg2)
      ∧ r.2.mem ((c.tc : Thread Cert.MixRefIdeal.nD Cert.MixRefIdeal.τ).loc Cert.MixRefIdeal.main_arg3) = m ((c.tc : Thread Cert.MixRefIdeal.nD Cert.MixRefIdeal.τ).loc Cert.MixRefIdeal.main_arg3)
      ∧ r.2.mem ((c.tc : Thread Cert.MixRefIdeal.nD Cert.MixRefIdeal.τ).loc Cert.MixRefIdeal.main_arg4) = m ((c.tc : Thread Cert.MixRefIdeal.nD Cert.MixRefIdeal.τ).loc Cert.MixRefIdeal.main_arg4)
      ∧ r.2.mem ((c.tc : Thread Cert.MixRefIdeal.nD Cert.MixRefIdeal.τ).loc Cert.MixRefIdeal.main_arg5) = m ((c.tc : Thread Cert.MixRefIdeal.nD Cert.MixRefIdeal.τ).loc Cert.MixRefIdeal.main_arg5)
      ∧ r.2.mem ((c.tc : Thread Cert.MixRefIdeal.nD Cert.MixRefIdeal.τ).loc Cert.MixRefIdeal.main_arg6) = m ((c.tc : Thread Cert.MixRefIdeal.nD Cert.MixRefIdeal.τ).loc Cert.MixRefIdeal.main_arg6)
      ∧ r.2.mem ((c.tc : Thread Cert.MixRefIdeal.nD Cert.MixRefIdeal.τ).loc Cert.MixRefIdeal.main_arg7) = m ((c.tc : Thread Cert.MixRefIdeal.nD Cert.MixRefIdeal.τ).loc Cert.MixRefIdeal.main_arg7)
      ∧ r.2.mem ((c.tc : Thread Cert.MixRefIdeal.nD Cert.MixRefIdeal.τ).loc Cert.MixRefIdeal.main_arg8) = m ((c.tc : Thread Cert.MixRefIdeal.nD Cert.MixRefIdeal.τ).loc Cert.MixRefIdeal.main_arg8)
      ∧ r.2.mem ((c.tc : Thread Cert.MixRefIdeal.nD Cert.MixRefIdeal.τ).loc Cert.MixRefIdeal.main_arg9) = m ((c.tc : Thread Cert.MixRefIdeal.nD Cert.MixRefIdeal.τ).loc Cert.MixRefIdeal.main_arg9)
      ∧ r.2.mem ((c.tc : Thread Cert.MixRefIdeal.nD Cert.MixRefIdeal.τ).loc Cert.MixRefIdeal.main_arg10) = m ((c.tc : Thread Cert.MixRefIdeal.nD Cert.MixRefIdeal.τ).loc Cert.MixRefIdeal.main_arg10)
      ∧ r.2.mem ((c.tc : Thread Cert.MixRefIdeal.nD Cert.MixRefIdeal.τ).loc Cert.MixRefIdeal.main_arg11) = m ((c.tc : Thread Cert.MixRefIdeal.nD Cert.MixRefIdeal.τ).loc Cert.MixRefIdeal.main_arg11)
      ∧ r.2.mem ((c.tc : Thread Cert.MixRefIdeal.nD Cert.MixRefIdeal.τ).loc Cert.MixRefIdeal.main_arg12) = m ((c.tc : Thread Cert.MixRefIdeal.nD Cert.MixRefIdeal.τ).loc Cert.MixRefIdeal.main_arg12)
      ∧ r.2.mem ((c.tc : Thread Cert.MixRefIdeal.nD Cert.MixRefIdeal.τ).loc Cert.MixRefIdeal.main_arg13) = m ((c.tc : Thread Cert.MixRefIdeal.nD Cert.MixRefIdeal.τ).loc Cert.MixRefIdeal.main_arg13)
      ∧ r.2.mem ((c.tc : Thread Cert.MixRefIdeal.nD Cert.MixRefIdeal.τ).loc Cert.MixRefIdeal.main_arg14) = m ((c.tc : Thread Cert.MixRefIdeal.nD Cert.MixRefIdeal.τ).loc Cert.MixRefIdeal.main_arg14)
      ∧ r.2.mem ((c.tc : Thread Cert.MixRefIdeal.nD Cert.MixRefIdeal.τ).loc Cert.MixRefIdeal.main_arg15) = m ((c.tc : Thread Cert.MixRefIdeal.nD Cert.MixRefIdeal.τ).loc Cert.MixRefIdeal.main_arg15)
      ∧ r.2.mem ((c.tc : Thread Cert.MixRefIdeal.nD Cert.MixRefIdeal.τ).loc Cert.MixRefIdeal.main_arg16) = m ((c.tc : Thread Cert.MixRefIdeal.nD Cert.MixRefIdeal.τ).loc Cert.MixRefIdeal.main_arg16)
      ∧ r.2.mem ((c.tc : Thread Cert.MixRefIdeal.nD Cert.MixRefIdeal.τ).loc Cert.MixRefIdeal.main_arg17) = m ((c.tc : Thread Cert.MixRefIdeal.nD Cert.MixRefIdeal.τ).loc Cert.MixRefIdeal.main_arg17)
      ∧ r.2.mem ((c.tc : Thread Cert.MixRefIdeal.nD Cert.MixRefIdeal.τ).loc Cert.MixRefIdeal.main_arg18) = m ((c.tc : Thread Cert.MixRefIdeal.nD Cert.MixRefIdeal.τ).loc Cert.MixRefIdeal.main_arg18)
      ∧ r.2.mem ((c.tc : Thread Cert.MixRefIdeal.nD Cert.MixRefIdeal.τ).loc Cert.MixRefIdeal.main_arg19) = m ((c.tc : Thread Cert.MixRefIdeal.nD Cert.MixRefIdeal.τ).loc Cert.MixRefIdeal.main_arg19)
      ∧ r.2.mem ((c.tc : Thread Cert.MixRefIdeal.nD Cert.MixRefIdeal.τ).loc Cert.MixRefIdeal.main_arg20) = m ((c.tc : Thread Cert.MixRefIdeal.nD Cert.MixRefIdeal.τ).loc Cert.MixRefIdeal.main_arg20)
      ∧ r.2.mem ((c.tc : Thread Cert.MixRefIdeal.nD Cert.MixRefIdeal.τ).loc Cert.MixRefIdeal.main_arg21) = m ((c.tc : Thread Cert.MixRefIdeal.nD Cert.MixRefIdeal.τ).loc Cert.MixRefIdeal.main_arg21)
      ∧ r.2.mem ((c.tc : Thread Cert.MixRefIdeal.nD Cert.MixRefIdeal.τ).loc Cert.MixRefIdeal.main_arg22) = m ((c.tc : Thread Cert.MixRefIdeal.nD Cert.MixRefIdeal.τ).loc Cert.MixRefIdeal.main_arg22)
      ∧ r.2.mem ((c.tc : Thread Cert.MixRefIdeal.nD Cert.MixRefIdeal.τ).loc Cert.MixRefIdeal.main_arg23) = m ((c.tc : Thread Cert.MixRefIdeal.nD Cert.MixRefIdeal.τ).loc Cert.MixRefIdeal.main_arg23)
      ∧ r.2.mem ((c.tc : Thread Cert.MixRefIdeal.nD Cert.MixRefIdeal.τ).loc Cert.MixRefIdeal.main_arg24) = m ((c.tc : Thread Cert.MixRefIdeal.nD Cert.MixRefIdeal.τ).loc Cert.MixRefIdeal.main_arg24)
      ∧ r.2.mem ((c.tc : Thread Cert.MixRefIdeal.nD Cert.MixRefIdeal.τ).loc Cert.MixRefIdeal.main_arg25) = m ((c.tc : Thread Cert.MixRefIdeal.nD Cert.MixRefIdeal.τ).loc Cert.MixRefIdeal.main_arg25)
      ∧ r.2.mem ((c.tc : Thread Cert.MixRefIdeal.nD Cert.MixRefIdeal.τ).loc Cert.MixRefIdeal.main_arg26) = m ((c.tc : Thread Cert.MixRefIdeal.nD Cert.MixRefIdeal.τ).loc Cert.MixRefIdeal.main_arg26)
      ∧ r.2.mem ((c.tc : Thread Cert.MixRefIdeal.nD Cert.MixRefIdeal.τ).loc Cert.MixRefIdeal.main_arg27) = m ((c.tc : Thread Cert.MixRefIdeal.nD Cert.MixRefIdeal.τ).loc Cert.MixRefIdeal.main_arg27)
      ∧ r.2.mem ((c.tc : Thread Cert.MixRefIdeal.nD Cert.MixRefIdeal.τ).loc Cert.MixRefIdeal.main_arg28) = m ((c.tc : Thread Cert.MixRefIdeal.nD Cert.MixRefIdeal.τ).loc Cert.MixRefIdeal.main_arg28)
      ∧ r.2.mem ((c.tc : Thread Cert.MixRefIdeal.nD Cert.MixRefIdeal.τ).loc Cert.MixRefIdeal.main_arg29) = m ((c.tc : Thread Cert.MixRefIdeal.nD Cert.MixRefIdeal.τ).loc Cert.MixRefIdeal.main_arg29))
      ∧ r.2.sem = fun _ => 0)

def quiescent_Norm [hNorm : Cert.Norm.Facts] : Prop :=
  ∀ (m : (ℓ : Loc Cert.Norm.nD Cert.Norm.τ Cert.Norm.sig) → Buf (Elt Bits) ℓ) (g : Dev Cert.Norm.nD → PrngReg), Pre_Norm m →
    θ_run (Cert.Norm.defs (F := Bits)) (onTc (τ := Cert.Norm.τ) (Cert.Norm.main (F := Bits))) ⟨m, fun _ => 0, g⟩ (fun r => (∀ c : Dev Cert.Norm.nD,
      r.2.mem ((c.tc : Thread Cert.Norm.nD Cert.Norm.τ).loc Cert.Norm.main_arg0) = m ((c.tc : Thread Cert.Norm.nD Cert.Norm.τ).loc Cert.Norm.main_arg0)
      ∧ r.2.mem ((c.tc : Thread Cert.Norm.nD Cert.Norm.τ).loc Cert.Norm.main_arg1) = m ((c.tc : Thread Cert.Norm.nD Cert.Norm.τ).loc Cert.Norm.main_arg1))
      ∧ r.2.sem = fun _ => 0)

def quiescent_NormIdeal [hNormIdeal : Cert.NormIdeal.Facts] : Prop :=
  ∀ (m : (ℓ : Loc Cert.NormIdeal.nD Cert.NormIdeal.τ Cert.NormIdeal.sig) → Buf (Elt Ideal) ℓ) (g : Dev Cert.NormIdeal.nD → PrngReg), Pre_NormIdeal m →
    θ_run (Cert.NormIdeal.defs (F := Ideal)) (onTc (τ := Cert.NormIdeal.τ) (Cert.NormIdeal.main (F := Ideal))) ⟨m, fun _ => 0, g⟩ (fun r => (∀ c : Dev Cert.NormIdeal.nD,
      r.2.mem ((c.tc : Thread Cert.NormIdeal.nD Cert.NormIdeal.τ).loc Cert.NormIdeal.main_arg0) = m ((c.tc : Thread Cert.NormIdeal.nD Cert.NormIdeal.τ).loc Cert.NormIdeal.main_arg0)
      ∧ r.2.mem ((c.tc : Thread Cert.NormIdeal.nD Cert.NormIdeal.τ).loc Cert.NormIdeal.main_arg1) = m ((c.tc : Thread Cert.NormIdeal.nD Cert.NormIdeal.τ).loc Cert.NormIdeal.main_arg1))
      ∧ r.2.sem = fun _ => 0)

def quiescent_NormRefIdeal [hNormRefIdeal : Cert.NormRefIdeal.Facts] : Prop :=
  ∀ (m : (ℓ : Loc Cert.NormRefIdeal.nD Cert.NormRefIdeal.τ Cert.NormRefIdeal.sig) → Buf (Elt Ideal) ℓ) (g : Dev Cert.NormRefIdeal.nD → PrngReg), Pre_NormRefIdeal m →
    θ_run (Cert.NormRefIdeal.defs (F := Ideal)) (onTc (τ := Cert.NormRefIdeal.τ) (Cert.NormRefIdeal.main (F := Ideal))) ⟨m, fun _ => 0, g⟩ (fun r => (∀ c : Dev Cert.NormRefIdeal.nD,
      r.2.mem ((c.tc : Thread Cert.NormRefIdeal.nD Cert.NormRefIdeal.τ).loc Cert.NormRefIdeal.main_arg0) = m ((c.tc : Thread Cert.NormRefIdeal.nD Cert.NormRefIdeal.τ).loc Cert.NormRefIdeal.main_arg0)
      ∧ r.2.mem ((c.tc : Thread Cert.NormRefIdeal.nD Cert.NormRefIdeal.τ).loc Cert.NormRefIdeal.main_arg1) = m ((c.tc : Thread Cert.NormRefIdeal.nD Cert.NormRefIdeal.τ).loc Cert.NormRefIdeal.main_arg1))
      ∧ r.2.sem = fun _ => 0)

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)
      ∧ m' ((c.tc : Thread Cert.FfnRefIdeal.nD Cert.FfnRefIdeal.τ).loc Cert.FfnRefIdeal.main_arg5) = m ((c.tc : Thread Cert.FfnIdeal.nD Cert.FfnIdeal.τ).loc Cert.FfnIdeal.main_arg5)) →
    ∃ (v0 : (c : Dev Cert.FfnIdeal.nD) → Buf (Elt Ideal) ((c.tc : Thread Cert.FfnIdeal.nD Cert.FfnIdeal.τ).loc Cert.FfnIdeal.main_v4_0)) (v1 : (c : Dev Cert.FfnIdeal.nD) → Buf (Elt Ideal) ((c.tc : Thread Cert.FfnIdeal.nD Cert.FfnIdeal.τ).loc Cert.FfnIdeal.main_v4_1)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v4_0) = v0 c
          ∧ r.2.mem ((c.tc : Thread Cert.FfnIdeal.nD Cert.FfnIdeal.τ).loc Cert.FfnIdeal.main_v4_1) = v1 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v12) = v0 c
          ∧ r.2.mem ((c.tc : Thread Cert.FfnRefIdeal.nD Cert.FfnRefIdeal.τ).loc Cert.FfnRefIdeal.main_v26) = v1 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4)
          ∧ r.2.mem ((c.tc : Thread Cert.FfnRefIdeal.nD Cert.FfnRefIdeal.τ).loc Cert.FfnRefIdeal.main_arg5) = m' ((c.tc : Thread Cert.FfnRefIdeal.nD Cert.FfnRefIdeal.τ).loc Cert.FfnRefIdeal.main_arg5))

def preserves_Last_LastIdeal : Prop :=
  True

def algebraic_LastIdeal_LastRefIdeal [hLastIdeal : Cert.LastIdeal.Facts] [hLastRefIdeal : Cert.LastRefIdeal.Facts] : Prop :=
  ∀ (m : (ℓ : Loc Cert.LastIdeal.nD Cert.LastIdeal.τ Cert.LastIdeal.sig) → Buf (Elt Ideal) ℓ) (g : Dev Cert.LastIdeal.nD → PrngReg)
    (m' : (ℓ : Loc Cert.LastRefIdeal.nD Cert.LastRefIdeal.τ Cert.LastRefIdeal.sig) → Buf (Elt Ideal) ℓ) (g' : Dev Cert.LastRefIdeal.nD → PrngReg), Pre_LastIdeal m →
    (∀ c : Dev Cert.LastIdeal.nD,
      m' ((c.tc : Thread Cert.LastRefIdeal.nD Cert.LastRefIdeal.τ).loc Cert.LastRefIdeal.main_arg0) = m ((c.tc : Thread Cert.LastIdeal.nD Cert.LastIdeal.τ).loc Cert.LastIdeal.main_arg0)
      ∧ m' ((c.tc : Thread Cert.LastRefIdeal.nD Cert.LastRefIdeal.τ).loc Cert.LastRefIdeal.main_arg1) = m ((c.tc : Thread Cert.LastIdeal.nD Cert.LastIdeal.τ).loc Cert.LastIdeal.main_arg1)
      ∧ m' ((c.tc : Thread Cert.LastRefIdeal.nD Cert.LastRefIdeal.τ).loc Cert.LastRefIdeal.main_arg2) = m ((c.tc : Thread Cert.LastIdeal.nD Cert.LastIdeal.τ).loc Cert.LastIdeal.main_arg2)
      ∧ m' ((c.tc : Thread Cert.LastRefIdeal.nD Cert.LastRefIdeal.τ).loc Cert.LastRefIdeal.main_arg3) = m ((c.tc : Thread Cert.LastIdeal.nD Cert.LastIdeal.τ).loc Cert.LastIdeal.main_arg3)
      ∧ m' ((c.tc : Thread Cert.LastRefIdeal.nD Cert.LastRefIdeal.τ).loc Cert.LastRefIdeal.main_arg4) = m ((c.tc : Thread Cert.LastIdeal.nD Cert.LastIdeal.τ).loc Cert.LastIdeal.main_arg4)
      ∧ m' ((c.tc : Thread Cert.LastRefIdeal.nD Cert.LastRefIdeal.τ).loc Cert.LastRefIdeal.main_arg5) = m ((c.tc : Thread Cert.LastIdeal.nD Cert.LastIdeal.τ).loc Cert.LastIdeal.main_arg5)) →
    ∃ (v0 : (c : Dev Cert.LastIdeal.nD) → Buf (Elt Ideal) ((c.tc : Thread Cert.LastIdeal.nD Cert.LastIdeal.τ).loc Cert.LastIdeal.main_v4)),
      θ_run (Cert.LastIdeal.defs (F := Ideal)) (onTc (τ := Cert.LastIdeal.τ) (Cert.LastIdeal.main (F := Ideal))) ⟨m, fun _ => 0, g⟩ (fun r => ∀ c : Dev Cert.LastIdeal.nD,
          r.2.mem ((c.tc : Thread Cert.LastIdeal.nD Cert.LastIdeal.τ).loc Cert.LastIdeal.main_v4) = v0 c
          ∧ r.2.mem ((c.tc : Thread Cert.LastIdeal.nD Cert.LastIdeal.τ).loc Cert.LastIdeal.main_arg0) = m ((c.tc : Thread Cert.LastIdeal.nD Cert.LastIdeal.τ).loc Cert.LastIdeal.main_arg0)
          ∧ r.2.mem ((c.tc : Thread Cert.LastIdeal.nD Cert.LastIdeal.τ).loc Cert.LastIdeal.main_arg1) = m ((c.tc : Thread Cert.LastIdeal.nD Cert.LastIdeal.τ).loc Cert.LastIdeal.main_arg1)
          ∧ r.2.mem ((c.tc : Thread Cert.LastIdeal.nD Cert.LastIdeal.τ).loc Cert.LastIdeal.main_arg2) = m ((c.tc : Thread Cert.LastIdeal.nD Cert.LastIdeal.τ).loc Cert.LastIdeal.main_arg2)
          ∧ r.2.mem ((c.tc : Thread Cert.LastIdeal.nD Cert.LastIdeal.τ).loc Cert.LastIdeal.main_arg3) = m ((c.tc : Thread Cert.LastIdeal.nD Cert.LastIdeal.τ).loc Cert.LastIdeal.main_arg3)
          ∧ r.2.mem ((c.tc : Thread Cert.LastIdeal.nD Cert.LastIdeal.τ).loc Cert.LastIdeal.main_arg4) = m ((c.tc : Thread Cert.LastIdeal.nD Cert.LastIdeal.τ).loc Cert.LastIdeal.main_arg4)
          ∧ r.2.mem ((c.tc : Thread Cert.LastIdeal.nD Cert.LastIdeal.τ).loc Cert.LastIdeal.main_arg5) = m ((c.tc : Thread Cert.LastIdeal.nD Cert.LastIdeal.τ).loc Cert.LastIdeal.main_arg5))
      ∧ θ_run (Cert.LastRefIdeal.defs (F := Ideal)) (onTc (τ := Cert.LastRefIdeal.τ) (Cert.LastRefIdeal.main (F := Ideal))) ⟨m', fun _ => 0, g'⟩ (fun r => ∀ c : Dev Cert.LastRefIdeal.nD,
          r.2.mem ((c.tc : Thread Cert.LastRefIdeal.nD Cert.LastRefIdeal.τ).loc Cert.LastRefIdeal.main_v25) = v0 c
          ∧ r.2.mem ((c.tc : Thread Cert.LastRefIdeal.nD Cert.LastRefIdeal.τ).loc Cert.LastRefIdeal.main_arg0) = m' ((c.tc : Thread Cert.LastRefIdeal.nD Cert.LastRefIdeal.τ).loc Cert.LastRefIdeal.main_arg0)
          ∧ r.2.mem ((c.tc : Thread Cert.LastRefIdeal.nD Cert.LastRefIdeal.τ).loc Cert.LastRefIdeal.main_arg1) = m' ((c.tc : Thread Cert.LastRefIdeal.nD Cert.LastRefIdeal.τ).loc Cert.LastRefIdeal.main_arg1)
          ∧ r.2.mem ((c.tc : Thread Cert.LastRefIdeal.nD Cert.LastRefIdeal.τ).loc Cert.LastRefIdeal.main_arg2) = m' ((c.tc : Thread Cert.LastRefIdeal.nD Cert.LastRefIdeal.τ).loc Cert.LastRefIdeal.main_arg2)
          ∧ r.2.mem ((c.tc : Thread Cert.LastRefIdeal.nD Cert.LastRefIdeal.τ).loc Cert.LastRefIdeal.main_arg3) = m' ((c.tc : Thread Cert.LastRefIdeal.nD Cert.LastRefIdeal.τ).loc Cert.LastRefIdeal.main_arg3)
          ∧ r.2.mem ((c.tc : Thread Cert.LastRefIdeal.nD Cert.LastRefIdeal.τ).loc Cert.LastRefIdeal.main_arg4) = m' ((c.tc : Thread Cert.LastRefIdeal.nD Cert.LastRefIdeal.τ).loc Cert.LastRefIdeal.main_arg4)
          ∧ r.2.mem ((c.tc : Thread Cert.LastRefIdeal.nD Cert.LastRefIdeal.τ).loc Cert.LastRefIdeal.main_arg5) = m' ((c.tc : Thread Cert.LastRefIdeal.nD Cert.LastRefIdeal.τ).loc Cert.LastRefIdeal.main_arg5))

def preserves_Out_OutIdeal : Prop :=
  True

def algebraic_OutIdeal_OutRefIdeal [hOutIdeal : Cert.OutIdeal.Facts] [hOutRefIdeal : Cert.OutRefIdeal.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.OutRefIdeal.nD Cert.OutRefIdeal.τ Cert.OutRefIdeal.sig) → Buf (Elt Ideal) ℓ) (g' : Dev Cert.OutRefIdeal.nD → PrngReg), Pre_OutIdeal m →
    (∀ c : Dev Cert.OutIdeal.nD,
      m' ((c.tc : Thread Cert.OutRefIdeal.nD Cert.OutRefIdeal.τ).loc Cert.OutRefIdeal.main_arg0) = m ((c.tc : Thread Cert.OutIdeal.nD Cert.OutIdeal.τ).loc Cert.OutIdeal.main_arg0)
      ∧ m' ((c.tc : Thread Cert.OutRefIdeal.nD Cert.OutRefIdeal.τ).loc Cert.OutRefIdeal.main_arg1) = m ((c.tc : Thread Cert.OutIdeal.nD Cert.OutIdeal.τ).loc Cert.OutIdeal.main_arg1)
      ∧ m' ((c.tc : Thread Cert.OutRefIdeal.nD Cert.OutRefIdeal.τ).loc Cert.OutRefIdeal.main_arg2) = m ((c.tc : Thread Cert.OutIdeal.nD Cert.OutIdeal.τ).loc Cert.OutIdeal.main_arg2)
      ∧ m' ((c.tc : Thread Cert.OutRefIdeal.nD Cert.OutRefIdeal.τ).loc Cert.OutRefIdeal.main_arg3) = m ((c.tc : Thread Cert.OutIdeal.nD Cert.OutIdeal.τ).loc Cert.OutIdeal.main_arg3)
      ∧ m' ((c.tc : Thread Cert.OutRefIdeal.nD Cert.OutRefIdeal.τ).loc Cert.OutRefIdeal.main_arg4) = m ((c.tc : Thread Cert.OutIdeal.nD Cert.OutIdeal.τ).loc Cert.OutIdeal.main_arg4)
      ∧ m' ((c.tc : Thread Cert.OutRefIdeal.nD Cert.OutRefIdeal.τ).loc Cert.OutRefIdeal.main_arg5) = m ((c.tc : Thread Cert.OutIdeal.nD Cert.OutIdeal.τ).loc Cert.OutIdeal.main_arg5)) →
    ∃ (v0 : (c : Dev Cert.OutIdeal.nD) → Buf (Elt Ideal) ((c.tc : Thread Cert.OutIdeal.nD Cert.OutIdeal.τ).loc Cert.OutIdeal.main_v2_0)) (v1 : (c : Dev Cert.OutIdeal.nD) → Buf (Elt Ideal) ((c.tc : Thread Cert.OutIdeal.nD Cert.OutIdeal.τ).loc Cert.OutIdeal.main_v2_1)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v2_0) = v0 c
          ∧ r.2.mem ((c.tc : Thread Cert.OutIdeal.nD Cert.OutIdeal.τ).loc Cert.OutIdeal.main_v2_1) = v1 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
          ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
          ∧ r.2.mem ((c.tc : Thread Cert.OutIdeal.nD Cert.OutIdeal.τ).loc Cert.OutIdeal.main_arg3) = m ((c.tc : Thread Cert.OutIdeal.nD Cert.OutIdeal.τ).loc Cert.OutIdeal.main_arg3)
          ∧ r.2.mem ((c.tc : Thread Cert.OutIdeal.nD Cert.OutIdeal.τ).loc Cert.OutIdeal.main_arg4) = m ((c.tc : Thread Cert.OutIdeal.nD Cert.OutIdeal.τ).loc Cert.OutIdeal.main_arg4)
          ∧ r.2.mem ((c.tc : Thread Cert.OutIdeal.nD Cert.OutIdeal.τ).loc Cert.OutIdeal.main_arg5) = m ((c.tc : Thread Cert.OutIdeal.nD Cert.OutIdeal.τ).loc Cert.OutIdeal.main_arg5))
      ∧ θ_run (Cert.OutRefIdeal.defs (F := Ideal)) (onTc (τ := Cert.OutRefIdeal.τ) (Cert.OutRefIdeal.main (F := Ideal))) ⟨m', fun _ => 0, g'⟩ (fun r => ∀ c : Dev Cert.OutRefIdeal.nD,
          r.2.mem ((c.tc : Thread Cert.OutRefIdeal.nD Cert.OutRefIdeal.τ).loc Cert.OutRefIdeal.main_v7) = v0 c
          ∧ r.2.mem ((c.tc : Thread Cert.OutRefIdeal.nD Cert.OutRefIdeal.τ).loc Cert.OutRefIdeal.main_v21) = v1 c
          ∧ r.2.mem ((c.tc : Thread Cert.OutRefIdeal.nD Cert.OutRefIdeal.τ).loc Cert.OutRefIdeal.main_arg0) = m' ((c.tc : Thread Cert.OutRefIdeal.nD Cert.OutRefIdeal.τ).loc Cert.OutRefIdeal.main_arg0)
          ∧ r.2.mem ((c.tc : Thread Cert.OutRefIdeal.nD Cert.OutRefIdeal.τ).loc Cert.OutRefIdeal.main_arg1) = m' ((c.tc : Thread Cert.OutRefIdeal.nD Cert.OutRefIdeal.τ).loc Cert.OutRefIdeal.main_arg1)
          ∧ r.2.mem ((c.tc : Thread Cert.OutRefIdeal.nD Cert.OutRefIdeal.τ).loc Cert.OutRefIdeal.main_arg2) = m' ((c.tc : Thread Cert.OutRefIdeal.nD Cert.OutRefIdeal.τ).loc Cert.OutRefIdeal.main_arg2)
          ∧ r.2.mem ((c.tc : Thread Cert.OutRefIdeal.nD Cert.OutRefIdeal.τ).loc Cert.OutRefIdeal.main_arg3) = m' ((c.tc : Thread Cert.OutRefIdeal.nD Cert.OutRefIdeal.τ).loc Cert.OutRefIdeal.main_arg3)
          ∧ r.2.mem ((c.tc : Thread Cert.OutRefIdeal.nD Cert.OutRefIdeal.τ).loc Cert.OutRefIdeal.main_arg4) = m' ((c.tc : Thread Cert.OutRefIdeal.nD Cert.OutRefIdeal.τ).loc Cert.OutRefIdeal.main_arg4)
          ∧ r.2.mem ((c.tc : Thread Cert.OutRefIdeal.nD Cert.OutRefIdeal.τ).loc Cert.OutRefIdeal.main_arg5) = m' ((c.tc : Thread Cert.OutRefIdeal.nD Cert.OutRefIdeal.τ).loc Cert.OutRefIdeal.main_arg5))

def preserves_GlaProj_GlaProjIdeal : Prop :=
  True

def algebraic_GlaProjIdeal_GlaProjRefIdeal [hGlaProjIdeal : Cert.GlaProjIdeal.Facts] [hGlaProjRefIdeal : Cert.GlaProjRefIdeal.Facts] : Prop :=
  ∀ (m : (ℓ : Loc Cert.GlaProjIdeal.nD Cert.GlaProjIdeal.τ Cert.GlaProjIdeal.sig) → Buf (Elt Ideal) ℓ) (g : Dev Cert.GlaProjIdeal.nD → PrngReg)
    (m' : (ℓ : Loc Cert.GlaProjRefIdeal.nD Cert.GlaProjRefIdeal.τ Cert.GlaProjRefIdeal.sig) → Buf (Elt Ideal) ℓ) (g' : Dev Cert.GlaProjRefIdeal.nD → PrngReg), Pre_GlaProjIdeal m →
    (∀ c : Dev Cert.GlaProjIdeal.nD,
      m' ((c.tc : Thread Cert.GlaProjRefIdeal.nD Cert.GlaProjRefIdeal.τ).loc Cert.GlaProjRefIdeal.main_arg0) = m ((c.tc : Thread Cert.GlaProjIdeal.nD Cert.GlaProjIdeal.τ).loc Cert.GlaProjIdeal.main_arg0)
      ∧ m' ((c.tc : Thread Cert.GlaProjRefIdeal.nD Cert.GlaProjRefIdeal.τ).loc Cert.GlaProjRefIdeal.main_arg1) = m ((c.tc : Thread Cert.GlaProjIdeal.nD Cert.GlaProjIdeal.τ).loc Cert.GlaProjIdeal.main_arg1)) →
    ∃ (v0 : (c : Dev Cert.GlaProjIdeal.nD) → Buf (Elt Ideal) ((c.tc : Thread Cert.GlaProjIdeal.nD Cert.GlaProjIdeal.τ).loc Cert.GlaProjIdeal.main_v8)),
      θ_run (Cert.GlaProjIdeal.defs (F := Ideal)) (onTc (τ := Cert.GlaProjIdeal.τ) (Cert.GlaProjIdeal.main (F := Ideal))) ⟨m, fun _ => 0, g⟩ (fun r => ∀ c : Dev Cert.GlaProjIdeal.nD,
          r.2.mem ((c.tc : Thread Cert.GlaProjIdeal.nD Cert.GlaProjIdeal.τ).loc Cert.GlaProjIdeal.main_v8) = v0 c
          ∧ r.2.mem ((c.tc : Thread Cert.GlaProjIdeal.nD Cert.GlaProjIdeal.τ).loc Cert.GlaProjIdeal.main_arg0) = m ((c.tc : Thread Cert.GlaProjIdeal.nD Cert.GlaProjIdeal.τ).loc Cert.GlaProjIdeal.main_arg0)
          ∧ r.2.mem ((c.tc : Thread Cert.GlaProjIdeal.nD Cert.GlaProjIdeal.τ).loc Cert.GlaProjIdeal.main_arg1) = m ((c.tc : Thread Cert.GlaProjIdeal.nD Cert.GlaProjIdeal.τ).loc Cert.GlaProjIdeal.main_arg1))
      ∧ θ_run (Cert.GlaProjRefIdeal.defs (F := Ideal)) (onTc (τ := Cert.GlaProjRefIdeal.τ) (Cert.GlaProjRefIdeal.main (F := Ideal))) ⟨m', fun _ => 0, g'⟩ (fun r => ∀ c : Dev Cert.GlaProjRefIdeal.nD,
          r.2.mem ((c.tc : Thread Cert.GlaProjRefIdeal.nD Cert.GlaProjRefIdeal.τ).loc Cert.GlaProjRefIdeal.main_v11) = v0 c
          ∧ r.2.mem ((c.tc : Thread Cert.GlaProjRefIdeal.nD Cert.GlaProjRefIdeal.τ).loc Cert.GlaProjRefIdeal.main_arg0) = m' ((c.tc : Thread Cert.GlaProjRefIdeal.nD Cert.GlaProjRefIdeal.τ).loc Cert.GlaProjRefIdeal.main_arg0)
          ∧ r.2.mem ((c.tc : Thread Cert.GlaProjRefIdeal.nD Cert.GlaProjRefIdeal.τ).loc Cert.GlaProjRefIdeal.main_arg1) = m' ((c.tc : Thread Cert.GlaProjRefIdeal.nD Cert.GlaProjRefIdeal.τ).loc Cert.GlaProjRefIdeal.main_arg1))

def preserves_GdnProj_GdnProjIdeal : Prop :=
  True

def algebraic_GdnProjIdeal_GdnProjRefIdeal [hGdnProjIdeal : Cert.GdnProjIdeal.Facts] [hGdnProjRefIdeal : Cert.GdnProjRefIdeal.Facts] : Prop :=
  ∀ (m : (ℓ : Loc Cert.GdnProjIdeal.nD Cert.GdnProjIdeal.τ Cert.GdnProjIdeal.sig) → Buf (Elt Ideal) ℓ) (g : Dev Cert.GdnProjIdeal.nD → PrngReg)
    (m' : (ℓ : Loc Cert.GdnProjRefIdeal.nD Cert.GdnProjRefIdeal.τ Cert.GdnProjRefIdeal.sig) → Buf (Elt Ideal) ℓ) (g' : Dev Cert.GdnProjRefIdeal.nD → PrngReg), Pre_GdnProjIdeal m →
    (∀ c : Dev Cert.GdnProjIdeal.nD,
      m' ((c.tc : Thread Cert.GdnProjRefIdeal.nD Cert.GdnProjRefIdeal.τ).loc Cert.GdnProjRefIdeal.main_arg0) = m ((c.tc : Thread Cert.GdnProjIdeal.nD Cert.GdnProjIdeal.τ).loc Cert.GdnProjIdeal.main_arg0)
      ∧ m' ((c.tc : Thread Cert.GdnProjRefIdeal.nD Cert.GdnProjRefIdeal.τ).loc Cert.GdnProjRefIdeal.main_arg1) = m ((c.tc : Thread Cert.GdnProjIdeal.nD Cert.GdnProjIdeal.τ).loc Cert.GdnProjIdeal.main_arg1)) →
    ∃ (v0 : (c : Dev Cert.GdnProjIdeal.nD) → Buf (Elt Ideal) ((c.tc : Thread Cert.GdnProjIdeal.nD Cert.GdnProjIdeal.τ).loc Cert.GdnProjIdeal.main_v4)),
      θ_run (Cert.GdnProjIdeal.defs (F := Ideal)) (onTc (τ := Cert.GdnProjIdeal.τ) (Cert.GdnProjIdeal.main (F := Ideal))) ⟨m, fun _ => 0, g⟩ (fun r => ∀ c : Dev Cert.GdnProjIdeal.nD,
          r.2.mem ((c.tc : Thread Cert.GdnProjIdeal.nD Cert.GdnProjIdeal.τ).loc Cert.GdnProjIdeal.main_v4) = v0 c
          ∧ r.2.mem ((c.tc : Thread Cert.GdnProjIdeal.nD Cert.GdnProjIdeal.τ).loc Cert.GdnProjIdeal.main_arg0) = m ((c.tc : Thread Cert.GdnProjIdeal.nD Cert.GdnProjIdeal.τ).loc Cert.GdnProjIdeal.main_arg0)
          ∧ r.2.mem ((c.tc : Thread Cert.GdnProjIdeal.nD Cert.GdnProjIdeal.τ).loc Cert.GdnProjIdeal.main_arg1) = m ((c.tc : Thread Cert.GdnProjIdeal.nD Cert.GdnProjIdeal.τ).loc Cert.GdnProjIdeal.main_arg1))
      ∧ θ_run (Cert.GdnProjRefIdeal.defs (F := Ideal)) (onTc (τ := Cert.GdnProjRefIdeal.τ) (Cert.GdnProjRefIdeal.main (F := Ideal))) ⟨m', fun _ => 0, g'⟩ (fun r => ∀ c : Dev Cert.GdnProjRefIdeal.nD,
          r.2.mem ((c.tc : Thread Cert.GdnProjRefIdeal.nD Cert.GdnProjRefIdeal.τ).loc Cert.GdnProjRefIdeal.main_v7) = v0 c
          ∧ r.2.mem ((c.tc : Thread Cert.GdnProjRefIdeal.nD Cert.GdnProjRefIdeal.τ).loc Cert.GdnProjRefIdeal.main_arg0) = m' ((c.tc : Thread Cert.GdnProjRefIdeal.nD Cert.GdnProjRefIdeal.τ).loc Cert.GdnProjRefIdeal.main_arg0)
          ∧ r.2.mem ((c.tc : Thread Cert.GdnProjRefIdeal.nD Cert.GdnProjRefIdeal.τ).loc Cert.GdnProjRefIdeal.main_arg1) = m' ((c.tc : Thread Cert.GdnProjRefIdeal.nD Cert.GdnProjRefIdeal.τ).loc Cert.GdnProjRefIdeal.main_arg1))

def preserves_RwProj_RwProjIdeal : Prop :=
  True

def algebraic_RwProjIdeal_RwProjRefIdeal [hRwProjIdeal : Cert.RwProjIdeal.Facts] [hRwProjRefIdeal : Cert.RwProjRefIdeal.Facts] : Prop :=
  ∀ (m : (ℓ : Loc Cert.RwProjIdeal.nD Cert.RwProjIdeal.τ Cert.RwProjIdeal.sig) → Buf (Elt Ideal) ℓ) (g : Dev Cert.RwProjIdeal.nD → PrngReg)
    (m' : (ℓ : Loc Cert.RwProjRefIdeal.nD Cert.RwProjRefIdeal.τ Cert.RwProjRefIdeal.sig) → Buf (Elt Ideal) ℓ) (g' : Dev Cert.RwProjRefIdeal.nD → PrngReg), Pre_RwProjIdeal m →
    (∀ c : Dev Cert.RwProjIdeal.nD,
      m' ((c.tc : Thread Cert.RwProjRefIdeal.nD Cert.RwProjRefIdeal.τ).loc Cert.RwProjRefIdeal.main_arg0) = m ((c.tc : Thread Cert.RwProjIdeal.nD Cert.RwProjIdeal.τ).loc Cert.RwProjIdeal.main_arg0)
      ∧ m' ((c.tc : Thread Cert.RwProjRefIdeal.nD Cert.RwProjRefIdeal.τ).loc Cert.RwProjRefIdeal.main_arg1) = m ((c.tc : Thread Cert.RwProjIdeal.nD Cert.RwProjIdeal.τ).loc Cert.RwProjIdeal.main_arg1)) →
    ∃ (v0 : (c : Dev Cert.RwProjIdeal.nD) → Buf (Elt Ideal) ((c.tc : Thread Cert.RwProjIdeal.nD Cert.RwProjIdeal.τ).loc Cert.RwProjIdeal.main_v2)),
      θ_run (Cert.RwProjIdeal.defs (F := Ideal)) (onTc (τ := Cert.RwProjIdeal.τ) (Cert.RwProjIdeal.main (F := Ideal))) ⟨m, fun _ => 0, g⟩ (fun r => ∀ c : Dev Cert.RwProjIdeal.nD,
          r.2.mem ((c.tc : Thread Cert.RwProjIdeal.nD Cert.RwProjIdeal.τ).loc Cert.RwProjIdeal.main_v2) = v0 c
          ∧ r.2.mem ((c.tc : Thread Cert.RwProjIdeal.nD Cert.RwProjIdeal.τ).loc Cert.RwProjIdeal.main_arg0) = m ((c.tc : Thread Cert.RwProjIdeal.nD Cert.RwProjIdeal.τ).loc Cert.RwProjIdeal.main_arg0)
          ∧ r.2.mem ((c.tc : Thread Cert.RwProjIdeal.nD Cert.RwProjIdeal.τ).loc Cert.RwProjIdeal.main_arg1) = m ((c.tc : Thread Cert.RwProjIdeal.nD Cert.RwProjIdeal.τ).loc Cert.RwProjIdeal.main_arg1))
      ∧ θ_run (Cert.RwProjRefIdeal.defs (F := Ideal)) (onTc (τ := Cert.RwProjRefIdeal.τ) (Cert.RwProjRefIdeal.main (F := Ideal))) ⟨m', fun _ => 0, g'⟩ (fun r => ∀ c : Dev Cert.RwProjRefIdeal.nD,
          r.2.mem ((c.tc : Thread Cert.RwProjRefIdeal.nD Cert.RwProjRefIdeal.τ).loc Cert.RwProjRefIdeal.main_v4) = v0 c
          ∧ r.2.mem ((c.tc : Thread Cert.RwProjRefIdeal.nD Cert.RwProjRefIdeal.τ).loc Cert.RwProjRefIdeal.main_arg0) = m' ((c.tc : Thread Cert.RwProjRefIdeal.nD Cert.RwProjRefIdeal.τ).loc Cert.RwProjRefIdeal.main_arg0)
          ∧ r.2.mem ((c.tc : Thread Cert.RwProjRefIdeal.nD Cert.RwProjRefIdeal.τ).loc Cert.RwProjRefIdeal.main_arg1) = m' ((c.tc : Thread Cert.RwProjRefIdeal.nD Cert.RwProjRefIdeal.τ).loc Cert.RwProjRefIdeal.main_arg1))

def preserves_Mix_MixIdeal : Prop :=
  True

def algebraic_MixIdeal_MixRefIdeal [hMixIdeal : Cert.MixIdeal.Facts] [hMixRefIdeal : Cert.MixRefIdeal.Facts] : Prop :=
  ∀ (m : (ℓ : Loc Cert.MixIdeal.nD Cert.MixIdeal.τ Cert.MixIdeal.sig) → Buf (Elt Ideal) ℓ) (g : Dev Cert.MixIdeal.nD → PrngReg)
    (m' : (ℓ : Loc Cert.MixRefIdeal.nD Cert.MixRefIdeal.τ Cert.MixRefIdeal.sig) → Buf (Elt Ideal) ℓ) (g' : Dev Cert.MixRefIdeal.nD → PrngReg), Pre_MixIdeal m →
    (∀ c : Dev Cert.MixIdeal.nD,
      m' ((c.tc : Thread Cert.MixRefIdeal.nD Cert.MixRefIdeal.τ).loc Cert.MixRefIdeal.main_arg0) = m ((c.tc : Thread Cert.MixIdeal.nD Cert.MixIdeal.τ).loc Cert.MixIdeal.main_arg0)
      ∧ m' ((c.tc : Thread Cert.MixRefIdeal.nD Cert.MixRefIdeal.τ).loc Cert.MixRefIdeal.main_arg1) = m ((c.tc : Thread Cert.MixIdeal.nD Cert.MixIdeal.τ).loc Cert.MixIdeal.main_arg1)
      ∧ m' ((c.tc : Thread Cert.MixRefIdeal.nD Cert.MixRefIdeal.τ).loc Cert.MixRefIdeal.main_arg2) = m ((c.tc : Thread Cert.MixIdeal.nD Cert.MixIdeal.τ).loc Cert.MixIdeal.main_arg2)
      ∧ m' ((c.tc : Thread Cert.MixRefIdeal.nD Cert.MixRefIdeal.τ).loc Cert.MixRefIdeal.main_arg3) = m ((c.tc : Thread Cert.MixIdeal.nD Cert.MixIdeal.τ).loc Cert.MixIdeal.main_arg3)
      ∧ m' ((c.tc : Thread Cert.MixRefIdeal.nD Cert.MixRefIdeal.τ).loc Cert.MixRefIdeal.main_arg4) = m ((c.tc : Thread Cert.MixIdeal.nD Cert.MixIdeal.τ).loc Cert.MixIdeal.main_arg4)
      ∧ m' ((c.tc : Thread Cert.MixRefIdeal.nD Cert.MixRefIdeal.τ).loc Cert.MixRefIdeal.main_arg5) = m ((c.tc : Thread Cert.MixIdeal.nD Cert.MixIdeal.τ).loc Cert.MixIdeal.main_arg5)
      ∧ m' ((c.tc : Thread Cert.MixRefIdeal.nD Cert.MixRefIdeal.τ).loc Cert.MixRefIdeal.main_arg6) = m ((c.tc : Thread Cert.MixIdeal.nD Cert.MixIdeal.τ).loc Cert.MixIdeal.main_arg6)
      ∧ m' ((c.tc : Thread Cert.MixRefIdeal.nD Cert.MixRefIdeal.τ).loc Cert.MixRefIdeal.main_arg7) = m ((c.tc : Thread Cert.MixIdeal.nD Cert.MixIdeal.τ).loc Cert.MixIdeal.main_arg7)
      ∧ m' ((c.tc : Thread Cert.MixRefIdeal.nD Cert.MixRefIdeal.τ).loc Cert.MixRefIdeal.main_arg8) = m ((c.tc : Thread Cert.MixIdeal.nD Cert.MixIdeal.τ).loc Cert.MixIdeal.main_arg8)
      ∧ m' ((c.tc : Thread Cert.MixRefIdeal.nD Cert.MixRefIdeal.τ).loc Cert.MixRefIdeal.main_arg9) = m ((c.tc : Thread Cert.MixIdeal.nD Cert.MixIdeal.τ).loc Cert.MixIdeal.main_arg9)
      ∧ m' ((c.tc : Thread Cert.MixRefIdeal.nD Cert.MixRefIdeal.τ).loc Cert.MixRefIdeal.main_arg10) = m ((c.tc : Thread Cert.MixIdeal.nD Cert.MixIdeal.τ).loc Cert.MixIdeal.main_arg10)
      ∧ m' ((c.tc : Thread Cert.MixRefIdeal.nD Cert.MixRefIdeal.τ).loc Cert.MixRefIdeal.main_arg11) = m ((c.tc : Thread Cert.MixIdeal.nD Cert.MixIdeal.τ).loc Cert.MixIdeal.main_arg11)
      ∧ m' ((c.tc : Thread Cert.MixRefIdeal.nD Cert.MixRefIdeal.τ).loc Cert.MixRefIdeal.main_arg12) = m ((c.tc : Thread Cert.MixIdeal.nD Cert.MixIdeal.τ).loc Cert.MixIdeal.main_arg12)
      ∧ m' ((c.tc : Thread Cert.MixRefIdeal.nD Cert.MixRefIdeal.τ).loc Cert.MixRefIdeal.main_arg13) = m ((c.tc : Thread Cert.MixIdeal.nD Cert.MixIdeal.τ).loc Cert.MixIdeal.main_arg13)
      ∧ m' ((c.tc : Thread Cert.MixRefIdeal.nD Cert.MixRefIdeal.τ).loc Cert.MixRefIdeal.main_arg14) = m ((c.tc : Thread Cert.MixIdeal.nD Cert.MixIdeal.τ).loc Cert.MixIdeal.main_arg14)
      ∧ m' ((c.tc : Thread Cert.MixRefIdeal.nD Cert.MixRefIdeal.τ).loc Cert.MixRefIdeal.main_arg15) = m ((c.tc : Thread Cert.MixIdeal.nD Cert.MixIdeal.τ).loc Cert.MixIdeal.main_arg15)
      ∧ m' ((c.tc : Thread Cert.MixRefIdeal.nD Cert.MixRefIdeal.τ).loc Cert.MixRefIdeal.main_arg16) = m ((c.tc : Thread Cert.MixIdeal.nD Cert.MixIdeal.τ).loc Cert.MixIdeal.main_arg16)
      ∧ m' ((c.tc : Thread Cert.MixRefIdeal.nD Cert.MixRefIdeal.τ).loc Cert.MixRefIdeal.main_arg17) = m ((c.tc : Thread Cert.MixIdeal.nD Cert.MixIdeal.τ).loc Cert.MixIdeal.main_arg17)
      ∧ m' ((c.tc : Thread Cert.MixRefIdeal.nD Cert.MixRefIdeal.τ).loc Cert.MixRefIdeal.main_arg18) = m ((c.tc : Thread Cert.MixIdeal.nD Cert.MixIdeal.τ).loc Cert.MixIdeal.main_arg18)
      ∧ m' ((c.tc : Thread Cert.MixRefIdeal.nD Cert.MixRefIdeal.τ).loc Cert.MixRefIdeal.main_arg19) = m ((c.tc : Thread Cert.MixIdeal.nD Cert.MixIdeal.τ).loc Cert.MixIdeal.main_arg19)
      ∧ m' ((c.tc : Thread Cert.MixRefIdeal.nD Cert.MixRefIdeal.τ).loc Cert.MixRefIdeal.main_arg20) = m ((c.tc : Thread Cert.MixIdeal.nD Cert.MixIdeal.τ).loc Cert.MixIdeal.main_arg20)
      ∧ m' ((c.tc : Thread Cert.MixRefIdeal.nD Cert.MixRefIdeal.τ).loc Cert.MixRefIdeal.main_arg21) = m ((c.tc : Thread Cert.MixIdeal.nD Cert.MixIdeal.τ).loc Cert.MixIdeal.main_arg21)
      ∧ m' ((c.tc : Thread Cert.MixRefIdeal.nD Cert.MixRefIdeal.τ).loc Cert.MixRefIdeal.main_arg22) = m ((c.tc : Thread Cert.MixIdeal.nD Cert.MixIdeal.τ).loc Cert.MixIdeal.main_arg22)
      ∧ m' ((c.tc : Thread Cert.MixRefIdeal.nD Cert.MixRefIdeal.τ).loc Cert.MixRefIdeal.main_arg23) = m ((c.tc : Thread Cert.MixIdeal.nD Cert.MixIdeal.τ).loc Cert.MixIdeal.main_arg23)
      ∧ m' ((c.tc : Thread Cert.MixRefIdeal.nD Cert.MixRefIdeal.τ).loc Cert.MixRefIdeal.main_arg24) = m ((c.tc : Thread Cert.MixIdeal.nD Cert.MixIdeal.τ).loc Cert.MixIdeal.main_arg24)
      ∧ m' ((c.tc : Thread Cert.MixRefIdeal.nD Cert.MixRefIdeal.τ).loc Cert.MixRefIdeal.main_arg25) = m ((c.tc : Thread Cert.MixIdeal.nD Cert.MixIdeal.τ).loc Cert.MixIdeal.main_arg25)
      ∧ m' ((c.tc : Thread Cert.MixRefIdeal.nD Cert.MixRefIdeal.τ).loc Cert.MixRefIdeal.main_arg26) = m ((c.tc : Thread Cert.MixIdeal.nD Cert.MixIdeal.τ).loc Cert.MixIdeal.main_arg26)
      ∧ m' ((c.tc : Thread Cert.MixRefIdeal.nD Cert.MixRefIdeal.τ).loc Cert.MixRefIdeal.main_arg27) = m ((c.tc : Thread Cert.MixIdeal.nD Cert.MixIdeal.τ).loc Cert.MixIdeal.main_arg27)
      ∧ m' ((c.tc : Thread Cert.MixRefIdeal.nD Cert.MixRefIdeal.τ).loc Cert.MixRefIdeal.main_arg28) = m ((c.tc : Thread Cert.MixIdeal.nD Cert.MixIdeal.τ).loc Cert.MixIdeal.main_arg28)
      ∧ m' ((c.tc : Thread Cert.MixRefIdeal.nD Cert.MixRefIdeal.τ).loc Cert.MixRefIdeal.main_arg29) = m ((c.tc : Thread Cert.MixIdeal.nD Cert.MixIdeal.τ).loc Cert.MixIdeal.main_arg29)) →
    ∃ (v0 : (c : Dev Cert.MixIdeal.nD) → Buf (Elt Ideal) ((c.tc : Thread Cert.MixIdeal.nD Cert.MixIdeal.τ).loc Cert.MixIdeal.main_v42_1)) (v1 : (c : Dev Cert.MixIdeal.nD) → Buf (Elt Ideal) ((c.tc : Thread Cert.MixIdeal.nD Cert.MixIdeal.τ).loc Cert.MixIdeal.main_v42_4)) (v2 : (c : Dev Cert.MixIdeal.nD) → Buf (Elt Ideal) ((c.tc : Thread Cert.MixIdeal.nD Cert.MixIdeal.τ).loc Cert.MixIdeal.main_v42_7)),
      θ_run (Cert.MixIdeal.defs (F := Ideal)) (onTc (τ := Cert.MixIdeal.τ) (Cert.MixIdeal.main (F := Ideal))) ⟨m, fun _ => 0, g⟩ (fun r => ∀ c : Dev Cert.MixIdeal.nD,
          r.2.mem ((c.tc : Thread Cert.MixIdeal.nD Cert.MixIdeal.τ).loc Cert.MixIdeal.main_v42_1) = v0 c
          ∧ r.2.mem ((c.tc : Thread Cert.MixIdeal.nD Cert.MixIdeal.τ).loc Cert.MixIdeal.main_v42_4) = v1 c
          ∧ r.2.mem ((c.tc : Thread Cert.MixIdeal.nD Cert.MixIdeal.τ).loc Cert.MixIdeal.main_v42_7) = v2 c
          ∧ r.2.mem ((c.tc : Thread Cert.MixIdeal.nD Cert.MixIdeal.τ).loc Cert.MixIdeal.main_arg0) = m ((c.tc : Thread Cert.MixIdeal.nD Cert.MixIdeal.τ).loc Cert.MixIdeal.main_arg0)
          ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
          ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
          ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
          ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
          ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
          ∧ r.2.mem ((c.tc : Thread Cert.MixIdeal.nD Cert.MixIdeal.τ).loc Cert.MixIdeal.main_arg6) = m ((c.tc : Thread Cert.MixIdeal.nD Cert.MixIdeal.τ).loc Cert.MixIdeal.main_arg6)
          ∧ r.2.mem ((c.tc : Thread Cert.MixIdeal.nD Cert.MixIdeal.τ).loc Cert.MixIdeal.main_arg7) = m ((c.tc : Thread Cert.MixIdeal.nD Cert.MixIdeal.τ).loc Cert.MixIdeal.main_arg7)
          ∧ r.2.mem ((c.tc : Thread Cert.MixIdeal.nD Cert.MixIdeal.τ).loc Cert.MixIdeal.main_arg8) = m ((c.tc : Thread Cert.MixIdeal.nD Cert.MixIdeal.τ).loc Cert.MixIdeal.main_arg8)
          ∧ r.2.mem ((c.tc : Thread Cert.MixIdeal.nD Cert.MixIdeal.τ).loc Cert.MixIdeal.main_arg9) = m ((c.tc : Thread Cert.MixIdeal.nD Cert.MixIdeal.τ).loc Cert.MixIdeal.main_arg9)
          ∧ r.2.mem ((c.tc : Thread Cert.MixIdeal.nD Cert.MixIdeal.τ).loc Cert.MixIdeal.main_arg10) = m ((c.tc : Thread Cert.MixIdeal.nD Cert.MixIdeal.τ).loc Cert.MixIdeal.main_arg10)
          ∧ r.2.mem ((c.tc : Thread Cert.MixIdeal.nD Cert.MixIdeal.τ).loc Cert.MixIdeal.main_arg11) = m ((c.tc : Thread Cert.MixIdeal.nD Cert.MixIdeal.τ).loc Cert.MixIdeal.main_arg11)
          ∧ r.2.mem ((c.tc : Thread Cert.MixIdeal.nD Cert.MixIdeal.τ).loc Cert.MixIdeal.main_arg12) = m ((c.tc : Thread Cert.MixIdeal.nD Cert.MixIdeal.τ).loc Cert.MixIdeal.main_arg12)
          ∧ r.2.mem ((c.tc : Thread Cert.MixIdeal.nD Cert.MixIdeal.τ).loc Cert.MixIdeal.main_arg13) = m ((c.tc : Thread Cert.MixIdeal.nD Cert.MixIdeal.τ).loc Cert.MixIdeal.main_arg13)
          ∧ r.2.mem ((c.tc : Thread Cert.MixIdeal.nD Cert.MixIdeal.τ).loc Cert.MixIdeal.main_arg14) = m ((c.tc : Thread Cert.MixIdeal.nD Cert.MixIdeal.τ).loc Cert.MixIdeal.main_arg14)
          ∧ r.2.mem ((c.tc : Thread Cert.MixIdeal.nD Cert.MixIdeal.τ).loc Cert.MixIdeal.main_arg15) = m ((c.tc : Thread Cert.MixIdeal.nD Cert.MixIdeal.τ).loc Cert.MixIdeal.main_arg15)
          ∧ r.2.mem ((c.tc : Thread Cert.MixIdeal.nD Cert.MixIdeal.τ).loc Cert.MixIdeal.main_arg16) = m ((c.tc : Thread Cert.MixIdeal.nD Cert.MixIdeal.τ).loc Cert.MixIdeal.main_arg16)
          ∧ r.2.mem ((c.tc : Thread Cert.MixIdeal.nD Cert.MixIdeal.τ).loc Cert.MixIdeal.main_arg17) = m ((c.tc : Thread Cert.MixIdeal.nD Cert.MixIdeal.τ).loc Cert.MixIdeal.main_arg17)
          ∧ r.2.mem ((c.tc : Thread Cert.MixIdeal.nD Cert.MixIdeal.τ).loc Cert.MixIdeal.main_arg18) = m ((c.tc : Thread Cert.MixIdeal.nD Cert.MixIdeal.τ).loc Cert.MixIdeal.main_arg18)
          ∧ r.2.mem ((c.tc : Thread Cert.MixIdeal.nD Cert.MixIdeal.τ).loc Cert.MixIdeal.main_arg19) = m ((c.tc : Thread Cert.MixIdeal.nD Cert.MixIdeal.τ).loc Cert.MixIdeal.main_arg19)
          ∧ r.2.mem ((c.tc : Thread Cert.MixIdeal.nD Cert.MixIdeal.τ).loc Cert.MixIdeal.main_arg20) = m ((c.tc : Thread Cert.MixIdeal.nD Cert.MixIdeal.τ).loc Cert.MixIdeal.main_arg20)
          ∧ r.2.mem ((c.tc : Thread Cert.MixIdeal.nD Cert.MixIdeal.τ).loc Cert.MixIdeal.main_arg21) = m ((c.tc : Thread Cert.MixIdeal.nD Cert.MixIdeal.τ).loc Cert.MixIdeal.main_arg21)
          ∧ r.2.mem ((c.tc : Thread Cert.MixIdeal.nD Cert.MixIdeal.τ).loc Cert.MixIdeal.main_arg22) = m ((c.tc : Thread Cert.MixIdeal.nD Cert.MixIdeal.τ).loc Cert.MixIdeal.main_arg22)
          ∧ r.2.mem ((c.tc : Thread Cert.MixIdeal.nD Cert.MixIdeal.τ).loc Cert.MixIdeal.main_arg23) = m ((c.tc : Thread Cert.MixIdeal.nD Cert.MixIdeal.τ).loc Cert.MixIdeal.main_arg23)
          ∧ r.2.mem ((c.tc : Thread Cert.MixIdeal.nD Cert.MixIdeal.τ).loc Cert.MixIdeal.main_arg24) = m ((c.tc : Thread Cert.MixIdeal.nD Cert.MixIdeal.τ).loc Cert.MixIdeal.main_arg24)
          ∧ r.2.mem ((c.tc : Thread Cert.MixIdeal.nD Cert.MixIdeal.τ).loc Cert.MixIdeal.main_arg25) = m ((c.tc : Thread Cert.MixIdeal.nD Cert.MixIdeal.τ).loc Cert.MixIdeal.main_arg25)
          ∧ r.2.mem ((c.tc : Thread Cert.MixIdeal.nD Cert.MixIdeal.τ).loc Cert.MixIdeal.main_arg26) = m ((c.tc : Thread Cert.MixIdeal.nD Cert.MixIdeal.τ).loc Cert.MixIdeal.main_arg26)
          ∧ r.2.mem ((c.tc : Thread Cert.MixIdeal.nD Cert.MixIdeal.τ).loc Cert.MixIdeal.main_arg27) = m ((c.tc : Thread Cert.MixIdeal.nD Cert.MixIdeal.τ).loc Cert.MixIdeal.main_arg27)
          ∧ r.2.mem ((c.tc : Thread Cert.MixIdeal.nD Cert.MixIdeal.τ).loc Cert.MixIdeal.main_arg28) = m ((c.tc : Thread Cert.MixIdeal.nD Cert.MixIdeal.τ).loc Cert.MixIdeal.main_arg28)
          ∧ r.2.mem ((c.tc : Thread Cert.MixIdeal.nD Cert.MixIdeal.τ).loc Cert.MixIdeal.main_arg29) = m ((c.tc : Thread Cert.MixIdeal.nD Cert.MixIdeal.τ).loc Cert.MixIdeal.main_arg29))
      ∧ θ_run (Cert.MixRefIdeal.defs (F := Ideal)) (onTc (τ := Cert.MixRefIdeal.τ) (Cert.MixRefIdeal.main (F := Ideal))) ⟨m', fun _ => 0, g'⟩ (fun r => ∀ c : Dev Cert.MixRefIdeal.nD,
          r.2.mem ((c.tc : Thread Cert.MixRefIdeal.nD Cert.MixRefIdeal.τ).loc Cert.MixRefIdeal.main_v3) = v0 c
          ∧ r.2.mem ((c.tc : Thread Cert.MixRefIdeal.nD Cert.MixRefIdeal.τ).loc Cert.MixRefIdeal.main_v5) = v1 c
          ∧ r.2.mem ((c.tc : Thread Cert.MixRefIdeal.nD Cert.MixRefIdeal.τ).loc Cert.MixRefIdeal.main_v275) = v2 c
          ∧ r.2.mem ((c.tc : Thread Cert.MixRefIdeal.nD Cert.MixRefIdeal.τ).loc Cert.MixRefIdeal.main_arg0) = m' ((c.tc : Thread Cert.MixRefIdeal.nD Cert.MixRefIdeal.τ).loc Cert.MixRefIdeal.main_arg0)
          ∧ r.2.mem ((c.tc : Thread Cert.MixRefIdeal.nD Cert.MixRefIdeal.τ).loc Cert.MixRefIdeal.main_arg1) = m' ((c.tc : Thread Cert.MixRefIdeal.nD Cert.MixRefIdeal.τ).loc Cert.MixRefIdeal.main_arg1)
          ∧ r.2.mem ((c.tc : Thread Cert.MixRefIdeal.nD Cert.MixRefIdeal.τ).loc Cert.MixRefIdeal.main_arg2) = m' ((c.tc : Thread Cert.MixRefIdeal.nD Cert.MixRefIdeal.τ).loc Cert.MixRefIdeal.main_arg2)
          ∧ r.2.mem ((c.tc : Thread Cert.MixRefIdeal.nD Cert.MixRefIdeal.τ).loc Cert.MixRefIdeal.main_arg3) = m' ((c.tc : Thread Cert.MixRefIdeal.nD Cert.MixRefIdeal.τ).loc Cert.MixRefIdeal.main_arg3)
          ∧ r.2.mem ((c.tc : Thread Cert.MixRefIdeal.nD Cert.MixRefIdeal.τ).loc Cert.MixRefIdeal.main_arg4) = m' ((c.tc : Thread Cert.MixRefIdeal.nD Cert.MixRefIdeal.τ).loc Cert.MixRefIdeal.main_arg4)
          ∧ r.2.mem ((c.tc : Thread Cert.MixRefIdeal.nD Cert.MixRefIdeal.τ).loc Cert.MixRefIdeal.main_arg5) = m' ((c.tc : Thread Cert.MixRefIdeal.nD Cert.MixRefIdeal.τ).loc Cert.MixRefIdeal.main_arg5)
          ∧ r.2.mem ((c.tc : Thread Cert.MixRefIdeal.nD Cert.MixRefIdeal.τ).loc Cert.MixRefIdeal.main_arg6) = m' ((c.tc : Thread Cert.MixRefIdeal.nD Cert.MixRefIdeal.τ).loc Cert.MixRefIdeal.main_arg6)
          ∧ r.2.mem ((c.tc : Thread Cert.MixRefIdeal.nD Cert.MixRefIdeal.τ).loc Cert.MixRefIdeal.main_arg7) = m' ((c.tc : Thread Cert.MixRefIdeal.nD Cert.MixRefIdeal.τ).loc Cert.MixRefIdeal.main_arg7)
          ∧ r.2.mem ((c.tc : Thread Cert.MixRefIdeal.nD Cert.MixRefIdeal.τ).loc Cert.MixRefIdeal.main_arg8) = m' ((c.tc : Thread Cert.MixRefIdeal.nD Cert.MixRefIdeal.τ).loc Cert.MixRefIdeal.main_arg8)
          ∧ r.2.mem ((c.tc : Thread Cert.MixRefIdeal.nD Cert.MixRefIdeal.τ).loc Cert.MixRefIdeal.main_arg9) = m' ((c.tc : Thread Cert.MixRefIdeal.nD Cert.MixRefIdeal.τ).loc Cert.MixRefIdeal.main_arg9)
          ∧ r.2.mem ((c.tc : Thread Cert.MixRefIdeal.nD Cert.MixRefIdeal.τ).loc Cert.MixRefIdeal.main_arg10) = m' ((c.tc : Thread Cert.MixRefIdeal.nD Cert.MixRefIdeal.τ).loc Cert.MixRefIdeal.main_arg10)
          ∧ r.2.mem ((c.tc : Thread Cert.MixRefIdeal.nD Cert.MixRefIdeal.τ).loc Cert.MixRefIdeal.main_arg11) = m' ((c.tc : Thread Cert.MixRefIdeal.nD Cert.MixRefIdeal.τ).loc Cert.MixRefIdeal.main_arg11)
          ∧ r.2.mem ((c.tc : Thread Cert.MixRefIdeal.nD Cert.MixRefIdeal.τ).loc Cert.MixRefIdeal.main_arg12) = m' ((c.tc : Thread Cert.MixRefIdeal.nD Cert.MixRefIdeal.τ).loc Cert.MixRefIdeal.main_arg12)
          ∧ r.2.mem ((c.tc : Thread Cert.MixRefIdeal.nD Cert.MixRefIdeal.τ).loc Cert.MixRefIdeal.main_arg13) = m' ((c.tc : Thread Cert.MixRefIdeal.nD Cert.MixRefIdeal.τ).loc Cert.MixRefIdeal.main_arg13)
          ∧ r.2.mem ((c.tc : Thread Cert.MixRefIdeal.nD Cert.MixRefIdeal.τ).loc Cert.MixRefIdeal.main_arg14) = m' ((c.tc : Thread Cert.MixRefIdeal.nD Cert.MixRefIdeal.τ).loc Cert.MixRefIdeal.main_arg14)
          ∧ r.2.mem ((c.tc : Thread Cert.MixRefIdeal.nD Cert.MixRefIdeal.τ).loc Cert.MixRefIdeal.main_arg15) = m' ((c.tc : Thread Cert.MixRefIdeal.nD Cert.MixRefIdeal.τ).loc Cert.MixRefIdeal.main_arg15)
          ∧ r.2.mem ((c.tc : Thread Cert.MixRefIdeal.nD Cert.MixRefIdeal.τ).loc Cert.MixRefIdeal.main_arg16) = m' ((c.tc : Thread Cert.MixRefIdeal.nD Cert.MixRefIdeal.τ).loc Cert.MixRefIdeal.main_arg16)
          ∧ r.2.mem ((c.tc : Thread Cert.MixRefIdeal.nD Cert.MixRefIdeal.τ).loc Cert.MixRefIdeal.main_arg17) = m' ((c.tc : Thread Cert.MixRefIdeal.nD Cert.MixRefIdeal.τ).loc Cert.MixRefIdeal.main_arg17)
          ∧ r.2.mem ((c.tc : Thread Cert.MixRefIdeal.nD Cert.MixRefIdeal.τ).loc Cert.MixRefIdeal.main_arg18) = m' ((c.tc : Thread Cert.MixRefIdeal.nD Cert.MixRefIdeal.τ).loc Cert.MixRefIdeal.main_arg18)
          ∧ r.2.mem ((c.tc : Thread Cert.MixRefIdeal.nD Cert.MixRefIdeal.τ).loc Cert.MixRefIdeal.main_arg19) = m' ((c.tc : Thread Cert.MixRefIdeal.nD Cert.MixRefIdeal.τ).loc Cert.MixRefIdeal.main_arg19)
          ∧ r.2.mem ((c.tc : Thread Cert.MixRefIdeal.nD Cert.MixRefIdeal.τ).loc Cert.MixRefIdeal.main_arg20) = m' ((c.tc : Thread Cert.MixRefIdeal.nD Cert.MixRefIdeal.τ).loc Cert.MixRefIdeal.main_arg20)
          ∧ r.2.mem ((c.tc : Thread Cert.MixRefIdeal.nD Cert.MixRefIdeal.τ).loc Cert.MixRefIdeal.main_arg21) = m' ((c.tc : Thread Cert.MixRefIdeal.nD Cert.MixRefIdeal.τ).loc Cert.MixRefIdeal.main_arg21)
          ∧ r.2.mem ((c.tc : Thread Cert.MixRefIdeal.nD Cert.MixRefIdeal.τ).loc Cert.MixRefIdeal.main_arg22) = m' ((c.tc : Thread Cert.MixRefIdeal.nD Cert.MixRefIdeal.τ).loc Cert.MixRefIdeal.main_arg22)
          ∧ r.2.mem ((c.tc : Thread Cert.MixRefIdeal.nD Cert.MixRefIdeal.τ).loc Cert.MixRefIdeal.main_arg23) = m' ((c.tc : Thread Cert.MixRefIdeal.nD Cert.MixRefIdeal.τ).loc Cert.MixRefIdeal.main_arg23)
          ∧ r.2.mem ((c.tc : Thread Cert.MixRefIdeal.nD Cert.MixRefIdeal.τ).loc Cert.MixRefIdeal.main_arg24) = m' ((c.tc : Thread Cert.MixRefIdeal.nD Cert.MixRefIdeal.τ).loc Cert.MixRefIdeal.main_arg24)
          ∧ r.2.mem ((c.tc : Thread Cert.MixRefIdeal.nD Cert.MixRefIdeal.τ).loc Cert.MixRefIdeal.main_arg25) = m' ((c.tc : Thread Cert.MixRefIdeal.nD Cert.MixRefIdeal.τ).loc Cert.MixRefIdeal.main_arg25)
          ∧ r.2.mem ((c.tc : Thread Cert.MixRefIdeal.nD Cert.MixRefIdeal.τ).loc Cert.MixRefIdeal.main_arg26) = m' ((c.tc : Thread Cert.MixRefIdeal.nD Cert.MixRefIdeal.τ).loc Cert.MixRefIdeal.main_arg26)
          ∧ r.2.mem ((c.tc : Thread Cert.MixRefIdeal.nD Cert.MixRefIdeal.τ).loc Cert.MixRefIdeal.main_arg27) = m' ((c.tc : Thread Cert.MixRefIdeal.nD Cert.MixRefIdeal.τ).loc Cert.MixRefIdeal.main_arg27)
          ∧ r.2.mem ((c.tc : Thread Cert.MixRefIdeal.nD Cert.MixRefIdeal.τ).loc Cert.MixRefIdeal.main_arg28) = m' ((c.tc : Thread Cert.MixRefIdeal.nD Cert.MixRefIdeal.τ).loc Cert.MixRefIdeal.main_arg28)
          ∧ r.2.mem ((c.tc : Thread Cert.MixRefIdeal.nD Cert.MixRefIdeal.τ).loc Cert.MixRefIdeal.main_arg29) = m' ((c.tc : Thread Cert.MixRefIdeal.nD Cert.MixRefIdeal.τ).loc Cert.MixRefIdeal.main_arg29))

def preserves_Norm_NormIdeal : Prop :=
  True

def algebraic_NormIdeal_NormRefIdeal [hNormIdeal : Cert.NormIdeal.Facts] [hNormRefIdeal : Cert.NormRefIdeal.Facts] : Prop :=
  ∀ (m : (ℓ : Loc Cert.NormIdeal.nD Cert.NormIdeal.τ Cert.NormIdeal.sig) → Buf (Elt Ideal) ℓ) (g : Dev Cert.NormIdeal.nD → PrngReg)
    (m' : (ℓ : Loc Cert.NormRefIdeal.nD Cert.NormRefIdeal.τ Cert.NormRefIdeal.sig) → Buf (Elt Ideal) ℓ) (g' : Dev Cert.NormRefIdeal.nD → PrngReg), Pre_NormIdeal m →
    (∀ c : Dev Cert.NormIdeal.nD,
      m' ((c.tc : Thread Cert.NormRefIdeal.nD Cert.NormRefIdeal.τ).loc Cert.NormRefIdeal.main_arg0) = m ((c.tc : Thread Cert.NormIdeal.nD Cert.NormIdeal.τ).loc Cert.NormIdeal.main_arg0)
      ∧ m' ((c.tc : Thread Cert.NormRefIdeal.nD Cert.NormRefIdeal.τ).loc Cert.NormRefIdeal.main_arg1) = m ((c.tc : Thread Cert.NormIdeal.nD Cert.NormIdeal.τ).loc Cert.NormIdeal.main_arg1)) →
    ∃ (v0 : (c : Dev Cert.NormIdeal.nD) → Buf (Elt Ideal) ((c.tc : Thread Cert.NormIdeal.nD Cert.NormIdeal.τ).loc Cert.NormIdeal.main_v1)),
      θ_run (Cert.NormIdeal.defs (F := Ideal)) (onTc (τ := Cert.NormIdeal.τ) (Cert.NormIdeal.main (F := Ideal))) ⟨m, fun _ => 0, g⟩ (fun r => ∀ c : Dev Cert.NormIdeal.nD,
          r.2.mem ((c.tc : Thread Cert.NormIdeal.nD Cert.NormIdeal.τ).loc Cert.NormIdeal.main_v1) = v0 c
          ∧ r.2.mem ((c.tc : Thread Cert.NormIdeal.nD Cert.NormIdeal.τ).loc Cert.NormIdeal.main_arg0) = m ((c.tc : Thread Cert.NormIdeal.nD Cert.NormIdeal.τ).loc Cert.NormIdeal.main_arg0)
          ∧ r.2.mem ((c.tc : Thread Cert.NormIdeal.nD Cert.NormIdeal.τ).loc Cert.NormIdeal.main_arg1) = m ((c.tc : Thread Cert.NormIdeal.nD Cert.NormIdeal.τ).loc Cert.NormIdeal.main_arg1))
      ∧ θ_run (Cert.NormRefIdeal.defs (F := Ideal)) (onTc (τ := Cert.NormRefIdeal.τ) (Cert.NormRefIdeal.main (F := Ideal))) ⟨m', fun _ => 0, g'⟩ (fun r => ∀ c : Dev Cert.NormRefIdeal.nD,
          r.2.mem ((c.tc : Thread Cert.NormRefIdeal.nD Cert.NormRefIdeal.τ).loc Cert.NormRefIdeal.main_v13) = v0 c
          ∧ r.2.mem ((c.tc : Thread Cert.NormRefIdeal.nD Cert.NormRefIdeal.τ).loc Cert.NormRefIdeal.main_arg0) = m' ((c.tc : Thread Cert.NormRefIdeal.nD Cert.NormRefIdeal.τ).loc Cert.NormRefIdeal.main_arg0)
          ∧ r.2.mem ((c.tc : Thread Cert.NormRefIdeal.nD Cert.NormRefIdeal.τ).loc Cert.NormRefIdeal.main_arg1) = m' ((c.tc : Thread Cert.NormRefIdeal.nD Cert.NormRefIdeal.τ).loc Cert.NormRefIdeal.main_arg1))

def Claim : Prop :=
  ∃ (hFfn : Cert.Ffn.Facts) (hFfnIdeal : Cert.FfnIdeal.Facts) (hFfnRefIdeal : Cert.FfnRefIdeal.Facts) (hLast : Cert.Last.Facts) (hLastIdeal : Cert.LastIdeal.Facts) (hLastRefIdeal : Cert.LastRefIdeal.Facts) (hOut : Cert.Out.Facts) (hOutIdeal : Cert.OutIdeal.Facts) (hOutRefIdeal : Cert.OutRefIdeal.Facts) (hGlaProj : Cert.GlaProj.Facts) (hGlaProjIdeal : Cert.GlaProjIdeal.Facts) (hGlaProjRefIdeal : Cert.GlaProjRefIdeal.Facts) (hGdnProj : Cert.GdnProj.Facts) (hGdnProjIdeal : Cert.GdnProjIdeal.Facts) (hGdnProjRefIdeal : Cert.GdnProjRefIdeal.Facts) (hRwProj : Cert.RwProj.Facts) (hRwProjIdeal : Cert.RwProjIdeal.Facts) (hRwProjRefIdeal : Cert.RwProjRefIdeal.Facts) (hMix : Cert.Mix.Facts) (hMixIdeal : Cert.MixIdeal.Facts) (hMixRefIdeal : Cert.MixRefIdeal.Facts) (hNorm : Cert.Norm.Facts) (hNormIdeal : Cert.NormIdeal.Facts) (hNormRefIdeal : Cert.NormRefIdeal.Facts),
    quiescent_Ffn (hFfn := hFfn)
    ∧ quiescent_FfnIdeal (hFfnIdeal := hFfnIdeal)
    ∧ quiescent_FfnRefIdeal (hFfnRefIdeal := hFfnRefIdeal)
    ∧ quiescent_Last (hLast := hLast)
    ∧ quiescent_LastIdeal (hLastIdeal := hLastIdeal)
    ∧ quiescent_LastRefIdeal (hLastRefIdeal := hLastRefIdeal)
    ∧ quiescent_Out (hOut := hOut)
    ∧ quiescent_OutIdeal (hOutIdeal := hOutIdeal)
    ∧ quiescent_OutRefIdeal (hOutRefIdeal := hOutRefIdeal)
    ∧ quiescent_GlaProj (hGlaProj := hGlaProj)
    ∧ quiescent_GlaProjIdeal (hGlaProjIdeal := hGlaProjIdeal)
    ∧ quiescent_GlaProjRefIdeal (hGlaProjRefIdeal := hGlaProjRefIdeal)
    ∧ quiescent_GdnProj (hGdnProj := hGdnProj)
    ∧ quiescent_GdnProjIdeal (hGdnProjIdeal := hGdnProjIdeal)
    ∧ quiescent_GdnProjRefIdeal (hGdnProjRefIdeal := hGdnProjRefIdeal)
    ∧ quiescent_RwProj (hRwProj := hRwProj)
    ∧ quiescent_RwProjIdeal (hRwProjIdeal := hRwProjIdeal)
    ∧ quiescent_RwProjRefIdeal (hRwProjRefIdeal := hRwProjRefIdeal)
    ∧ quiescent_Mix (hMix := hMix)
    ∧ quiescent_MixIdeal (hMixIdeal := hMixIdeal)
    ∧ quiescent_MixRefIdeal (hMixRefIdeal := hMixRefIdeal)
    ∧ quiescent_Norm (hNorm := hNorm)
    ∧ quiescent_NormIdeal (hNormIdeal := hNormIdeal)
    ∧ quiescent_NormRefIdeal (hNormRefIdeal := hNormRefIdeal)
    ∧ preserves_Ffn_FfnIdeal
    ∧ algebraic_FfnIdeal_FfnRefIdeal (hFfnIdeal := hFfnIdeal) (hFfnRefIdeal := hFfnRefIdeal)
    ∧ preserves_Last_LastIdeal
    ∧ algebraic_LastIdeal_LastRefIdeal (hLastIdeal := hLastIdeal) (hLastRefIdeal := hLastRefIdeal)
    ∧ preserves_Out_OutIdeal
    ∧ algebraic_OutIdeal_OutRefIdeal (hOutIdeal := hOutIdeal) (hOutRefIdeal := hOutRefIdeal)
    ∧ preserves_GlaProj_GlaProjIdeal
    ∧ algebraic_GlaProjIdeal_GlaProjRefIdeal (hGlaProjIdeal := hGlaProjIdeal) (hGlaProjRefIdeal := hGlaProjRefIdeal)
    ∧ preserves_GdnProj_GdnProjIdeal
    ∧ algebraic_GdnProjIdeal_GdnProjRefIdeal (hGdnProjIdeal := hGdnProjIdeal) (hGdnProjRefIdeal := hGdnProjRefIdeal)
    ∧ preserves_RwProj_RwProjIdeal
    ∧ algebraic_RwProjIdeal_RwProjRefIdeal (hRwProjIdeal := hRwProjIdeal) (hRwProjRefIdeal := hRwProjRefIdeal)
    ∧ preserves_Mix_MixIdeal
    ∧ algebraic_MixIdeal_MixRefIdeal (hMixIdeal := hMixIdeal) (hMixRefIdeal := hMixRefIdeal)
    ∧ preserves_Norm_NormIdeal
    ∧ algebraic_NormIdeal_NormRefIdeal (hNormIdeal := hNormIdeal) (hNormRefIdeal := hNormRefIdeal)
-- ==== Ffn.lean ====
abbrev S32768x2048 : Shape := ⟨2, ![32768, 2048]⟩
abbrev S4x2048x5632 : Shape := ⟨3, ![4, 2048, 5632]⟩
abbrev S4x5632x2048 : Shape := ⟨3, ![4, 5632, 2048]⟩
abbrev S2048 : Shape := ⟨1, ![2048]⟩
abbrev S1x2048 : Shape := ⟨2, ![1, 2048]⟩
abbrev S512x2048 : Shape := ⟨2, ![512, 2048]⟩
abbrev S1x2048x512 : Shape := ⟨3, ![1, 2048, 512]⟩
abbrev S1x512x2048 : Shape := ⟨3, ![1, 512, 2048]⟩
abbrev S2048x512 : Shape := ⟨2, ![2048, 512]⟩
abbrev S512x512 : Shape := ⟨2, ![512, 512]⟩
abbrev S512 : Shape := ⟨1, ![512]⟩
abbrev S512x1 : Shape := ⟨2, ![512, 1]⟩

abbrev nBuf : Space → Nat
  | .hbm => 12
  | .vmem => 16
  | .smem => 0
  | _ => 0

abbrev bufTy : (tb : Table) → Fin (tcTables nBuf tb) → BufTy
  | .hbm, ⟨0, _⟩ => ⟨S32768x2048, .bf16⟩
  | .hbm, ⟨1, _⟩ => ⟨S4x2048x5632, .f32⟩
  | .hbm, ⟨2, _⟩ => ⟨S4x2048x5632, .f32⟩
  | .hbm, ⟨3, _⟩ => ⟨S4x5632x2048, .f32⟩
  | .hbm, ⟨4, _⟩ => ⟨S32768x2048, .f32⟩
  | .hbm, ⟨5, _⟩ => ⟨S2048, .f32⟩
  | .hbm, ⟨6, _⟩ => ⟨S4x2048x5632, .bf16⟩
  | .hbm, ⟨7, _⟩ => ⟨S4x2048x5632, .bf16⟩
  | .hbm, ⟨8, _⟩ => ⟨S4x5632x2048, .bf16⟩
  | .hbm, ⟨9, _⟩ => ⟨S1x2048, .f32⟩
  | .hbm, ⟨10, _⟩ => ⟨S32768x2048, .f32⟩
  | .hbm, ⟨11, _⟩ => ⟨S32768x2048, .bf16⟩
  | .local _ .vmem, ⟨0, _⟩ => ⟨S512x2048, .bf16⟩
  | .local _ .vmem, ⟨1, _⟩ => ⟨S512x2048, .bf16⟩
  | .local _ .vmem, ⟨2, _⟩ => ⟨S1x2048x512, .bf16⟩
  | .local _ .vmem, ⟨3, _⟩ => ⟨S1x2048x512, .bf16⟩
  | .local _ .vmem, ⟨4, _⟩ => ⟨S1x2048x512, .bf16⟩
  | .local _ .vmem, ⟨5, _⟩ => ⟨S1x2048x512, .bf16⟩
  | .local _ .vmem, ⟨6, _⟩ => ⟨S1x512x2048, .bf16⟩
  | .local _ .vmem, ⟨7, _⟩ => ⟨S1x512x2048, .bf16⟩
  | .local _ .vmem, ⟨8, _⟩ => ⟨S512x2048, .f32⟩
  | .local _ .vmem, ⟨9, _⟩ => ⟨S512x2048, .f32⟩
  | .local _ .vmem, ⟨10, _⟩ => ⟨S1x2048, .f32⟩
  | .local _ .vmem, ⟨11, _⟩ => ⟨S512x2048, .f32⟩
  | .local _ .vmem, ⟨12, _⟩ => ⟨S512x2048, .f32⟩
  | .local _ .vmem, ⟨13, _⟩ => ⟨S512x2048, .bf16⟩
  | .local _ .vmem, ⟨14, _⟩ => ⟨S512x2048, .bf16⟩
  | .local _ .vmem, ⟨15, _⟩ => ⟨S512x2048, .f32⟩
  | _, _ => ⟨S32768x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4_0 : Ref sig .tc := ⟨.hbm, 10, rfl⟩
abbrev main_v4_1 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_scratch0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨2, ![64, 11], ![false, false]⟩

def k0_cond3 (i : grid0.Coords) : BitVec 1 :=
  let arg1 : BitVec 32 := BitVec.ofNat 32 (i 1).val
  let c10_i32_3 : BitVec 32 := 10#32
  let v8 : BitVec 1 := Scalar.cmpi .eq arg1 c10_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S512x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S512x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== FfnRefIdeal.lean ====
abbrev S32768x2048 : Shape := ⟨2, ![32768, 2048]⟩
abbrev S4x2048x5632 : Shape := ⟨3, ![4, 2048, 5632]⟩
abbrev S4x5632x2048 : Shape := ⟨3, ![4, 5632, 2048]⟩
abbrev S2048 : Shape := ⟨1, ![2048]⟩
abbrev S1x2048x5632 : Shape := ⟨3, ![1, 2048, 5632]⟩
abbrev S2048x5632 : Shape := ⟨2, ![2048, 5632]⟩
abbrev S32768x5632 : Shape := ⟨2, ![32768, 5632]⟩
abbrev S_ : Shape := ⟨0, ![]⟩
abbrev S1x5632x2048 : Shape := ⟨3, ![1, 5632, 2048]⟩
abbrev S5632x2048 : Shape := ⟨2, ![5632, 2048]⟩
abbrev S32768 : Shape := ⟨1, ![32768]⟩
abbrev S32768x1 : Shape := ⟨2, ![32768, 1]⟩
abbrev S1x2048 : Shape := ⟨2, ![1, 2048]⟩

abbrev nBuf : Space → Nat
  | .hbm => 44
  | .vmem => 0
  | .smem => 0
  | _ => 0

abbrev bufTy : (tb : Table) → Fin (tcTables nBuf tb) → BufTy
  | .hbm, ⟨0, _⟩ => ⟨S32768x2048, .bf16⟩
  | .hbm, ⟨1, _⟩ => ⟨S4x2048x5632, .f32⟩
  | .hbm, ⟨2, _⟩ => ⟨S4x2048x5632, .f32⟩
  | .hbm, ⟨3, _⟩ => ⟨S4x5632x2048, .f32⟩
  | .hbm, ⟨4, _⟩ => ⟨S32768x2048, .f32⟩
  | .hbm, ⟨5, _⟩ => ⟨S2048, .f32⟩
  | .hbm, ⟨6, _⟩ => ⟨S32768x2048, .f32⟩
  | .hbm, ⟨7, _⟩ => ⟨S1x2048x5632, .f32⟩
  | .hbm, ⟨8, _⟩ => ⟨S2048x5632, .f32⟩
  | .hbm, ⟨9, _⟩ => ⟨S32768x5632, .f32⟩
  | .hbm, ⟨10, _⟩ => ⟨S32768x5632, .f32⟩
  | .hbm, ⟨11, _⟩ => ⟨S32768x5632, .f32⟩
  | .hbm, ⟨12, _⟩ => ⟨S_, .f32⟩
  | .hbm, ⟨13, _⟩ => ⟨S32768x5632, .f32⟩
  | .hbm, ⟨14, _⟩ => ⟨S32768x5632, .f32⟩
  | .hbm, ⟨15, _⟩ => ⟨S_, .f32⟩
  | .hbm, ⟨16, _⟩ => ⟨S32768x5632, .f32⟩
  | .hbm, ⟨17, _⟩ => ⟨S32768x5632, .f32⟩
  | .hbm, ⟨18, _⟩ => ⟨S32768x5632, .f32⟩
  | .hbm, ⟨19, _⟩ => ⟨S1x2048x5632, .f32⟩
  | .hbm, ⟨20, _⟩ => ⟨S2048x5632, .f32⟩
  | .hbm, ⟨21, _⟩ => ⟨S32768x5632, .f32⟩
  | .hbm, ⟨22, _⟩ => ⟨S32768x5632, .f32⟩
  | .hbm, ⟨23, _⟩ => ⟨S1x5632x2048, .f32⟩
  | .hbm, ⟨24, _⟩ => ⟨S5632x2048, .f32⟩
  | .hbm, ⟨25, _⟩ => ⟨S32768x2048, .f32⟩
  | .hbm, ⟨26, _⟩ => ⟨S32768x2048, .f32⟩
  | .hbm, ⟨27, _⟩ => ⟨S32768x2048, .f32⟩
  | .hbm, ⟨28, _⟩ => ⟨S_, .f32⟩
  | .hbm, ⟨29, _⟩ => ⟨S32768, .f32⟩
  | .hbm, ⟨30, _⟩ => ⟨S32768x1, .f32⟩
  | .hbm, ⟨31, _⟩ => ⟨S_, .f32⟩
  | .hbm, ⟨32, _⟩ => ⟨S32768x1, .f32⟩
  | .hbm, ⟨33, _⟩ => ⟨S32768x1, .f32⟩
  | .hbm, ⟨34, _⟩ => ⟨S_, .f32⟩
  | .hbm, ⟨35, _⟩ => ⟨S32768x1, .f32⟩
  | .hbm, ⟨36, _⟩ => ⟨S32768x1, .f32⟩
  | .hbm, ⟨37, _⟩ => ⟨S32768x1, .f32⟩
  | .hbm, ⟨38, _⟩ => ⟨S32768x2048, .f32⟩
  | .hbm, ⟨39, _⟩ => ⟨S32768x2048, .f32⟩
  | .hbm, ⟨40, _⟩ => ⟨S1x2048, .f32⟩
  | .hbm, ⟨41, _⟩ => ⟨S32768x2048, .f32⟩
  | .hbm, ⟨42, _⟩ => ⟨S32768x2048, .f32⟩
  | .hbm, ⟨43, _⟩ => ⟨S32768x2048, .bf16⟩
  | _, _ => ⟨S32768x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_call0_v0 : Ref sig .tc := ⟨.hbm, 10, rfl⟩
abbrev main_call0_v1 : Ref sig .tc := ⟨.hbm, 11, rfl⟩
abbrev main_call0_cst : Ref sig .tc := ⟨.hbm, 12, rfl⟩
abbrev main_call0_v2 : Ref sig .tc := ⟨.hbm, 13, rfl⟩
abbrev main_call0_v3 : Ref sig .tc := ⟨.hbm, 14, rfl⟩
abbrev main_call0_cst_0 : Ref sig .tc := ⟨.hbm, 15, rfl⟩
abbrev main_call0_v4 : Ref sig .tc := ⟨.hbm, 16, rfl⟩
abbrev main_call0_v5 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst : Ref sig .tc := ⟨.hbm, 28, rfl⟩
abbrev main_v14 : Ref sig .tc := ⟨.hbm, 29, rfl⟩
abbrev main_v15 : Ref sig .tc := ⟨.hbm, 30, rfl⟩
abbrev main_cst_0 : Ref sig .tc := ⟨.hbm, 31, rfl⟩
abbrev main_v16 : Ref sig .tc := ⟨.hbm, 32, rfl⟩
abbrev main_v17 : Ref sig .tc := ⟨.hbm, 33, rfl⟩
abbrev main_cst_1 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩

abbrev nD : Nat := 1
abbrev τ : Topo := Topo.v7x

variable {F : FTy → Type} [FloatOps F]
-- ==== Last.lean ====
abbrev S32768x2048 : Shape := ⟨2, ![32768, 2048]⟩
abbrev S4x2048x5632 : Shape := ⟨3, ![4, 2048, 5632]⟩
abbrev S4x5632x2048 : Shape := ⟨3, ![4, 5632, 2048]⟩
abbrev S2048 : Shape := ⟨1, ![2048]⟩
abbrev S1x2048 : Shape := ⟨2, ![1, 2048]⟩
abbrev S512x2048 : Shape := ⟨2, ![512, 2048]⟩
abbrev S1x2048x512 : Shape := ⟨3, ![1, 2048, 512]⟩
abbrev S1x512x2048 : Shape := ⟨3, ![1, 512, 2048]⟩
abbrev S2048x512 : Shape := ⟨2, ![2048, 512]⟩
abbrev S512x512 : Shape := ⟨2, ![512, 512]⟩
abbrev S512 : Shape := ⟨1, ![512]⟩
abbrev S512x1 : Shape := ⟨2, ![512, 1]⟩

abbrev nBuf : Space → Nat
  | .hbm => 11
  | .vmem => 14
  | .smem => 0
  | _ => 0

abbrev bufTy : (tb : Table) → Fin (tcTables nBuf tb) → BufTy
  | .hbm, ⟨0, _⟩ => ⟨S32768x2048, .bf16⟩
  | .hbm, ⟨1, _⟩ => ⟨S4x2048x5632, .f32⟩
  | .hbm, ⟨2, _⟩ => ⟨S4x2048x5632, .f32⟩
  | .hbm, ⟨3, _⟩ => ⟨S4x5632x2048, .f32⟩
  | .hbm, ⟨4, _⟩ => ⟨S32768x2048, .f32⟩
  | .hbm, ⟨5, _⟩ => ⟨S2048, .f32⟩
  | .hbm, ⟨6, _⟩ => ⟨S4x2048x5632, .bf16⟩
  | .hbm, ⟨7, _⟩ => ⟨S4x2048x5632, .bf16⟩
  | .hbm, ⟨8, _⟩ => ⟨S4x5632x2048, .bf16⟩
  | .hbm, ⟨9, _⟩ => ⟨S1x2048, .f32⟩
  | .hbm, ⟨10, _⟩ => ⟨S32768x2048, .f32⟩
  | .local _ .vmem, ⟨0, _⟩ => ⟨S512x2048, .bf16⟩
  | .local _ .vmem, ⟨1, _⟩ => ⟨S512x2048, .bf16⟩
  | .local _ .vmem, ⟨2, _⟩ => ⟨S1x2048x512, .bf16⟩
  | .local _ .vmem, ⟨3, _⟩ => ⟨S1x2048x512, .bf16⟩
  | .local _ .vmem, ⟨4, _⟩ => ⟨S1x2048x512, .bf16⟩
  | .local _ .vmem, ⟨5, _⟩ => ⟨S1x2048x512, .bf16⟩
  | .local _ .vmem, ⟨6, _⟩ => ⟨S1x512x2048, .bf16⟩
  | .local _ .vmem, ⟨7, _⟩ => ⟨S1x512x2048, .bf16⟩
  | .local _ .vmem, ⟨8, _⟩ => ⟨S512x2048, .f32⟩
  | .local _ .vmem, ⟨9, _⟩ => ⟨S512x2048, .f32⟩
  | .local _ .vmem, ⟨10, _⟩ => ⟨S1x2048, .f32⟩
  | .local _ .vmem, ⟨11, _⟩ => ⟨S512x2048, .f32⟩
  | .local _ .vmem, ⟨12, _⟩ => ⟨S512x2048, .f32⟩
  | .local _ .vmem, ⟨13, _⟩ => ⟨S512x2048, .f32⟩
  | _, _ => ⟨S32768x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![64, 11], ![false, false]⟩

def k0_cond3 (i : grid0.Coords) : BitVec 1 :=
  let arg1 : BitVec 32 := BitVec.ofNat 32 (i 1).val
  let c10_i32_3 : BitVec 32 := 10#32
  let v8 : BitVec 1 := Scalar.cmpi .eq arg1 c10_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  ![c3_i32.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  ![c3_i32.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  ![c3_i32.toNat, arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S512x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== LastRefIdeal.lean ====
abbrev S32768x2048 : Shape := ⟨2, ![32768, 2048]⟩
abbrev S4x2048x5632 : Shape := ⟨3, ![4, 2048, 5632]⟩
abbrev S4x5632x2048 : Shape := ⟨3, ![4, 5632, 2048]⟩
abbrev S2048 : Shape := ⟨1, ![2048]⟩
abbrev S1x2048x5632 : Shape := ⟨3, ![1, 2048, 5632]⟩
abbrev S2048x5632 : Shape := ⟨2, ![2048, 5632]⟩
abbrev S32768x5632 : Shape := ⟨2, ![32768, 5632]⟩
abbrev S_ : Shape := ⟨0, ![]⟩
abbrev S1x5632x2048 : Shape := ⟨3, ![1, 5632, 2048]⟩
abbrev S5632x2048 : Shape := ⟨2, ![5632, 2048]⟩
abbrev S32768 : Shape := ⟨1, ![32768]⟩
abbrev S32768x1 : Shape := ⟨2, ![32768, 1]⟩
abbrev S1x2048 : Shape := ⟨2, ![1, 2048]⟩

abbrev nBuf : Space → Nat
  | .hbm => 43
  | .vmem => 0
  | .smem => 0
  | _ => 0

abbrev bufTy : (tb : Table) → Fin (tcTables nBuf tb) → BufTy
  | .hbm, ⟨0, _⟩ => ⟨S32768x2048, .bf16⟩
  | .hbm, ⟨1, _⟩ => ⟨S4x2048x5632, .f32⟩
  | .hbm, ⟨2, _⟩ => ⟨S4x2048x5632, .f32⟩
  | .hbm, ⟨3, _⟩ => ⟨S4x5632x2048, .f32⟩
  | .hbm, ⟨4, _⟩ => ⟨S32768x2048, .f32⟩
  | .hbm, ⟨5, _⟩ => ⟨S2048, .f32⟩
  | .hbm, ⟨6, _⟩ => ⟨S32768x2048, .f32⟩
  | .hbm, ⟨7, _⟩ => ⟨S1x2048x5632, .f32⟩
  | .hbm, ⟨8, _⟩ => ⟨S2048x5632, .f32⟩
  | .hbm, ⟨9, _⟩ => ⟨S32768x5632, .f32⟩
  | .hbm, ⟨10, _⟩ => ⟨S32768x5632, .f32⟩
  | .hbm, ⟨11, _⟩ => ⟨S32768x5632, .f32⟩
  | .hbm, ⟨12, _⟩ => ⟨S_, .f32⟩
  | .hbm, ⟨13, _⟩ => ⟨S32768x5632, .f32⟩
  | .hbm, ⟨14, _⟩ => ⟨S32768x5632, .f32⟩
  | .hbm, ⟨15, _⟩ => ⟨S_, .f32⟩
  | .hbm, ⟨16, _⟩ => ⟨S32768x5632, .f32⟩
  | .hbm, ⟨17, _⟩ => ⟨S32768x5632, .f32⟩
  | .hbm, ⟨18, _⟩ => ⟨S32768x5632, .f32⟩
  | .hbm, ⟨19, _⟩ => ⟨S1x2048x5632, .f32⟩
  | .hbm, ⟨20, _⟩ => ⟨S2048x5632, .f32⟩
  | .hbm, ⟨21, _⟩ => ⟨S32768x5632, .f32⟩
  | .hbm, ⟨22, _⟩ => ⟨S32768x5632, .f32⟩
  | .hbm, ⟨23, _⟩ => ⟨S1x5632x2048, .f32⟩
  | .hbm, ⟨24, _⟩ => ⟨S5632x2048, .f32⟩
  | .hbm, ⟨25, _⟩ => ⟨S32768x2048, .f32⟩
  | .hbm, ⟨26, _⟩ => ⟨S32768x2048, .f32⟩
  | .hbm, ⟨27, _⟩ => ⟨S32768x2048, .f32⟩
  | .hbm, ⟨28, _⟩ => ⟨S_, .f32⟩
  | .hbm, ⟨29, _⟩ => ⟨S32768, .f32⟩
  | .hbm, ⟨30, _⟩ => ⟨S32768x1, .f32⟩
  | .hbm, ⟨31, _⟩ => ⟨S_, .f32⟩
  | .hbm, ⟨32, _⟩ => ⟨S32768x1, .f32⟩
  | .hbm, ⟨33, _⟩ => ⟨S32768x1, .f32⟩
  | .hbm, ⟨34, _⟩ => ⟨S_, .f32⟩
  | .hbm, ⟨35, _⟩ => ⟨S32768x1, .f32⟩
  | .hbm, ⟨36, _⟩ => ⟨S32768x1, .f32⟩
  | .hbm, ⟨37, _⟩ => ⟨S32768x1, .f32⟩
  | .hbm, ⟨38, _⟩ => ⟨S32768x2048, .f32⟩
  | .hbm, ⟨39, _⟩ => ⟨S32768x2048, .f32⟩
  | .hbm, ⟨40, _⟩ => ⟨S1x2048, .f32⟩
  | .hbm, ⟨41, _⟩ => ⟨S32768x2048, .f32⟩
  | .hbm, ⟨42, _⟩ => ⟨S32768x2048, .f32⟩
  | _, _ => ⟨S32768x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_call0_v0 : Ref sig .tc := ⟨.hbm, 10, rfl⟩
abbrev main_call0_v1 : Ref sig .tc := ⟨.hbm, 11, rfl⟩
abbrev main_call0_cst : Ref sig .tc := ⟨.hbm, 12, rfl⟩
abbrev main_call0_v2 : Ref sig .tc := ⟨.hbm, 13, rfl⟩
abbrev main_call0_v3 : Ref sig .tc := ⟨.hbm, 14, rfl⟩
abbrev main_call0_cst_0 : Ref sig .tc := ⟨.hbm, 15, rfl⟩
abbrev main_call0_v4 : Ref sig .tc := ⟨.hbm, 16, rfl⟩
abbrev main_call0_v5 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst : Ref sig .tc := ⟨.hbm, 28, rfl⟩
abbrev main_v14 : Ref sig .tc := ⟨.hbm, 29, rfl⟩
abbrev main_v15 : Ref sig .tc := ⟨.hbm, 30, rfl⟩
abbrev main_cst_0 : Ref sig .tc := ⟨.hbm, 31, rfl⟩
abbrev main_v16 : Ref sig .tc := ⟨.hbm, 32, rfl⟩
abbrev main_v17 : Ref sig .tc := ⟨.hbm, 33, rfl⟩
abbrev main_cst_1 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩

abbrev nD : Nat := 1
abbrev τ : Topo := Topo.v7x

variable {F : FTy → Type} [FloatOps F]
-- ==== Out.lean ====
abbrev S32768x512 : Shape := ⟨2, ![32768, 512]⟩
abbrev S32768x768 : Shape := ⟨2, ![32768, 768]⟩
abbrev S4x2048x2048 : Shape := ⟨3, ![4, 2048, 2048]⟩
abbrev S32768x2048 : Shape := ⟨2, ![32768, 2048]⟩
abbrev S2048 : Shape := ⟨1, ![2048]⟩
abbrev S1x2048 : Shape := ⟨2, ![1, 2048]⟩
abbrev S512x512 : Shape := ⟨2, ![512, 512]⟩
abbrev S512x768 : Shape := ⟨2, ![512, 768]⟩
abbrev S1x2048x2048 : Shape := ⟨3, ![1, 2048, 2048]⟩
abbrev S512x2048 : Shape := ⟨2, ![512, 2048]⟩
abbrev S1x512x2048 : Shape := ⟨3, ![1, 512, 2048]⟩
abbrev S1x768x2048 : Shape := ⟨3, ![1, 768, 2048]⟩
abbrev S768x2048 : Shape := ⟨2, ![768, 2048]⟩
abbrev S512 : Shape := ⟨1, ![512]⟩
abbrev S512x1 : Shape := ⟨2, ![512, 1]⟩

abbrev nBuf : Space → Nat
  | .hbm => 10
  | .vmem => 14
  | .smem => 0
  | _ => 0

abbrev bufTy : (tb : Table) → Fin (tcTables nBuf tb) → BufTy
  | .hbm, ⟨0, _⟩ => ⟨S32768x512, .bf16⟩
  | .hbm, ⟨1, _⟩ => ⟨S32768x768, .bf16⟩
  | .hbm, ⟨2, _⟩ => ⟨S32768x768, .bf16⟩
  | .hbm, ⟨3, _⟩ => ⟨S4x2048x2048, .f32⟩
  | .hbm, ⟨4, _⟩ => ⟨S32768x2048, .f32⟩
  | .hbm, ⟨5, _⟩ => ⟨S2048, .f32⟩
  | .hbm, ⟨6, _⟩ => ⟨S4x2048x2048, .bf16⟩
  | .hbm, ⟨7, _⟩ => ⟨S1x2048, .f32⟩
  | .hbm, ⟨8, _⟩ => ⟨S32768x2048, .f32⟩
  | .hbm, ⟨9, _⟩ => ⟨S32768x2048, .bf16⟩
  | .local _ .vmem, ⟨0, _⟩ => ⟨S512x512, .bf16⟩
  | .local _ .vmem, ⟨1, _⟩ => ⟨S512x512, .bf16⟩
  | .local _ .vmem, ⟨2, _⟩ => ⟨S512x768, .bf16⟩
  | .local _ .vmem, ⟨3, _⟩ => ⟨S512x768, .bf16⟩
  | .local _ .vmem, ⟨4, _⟩ => ⟨S512x768, .bf16⟩
  | .local _ .vmem, ⟨5, _⟩ => ⟨S512x768, .bf16⟩
  | .local _ .vmem, ⟨6, _⟩ => ⟨S1x2048x2048, .bf16⟩
  | .local _ .vmem, ⟨7, _⟩ => ⟨S512x2048, .f32⟩
  | .local _ .vmem, ⟨8, _⟩ => ⟨S512x2048, .f32⟩
  | .local _ .vmem, ⟨9, _⟩ => ⟨S1x2048, .f32⟩
  | .local _ .vmem, ⟨10, _⟩ => ⟨S512x2048, .f32⟩
  | .local _ .vmem, ⟨11, _⟩ => ⟨S512x2048, .f32⟩
  | .local _ .vmem, ⟨12, _⟩ => ⟨S512x2048, .bf16⟩
  | .local _ .vmem, ⟨13, _⟩ => ⟨S512x2048, .bf16⟩
  | _, _ => ⟨S32768x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2_0 : Ref sig .tc := ⟨.hbm, 8, rfl⟩
abbrev main_v2_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== OutRefIdeal.lean ====
abbrev S32768x512 : Shape := ⟨2, ![32768, 512]⟩
abbrev S32768x768 : Shape := ⟨2, ![32768, 768]⟩
abbrev S4x2048x2048 : Shape := ⟨3, ![4, 2048, 2048]⟩
abbrev S32768x2048 : Shape := ⟨2, ![32768, 2048]⟩
abbrev S2048 : Shape := ⟨1, ![2048]⟩
abbrev S1x2048x2048 : Shape := ⟨3, ![1, 2048, 2048]⟩
abbrev S2048x2048 : Shape := ⟨2, ![2048, 2048]⟩
abbrev S_ : Shape := ⟨0, ![]⟩
abbrev S32768 : Shape := ⟨1, ![32768]⟩
abbrev S32768x1 : Shape := ⟨2, ![32768, 1]⟩
abbrev S1x2048 : Shape := ⟨2, ![1, 2048]⟩

abbrev nBuf : Space → Nat
  | .hbm => 31
  | .vmem => 0
  | .smem => 0
  | _ => 0

abbrev bufTy : (tb : Table) → Fin (tcTables nBuf tb) → BufTy
  | .hbm, ⟨0, _⟩ => ⟨S32768x512, .bf16⟩
  | .hbm, ⟨1, _⟩ => ⟨S32768x768, .bf16⟩
  | .hbm, ⟨2, _⟩ => ⟨S32768x768, .bf16⟩
  | .hbm, ⟨3, _⟩ => ⟨S4x2048x2048, .f32⟩
  | .hbm, ⟨4, _⟩ => ⟨S32768x2048, .f32⟩
  | .hbm, ⟨5, _⟩ => ⟨S2048, .f32⟩
  | .hbm, ⟨6, _⟩ => ⟨S32768x512, .f32⟩
  | .hbm, ⟨7, _⟩ => ⟨S32768x768, .f32⟩
  | .hbm, ⟨8, _⟩ => ⟨S32768x768, .f32⟩
  | .hbm, ⟨9, _⟩ => ⟨S32768x2048, .f32⟩
  | .hbm, ⟨10, _⟩ => ⟨S1x2048x2048, .f32⟩
  | .hbm, ⟨11, _⟩ => ⟨S2048x2048, .f32⟩
  | .hbm, ⟨12, _⟩ => ⟨S32768x2048, .f32⟩
  | .hbm, ⟨13, _⟩ => ⟨S32768x2048, .f32⟩
  | .hbm, ⟨14, _⟩ => ⟨S32768x2048, .f32⟩
  | .hbm, ⟨15, _⟩ => ⟨S_, .f32⟩
  | .hbm, ⟨16, _⟩ => ⟨S32768, .f32⟩
  | .hbm, ⟨17, _⟩ => ⟨S32768x1, .f32⟩
  | .hbm, ⟨18, _⟩ => ⟨S_, .f32⟩
  | .hbm, ⟨19, _⟩ => ⟨S32768x1, .f32⟩
  | .hbm, ⟨20, _⟩ => ⟨S32768x1, .f32⟩
  | .hbm, ⟨21, _⟩ => ⟨S_, .f32⟩
  | .hbm, ⟨22, _⟩ => ⟨S32768x1, .f32⟩
  | .hbm, ⟨23, _⟩ => ⟨S32768x1, .f32⟩
  | .hbm, ⟨24, _⟩ => ⟨S32768x1, .f32⟩
  | .hbm, ⟨25, _⟩ => ⟨S32768x2048, .f32⟩
  | .hbm, ⟨26, _⟩ => ⟨S32768x2048, .f32⟩
  | .hbm, ⟨27, _⟩ => ⟨S1x2048, .f32⟩
  | .hbm, ⟨28, _⟩ => ⟨S32768x2048, .f32⟩
  | .hbm, ⟨29, _⟩ => ⟨S32768x2048, .f32⟩
  | .hbm, ⟨30, _⟩ => ⟨S32768x2048, .bf16⟩
  | _, _ => ⟨S32768x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst : Ref sig .tc := ⟨.hbm, 15, rfl⟩
abbrev main_v9 : Ref sig .tc := ⟨.hbm, 16, rfl⟩
abbrev main_v10 : Ref sig .tc := ⟨.hbm, 17, rfl⟩
abbrev main_cst_0 : Ref sig .tc := ⟨.hbm, 18, rfl⟩
abbrev main_v11 : Ref sig .tc := ⟨.hbm, 19, rfl⟩
abbrev main_v12 : Ref sig .tc := ⟨.hbm, 20, rfl⟩
abbrev main_cst_1 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩

abbrev nD : Nat := 1
abbrev τ : Topo := Topo.v7x

variable {F : FTy → Type} [FloatOps F]
-- ==== GlaProj.lean ====
abbrev S32768x2048 : Shape := ⟨2, ![32768, 2048]⟩
abbrev S4x2048x7196 : Shape := ⟨3, ![4, 2048, 7196]⟩
abbrev S4x2048x16 : Shape := ⟨3, ![4, 2048, 16]⟩
abbrev S4x2048x12 : Shape := ⟨3, ![4, 2048, 12]⟩
abbrev S4x2048x28 : Shape := ⟨3, ![4, 2048, 28]⟩
abbrev S_ : Shape := ⟨0, ![]⟩
abbrev S4x2048x128 : Shape := ⟨3, ![4, 2048, 128]⟩
abbrev S4x2048x1024 : Shape := ⟨3, ![4, 2048, 1024]⟩
abbrev S4x2048x512 : Shape := ⟨3, ![4, 2048, 512]⟩
abbrev S4x2048x1664 : Shape := ⟨3, ![4, 2048, 1664]⟩
abbrev S32768x1664 : Shape := ⟨2, ![32768, 1664]⟩
abbrev S1024x2048 : Shape := ⟨2, ![1024, 2048]⟩
abbrev S1x2048x1664 : Shape := ⟨3, ![1, 2048, 1664]⟩
abbrev S1024x1664 : Shape := ⟨2, ![1024, 1664]⟩
abbrev S2048x1664 : Shape := ⟨2, ![2048, 1664]⟩

abbrev nBuf : Space → Nat
  | .hbm => 13
  | .vmem => 5
  | .smem => 0
  | _ => 0

abbrev bufTy : (tb : Table) → Fin (tcTables nBuf tb) → BufTy
  | .hbm, ⟨0, _⟩ => ⟨S32768x2048, .bf16⟩
  | .hbm, ⟨1, _⟩ => ⟨S4x2048x7196, .f32⟩
  | .hbm, ⟨2, _⟩ => ⟨S4x2048x7196, .bf16⟩
  | .hbm, ⟨3, _⟩ => ⟨S4x2048x16, .bf16⟩
  | .hbm, ⟨4, _⟩ => ⟨S4x2048x12, .bf16⟩
  | .hbm, ⟨5, _⟩ => ⟨S4x2048x28, .bf16⟩
  | .hbm, ⟨6, _⟩ => ⟨S_, .i32⟩
  | .hbm, ⟨7, _⟩ => ⟨S_, .bf16⟩
  | .hbm, ⟨8, _⟩ => ⟨S4x2048x128, .bf16⟩
  | .hbm, ⟨9, _⟩ => ⟨S4x2048x1024, .bf16⟩
  | .hbm, ⟨10, _⟩ => ⟨S4x2048x512, .bf16⟩
  | .hbm, ⟨11, _⟩ => ⟨S4x2048x1664, .bf16⟩
  | .hbm, ⟨12, _⟩ => ⟨S32768x1664, .f32⟩
  | .local _ .vmem, ⟨0, _⟩ => ⟨S1024x2048, .bf16⟩
  | .local _ .vmem, ⟨1, _⟩ => ⟨S1024x2048, .bf16⟩
  | .local _ .vmem, ⟨2, _⟩ => ⟨S1x2048x1664, .bf16⟩
  | .local _ .vmem, ⟨3, _⟩ => ⟨S1024x1664, .f32⟩
  | .local _ .vmem, ⟨4, _⟩ => ⟨S1024x1664, .f32⟩
  | _, _ => ⟨S32768x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_c : Ref sig .tc := ⟨.hbm, 6, rfl⟩
abbrev main_call0_v0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 32], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1x2048x1664 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S1024x1664 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== GlaProjRefIdeal.lean ====
abbrev S32768x2048 : Shape := ⟨2, ![32768, 2048]⟩
abbrev S4x2048x7196 : Shape := ⟨3, ![4, 2048, 7196]⟩
abbrev S1x2048x7196 : Shape := ⟨3, ![1, 2048, 7196]⟩
abbrev S2048x7196 : Shape := ⟨2, ![2048, 7196]⟩
abbrev S32768x7196 : Shape := ⟨2, ![32768, 7196]⟩
abbrev S32768x1552 : Shape := ⟨2, ![32768, 1552]⟩
abbrev S32768x3084 : Shape := ⟨2, ![32768, 3084]⟩
abbrev S32768x1024 : Shape := ⟨2, ![32768, 1024]⟩
abbrev S32768x16 : Shape := ⟨2, ![32768, 16]⟩
abbrev S32768x512 : Shape := ⟨2, ![32768, 512]⟩
abbrev S32768x12 : Shape := ⟨2, ![32768, 12]⟩
abbrev S_ : Shape := ⟨0, ![]⟩
abbrev S32768x100 : Shape := ⟨2, ![32768, 100]⟩
abbrev S32768x1664 : Shape := ⟨2, ![32768, 1664]⟩

abbrev nBuf : Space → Nat
  | .hbm => 15
  | .vmem => 0
  | .smem => 0
  | _ => 0

abbrev bufTy : (tb : Table) → Fin (tcTables nBuf tb) → BufTy
  | .hbm, ⟨0, _⟩ => ⟨S32768x2048, .bf16⟩
  | .hbm, ⟨1, _⟩ => ⟨S4x2048x7196, .f32⟩
  | .hbm, ⟨2, _⟩ => ⟨S32768x2048, .f32⟩
  | .hbm, ⟨3, _⟩ => ⟨S1x2048x7196, .f32⟩
  | .hbm, ⟨4, _⟩ => ⟨S2048x7196, .f32⟩
  | .hbm, ⟨5, _⟩ => ⟨S32768x7196, .f32⟩
  | .hbm, ⟨6, _⟩ => ⟨S32768x1552, .f32⟩
  | .hbm, ⟨7, _⟩ => ⟨S32768x3084, .f32⟩
  | .hbm, ⟨8, _⟩ => ⟨S32768x1024, .f32⟩
  | .hbm, ⟨9, _⟩ => ⟨S32768x16, .f32⟩
  | .hbm, ⟨10, _⟩ => ⟨S32768x512, .f32⟩
  | .hbm, ⟨11, _⟩ => ⟨S32768x12, .f32⟩
  | .hbm, ⟨12, _⟩ => ⟨S_, .f32⟩
  | .hbm, ⟨13, _⟩ => ⟨S32768x100, .f32⟩
  | .hbm, ⟨14, _⟩ => ⟨S32768x1664, .f32⟩
  | _, _ => ⟨S32768x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_cst : Ref sig .tc := ⟨.hbm, 12, rfl⟩
abbrev main_v10 : Ref sig .tc := ⟨.hbm, 13, rfl⟩
abbrev main_v11 : Ref sig .tc := ⟨.hbm, 14, rfl⟩

abbrev nD : Nat := 1
abbrev τ : Topo := Topo.v7x

variable {F : FTy → Type} [FloatOps F]
-- ==== GdnProj.lean ====
abbrev S32768x2048 : Shape := ⟨2, ![32768, 2048]⟩
abbrev S4x2048x7196 : Shape := ⟨3, ![4, 2048, 7196]⟩
abbrev S4x2048x2304 : Shape := ⟨3, ![4, 2048, 2304]⟩
abbrev S4x2048x768 : Shape := ⟨3, ![4, 2048, 768]⟩
abbrev S4x2048x3072 : Shape := ⟨3, ![4, 2048, 3072]⟩
abbrev S32768x3072 : Shape := ⟨2, ![32768, 3072]⟩
abbrev S1024x2048 : Shape := ⟨2, ![1024, 2048]⟩
abbrev S1x2048x1536 : Shape := ⟨3, ![1, 2048, 1536]⟩
abbrev S1024x1536 : Shape := ⟨2, ![1024, 1536]⟩
abbrev S2048x1536 : Shape := ⟨2, ![2048, 1536]⟩

abbrev nBuf : Space → Nat
  | .hbm => 7
  | .vmem => 6
  | .smem => 0
  | _ => 0

abbrev bufTy : (tb : Table) → Fin (tcTables nBuf tb) → BufTy
  | .hbm, ⟨0, _⟩ => ⟨S32768x2048, .bf16⟩
  | .hbm, ⟨1, _⟩ => ⟨S4x2048x7196, .f32⟩
  | .hbm, ⟨2, _⟩ => ⟨S4x2048x7196, .bf16⟩
  | .hbm, ⟨3, _⟩ => ⟨S4x2048x2304, .bf16⟩
  | .hbm, ⟨4, _⟩ => ⟨S4x2048x768, .bf16⟩
  | .hbm, ⟨5, _⟩ => ⟨S4x2048x3072, .bf16⟩
  | .hbm, ⟨6, _⟩ => ⟨S32768x3072, .f32⟩
  | .local _ .vmem, ⟨0, _⟩ => ⟨S1024x2048, .bf16⟩
  | .local _ .vmem, ⟨1, _⟩ => ⟨S1024x2048, .bf16⟩
  | .local _ .vmem, ⟨2, _⟩ => ⟨S1x2048x1536, .bf16⟩
  | .local _ .vmem, ⟨3, _⟩ => ⟨S1x2048x1536, .bf16⟩
  | .local _ .vmem, ⟨4, _⟩ => ⟨S1024x1536, .f32⟩
  | .local _ .vmem, ⟨5, _⟩ => ⟨S1024x1536, .f32⟩
  | _, _ => ⟨S32768x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 32], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== GdnProjRefIdeal.lean ====
abbrev S32768x2048 : Shape := ⟨2, ![32768, 2048]⟩
abbrev S4x2048x7196 : Shape := ⟨3, ![4, 2048, 7196]⟩
abbrev S1x2048x7196 : Shape := ⟨3, ![1, 2048, 7196]⟩
abbrev S2048x7196 : Shape := ⟨2, ![2048, 7196]⟩
abbrev S32768x7196 : Shape := ⟨2, ![32768, 7196]⟩
abbrev S32768x3084 : Shape := ⟨2, ![32768, 3084]⟩
abbrev S32768x2304 : Shape := ⟨2, ![32768, 2304]⟩
abbrev S32768x768 : Shape := ⟨2, ![32768, 768]⟩
abbrev S32768x3072 : Shape := ⟨2, ![32768, 3072]⟩

abbrev nBuf : Space → Nat
  | .hbm => 10
  | .vmem => 0
  | .smem => 0
  | _ => 0

abbrev bufTy : (tb : Table) → Fin (tcTables nBuf tb) → BufTy
  | .hbm, ⟨0, _⟩ => ⟨S32768x2048, .bf16⟩
  | .hbm, ⟨1, _⟩ => ⟨S4x2048x7196, .f32⟩
  | .hbm, ⟨2, _⟩ => ⟨S32768x2048, .f32⟩
  | .hbm, ⟨3, _⟩ => ⟨S1x2048x7196, .f32⟩
  | .hbm, ⟨4, _⟩ => ⟨S2048x7196, .f32⟩
  | .hbm, ⟨5, _⟩ => ⟨S32768x7196, .f32⟩
  | .hbm, ⟨6, _⟩ => ⟨S32768x3084, .f32⟩
  | .hbm, ⟨7, _⟩ => ⟨S32768x2304, .f32⟩
  | .hbm, ⟨8, _⟩ => ⟨S32768x768, .f32⟩
  | .hbm, ⟨9, _⟩ => ⟨S32768x3072, .f32⟩
  | _, _ => ⟨S32768x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩

abbrev nD : Nat := 1
abbrev τ : Topo := Topo.v7x

variable {F : FTy → Type} [FloatOps F]
-- ==== RwProj.lean ====
abbrev S32768x2048 : Shape := ⟨2, ![32768, 2048]⟩
abbrev S4x2048x7196 : Shape := ⟨3, ![4, 2048, 7196]⟩
abbrev S4x2048x2560 : Shape := ⟨3, ![4, 2048, 2560]⟩
abbrev S32768x2560 : Shape := ⟨2, ![32768, 2560]⟩
abbrev S1024x2048 : Shape := ⟨2, ![1024, 2048]⟩
abbrev S1x2048x1280 : Shape := ⟨3, ![1, 2048, 1280]⟩
abbrev S1024x1280 : Shape := ⟨2, ![1024, 1280]⟩
abbrev S2048x1280 : Shape := ⟨2, ![2048, 1280]⟩

abbrev nBuf : Space → Nat
  | .hbm => 5
  | .vmem => 6
  | .smem => 0
  | _ => 0

abbrev bufTy : (tb : Table) → Fin (tcTables nBuf tb) → BufTy
  | .hbm, ⟨0, _⟩ => ⟨S32768x2048, .bf16⟩
  | .hbm, ⟨1, _⟩ => ⟨S4x2048x7196, .f32⟩
  | .hbm, ⟨2, _⟩ => ⟨S4x2048x7196, .bf16⟩
  | .hbm, ⟨3, _⟩ => ⟨S4x2048x2560, .bf16⟩
  | .hbm, ⟨4, _⟩ => ⟨S32768x2560, .f32⟩
  | .local _ .vmem, ⟨0, _⟩ => ⟨S1024x2048, .bf16⟩
  | .local _ .vmem, ⟨1, _⟩ => ⟨S1024x2048, .bf16⟩
  | .local _ .vmem, ⟨2, _⟩ => ⟨S1x2048x1280, .bf16⟩
  | .local _ .vmem, ⟨3, _⟩ => ⟨S1x2048x1280, .bf16⟩
  | .local _ .vmem, ⟨4, _⟩ => ⟨S1024x1280, .f32⟩
  | .local _ .vmem, ⟨5, _⟩ => ⟨S1024x1280, .f32⟩
  | _, _ => ⟨S32768x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 32], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048x1280 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1280 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== RwProjRefIdeal.lean ====
abbrev S32768x2048 : Shape := ⟨2, ![32768, 2048]⟩
abbrev S4x2048x7196 : Shape := ⟨3, ![4, 2048, 7196]⟩
abbrev S1x2048x7196 : Shape := ⟨3, ![1, 2048, 7196]⟩
abbrev S2048x7196 : Shape := ⟨2, ![2048, 7196]⟩
abbrev S32768x7196 : Shape := ⟨2, ![32768, 7196]⟩
abbrev S32768x2560 : Shape := ⟨2, ![32768, 2560]⟩

abbrev nBuf : Space → Nat
  | .hbm => 7
  | .vmem => 0
  | .smem => 0
  | _ => 0

abbrev bufTy : (tb : Table) → Fin (tcTables nBuf tb) → BufTy
  | .hbm, ⟨0, _⟩ => ⟨S32768x2048, .bf16⟩
  | .hbm, ⟨1, _⟩ => ⟨S4x2048x7196, .f32⟩
  | .hbm, ⟨2, _⟩ => ⟨S32768x2048, .f32⟩
  | .hbm, ⟨3, _⟩ => ⟨S1x2048x7196, .f32⟩
  | .hbm, ⟨4, _⟩ => ⟨S2048x7196, .f32⟩
  | .hbm, ⟨5, _⟩ => ⟨S32768x7196, .f32⟩
  | .hbm, ⟨6, _⟩ => ⟨S32768x2560, .f32⟩
  | _, _ => ⟨S32768x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Mix.lean ====
abbrev S128x1664 : Shape := ⟨2, ![128, 1664]⟩
abbrev S128x3072 : Shape := ⟨2, ![128, 3072]⟩
abbrev S128x2560 : Shape := ⟨2, ![128, 2560]⟩
abbrev S8x16x768 : Shape := ⟨3, ![8, 16, 768]⟩
abbrev S768 : Shape := ⟨1, ![768]⟩
abbrev S768x32 : Shape := ⟨2, ![768, 32]⟩
abbrev S32x768 : Shape := ⟨2, ![32, 768]⟩
abbrev S2560 : Shape := ⟨1, ![2560]⟩
abbrev S64x768 : Shape := ⟨2, ![64, 768]⟩
abbrev S128x768 : Shape := ⟨2, ![128, 768]⟩
abbrev S12x64 : Shape := ⟨2, ![12, 64]⟩
abbrev S8x1x2560 : Shape := ⟨3, ![8, 1, 2560]⟩
abbrev S8x12x64x64 : Shape := ⟨4, ![8, 12, 64, 64]⟩
abbrev S4x2304 : Shape := ⟨2, ![4, 2304]⟩
abbrev S6 : Shape := ⟨1, ![6]⟩
abbrev S128 : Shape := ⟨1, ![128]⟩
abbrev S8x3x2304 : Shape := ⟨3, ![8, 3, 2304]⟩
abbrev S8x6x128x128 : Shape := ⟨4, ![8, 6, 128, 128]⟩
abbrev S16x256 : Shape := ⟨2, ![16, 256]⟩
abbrev S256 : Shape := ⟨1, ![256]⟩
abbrev S8x4x64x128 : Shape := ⟨4, ![8, 4, 64, 128]⟩
abbrev S16x32 : Shape := ⟨2, ![16, 32]⟩
abbrev S16x128 : Shape := ⟨2, ![16, 128]⟩
abbrev S160x32 : Shape := ⟨2, ![160, 32]⟩
abbrev S4x16x16 : Shape := ⟨3, ![4, 16, 16]⟩
abbrev S1x2560 : Shape := ⟨2, ![1, 2560]⟩
abbrev S1x768 : Shape := ⟨2, ![1, 768]⟩
abbrev S_ : Shape := ⟨0, ![]⟩
abbrev S8x6x2x64x64 : Shape := ⟨5, ![8, 6, 2, 64, 64]⟩
abbrev S8x6x1x64x64 : Shape := ⟨5, ![8, 6, 1, 64, 64]⟩
abbrev S8x6x64x64 : Shape := ⟨4, ![8, 6, 64, 64]⟩
abbrev S8x6x64x128 : Shape := ⟨4, ![8, 6, 64, 128]⟩
abbrev S8x16x2560 : Shape := ⟨3, ![8, 16, 2560]⟩
abbrev S1x128 : Shape := ⟨2, ![1, 128]⟩
abbrev S8x16x3072 : Shape := ⟨3, ![8, 16, 3072]⟩
abbrev S8x16x1664 : Shape := ⟨3, ![8, 16, 1664]⟩
abbrev S128x256 : Shape := ⟨2, ![128, 256]⟩
abbrev S1x256 : Shape := ⟨2, ![1, 256]⟩
abbrev S8x2x128x128 : Shape := ⟨4, ![8, 2, 128, 128]⟩
abbrev S8x16x512 : Shape := ⟨3, ![8, 16, 512]⟩
abbrev S1x16x2560 : Shape := ⟨3, ![1, 16, 2560]⟩
abbrev S1x16x768 : Shape := ⟨3, ![1, 16, 768]⟩
abbrev S1x1x2560 : Shape := ⟨3, ![1, 1, 2560]⟩
abbrev S1x6x128x128 : Shape := ⟨4, ![1, 6, 128, 128]⟩
abbrev S1x16x3072 : Shape := ⟨3, ![1, 16, 3072]⟩
abbrev S1x16x128 : Shape := ⟨3, ![1, 16, 128]⟩
abbrev S1x3x2304 : Shape := ⟨3, ![1, 3, 2304]⟩
abbrev S1x16x1536 : Shape := ⟨3, ![1, 16, 1536]⟩
abbrev S1x2x128x128 : Shape := ⟨4, ![1, 2, 128, 128]⟩
abbrev S1x16x512 : Shape := ⟨3, ![1, 16, 512]⟩
abbrev S24x2560 : Shape := ⟨2, ![24, 2560]⟩
abbrev S6x128x128 : Shape := ⟨3, ![6, 128, 128]⟩
abbrev S24x2304 : Shape := ⟨2, ![24, 2304]⟩
abbrev S2x128x128 : Shape := ⟨3, ![2, 128, 128]⟩
abbrev S16x2560 : Shape := ⟨2, ![16, 2560]⟩
abbrev S3x2304 : Shape := ⟨2, ![3, 2304]⟩
abbrev S1x16x2304 : Shape := ⟨3, ![1, 16, 2304]⟩
abbrev S16x2304 : Shape := ⟨2, ![16, 2304]⟩
abbrev S1x2304 : Shape := ⟨2, ![1, 2304]⟩
abbrev S16x768 : Shape := ⟨2, ![16, 768]⟩
abbrev S32x256 : Shape := ⟨2, ![32, 256]⟩
abbrev S160x256 : Shape := ⟨2, ![160, 256]⟩
abbrev S32x128 : Shape := ⟨2, ![32, 128]⟩
abbrev S256x128 : Shape := ⟨2, ![256, 128]⟩
abbrev S128x128 : Shape := ⟨2, ![128, 128]⟩
abbrev S16 : Shape := ⟨1, ![16]⟩
abbrev S16x1 : Shape := ⟨2, ![16, 1]⟩
abbrev S1x16x256 : Shape := ⟨3, ![1, 16, 256]⟩
abbrev S16x16 : Shape := ⟨2, ![16, 16]⟩
abbrev S1x128x128 : Shape := ⟨3, ![1, 128, 128]⟩
abbrev S32x16 : Shape := ⟨2, ![32, 16]⟩
abbrev S1x16x16 : Shape := ⟨3, ![1, 16, 16]⟩
abbrev S64x128 : Shape := ⟨2, ![64, 128]⟩
abbrev S48x128 : Shape := ⟨2, ![48, 128]⟩
abbrev S112x128 : Shape := ⟨2, ![112, 128]⟩

abbrev nBuf : Space → Nat
  | .hbm => 98
  | .vmem => 71
  | .smem => 0
  | _ => 0

abbrev bufTy : (tb : Table) → Fin (tcTables nBuf tb) → BufTy
  | .hbm, ⟨0, _⟩ => ⟨S128x1664, .f32⟩
  | .hbm, ⟨1, _⟩ => ⟨S128x3072, .f32⟩
  | .hbm, ⟨2, _⟩ => ⟨S128x2560, .f32⟩
  | .hbm, ⟨3, _⟩ => ⟨S8x16x768, .f32⟩
  | .hbm, ⟨4, _⟩ => ⟨S768, .f32⟩
  | .hbm, ⟨5, _⟩ => ⟨S768x32, .f32⟩
  | .hbm, ⟨6, _⟩ => ⟨S32x768, .f32⟩
  | .hbm, ⟨7, _⟩ => ⟨S2560, .f32⟩
  | .hbm, ⟨8, _⟩ => ⟨S768, .f32⟩
  | .hbm, ⟨9, _⟩ => ⟨S64x768, .f32⟩
  | .hbm, ⟨10, _⟩ => ⟨S768, .f32⟩
  | .hbm, ⟨11, _⟩ => ⟨S64x768, .f32⟩
  | .hbm, ⟨12, _⟩ => ⟨S128x768, .f32⟩
  | .hbm, ⟨13, _⟩ => ⟨S768, .f32⟩
  | .hbm, ⟨14, _⟩ => ⟨S768, .f32⟩
  | .hbm, ⟨15, _⟩ => ⟨S12x64, .f32⟩
  | .hbm, ⟨16, _⟩ => ⟨S768, .f32⟩
  | .hbm, ⟨17, _⟩ => ⟨S768, .f32⟩
  | .hbm, ⟨18, _⟩ => ⟨S8x1x2560, .f32⟩
  | .hbm, ⟨19, _⟩ => ⟨S8x12x64x64, .f32⟩
  | .hbm, ⟨20, _⟩ => ⟨S4x2304, .f32⟩
  | .hbm, ⟨21, _⟩ => ⟨S6, .f32⟩
  | .hbm, ⟨22, _⟩ => ⟨S6, .f32⟩
  | .hbm, ⟨23, _⟩ => ⟨S128, .f32⟩
  | .hbm, ⟨24, _⟩ => ⟨S8x3x2304, .f32⟩
  | .hbm, ⟨25, _⟩ => ⟨S8x6x128x128, .f32⟩
  | .hbm, ⟨26, _⟩ => ⟨S16x256, .f32⟩
  | .hbm, ⟨27, _⟩ => ⟨S256, .f32⟩
  | .hbm, ⟨28, _⟩ => ⟨S128, .f32⟩
  | .hbm, ⟨29, _⟩ => ⟨S8x4x64x128, .f32⟩
  | .hbm, ⟨30, _⟩ => ⟨S16x32, .bf16⟩
  | .hbm, ⟨31, _⟩ => ⟨S16x32, .bf16⟩
  | .hbm, ⟨32, _⟩ => ⟨S16x32, .bf16⟩
  | .hbm, ⟨33, _⟩ => ⟨S16x128, .bf16⟩
  | .hbm, ⟨34, _⟩ => ⟨S16x32, .bf16⟩
  | .hbm, ⟨35, _⟩ => ⟨S160x32, .bf16⟩
  | .hbm, ⟨36, _⟩ => ⟨S4x16x16, .f32⟩
  | .hbm, ⟨37, _⟩ => ⟨S1x2560, .f32⟩
  | .hbm, ⟨38, _⟩ => ⟨S1x768, .f32⟩
  | .hbm, ⟨39, _⟩ => ⟨S_, .i32⟩
  | .hbm, ⟨40, _⟩ => ⟨S_, .f32⟩
  | .hbm, ⟨41, _⟩ => ⟨S128x768, .f32⟩
  | .hbm, ⟨42, _⟩ => ⟨S128x768, .bf16⟩
  | .hbm, ⟨43, _⟩ => ⟨S1x768, .f32⟩
  | .hbm, ⟨44, _⟩ => ⟨S_, .i32⟩
  | .hbm, ⟨45, _⟩ => ⟨S_, .f32⟩
  | .hbm, ⟨46, _⟩ => ⟨S128x768, .f32⟩
  | .hbm, ⟨47, _⟩ => ⟨S128x768, .bf16⟩
  | .hbm, ⟨48, _⟩ => ⟨S128x768, .bf16⟩
  | .hbm, ⟨49, _⟩ => ⟨S1x768, .f32⟩
  | .hbm, ⟨50, _⟩ => ⟨S1x768, .f32⟩
  | .hbm, ⟨51, _⟩ => ⟨S1x768, .f32⟩
  | .hbm, ⟨52, _⟩ => ⟨S1x768, .f32⟩
  | .hbm, ⟨53, _⟩ => ⟨S1x768, .f32⟩
  | .hbm, ⟨54, _⟩ => ⟨S1x768, .f32⟩
  | .hbm, ⟨55, _⟩ => ⟨S768x32, .bf16⟩
  | .hbm, ⟨56, _⟩ => ⟨S32x768, .bf16⟩
  | .hbm, ⟨57, _⟩ => ⟨S8x6x2x64x64, .f32⟩
  | .hbm, ⟨58, _⟩ => ⟨S8x6x1x64x64, .f32⟩
  | .hbm, ⟨59, _⟩ => ⟨S8x6x64x64, .f32⟩
  | .hbm, ⟨60, _⟩ => ⟨S_, .f32⟩
  | .hbm, ⟨61, _⟩ => ⟨S8x6x64x64, .f32⟩
  | .hbm, ⟨62, _⟩ => ⟨S8x6x1x64x64, .f32⟩
  | .hbm, ⟨63, _⟩ => ⟨S8x6x64x64, .f32⟩
  | .hbm, ⟨64, _⟩ => ⟨S8x6x64x128, .f32⟩
  | .hbm, ⟨65, _⟩ => ⟨S8x6x1x64x64, .f32⟩
  | .hbm, ⟨66, _⟩ => ⟨S8x6x64x64, .f32⟩
  | .hbm, ⟨67, _⟩ => ⟨S8x6x64x128, .f32⟩
  | .hbm, ⟨68, _⟩ => ⟨S8x6x128x128, .f32⟩
  | .hbm, ⟨69, _⟩ => ⟨S8x16x2560, .f32⟩
  | .hbm, ⟨70, _⟩ => ⟨S_, .i32⟩
  | .hbm, ⟨71, _⟩ => ⟨S_, .f32⟩
  | .hbm, ⟨72, _⟩ => ⟨S128, .f32⟩
  | .hbm, ⟨73, _⟩ => ⟨S1x128, .f32⟩
  | .hbm, ⟨74, _⟩ => ⟨S_, .i32⟩
  | .hbm, ⟨75, _⟩ => ⟨S_, .f32⟩
  | .hbm, ⟨76, _⟩ => ⟨S128, .f32⟩
  | .hbm, ⟨77, _⟩ => ⟨S1x128, .f32⟩
  | .hbm, ⟨78, _⟩ => ⟨S1x128, .f32⟩
  | .hbm, ⟨79, _⟩ => ⟨S8x16x3072, .f32⟩
  | .hbm, ⟨80, _⟩ => ⟨S8x16x1664, .f32⟩
  | .hbm, ⟨81, _⟩ => ⟨S_, .i32⟩
  | .hbm, ⟨82, _⟩ => ⟨S_, .f32⟩
  | .hbm, ⟨83, _⟩ => ⟨S128x256, .f32⟩
  | .hbm, ⟨84, _⟩ => ⟨S128x256, .bf16⟩
  | .hbm, ⟨85, _⟩ => ⟨S1x256, .f32⟩
  | .hbm, ⟨86, _⟩ => ⟨S1x128, .f32⟩
  | .hbm, ⟨87, _⟩ => ⟨S8x2x128x128, .f32⟩
  | .hbm, ⟨88, _⟩ => ⟨S8x16x1664, .f32⟩
  | .hbm, ⟨89, _⟩ => ⟨S8x16x1664, .f32⟩
  | .hbm, ⟨90, _⟩ => ⟨S8x16x768, .bf16⟩
  | .hbm, ⟨91, _⟩ => ⟨S8x1x2560, .f32⟩
  | .hbm, ⟨92, _⟩ => ⟨S8x6x128x128, .f32⟩
  | .hbm, ⟨93, _⟩ => ⟨S8x16x768, .bf16⟩
  | .hbm, ⟨94, _⟩ => ⟨S8x3x2304, .f32⟩
  | .hbm, ⟨95, _⟩ => ⟨S8x6x128x128, .f32⟩
  | .hbm, ⟨96, _⟩ => ⟨S8x16x512, .bf16⟩
  | .hbm, ⟨97, _⟩ => ⟨S8x2x128x128, .f32⟩
  | .local _ .vmem, ⟨0, _⟩ => ⟨S1x16x2560, .f32⟩
  | .local _ .vmem, ⟨1, _⟩ => ⟨S1x16x2560, .f32⟩
  | .local _ .vmem, ⟨2, _⟩ => ⟨S1x16x768, .f32⟩
  | .local _ .vmem, ⟨3, _⟩ => ⟨S1x16x768, .f32⟩
  | .local _ .vmem, ⟨4, _⟩ => ⟨S1x768, .f32⟩
  | .local _ .vmem, ⟨5, _⟩ => ⟨S768x32, .bf16⟩
  | .local _ .vmem, ⟨6, _⟩ => ⟨S32x768, .bf16⟩
  | .local _ .vmem, ⟨7, _⟩ => ⟨S1x2560, .f32⟩
  | .local _ .vmem, ⟨8, _⟩ => ⟨S1x768, .f32⟩
  | .local _ .vmem, ⟨9, _⟩ => ⟨S128x768, .bf16⟩
  | .local _ .vmem, ⟨10, _⟩ => ⟨S1x768, .f32⟩
  | .local _ .vmem, ⟨11, _⟩ => ⟨S128x768, .bf16⟩
  | .local _ .vmem, ⟨12, _⟩ => ⟨S128x768, .bf16⟩
  | .local _ .vmem, ⟨13, _⟩ => ⟨S1x768, .f32⟩
  | .local _ .vmem, ⟨14, _⟩ => ⟨S1x768, .f32⟩
  | .local _ .vmem, ⟨15, _⟩ => ⟨S1x768, .f32⟩
  | .local _ .vmem, ⟨16, _⟩ => ⟨S1x768, .f32⟩
  | .local _ .vmem, ⟨17, _⟩ => ⟨S1x768, .f32⟩
  | .local _ .vmem, ⟨18, _⟩ => ⟨S1x1x2560, .f32⟩
  | .local _ .vmem, ⟨19, _⟩ => ⟨S1x1x2560, .f32⟩
  | .local _ .vmem, ⟨20, _⟩ => ⟨S1x6x128x128, .f32⟩
  | .local _ .vmem, ⟨21, _⟩ => ⟨S1x6x128x128, .f32⟩
  | .local _ .vmem, ⟨22, _⟩ => ⟨S16x32, .bf16⟩
  | .local _ .vmem, ⟨23, _⟩ => ⟨S16x32, .bf16⟩
  | .local _ .vmem, ⟨24, _⟩ => ⟨S1x16x3072, .f32⟩
  | .local _ .vmem, ⟨25, _⟩ => ⟨S1x16x3072, .f32⟩
  | .local _ .vmem, ⟨26, _⟩ => ⟨S1x16x128, .f32⟩
  | .local _ .vmem, ⟨27, _⟩ => ⟨S1x16x128, .f32⟩
  | .local _ .vmem, ⟨28, _⟩ => ⟨S4x2304, .f32⟩
  | .local _ .vmem, ⟨29, _⟩ => ⟨S1x128, .f32⟩
  | .local _ .vmem, ⟨30, _⟩ => ⟨S1x128, .f32⟩
  | .local _ .vmem, ⟨31, _⟩ => ⟨S1x128, .f32⟩
  | .local _ .vmem, ⟨32, _⟩ => ⟨S1x3x2304, .f32⟩
  | .local _ .vmem, ⟨33, _⟩ => ⟨S1x3x2304, .f32⟩
  | .local _ .vmem, ⟨34, _⟩ => ⟨S1x6x128x128, .f32⟩
  | .local _ .vmem, ⟨35, _⟩ => ⟨S1x6x128x128, .f32⟩
  | .local _ .vmem, ⟨36, _⟩ => ⟨S16x32, .bf16⟩
  | .local _ .vmem, ⟨37, _⟩ => ⟨S16x128, .bf16⟩
  | .local _ .vmem, ⟨38, _⟩ => ⟨S16x32, .bf16⟩
  | .local _ .vmem, ⟨39, _⟩ => ⟨S1x16x1536, .f32⟩
  | .local _ .vmem, ⟨40, _⟩ => ⟨S1x16x1536, .f32⟩
  | .local _ .vmem, ⟨41, _⟩ => ⟨S1x16x128, .f32⟩
  | .local _ .vmem, ⟨42, _⟩ => ⟨S1x16x128, .f32⟩
  | .local _ .vmem, ⟨43, _⟩ => ⟨S128x256, .bf16⟩
  | .local _ .vmem, ⟨44, _⟩ => ⟨S1x256, .f32⟩
  | .local _ .vmem, ⟨45, _⟩ => ⟨S1x128, .f32⟩
  | .local _ .vmem, ⟨46, _⟩ => ⟨S1x2x128x128, .f32⟩
  | .local _ .vmem, ⟨47, _⟩ => ⟨S1x2x128x128, .f32⟩
  | .local _ .vmem, ⟨48, _⟩ => ⟨S160x32, .bf16⟩
  | .local _ .vmem, ⟨49, _⟩ => ⟨S4x16x16, .f32⟩
  | .local _ .vmem, ⟨50, _⟩ => ⟨S1x16x768, .bf16⟩
  | .local _ .vmem, ⟨51, _⟩ => ⟨S1x16x768, .bf16⟩
  | .local _ .vmem, ⟨52, _⟩ => ⟨S1x1x2560, .f32⟩
  | .local _ .vmem, ⟨53, _⟩ => ⟨S1x1x2560, .f32⟩
  | .local _ .vmem, ⟨54, _⟩ => ⟨S1x6x128x128, .f32⟩
  | .local _ .vmem, ⟨55, _⟩ => ⟨S1x6x128x128, .f32⟩
  | .local _ .vmem, ⟨56, _⟩ => ⟨S1x16x768, .bf16⟩
  | .local _ .vmem, ⟨57, _⟩ => ⟨S1x16x768, .bf16⟩
  | .local _ .vmem, ⟨58, _⟩ => ⟨S1x3x2304, .f32⟩
  | .local _ .vmem, ⟨59, _⟩ => ⟨S1x3x2304, .f32⟩
  | .local _ .vmem, ⟨60, _⟩ => ⟨S1x6x128x128, .f32⟩
  | .local _ .vmem, ⟨61, _⟩ => ⟨S1x6x128x128, .f32⟩
  | .local _ .vmem, ⟨62, _⟩ => ⟨S1x16x512, .bf16⟩
  | .local _ .vmem, ⟨63, _⟩ => ⟨S1x16x512, .bf16⟩
  | .local _ .vmem, ⟨64, _⟩ => ⟨S1x2x128x128, .f32⟩
  | .local _ .vmem, ⟨65, _⟩ => ⟨S1x2x128x128, .f32⟩
  | .local _ .vmem, ⟨66, _⟩ => ⟨S24x2560, .f32⟩
  | .local _ .vmem, ⟨67, _⟩ => ⟨S6x128x128, .f32⟩
  | .local _ .vmem, ⟨68, _⟩ => ⟨S24x2304, .f32⟩
  | .local _ .vmem, ⟨69, _⟩ => ⟨S6x128x128, .f32⟩
  | .local _ .vmem, ⟨70, _⟩ => ⟨S2x128x128, .f32⟩
  | _, _ => ⟨S128x1664, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | _, _ => false

abbrev semScoped : Fin 0 → Bool
  | ⟨_, h⟩ => absurd h (Nat.not_lt_zero _)

abbrev dmaSemScoped : Fin 66 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | _ => false

abbrev sig : RefSig :=
  ofTc nBuf bufTy 0 66 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_cst : Ref sig .tc := ⟨.hbm, 30, rfl⟩
abbrev main_cst_0 : Ref sig .tc := ⟨.hbm, 31, rfl⟩
abbrev main_cst_1 : Ref sig .tc := ⟨.hbm, 32, rfl⟩
abbrev main_cst_2 : Ref sig .tc := ⟨.hbm, 33, rfl⟩
abbrev main_cst_3 : Ref sig .tc := ⟨.hbm, 34, rfl⟩
abbrev main_cst_4 : Ref sig .tc := ⟨.hbm, 35, rfl⟩
abbrev main_cst_5 : Ref sig .tc := ⟨.hbm, 36, rfl⟩
abbrev main_v0 : Ref sig .tc := ⟨.hbm, 37, rfl⟩
abbrev main_v1 : Ref sig .tc := ⟨.hbm, 38, rfl⟩
abbrev main_c : Ref sig .tc := ⟨.hbm, 39, rfl⟩
abbrev main_call0_v0 : Ref sig .tc := ⟨.hbm, 40, rfl⟩
abbrev main_v2 : Ref sig .tc := ⟨.hbm, 41, rfl⟩
abbrev main_v3 : Ref sig .tc := ⟨.hbm, 42, rfl⟩
abbrev main_v4 : Ref sig .tc := ⟨.hbm, 43, rfl⟩
abbrev main_c_6 : Ref sig .tc := ⟨.hbm, 44, rfl⟩
abbrev main_call1_v0 : Ref sig .tc := ⟨.hbm, 45, rfl⟩
abbrev main_v5 : Ref sig .tc := ⟨.hbm, 46, rfl⟩
abbrev main_v6 : Ref sig .tc := ⟨.hbm, 47, rfl⟩
abbrev main_v7 : Ref sig .tc := ⟨.hbm, 48, rfl⟩
abbrev main_v8 : Ref sig .tc := ⟨.hbm, 49, rfl⟩
abbrev main_v9 : Ref sig .tc := ⟨.hbm, 50, rfl⟩
abbrev main_v10 : Ref sig .tc := ⟨.hbm, 51, rfl⟩
abbrev main_v11 : Ref sig .tc := ⟨.hbm, 52, rfl⟩
abbrev main_v12 : Ref sig .tc := ⟨.hbm, 53, rfl⟩
abbrev main_v13 : Ref sig .tc := ⟨.hbm, 54, rfl⟩
abbrev main_v14 : Ref sig .tc := ⟨.hbm, 55, rfl⟩
abbrev main_v15 : Ref sig .tc := ⟨.hbm, 56, rfl⟩
abbrev main_v16 : Ref sig .tc := ⟨.hbm, 57, rfl⟩
abbrev main_v17 : Ref sig .tc := ⟨.hbm, 58, rfl⟩
abbrev main_v18 : Ref sig .tc := ⟨.hbm, 59, rfl⟩
abbrev main_cst_7 : Ref sig .tc := ⟨.hbm, 60, rfl⟩
abbrev main_v19 : Ref sig .tc := ⟨.hbm, 61, rfl⟩
abbrev main_v20 : Ref sig .tc := ⟨.hbm, 62, rfl⟩
abbrev main_v21 : Ref sig .tc := ⟨.hbm, 63, rfl⟩
abbrev main_v22 : Ref sig .tc := ⟨.hbm, 64, rfl⟩
abbrev main_v23 : Ref sig .tc := ⟨.hbm, 65, rfl⟩
abbrev main_v24 : Ref sig .tc := ⟨.hbm, 66, rfl⟩
abbrev main_v25 : Ref sig .tc := ⟨.hbm, 67, rfl⟩
abbrev main_v26 : Ref sig .tc := ⟨.hbm, 68, rfl⟩
abbrev main_v27 : Ref sig .tc := ⟨.hbm, 69, rfl⟩
abbrev main_c_8 : Ref sig .tc := ⟨.hbm, 70, rfl⟩
abbrev main_call2_v0 : Ref sig .tc := ⟨.hbm, 71, rfl⟩
abbrev main_v28 : Ref sig .tc := ⟨.hbm, 72, rfl⟩
abbrev main_v29 : Ref sig .tc := ⟨.hbm, 73, rfl⟩
abbrev main_c_9 : Ref sig .tc := ⟨.hbm, 74, rfl⟩
abbrev main_call3_v0 : Ref sig .tc := ⟨.hbm, 75, rfl⟩
abbrev main_v30 : Ref sig .tc := ⟨.hbm, 76, rfl⟩
abbrev main_v31 : Ref sig .tc := ⟨.hbm, 77, rfl⟩
abbrev main_v32 : Ref sig .tc := ⟨.hbm, 78, rfl⟩
abbrev main_v33 : Ref sig .tc := ⟨.hbm, 79, rfl⟩
abbrev main_v34 : Ref sig .tc := ⟨.hbm, 80, rfl⟩
abbrev main_c_10 : Ref sig .tc := ⟨.hbm, 81, rfl⟩
abbrev main_call4_v0 : Ref sig .tc := ⟨.hbm, 82, rfl⟩
abbrev main_v35 : Ref sig .tc := ⟨.hbm, 83, rfl⟩
abbrev main_v36 : Ref sig .tc := ⟨.hbm, 84, rfl⟩
abbrev main_v37 : Ref sig .tc := ⟨.hbm, 85, rfl⟩
abbrev main_v38 : Ref sig .tc := ⟨.hbm, 86, rfl⟩
abbrev main_v39 : Ref sig .tc := ⟨.hbm, 87, rfl⟩
abbrev main_v40 : Ref sig .tc := ⟨.hbm, 88, rfl⟩
abbrev main_v41 : Ref sig .tc := ⟨.hbm, 89, rfl⟩
abbrev main_v42_0 : Ref sig .tc := ⟨.hbm, 90, rfl⟩
abbrev main_v42_1 : Ref sig .tc := ⟨.hbm, 91, rfl⟩
abbrev main_v42_2 : Ref sig .tc := ⟨.hbm, 92, rfl⟩
abbrev main_v42_3 : Ref sig .tc := ⟨.hbm, 93, rfl⟩
abbrev main_v42_4 : Ref sig .tc := ⟨.hbm, 94, rfl⟩
abbrev main_v42_5 : Ref sig .tc := ⟨.hbm, 95, rfl⟩
abbrev main_v42_6 : Ref sig .tc := ⟨.hbm, 96, rfl⟩
abbrev main_v42_7 : Ref sig .tc := ⟨.hbm, 97, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg13_0 : Ref sig .tc := ⟨.vmem, 15, rfl⟩
abbrev cc0_stg14_0 : Ref sig .tc := ⟨.vmem, 16, rfl⟩
abbrev cc0_stg15_0 : Ref sig .tc := ⟨.vmem, 17, rfl⟩
abbrev cc0_stg16_0 : Ref sig .tc := ⟨.vmem, 18, rfl⟩
abbrev cc0_stg16_1 : Ref sig .tc := ⟨.vmem, 19, rfl⟩
abbrev cc0_stg17_0 : Ref sig .tc := ⟨.vmem, 20, rfl⟩
abbrev cc0_stg17_1 : Ref sig .tc := ⟨.vmem, 21, rfl⟩
abbrev cc0_stg18_0 : Ref sig .tc := ⟨.vmem, 22, rfl⟩
abbrev cc0_stg19_0 : Ref sig .tc := ⟨.vmem, 23, rfl⟩
abbrev cc0_stg20_0 : Ref sig .tc := ⟨.vmem, 24, rfl⟩
abbrev cc0_stg20_1 : Ref sig .tc := ⟨.vmem, 25, rfl⟩
abbrev cc0_stg21_0 : Ref sig .tc := ⟨.vmem, 26, rfl⟩
abbrev cc0_stg21_1 : Ref sig .tc := ⟨.vmem, 27, rfl⟩
abbrev cc0_stg22_0 : Ref sig .tc := ⟨.vmem, 28, rfl⟩
abbrev cc0_stg23_0 : Ref sig .tc := ⟨.vmem, 29, rfl⟩
abbrev cc0_stg24_0 : Ref sig .tc := ⟨.vmem, 30, rfl⟩
abbrev cc0_stg25_0 : Ref sig .tc := ⟨.vmem, 31, rfl⟩
abbrev cc0_stg26_0 : Ref sig .tc := ⟨.vmem, 32, rfl⟩
abbrev cc0_stg26_1 : Ref sig .tc := ⟨.vmem, 33, rfl⟩
abbrev cc0_stg27_0 : Ref sig .tc := ⟨.vmem, 34, rfl⟩
abbrev cc0_stg27_1 : Ref sig .tc := ⟨.vmem, 35, rfl⟩
abbrev cc0_stg28_0 : Ref sig .tc := ⟨.vmem, 36, rfl⟩
abbrev cc0_stg29_0 : Ref sig .tc := ⟨.vmem, 37, rfl⟩
abbrev cc0_stg30_0 : Ref sig .tc := ⟨.vmem, 38, rfl⟩
abbrev cc0_stg31_0 : Ref sig .tc := ⟨.vmem, 39, rfl⟩
abbrev cc0_stg31_1 : Ref sig .tc := ⟨.vmem, 40, rfl⟩
abbrev cc0_stg32_0 : Ref sig .tc := ⟨.vmem, 41, rfl⟩
abbrev cc0_stg32_1 : Ref sig .tc := ⟨.vmem, 42, rfl⟩
abbrev cc0_stg33_0 : Ref sig .tc := ⟨.vmem, 43, rfl⟩
abbrev cc0_stg34_0 : Ref sig .tc := ⟨.vmem, 44, rfl⟩
abbrev cc0_stg35_0 : Ref sig .tc := ⟨.vmem, 45, rfl⟩
abbrev cc0_stg36_0 : Ref sig .tc := ⟨.vmem, 46, rfl⟩
abbrev cc0_stg36_1 : Ref sig .tc := ⟨.vmem, 47, rfl⟩
abbrev cc0_stg37_0 : Ref sig .tc := ⟨.vmem, 48, rfl⟩
abbrev cc0_stg38_0 : Ref sig .tc := ⟨.vmem, 49, rfl⟩
abbrev cc0_stg39_0 : Ref sig .tc := ⟨.vmem, 50, rfl⟩
abbrev cc0_stg39_1 : Ref sig .tc := ⟨.vmem, 51, rfl⟩
abbrev cc0_stg40_0 : Ref sig .tc := ⟨.vmem, 52, rfl⟩
abbrev cc0_stg40_1 : Ref sig .tc := ⟨.vmem, 53, rfl⟩
abbrev cc0_stg41_0 : Ref sig .tc := ⟨.vmem, 54, rfl⟩
abbrev cc0_stg41_1 : Ref sig .tc := ⟨.vmem, 55, rfl⟩
abbrev cc0_stg42_0 : Ref sig .tc := ⟨.vmem, 56, rfl⟩
abbrev cc0_stg42_1 : Ref sig .tc := ⟨.vmem, 57, rfl⟩
abbrev cc0_stg43_0 : Ref sig .tc := ⟨.vmem, 58, rfl⟩
abbrev cc0_stg43_1 : Ref sig .tc := ⟨.vmem, 59, rfl⟩
abbrev cc0_stg44_0 : Ref sig .tc := ⟨.vmem, 60, rfl⟩
abbrev cc0_stg44_1 : Ref sig .tc := ⟨.vmem, 61, rfl⟩
abbrev cc0_stg45_0 : Ref sig .tc := ⟨.vmem, 62, rfl⟩
abbrev cc0_stg45_1 : Ref sig .tc := ⟨.vmem, 63, rfl⟩
abbrev cc0_stg46_0 : Ref sig .tc := ⟨.vmem, 64, rfl⟩
abbrev cc0_stg46_1 : Ref sig .tc := ⟨.vmem, 65, rfl⟩
abbrev cc0_scratch0 : Ref sig .tc := ⟨.vmem, 66, rfl⟩
abbrev cc0_scratch1 : Ref sig .tc := ⟨.vmem, 67, rfl⟩
abbrev cc0_scratch2 : Ref sig .tc := ⟨.vmem, 68, rfl⟩
abbrev cc0_scratch3 : Ref sig .tc := ⟨.vmem, 69, rfl⟩
abbrev cc0_scratch4 : Ref sig .tc := ⟨.vmem, 70, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem13_0 : DmaSem sig := 15
abbrev cc0_sem14_0 : DmaSem sig := 16
abbrev cc0_sem15_0 : DmaSem sig := 17
abbrev cc0_sem16_0 : DmaSem sig := 18
abbrev cc0_sem16_1 : DmaSem sig := 19
abbrev cc0_sem17_0 : DmaSem sig := 20
abbrev cc0_sem17_1 : DmaSem sig := 21
abbrev cc0_sem18_0 : DmaSem sig := 22
abbrev cc0_sem19_0 : DmaSem sig := 23
abbrev cc0_sem20_0 : DmaSem sig := 24
abbrev cc0_sem20_1 : DmaSem sig := 25
abbrev cc0_sem21_0 : DmaSem sig := 26
abbrev cc0_sem21_1 : DmaSem sig := 27
abbrev cc0_sem22_0 : DmaSem sig := 28
abbrev cc0_sem23_0 : DmaSem sig := 29
abbrev cc0_sem24_0 : DmaSem sig := 30
abbrev cc0_sem25_0 : DmaSem sig := 31
abbrev cc0_sem26_0 : DmaSem sig := 32
abbrev cc0_sem26_1 : DmaSem sig := 33
abbrev cc0_sem27_0 : DmaSem sig := 34
abbrev cc0_sem27_1 : DmaSem sig := 35
abbrev cc0_sem28_0 : DmaSem sig := 36
abbrev cc0_sem29_0 : DmaSem sig := 37
abbrev cc0_sem30_0 : DmaSem sig := 38
abbrev cc0_sem31_0 : DmaSem sig := 39
abbrev cc0_sem31_1 : DmaSem sig := 40
abbrev cc0_sem32_0 : DmaSem sig := 41
abbrev cc0_sem32_1 : DmaSem sig := 42
abbrev cc0_sem33_0 : DmaSem sig := 43
abbrev cc0_sem34_0 : DmaSem sig := 44
abbrev cc0_sem35_0 : DmaSem sig := 45
abbrev cc0_sem36_0 : DmaSem sig := 46
abbrev cc0_sem36_1 : DmaSem sig := 47
abbrev cc0_sem37_0 : DmaSem sig := 48
abbrev cc0_sem38_0 : DmaSem sig := 49
abbrev cc0_sem39_0 : DmaSem sig := 50
abbrev cc0_sem39_1 : DmaSem sig := 51
abbrev cc0_sem40_0 : DmaSem sig := 52
abbrev cc0_sem40_1 : DmaSem sig := 53
abbrev cc0_sem41_0 : DmaSem sig := 54
abbrev cc0_sem41_1 : DmaSem sig := 55
abbrev cc0_sem42_0 : DmaSem sig := 56
abbrev cc0_sem42_1 : DmaSem sig := 57
abbrev cc0_sem43_0 : DmaSem sig := 58
abbrev cc0_sem43_1 : DmaSem sig := 59
abbrev cc0_sem44_0 : DmaSem sig := 60
abbrev cc0_sem44_1 : DmaSem sig := 61
abbrev cc0_sem45_0 : DmaSem sig := 62
abbrev cc0_sem45_1 : DmaSem sig := 63
abbrev cc0_sem46_0 : DmaSem sig := 64
abbrev cc0_sem46_1 : DmaSem sig := 65

abbrev nD : Nat := 1
abbrev τ : Topo := Topo.v7x

variable {F : FTy → Type} [FloatOps F]

abbrev grid0 : Pipeline.Grid := ⟨2, ![8, 1], ![false, false]⟩

def k0_cond2 (i : grid0.Coords) : BitVec 1 :=
  let arg1 : BitVec 32 := BitVec.ofNat 32 (i 1).val
  let c0_i32_8 : BitVec 32 := 0#32
  let v13 : BitVec 1 := Scalar.cmpi .eq arg1 c0_i32_8
  let v14 : BitVec 32 := Scalar.extui v13
  let c0_i32_9 : BitVec 32 := 0#32
  let v15 : BitVec 1 := Scalar.cmpi .ne v14 c0_i32_9
  v15

def k0_cond7 (i : grid0.Coords) : BitVec 1 :=
  let arg1 : BitVec 32 := BitVec.ofNat 32 (i 1).val
  let c0_i32_1192 : BitVec 32 := 0#32
  let v3481 : BitVec 1 := Scalar.cmpi .eq arg1 c0_i32_1192
  let v3482 : BitVec 32 := Scalar.extui v3481
  let c0_i32_1193 : BitVec 32 := 0#32
  let v3483 : BitVec 1 := Scalar.cmpi .ne v3482 c0_i32_1193
  v3483

def k0_cond4 (i : grid0.Coords) : BitVec 1 :=
  let arg1 : BitVec 32 := BitVec.ofNat 32 (i 1).val
  let c0_i32_29 : BitVec 32 := 0#32
  let v46 : BitVec 1 := Scalar.cmpi .eq arg1 c0_i32_29
  let v47 : BitVec 32 := Scalar.extui v46
  let c0_i32_30 : BitVec 32 := 0#32
  let v48 : BitVec 1 := Scalar.cmpi .ne v47 c0_i32_30
  v48

def k0_cond8 (i : grid0.Coords) : BitVec 1 :=
  let arg1 : BitVec 32 := BitVec.ofNat 32 (i 1).val
  let c0_i32_1260 : BitVec 32 := 0#32
  let v3628 : BitVec 1 := Scalar.cmpi .eq arg1 c0_i32_1260
  let v3629 : BitVec 32 := Scalar.extui v3628
  let c0_i32_1261 : BitVec 32 := 0#32
  let v3630 : BitVec 1 := Scalar.cmpi .ne v3629 c0_i32_1261
  v3630

def k0_cond6 (i : grid0.Coords) : BitVec 1 :=
  let arg1 : BitVec 32 := BitVec.ofNat 32 (i 1).val
  let c0_i32_1142 : BitVec 32 := 0#32
  let v3358 : BitVec 1 := Scalar.cmpi .eq arg1 c0_i32_1142
  let v3359 : BitVec 32 := Scalar.extui v3358
  let c0_i32_1143 : BitVec 32 := 0#32
  let v3360 : BitVec 1 := Scalar.cmpi .ne v3359 c0_i32_1143
  v3360

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_17 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_18 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_21 (i : grid0.Coords) : Fin 3 → Nat :=
  let arg0 : BitVec 32 := BitVec.ofNat 32 (i 0).val
  let arg1 : BitVec 32 := BitVec.ofNat 32 (i 1).val
  let c12_i32 : BitVec 32 := 12#32
  let c0_i32 : BitVec 32 := 0#32
  ![arg0.toNat, arg1.toNat, c12_i32.toNat]

def cc0_transform_22 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_23 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_24 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_25 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_26 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_27 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_28 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_29 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_30 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_31 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_32 (i : grid0.Coords) : Fin 3 → Nat :=
  let arg0 : BitVec 32 := BitVec.ofNat 32 (i 0).val
  let arg1 : BitVec 32 := BitVec.ofNat 32 (i 1).val
  let c12_i32 : BitVec 32 := 12#32
  let c0_i32 : BitVec 32 := 0#32
  ![arg0.toNat, arg1.toNat, c12_i32.toNat]

def cc0_transform_33 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_34 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_35 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_36 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_37 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_38 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_39 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_40 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_41 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_42 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_43 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_44 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_45 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_46 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x16x2560 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x16x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S768x32 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S32x768 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x2560 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x768 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S128x768 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x768 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S128x768 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S128x768 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x768 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1x768 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S1x768 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S1x768 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 1 → Memref sig .tc .vmem S1x768 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false, false]

abbrev stage0_16 : Fin 2 → Memref sig .tc .vmem S1x1x2560 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, false]

abbrev stage0_17 : Fin 2 → Memref sig .tc .vmem S1x6x128x128 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, false]

abbrev stage0_18 : Fin 1 → Memref sig .tc .vmem S16x32 .bf16 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false, false]

abbrev stage0_19 : Fin 1 → Memref sig .tc .vmem S16x32 .bf16 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false, false]

abbrev stage0_20 : Fin 2 → Memref sig .tc .vmem S1x16x3072 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true, true]

abbrev stage0_21 : Fin 2 → Memref sig .tc .vmem S1x16x128 .f32 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true, true]

abbrev stage0_22 : Fin 1 → Memref sig .tc .vmem S4x2304 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))
abbrev reads0_22 : Fin grid0.rank → Bool := ![false, false]

abbrev stage0_23 : Fin 1 → Memref sig .tc .vmem S1x128 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))
abbrev reads0_23 : Fin grid0.rank → Bool := ![false, false]

abbrev stage0_24 : Fin 1 → Memref sig .tc .vmem S1x128 .f32 := fun | 0 => Memref.whole cc0_stg24_0 | ⟨_ + 1, h⟩ => absurd h (Nat.not_lt.2 (Nat.le_add_left _ _))
abbrev sem0_24 : Fin 1 → DmaSem sig := fun | 0 => cc0_sem24_0 | ⟨_ + 1, h⟩ => absurd h (Nat.not_lt.2 (Nat.le_add_left _ _))
abbrev reads0_24 : Fin grid0.rank → Bool := ![false, false]

abbrev stage0_25 : Fin 1 → Memref sig .tc .vmem S1x128 .f32 := fun | 0 => Memref.whole cc0_stg25_0 | ⟨_ + 1, h⟩ => absurd h (Nat.not_lt.2 (Nat.le_add_left _ _))
abbrev sem0_25 : Fin 1 → DmaSem sig := fun | 0 => cc0_sem25_0 | ⟨_ + 1, h⟩ => absurd h (Nat.not_lt.2 (Nat.le_add_left _ _))
abbrev reads0_25 : Fin grid0.rank → Bool := ![false, false]

abbrev stage0_26 : Fin 2 → Memref sig .tc .vmem S1x3x2304 .f32 := fun | 0 => Memref.whole cc0_stg26_0 | 1 => Memref.whole cc0_stg26_1 | ⟨_ + 2, h⟩ => absurd h (Nat.not_lt.2 (Nat.le_add_left _ _))
abbrev sem0_26 : Fin 2 → DmaSem sig := fun | 0 => cc0_sem26_0 | 1 => cc0_sem26_1 | ⟨_ + 2, h⟩ => absurd h (Nat.not_lt.2 (Nat.le_add_left _ _))
abbrev reads0_26 : Fin grid0.rank → Bool := ![true, false]

abbrev stage0_27 : Fin 2 → Memref sig .tc .vmem S1x6x128x128 .f32 := fun | 0 => Memref.whole cc0_stg27_0 | 1 => Memref.whole cc0_stg27_1 | ⟨_ + 2, h⟩ => absurd h (Nat.not_lt.2 (Nat.le_add_left _ _))
abbrev sem0_27 : Fin 2 → DmaSem sig := fun | 0 => cc0_sem27_0 | 1 => cc0_sem27_1 | ⟨_ + 2, h⟩ => absurd h (Nat.not_lt.2 (Nat.le_add_left _ _))
abbrev reads0_27 : Fin grid0.rank → Bool := ![true, false]

abbrev stage0_28 : Fin 1 → Memref sig .tc .vmem S16x32 .bf16 := fun | 0 => Memref.whole cc0_stg28_0 | ⟨_ + 1, h⟩ => absurd h (Nat.not_lt.2 (Nat.le_add_left _ _))
abbrev sem0_28 : Fin 1 → DmaSem sig := fun | 0 => cc0_sem28_0 | ⟨_ + 1, h⟩ => absurd h (Nat.not_lt.2 (Nat.le_add_left _ _))
abbrev reads0_28 : Fin grid0.rank → Bool := ![false, false]

abbrev stage0_29 : Fin 1 → Memref sig .tc .vmem S16x128 .bf16 := fun | 0 => Memref.whole cc0_stg29_0 | ⟨_ + 1, h⟩ => absurd h (Nat.not_lt.2 (Nat.le_add_left _ _))
abbrev sem0_29 : Fin 1 → DmaSem sig := fun | 0 => cc0_sem29_0 | ⟨_ + 1, h⟩ => absurd h (Nat.not_lt.2 (Nat.le_add_left _ _))
abbrev reads0_29 : Fin grid0.rank → Bool := ![false, false]

abbrev stage0_30 : Fin 1 → Memref sig .tc .vmem S16x32 .bf16 := fun | 0 => Memref.whole cc0_stg30_0 | ⟨_ + 1, h⟩ => absurd h (Nat.not_lt.2 (Nat.le_add_left _ _))
abbrev sem0_30 : Fin 1 → DmaSem sig := fun | 0 => cc0_sem30_0 | ⟨_ + 1, h⟩ => absurd h (Nat.not_lt.2 (Nat.le_add_left _ _))
abbrev reads0_30 : Fin grid0.rank → Bool := ![false, false]

abbrev stage0_31 : Fin 2 → Memref sig .tc .vmem S1x16x1536 .f32 := fun | 0 => Memref.whole cc0_stg31_0 | 1 => Memref.whole cc0_stg31_1 | ⟨_ + 2, h⟩ => absurd h (Nat.not_lt.2 (Nat.le_add_left _ _))
abbrev sem0_31 : Fin 2 → DmaSem sig := fun | 0 => cc0_sem31_0 | 1 => cc0_sem31_1 | ⟨_ + 2, h⟩ => absurd h (Nat.not_lt.2 (Nat.le_add_left _ _))
abbrev reads0_31 : Fin grid0.rank → Bool := ![true, true]

abbrev stage0_32 : Fin 2 → Memref sig .tc .vmem S1x16x128 .f32 := fun | 0 => Memref.whole cc0_stg32_0 | 1 => Memref.whole cc0_stg32_1 | ⟨_ + 2, h⟩ => absurd h (Nat.not_lt.2 (Nat.le_add_left _ _))
abbrev sem0_32 : Fin 2 → DmaSem sig := fun | 0 => cc0_sem32_0 | 1 => cc0_sem32_1 | ⟨_ + 2, h⟩ => absurd h (Nat.not_lt.2 (Nat.le_add_left _ _))
abbrev reads0_32 : Fin grid0.rank → Bool := ![true, true]

abbrev stage0_33 : Fin 1 → Memref sig .tc .vmem S128x256 .bf16 := fun | 0 => Memref.whole cc0_stg33_0 | ⟨_ + 1, h⟩ => absurd h (Nat.not_lt.2 (Nat.le_add_left _ _))
abbrev sem0_33 : Fin 1 → DmaSem sig := fun | 0 => cc0_sem33_0 | ⟨_ + 1, h⟩ => absurd h (Nat.not_lt.2 (Nat.le_add_left _ _))
abbrev reads0_33 : Fin grid0.rank → Bool := ![false, false]

abbrev stage0_34 : Fin 1 → Memref sig .tc .vmem S1x256 .f32 := fun | 0 => Memref.whole cc0_stg34_0 | ⟨_ + 1, h⟩ => absurd h (Nat.not_lt.2 (Nat.le_add_left _ _))
abbrev sem0_34 : Fin 1 → DmaSem sig := fun | 0 => cc0_sem34_0 | ⟨_ + 1, h⟩ => absurd h (Nat.not_lt.2 (Nat.le_add_left _ _))
abbrev reads0_34 : Fin grid0.rank → Bool := ![false, false]

abbrev stage0_35 : Fin 1 → Memref sig .tc .vmem S1x128 .f32 := fun | 0 => Memref.whole cc0_stg35_0 | ⟨_ + 1, h⟩ => absurd h (Nat.not_lt.2 (Nat.le_add_left _ _))
abbrev sem0_35 : Fin 1 → DmaSem sig := fun | 0 => cc0_sem35_0 | ⟨_ + 1, h⟩ => absurd h (Nat.not_lt.2 (Nat.le_add_left _ _))
abbrev reads0_35 : Fin grid0.rank → Bool := ![false, false]

abbrev stage0_36 : Fin 2 → Memref sig .tc .vmem S1x2x128x128 .f32 := fun | 0 => Memref.whole cc0_stg36_0 | 1 => Memref.whole cc0_stg36_1 | ⟨_ + 2, h⟩ => absurd h (Nat.not_lt.2 (Nat.le_add_left _ _))
abbrev sem0_36 : Fin 2 → DmaSem sig := fun | 0 => cc0_sem36_0 | 1 => cc0_sem36_1 | ⟨_ + 2, h⟩ => absurd h (Nat.not_lt.2 (Nat.le_add_left _ _))
abbrev reads0_36 : Fin grid0.rank → Bool := ![true, false]

abbrev stage0_37 : Fin 1 → Memref sig .tc .vmem S160x32 .bf16 := fun | 0 => Memref.whole cc0_stg37_0 | ⟨_ + 1, h⟩ => absurd h (Nat.not_lt.2 (Nat.le_add_left _ _))
abbrev sem0_37 : Fin 1 → DmaSem sig := fun | 0 => cc0_sem37_0 | ⟨_ + 1, h⟩ => absurd h (Nat.not_lt.2 (Nat.le_add_left _ _))
abbrev reads0_37 : Fin grid0.rank → Bool := ![false, false]

abbrev stage0_38 : Fin 1 → Memref sig .tc .vmem S4x16x16 .f32 := fun | 0 => Memref.whole cc0_stg38_0 | ⟨_ + 1, h⟩ => absurd h (Nat.not_lt.2 (Nat.le_add_left _ _))
abbrev sem0_38 : Fin 1 → DmaSem sig := fun | 0 => cc0_sem38_0 | ⟨_ + 1, h⟩ => absurd h (Nat.not_lt.2 (Nat.le_add_left _ _))
abbrev reads0_38 : Fin grid0.rank → Bool := ![false, false]

abbrev stage0_39 : Fin 2 → Memref sig .tc .vmem S1x16x768 .bf16 := fun | 0 => Memref.whole cc0_stg39_0 | 1 => Memref.whole cc0_stg39_1 | ⟨_ + 2, h⟩ => absurd h (Nat.not_lt.2 (Nat.le_add_left _ _))
abbrev sem0_39 : Fin 2 → DmaSem sig := fun | 0 => cc0_sem39_0 | 1 => cc0_sem39_1 | ⟨_ + 2, h⟩ => absurd h (Nat.not_lt.2 (Nat.le_add_left _ _))
abbrev reads0_39 : Fin grid0.rank → Bool := ![true, true]

abbrev stage0_40 : Fin 2 → Memref sig .tc .vmem S1x1x2560 .f32 := fun | 0 => Memref.whole cc0_stg40_0 | 1 => Memref.whole cc0_stg40_1 | ⟨_ + 2, h⟩ => absurd h (Nat.not_lt.2 (Nat.le_add_left _ _))
abbrev sem0_40 : Fin 2 → DmaSem sig := fun | 0 => cc0_sem40_0 | 1 => cc0_sem40_1 | ⟨_ + 2, h⟩ => absurd h (Nat.not_lt.2 (Nat.le_add_left _ _))
abbrev reads0_40 : Fin grid0.rank → Bool := ![true, false]

abbrev stage0_41 : Fin 2 → Memref sig .tc .vmem S1x6x128x128 .f32 := fun | 0 => Memref.whole cc0_stg41_0 | 1 => Memref.whole cc0_stg41_1 | ⟨_ + 2, h⟩ => absurd h (Nat.not_lt.2 (Nat.le_add_left _ _))
abbrev sem0_41 : Fin 2 → DmaSem sig := fun | 0 => cc0_sem41_0 | 1 => cc0_sem41_1 | ⟨_ + 2, h⟩ => absurd h (Nat.not_lt.2 (Nat.le_add_left _ _))
abbrev reads0_41 : Fin grid0.rank → Bool := ![true, false]

abbrev stage0_42 : Fin 2 → Memref sig .tc .vmem S1x16x768 .bf16 := fun | 0 => Memref.whole cc0_stg42_0 | 1 => Memref.whole cc0_stg42_1 | ⟨_ + 2, h⟩ => absurd h (Nat.not_lt.2 (Nat.le_add_left _ _))
abbrev sem0_42 : Fin 2 → DmaSem sig := fun | 0 => cc0_sem42_0 | 1 => cc0_sem42_1 | ⟨_ + 2, h⟩ => absurd h (Nat.not_lt.2 (Nat.le_add_left _ _))
abbrev reads0_42 : Fin grid0.rank → Bool := ![true, true]

abbrev stage0_43 : Fin 2 → Memref sig .tc .vmem S1x3x2304 .f32 := fun | 0 => Memref.whole cc0_stg43_0 | 1 => Memref.whole cc0_stg43_1 | ⟨_ + 2, h⟩ => absurd h (Nat.not_lt.2 (Nat.le_add_left _ _))
abbrev sem0_43 : Fin 2 → DmaSem sig := fun | 0 => cc0_sem43_0 | 1 => cc0_sem43_1 | ⟨_ + 2, h⟩ => absurd h (Nat.not_lt.2 (Nat.le_add_left _ _))
abbrev reads0_43 : Fin grid0.rank → Bool := ![true, false]

abbrev stage0_44 : Fin 2 → Memref sig .tc .vmem S1x6x128x128 .f32 := fun | 0 => Memref.whole cc0_stg44_0 | 1 => Memref.whole cc0_stg44_1 | ⟨_ + 2, h⟩ => absurd h (Nat.not_lt.2 (Nat.le_add_left _ _))
abbrev sem0_44 : Fin 2 → DmaSem sig := fun | 0 => cc0_sem44_0 | 1 => cc0_sem44_1 | ⟨_ + 2, h⟩ => absurd h (Nat.not_lt.2 (Nat.le_add_left _ _))
abbrev reads0_44 : Fin grid0.rank → Bool := ![true, false]

abbrev stage0_45 : Fin 2 → Memref sig .tc .vmem S1x16x512 .bf16 := fun | 0 => Memref.whole cc0_stg45_0 | 1 => Memref.whole cc0_stg45_1 | ⟨_ + 2, h⟩ => absurd h (Nat.not_lt.2 (Nat.le_add_left _ _))
abbrev sem0_45 : Fin 2 → DmaSem sig := fun | 0 => cc0_sem45_0 | 1 => cc0_sem45_1 | ⟨_ + 2, h⟩ => absurd h (Nat.not_lt.2 (Nat.le_add_left _ _))
abbrev reads0_45 : Fin grid0.rank → Bool := ![true, true]

abbrev stage0_46 : Fin 2 → Memref sig .tc .vmem S1x2x128x128 .f32 := fun | 0 => Memref.whole cc0_stg46_0 | 1 => Memref.whole cc0_stg46_1 | ⟨_ + 2, h⟩ => absurd h (Nat.not_lt.2 (Nat.le_add_left _ _))
abbrev sem0_46 : Fin 2 → DmaSem sig := fun | 0 => cc0_sem46_0 | 1 => cc0_sem46_1 | ⟨_ + 2, h⟩ => absurd h (Nat.not_lt.2 (Nat.le_add_left _ _))
abbrev reads0_46 : Fin grid0.rank → Bool := ![true, false]
-- ==== MixRefIdeal.lean ====
abbrev S128x1664 : Shape := ⟨2, ![128, 1664]⟩
abbrev S128x3072 : Shape := ⟨2, ![128, 3072]⟩
abbrev S128x2560 : Shape := ⟨2, ![128, 2560]⟩
abbrev S8x16x768 : Shape := ⟨3, ![8, 16, 768]⟩
abbrev S768 : Shape := ⟨1, ![768]⟩
abbrev S768x32 : Shape := ⟨2, ![768, 32]⟩
abbrev S32x768 : Shape := ⟨2, ![32, 768]⟩
abbrev S2560 : Shape := ⟨1, ![2560]⟩
abbrev S64x768 : Shape := ⟨2, ![64, 768]⟩
abbrev S128x768 : Shape := ⟨2, ![128, 768]⟩
abbrev S12x64 : Shape := ⟨2, ![12, 64]⟩
abbrev S8x1x2560 : Shape := ⟨3, ![8, 1, 2560]⟩
abbrev S8x12x64x64 : Shape := ⟨4, ![8, 12, 64, 64]⟩
abbrev S4x2304 : Shape := ⟨2, ![4, 2304]⟩
abbrev S6 : Shape := ⟨1, ![6]⟩
abbrev S128 : Shape := ⟨1, ![128]⟩
abbrev S8x3x2304 : Shape := ⟨3, ![8, 3, 2304]⟩
abbrev S8x6x128x128 : Shape := ⟨4, ![8, 6, 128, 128]⟩
abbrev S16x256 : Shape := ⟨2, ![16, 256]⟩
abbrev S256 : Shape := ⟨1, ![256]⟩
abbrev S8x4x64x128 : Shape := ⟨4, ![8, 4, 64, 128]⟩
abbrev S128x2304 : Shape := ⟨2, ![128, 2304]⟩
abbrev S8x16x2304 : Shape := ⟨3, ![8, 16, 2304]⟩
abbrev S8x16x2560 : Shape := ⟨3, ![8, 16, 2560]⟩
abbrev S8x19x2304 : Shape := ⟨3, ![8, 19, 2304]⟩
abbrev S128x256 : Shape := ⟨2, ![128, 256]⟩
abbrev S8x16x4x64 : Shape := ⟨4, ![8, 16, 4, 64]⟩
abbrev S128x512 : Shape := ⟨2, ![128, 512]⟩
abbrev S8x16x4x128 : Shape := ⟨4, ![8, 16, 4, 128]⟩
abbrev S128x16 : Shape := ⟨2, ![128, 16]⟩
abbrev S1x256 : Shape := ⟨2, ![1, 256]⟩
abbrev S_ : Shape := ⟨0, ![]⟩
abbrev S8x1x4x64 : Shape := ⟨4, ![8, 1, 4, 64]⟩
abbrev S8x4x64 : Shape := ⟨3, ![8, 4, 64]⟩
abbrev S8x4x64x1 : Shape := ⟨4, ![8, 4, 64, 1]⟩
abbrev S8x1x4x128 : Shape := ⟨4, ![8, 1, 4, 128]⟩
abbrev S8x4x128 : Shape := ⟨3, ![8, 4, 128]⟩
abbrev S8x4x1x128 : Shape := ⟨4, ![8, 4, 1, 128]⟩
abbrev S8x2x128x128 : Shape := ⟨4, ![8, 2, 128, 128]⟩

abbrev nBuf : Space → Nat
  | .hbm => 322
  | .vmem => 0
  | .smem => 0
  | _ => 0

abbrev hbmTy0_0 (i : Nat) : BufTy := match i % 128 with
  | 0 => ⟨S128x1664, .f32⟩
  | 1 => ⟨S128x3072, .f32⟩
  | 2 => ⟨S128x2560, .f32⟩
  | 3 => ⟨S8x16x768, .f32⟩
  | 4 => ⟨S768, .f32⟩
  | 5 => ⟨S768x32, .f32⟩
  | 6 => ⟨S32x768, .f32⟩
  | 7 => ⟨S2560, .f32⟩
  | 8 => ⟨S768, .f32⟩
  | 9 => ⟨S64x768, .f32⟩
  | 10 => ⟨S768, .f32⟩
  | 11 => ⟨S64x768, .f32⟩
  | 12 => ⟨S128x768, .f32⟩
  | 13 => ⟨S768, .f32⟩
  | 14 => ⟨S768, .f32⟩
  | 15 => ⟨S12x64, .f32⟩
  | 16 => ⟨S768, .f32⟩
  | 17 => ⟨S768, .f32⟩
  | 18 => ⟨S8x1x2560, .f32⟩
  | 19 => ⟨S8x12x64x64, .f32⟩
  | 20 => ⟨S4x2304, .f32⟩
  | 21 => ⟨S6, .f32⟩
  | 22 => ⟨S6, .f32⟩
  | 23 => ⟨S128, .f32⟩
  | 24 => ⟨S8x3x2304, .f32⟩
  | 25 => ⟨S8x6x128x128, .f32⟩
  | 26 => ⟨S16x256, .f32⟩
  | 27 => ⟨S256, .f32⟩
  | 28 => ⟨S128, .f32⟩
  | 29 => ⟨S8x4x64x128, .f32⟩
  | 30 => ⟨S128x2304, .f32⟩
  | 31 => ⟨S8x16x2304, .f32⟩
  | 32 => ⟨S8x16x2560, .f32⟩
  | 33 => ⟨S8x1x2560, .f32⟩
  | 34 => ⟨S8x19x2304, .f32⟩
  | 35 => ⟨S8x3x2304, .f32⟩
  | 36 => ⟨S128x256, .f32⟩
  | 37 => ⟨S8x16x4x64, .f32⟩
  | 38 => ⟨S128x512, .f32⟩
  | 39 => ⟨S8x16x4x128, .f32⟩
  | 40 => ⟨S128x16, .f32⟩
  | 41 => ⟨S128x256, .f32⟩
  | 42 => ⟨S1x256, .f32⟩
  | 43 => ⟨S128x256, .f32⟩
  | 44 => ⟨S128x256, .f32⟩
  | 45 => ⟨S128x256, .f32⟩
  | 46 => ⟨S_, .f32⟩
  | 47 => ⟨S128x256, .f32⟩
  | 48 => ⟨S128x256, .f32⟩
  | 49 => ⟨S128x256, .f32⟩
  | 50 => ⟨S128x256, .f32⟩
  | 51 => ⟨S128x256, .i1⟩
  | 52 => ⟨S128x256, .f32⟩
  | 53 => ⟨S128x256, .f32⟩
  | 54 => ⟨S128x256, .f32⟩
  | 55 => ⟨S128x256, .f32⟩
  | 56 => ⟨S128x256, .f32⟩
  | 57 => ⟨S128x256, .f32⟩
  | 58 => ⟨S128x256, .f32⟩
  | 59 => ⟨S128x256, .f32⟩
  | 60 => ⟨S128x256, .f32⟩
  | 61 => ⟨S_, .f32⟩
  | 62 => ⟨S128x256, .f32⟩
  | 63 => ⟨S128x256, .f32⟩
  | 64 => ⟨S8x16x4x64, .f32⟩
  | 65 => ⟨S8x1x4x64, .f32⟩
  | 66 => ⟨S8x4x64, .f32⟩
  | 67 => ⟨S8x4x64, .f32⟩
  | 68 => ⟨S8x4x64x1, .f32⟩
  | 69 => ⟨S8x4x64x128, .f32⟩
  | 70 => ⟨S8x4x64x128, .f32⟩
  | 71 => ⟨S8x1x4x64, .f32⟩
  | 72 => ⟨S8x4x64, .f32⟩
  | 73 => ⟨S8x4x64x1, .f32⟩
  | 74 => ⟨S8x1x4x128, .f32⟩
  | 75 => ⟨S8x4x128, .f32⟩
  | 76 => ⟨S8x4x1x128, .f32⟩
  | 77 => ⟨S8x4x64x128, .f32⟩
  | 78 => ⟨S8x4x64x128, .f32⟩
  | 79 => ⟨S8x4x64x128, .f32⟩
  | 80 => ⟨S8x4x64x128, .f32⟩
  | 81 => ⟨S8x1x4x64, .f32⟩
  | 82 => ⟨S8x4x64, .f32⟩
  | 83 => ⟨S8x4x64, .f32⟩
  | 84 => ⟨S8x4x64x1, .f32⟩
  | 85 => ⟨S8x4x64x128, .f32⟩
  | 86 => ⟨S8x4x64x128, .f32⟩
  | 87 => ⟨S8x1x4x64, .f32⟩
  | 88 => ⟨S8x4x64, .f32⟩
  | 89 => ⟨S8x4x64x1, .f32⟩
  | 90 => ⟨S8x1x4x128, .f32⟩
  | 91 => ⟨S8x4x128, .f32⟩
  | 92 => ⟨S8x4x1x128, .f32⟩
  | 93 => ⟨S8x4x64x128, .f32⟩
  | 94 => ⟨S8x4x64x128, .f32⟩
  | 95 => ⟨S8x4x64x128, .f32⟩
  | 96 => ⟨S8x4x64x128, .f32⟩
  | 97 => ⟨S8x1x4x64, .f32⟩
  | 98 => ⟨S8x4x64, .f32⟩
  | 99 => ⟨S8x4x64, .f32⟩
  | 100 => ⟨S8x4x64x1, .f32⟩
  | 101 => ⟨S8x4x64x128, .f32⟩
  | 102 => ⟨S8x4x64x128, .f32⟩
  | 103 => ⟨S8x1x4x64, .f32⟩
  | 104 => ⟨S8x4x64, .f32⟩
  | 105 => ⟨S8x4x64x1, .f32⟩
  | 106 => ⟨S8x1x4x128, .f32⟩
  | 107 => ⟨S8x4x128, .f32⟩
  | 108 => ⟨S8x4x1x128, .f32⟩
  | 109 => ⟨S8x4x64x128, .f32⟩
  | 110 => ⟨S8x4x64x128, .f32⟩
  | 111 => ⟨S8x4x64x128, .f32⟩
  | 112 => ⟨S8x4x64x128, .f32⟩
  | 113 => ⟨S8x1x4x64, .f32⟩
  | 114 => ⟨S8x4x64, .f32⟩
  | 115 => ⟨S8x4x64, .f32⟩
  | 116 => ⟨S8x4x64x1, .f32⟩
  | 117 => ⟨S8x4x64x128, .f32⟩
  | 118 => ⟨S8x4x64x128, .f32⟩
  | 119 => ⟨S8x1x4x64, .f32⟩
  | 120 => ⟨S8x4x64, .f32⟩
  | 121 => ⟨S8x4x64x1, .f32⟩
  | 122 => ⟨S8x1x4x128, .f32⟩
  | 123 => ⟨S8x4x128, .f32⟩
  | 124 => ⟨S8x4x1x128, .f32⟩
  | 125 => ⟨S8x4x64x128, .f32⟩
  | 126 => ⟨S8x4x64x128, .f32⟩
  | 127 => ⟨S8x4x64x128, .f32⟩
  | _ => ⟨S128x1664, .f32⟩

abbrev hbmTy0_1 (i : Nat) : BufTy := match i % 128 with
  | 0 => ⟨S8x4x64x128, .f32⟩
  | 1 => ⟨S8x1x4x64, .f32⟩
  | 2 => ⟨S8x4x64, .f32⟩
  | 3 => ⟨S8x4x64, .f32⟩
  | 4 => ⟨S8x4x64x1, .f32⟩
  | 5 => ⟨S8x4x64x128, .f32⟩
  | 6 => ⟨S8x4x64x128, .f32⟩
  | 7 => ⟨S8x1x4x64, .f32⟩
  | 8 => ⟨S8x4x64, .f32⟩
  | 9 => ⟨S8x4x64x1, .f32⟩
  | 10 => ⟨S8x1x4x128, .f32⟩
  | 11 => ⟨S8x4x128, .f32⟩
  | 12 => ⟨S8x4x1x128, .f32⟩
  | 13 => ⟨S8x4x64x128, .f32⟩
  | 14 => ⟨S8x4x64x128, .f32⟩
  | 15 => ⟨S8x4x64x128, .f32⟩
  | 16 => ⟨S8x4x64x128, .f32⟩
  | 17 => ⟨S8x1x4x64, .f32⟩
  | 18 => ⟨S8x4x64, .f32⟩
  | 19 => ⟨S8x4x64, .f32⟩
  | 20 => ⟨S8x4x64x1, .f32⟩
  | 21 => ⟨S8x4x64x128, .f32⟩
  | 22 => ⟨S8x4x64x128, .f32⟩
  | 23 => ⟨S8x1x4x64, .f32⟩
  | 24 => ⟨S8x4x64, .f32⟩
  | 25 => ⟨S8x4x64x1, .f32⟩
  | 26 => ⟨S8x1x4x128, .f32⟩
  | 27 => ⟨S8x4x128, .f32⟩
  | 28 => ⟨S8x4x1x128, .f32⟩
  | 29 => ⟨S8x4x64x128, .f32⟩
  | 30 => ⟨S8x4x64x128, .f32⟩
  | 31 => ⟨S8x4x64x128, .f32⟩
  | 32 => ⟨S8x4x64x128, .f32⟩
  | 33 => ⟨S8x1x4x64, .f32⟩
  | 34 => ⟨S8x4x64, .f32⟩
  | 35 => ⟨S8x4x64, .f32⟩
  | 36 => ⟨S8x4x64x1, .f32⟩
  | 37 => ⟨S8x4x64x128, .f32⟩
  | 38 => ⟨S8x4x64x128, .f32⟩
  | 39 => ⟨S8x1x4x64, .f32⟩
  | 40 => ⟨S8x4x64, .f32⟩
  | 41 => ⟨S8x4x64x1, .f32⟩
  | 42 => ⟨S8x1x4x128, .f32⟩
  | 43 => ⟨S8x4x128, .f32⟩
  | 44 => ⟨S8x4x1x128, .f32⟩
  | 45 => ⟨S8x4x64x128, .f32⟩
  | 46 => ⟨S8x4x64x128, .f32⟩
  | 47 => ⟨S8x4x64x128, .f32⟩
  | 48 => ⟨S8x4x64x128, .f32⟩
  | 49 => ⟨S8x1x4x64, .f32⟩
  | 50 => ⟨S8x4x64, .f32⟩
  | 51 => ⟨S8x4x64, .f32⟩
  | 52 => ⟨S8x4x64x1, .f32⟩
  | 53 => ⟨S8x4x64x128, .f32⟩
  | 54 => ⟨S8x4x64x128, .f32⟩
  | 55 => ⟨S8x1x4x64, .f32⟩
  | 56 => ⟨S8x4x64, .f32⟩
  | 57 => ⟨S8x4x64x1, .f32⟩
  | 58 => ⟨S8x1x4x128, .f32⟩
  | 59 => ⟨S8x4x128, .f32⟩
  | 60 => ⟨S8x4x1x128, .f32⟩
  | 61 => ⟨S8x4x64x128, .f32⟩
  | 62 => ⟨S8x4x64x128, .f32⟩
  | 63 => ⟨S8x4x64x128, .f32⟩
  | 64 => ⟨S8x4x64x128, .f32⟩
  | 65 => ⟨S8x1x4x64, .f32⟩
  | 66 => ⟨S8x4x64, .f32⟩
  | 67 => ⟨S8x4x64, .f32⟩
  | 68 => ⟨S8x4x64x1, .f32⟩
  | 69 => ⟨S8x4x64x128, .f32⟩
  | 70 => ⟨S8x4x64x128, .f32⟩
  | 71 => ⟨S8x1x4x64, .f32⟩
  | 72 => ⟨S8x4x64, .f32⟩
  | 73 => ⟨S8x4x64x1, .f32⟩
  | 74 => ⟨S8x1x4x128, .f32⟩
  | 75 => ⟨S8x4x128, .f32⟩
  | 76 => ⟨S8x4x1x128, .f32⟩
  | 77 => ⟨S8x4x64x128, .f32⟩
  | 78 => ⟨S8x4x64x128, .f32⟩
  | 79 => ⟨S8x4x64x128, .f32⟩
  | 80 => ⟨S8x4x64x128, .f32⟩
  | 81 => ⟨S8x1x4x64, .f32⟩
  | 82 => ⟨S8x4x64, .f32⟩
  | 83 => ⟨S8x4x64, .f32⟩
  | 84 => ⟨S8x4x64x1, .f32⟩
  | 85 => ⟨S8x4x64x128, .f32⟩
  | 86 => ⟨S8x4x64x128, .f32⟩
  | 87 => ⟨S8x1x4x64, .f32⟩
  | 88 => ⟨S8x4x64, .f32⟩
  | 89 => ⟨S8x4x64x1, .f32⟩
  | 90 => ⟨S8x1x4x128, .f32⟩
  | 91 => ⟨S8x4x128, .f32⟩
  | 92 => ⟨S8x4x1x128, .f32⟩
  | 93 => ⟨S8x4x64x128, .f32⟩
  | 94 => ⟨S8x4x64x128, .f32⟩
  | 95 => ⟨S8x4x64x128, .f32⟩
  | 96 => ⟨S8x4x64x128, .f32⟩
  | 97 => ⟨S8x1x4x64, .f32⟩
  | 98 => ⟨S8x4x64, .f32⟩
  | 99 => ⟨S8x4x64, .f32⟩
  | 100 => ⟨S8x4x64x1, .f32⟩
  | 101 => ⟨S8x4x64x128, .f32⟩
  | 102 => ⟨S8x4x64x128, .f32⟩
  | 103 => ⟨S8x1x4x64, .f32⟩
  | 104 => ⟨S8x4x64, .f32⟩
  | 105 => ⟨S8x4x64x1, .f32⟩
  | 106 => ⟨S8x1x4x128, .f32⟩
  | 107 => ⟨S8x4x128, .f32⟩
  | 108 => ⟨S8x4x1x128, .f32⟩
  | 109 => ⟨S8x4x64x128, .f32⟩
  | 110 => ⟨S8x4x64x128, .f32⟩
  | 111 => ⟨S8x4x64x128, .f32⟩
  | 112 => ⟨S8x4x64x128, .f32⟩
  | 113 => ⟨S8x1x4x64, .f32⟩
  | 114 => ⟨S8x4x64, .f32⟩
  | 115 => ⟨S8x4x64, .f32⟩
  | 116 => ⟨S8x4x64x1, .f32⟩
  | 117 => ⟨S8x4x64x128, .f32⟩
  | 118 => ⟨S8x4x64x128, .f32⟩
  | 119 => ⟨S8x1x4x64, .f32⟩
  | 120 => ⟨S8x4x64, .f32⟩
  | 121 => ⟨S8x4x64x1, .f32⟩
  | 122 => ⟨S8x1x4x128, .f32⟩
  | 123 => ⟨S8x4x128, .f32⟩
  | 124 => ⟨S8x4x1x128, .f32⟩
  | 125 => ⟨S8x4x64x128, .f32⟩
  | 126 => ⟨S8x4x64x128, .f32⟩
  | 127 => ⟨S8x4x64x128, .f32⟩
  | _ => ⟨S128x1664, .f32⟩

abbrev hbmTy0_2 (i : Nat) : BufTy := match i % 128 with
  | 0 => ⟨S8x4x64x128, .f32⟩
  | 1 => ⟨S8x1x4x64, .f32⟩
  | 2 => ⟨S8x4x64, .f32⟩
  | 3 => ⟨S8x4x64, .f32⟩
  | 4 => ⟨S8x4x64x1, .f32⟩
  | 5 => ⟨S8x4x64x128, .f32⟩
  | 6 => ⟨S8x4x64x128, .f32⟩
  | 7 => ⟨S8x1x4x64, .f32⟩
  | 8 => ⟨S8x4x64, .f32⟩
  | 9 => ⟨S8x4x64x1, .f32⟩
  | 10 => ⟨S8x1x4x128, .f32⟩
  | 11 => ⟨S8x4x128, .f32⟩
  | 12 => ⟨S8x4x1x128, .f32⟩
  | 13 => ⟨S8x4x64x128, .f32⟩
  | 14 => ⟨S8x4x64x128, .f32⟩
  | 15 => ⟨S8x4x64x128, .f32⟩
  | 16 => ⟨S8x4x64x128, .f32⟩
  | 17 => ⟨S8x1x4x64, .f32⟩
  | 18 => ⟨S8x4x64, .f32⟩
  | 19 => ⟨S8x4x64, .f32⟩
  | 20 => ⟨S8x4x64x1, .f32⟩
  | 21 => ⟨S8x4x64x128, .f32⟩
  | 22 => ⟨S8x4x64x128, .f32⟩
  | 23 => ⟨S8x1x4x64, .f32⟩
  | 24 => ⟨S8x4x64, .f32⟩
  | 25 => ⟨S8x4x64x1, .f32⟩
  | 26 => ⟨S8x1x4x128, .f32⟩
  | 27 => ⟨S8x4x128, .f32⟩
  | 28 => ⟨S8x4x1x128, .f32⟩
  | 29 => ⟨S8x4x64x128, .f32⟩
  | 30 => ⟨S8x4x64x128, .f32⟩
  | 31 => ⟨S8x4x64x128, .f32⟩
  | 32 => ⟨S8x4x64x128, .f32⟩
  | 33 => ⟨S8x1x4x64, .f32⟩
  | 34 => ⟨S8x4x64, .f32⟩
  | 35 => ⟨S8x4x64, .f32⟩
  | 36 => ⟨S8x4x64x1, .f32⟩
  | 37 => ⟨S8x4x64x128, .f32⟩
  | 38 => ⟨S8x4x64x128, .f32⟩
  | 39 => ⟨S8x1x4x64, .f32⟩
  | 40 => ⟨S8x4x64, .f32⟩
  | 41 => ⟨S8x4x64x1, .f32⟩
  | 42 => ⟨S8x1x4x128, .f32⟩
  | 43 => ⟨S8x4x128, .f32⟩
  | 44 => ⟨S8x4x1x128, .f32⟩
  | 45 => ⟨S8x4x64x128, .f32⟩
  | 46 => ⟨S8x4x64x128, .f32⟩
  | 47 => ⟨S8x4x64x128, .f32⟩
  | 48 => ⟨S8x4x64x128, .f32⟩
  | 49 => ⟨S8x1x4x64, .f32⟩
  | 50 => ⟨S8x4x64, .f32⟩
  | 51 => ⟨S8x4x64, .f32⟩
  | 52 => ⟨S8x4x64x1, .f32⟩
  | 53 => ⟨S8x4x64x128, .f32⟩
  | 54 => ⟨S8x4x64x128, .f32⟩
  | 55 => ⟨S8x1x4x64, .f32⟩
  | 56 => ⟨S8x4x64, .f32⟩
  | 57 => ⟨S8x4x64x1, .f32⟩
  | 58 => ⟨S8x1x4x128, .f32⟩
  | 59 => ⟨S8x4x128, .f32⟩
  | 60 => ⟨S8x4x1x128, .f32⟩
  | 61 => ⟨S8x4x64x128, .f32⟩
  | 62 => ⟨S8x4x64x128, .f32⟩
  | 63 => ⟨S8x4x64x128, .f32⟩
  | 64 => ⟨S8x4x64x128, .f32⟩
  | 65 => ⟨S8x2x128x128, .f32⟩
  | _ => ⟨S128x1664, .f32⟩

abbrev hbmTy (i : Nat) : BufTy := match i / 128 with
  | 0 => hbmTy0_0 i
  | 1 => hbmTy0_1 i
  | 2 => hbmTy0_2 i
  | _ => ⟨S128x1664, .f32⟩

abbrev bufTy : (tb : Table) → Fin (tcTables nBuf tb) → BufTy
  | .hbm, ⟨i, _⟩ => hbmTy i
  | _, _ => ⟨S128x1664, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_v0 : Ref sig .tc := ⟨.hbm, 30, rfl⟩
abbrev main_v1 : Ref sig .tc := ⟨.hbm, 31, rfl⟩
abbrev main_v2 : Ref sig .tc := ⟨.hbm, 32, rfl⟩
abbrev main_v3 : Ref sig .tc := ⟨.hbm, 33, rfl⟩
abbrev main_v4 : Ref sig .tc := ⟨.hbm, 34, rfl⟩
abbrev main_v5 : Ref sig .tc := ⟨.hbm, 35, rfl⟩
abbrev main_v6 : Ref sig .tc := ⟨.hbm, 36, rfl⟩
abbrev main_v7 : Ref sig .tc := ⟨.hbm, 37, rfl⟩
abbrev main_v8 : Ref sig .tc := ⟨.hbm, 38, rfl⟩
abbrev main_v9 : Ref sig .tc := ⟨.hbm, 39, rfl⟩
abbrev main_v10 : Ref sig .tc := ⟨.hbm, 40, rfl⟩
abbrev main_v11 : Ref sig .tc := ⟨.hbm, 41, rfl⟩
abbrev main_v12 : Ref sig .tc := ⟨.hbm, 42, rfl⟩
abbrev main_v13 : Ref sig .tc := ⟨.hbm, 43, rfl⟩
abbrev main_v14 : Ref sig .tc := ⟨.hbm, 44, rfl⟩
abbrev main_call0_v0 : Ref sig .tc := ⟨.hbm, 45, rfl⟩
abbrev main_call0_call0_cst : Ref sig .tc := ⟨.hbm, 46, rfl⟩
abbrev main_call0_call0_v0 : Ref sig .tc := ⟨.hbm, 47, rfl⟩
abbrev main_call0_call0_v1 : Ref sig .tc := ⟨.hbm, 48, rfl⟩
abbrev main_call0_call0_v2 : Ref sig .tc := ⟨.hbm, 49, rfl⟩
abbrev main_call0_call0_v3 : Ref sig .tc := ⟨.hbm, 50, rfl⟩
abbrev main_call0_call0_v4 : Ref sig .tc := ⟨.hbm, 51, rfl⟩
abbrev main_call0_call0_v5 : Ref sig .tc := ⟨.hbm, 52, rfl⟩
abbrev main_call0_call0_v6 : Ref sig .tc := ⟨.hbm, 53, rfl⟩
abbrev main_call0_call0_v7 : Ref sig .tc := ⟨.hbm, 54, rfl⟩
abbrev main_call0_call0_v8 : Ref sig .tc := ⟨.hbm, 55, rfl⟩
abbrev main_call0_call0_v9 : Ref sig .tc := ⟨.hbm, 56, rfl⟩
abbrev main_call0_call0_v10 : Ref sig .tc := ⟨.hbm, 57, rfl⟩
abbrev main_call0_call0_v11 : Ref sig .tc := ⟨.hbm, 58, rfl⟩
abbrev main_call0_v1 : Ref sig .tc := ⟨.hbm, 59, rfl⟩
abbrev main_v15 : Ref sig .tc := ⟨.hbm, 60, rfl⟩
abbrev main_cst : Ref sig .tc := ⟨.hbm, 61, rfl⟩
abbrev main_v16 : Ref sig .tc := ⟨.hbm, 62, rfl⟩
abbrev main_v17 : Ref sig .tc := ⟨.hbm, 63, rfl⟩
abbrev main_v18 : Ref sig .tc := ⟨.hbm, 64, rfl⟩
abbrev main_v19 : Ref sig .tc := ⟨.hbm, 65, rfl⟩
abbrev main_v20 : Ref sig .tc := ⟨.hbm, 66, rfl⟩
abbrev main_v21 : Ref sig .tc := ⟨.hbm, 67, rfl⟩
abbrev main_v22 : Ref sig .tc := ⟨.hbm, 68, rfl⟩
abbrev main_v23 : Ref sig .tc := ⟨.hbm, 69, rfl⟩
abbrev main_v24 : Ref sig .tc := ⟨.hbm, 70, rfl⟩
abbrev main_v25 : Ref sig .tc := ⟨.hbm, 71, rfl⟩
abbrev main_v26 : Ref sig .tc := ⟨.hbm, 72, rfl⟩
abbrev main_v27 : Ref sig .tc := ⟨.hbm, 73, rfl⟩
abbrev main_v28 : Ref sig .tc := ⟨.hbm, 74, rfl⟩
abbrev main_v29 : Ref sig .tc := ⟨.hbm, 75, rfl⟩
abbrev main_v30 : Ref sig .tc := ⟨.hbm, 76, rfl⟩
abbrev main_v31 : Ref sig .tc := ⟨.hbm, 77, rfl⟩
abbrev main_v32 : Ref sig .tc := ⟨.hbm, 78, rfl⟩
abbrev main_v33 : Ref sig .tc := ⟨.hbm, 79, rfl⟩
abbrev main_v34 : Ref sig .tc := ⟨.hbm, 80, rfl⟩
abbrev main_v35 : Ref sig .tc := ⟨.hbm, 81, rfl⟩
abbrev main_v36 : Ref sig .tc := ⟨.hbm, 82, rfl⟩
abbrev main_v37 : Ref sig .tc := ⟨.hbm, 83, rfl⟩
abbrev main_v38 : Ref sig .tc := ⟨.hbm, 84, rfl⟩
abbrev main_v39 : Ref sig .tc := ⟨.hbm, 85, rfl⟩
abbrev main_v40 : Ref sig .tc := ⟨.hbm, 86, rfl⟩
abbrev main_v41 : Ref sig .tc := ⟨.hbm, 87, rfl⟩
abbrev main_v42 : Ref sig .tc := ⟨.hbm, 88, rfl⟩
abbrev main_v43 : Ref sig .tc := ⟨.hbm, 89, rfl⟩
abbrev main_v44 : Ref sig .tc := ⟨.hbm, 90, rfl⟩
abbrev main_v45 : Ref sig .tc := ⟨.hbm, 91, rfl⟩
abbrev main_v46 : Ref sig .tc := ⟨.hbm, 92, rfl⟩
abbrev main_v47 : Ref sig .tc := ⟨.hbm, 93, rfl⟩
abbrev main_v48 : Ref sig .tc := ⟨.hbm, 94, rfl⟩
abbrev main_v49 : Ref sig .tc := ⟨.hbm, 95, rfl⟩
abbrev main_v50 : Ref sig .tc := ⟨.hbm, 96, rfl⟩
abbrev main_v51 : Ref sig .tc := ⟨.hbm, 97, rfl⟩
abbrev main_v52 : Ref sig .tc := ⟨.hbm, 98, rfl⟩
abbrev main_v53 : Ref sig .tc := ⟨.hbm, 99, rfl⟩
abbrev main_v54 : Ref sig .tc := ⟨.hbm, 100, rfl⟩
abbrev main_v55 : Ref sig .tc := ⟨.hbm, 101, rfl⟩
abbrev main_v56 : Ref sig .tc := ⟨.hbm, 102, rfl⟩
abbrev main_v57 : Ref sig .tc := ⟨.hbm, 103, rfl⟩
abbrev main_v58 : Ref sig .tc := ⟨.hbm, 104, rfl⟩
abbrev main_v59 : Ref sig .tc := ⟨.hbm, 105, rfl⟩
abbrev main_v60 : Ref sig .tc := ⟨.hbm, 106, rfl⟩
abbrev main_v61 : Ref sig .tc := ⟨.hbm, 107, rfl⟩
abbrev main_v62 : Ref sig .tc := ⟨.hbm, 108, rfl⟩
abbrev main_v63 : Ref sig .tc := ⟨.hbm, 109, rfl⟩
abbrev main_v64 : Ref sig .tc := ⟨.hbm, 110, rfl⟩
abbrev main_v65 : Ref sig .tc := ⟨.hbm, 111, rfl⟩
abbrev main_v66 : Ref sig .tc := ⟨.hbm, 112, rfl⟩
abbrev main_v67 : Ref sig .tc := ⟨.hbm, 113, rfl⟩
abbrev main_v68 : Ref sig .tc := ⟨.hbm, 114, rfl⟩
abbrev main_v69 : Ref sig .tc := ⟨.hbm, 115, rfl⟩
abbrev main_v70 : Ref sig .tc := ⟨.hbm, 116, rfl⟩
abbrev main_v71 : Ref sig .tc := ⟨.hbm, 117, rfl⟩
abbrev main_v72 : Ref sig .tc := ⟨.hbm, 118, rfl⟩
abbrev main_v73 : Ref sig .tc := ⟨.hbm, 119, rfl⟩
abbrev main_v74 : Ref sig .tc := ⟨.hbm, 120, rfl⟩
abbrev main_v75 : Ref sig .tc := ⟨.hbm, 121, rfl⟩
abbrev main_v76 : Ref sig .tc := ⟨.hbm, 122, rfl⟩
abbrev main_v77 : Ref sig .tc := ⟨.hbm, 123, rfl⟩
abbrev main_v78 : Ref sig .tc := ⟨.hbm, 124, rfl⟩
abbrev main_v79 : Ref sig .tc := ⟨.hbm, 125, rfl⟩
abbrev main_v80 : Ref sig .tc := ⟨.hbm, 126, rfl⟩
abbrev main_v81 : Ref sig .tc := ⟨.hbm, 127, rfl⟩
abbrev main_v82 : Ref sig .tc := ⟨.hbm, 128, rfl⟩
abbrev main_v83 : Ref sig .tc := ⟨.hbm, 129, rfl⟩
abbrev main_v84 : Ref sig .tc := ⟨.hbm, 130, rfl⟩
abbrev main_v85 : Ref sig .tc := ⟨.hbm, 131, rfl⟩
abbrev main_v86 : Ref sig .tc := ⟨.hbm, 132, rfl⟩
abbrev main_v87 : Ref sig .tc := ⟨.hbm, 133, rfl⟩
abbrev main_v88 : Ref sig .tc := ⟨.hbm, 134, rfl⟩
abbrev main_v89 : Ref sig .tc := ⟨.hbm, 135, rfl⟩
abbrev main_v90 : Ref sig .tc := ⟨.hbm, 136, rfl⟩
abbrev main_v91 : Ref sig .tc := ⟨.hbm, 137, rfl⟩
abbrev main_v92 : Ref sig .tc := ⟨.hbm, 138, rfl⟩
abbrev main_v93 : Ref sig .tc := ⟨.hbm, 139, rfl⟩
abbrev main_v94 : Ref sig .tc := ⟨.hbm, 140, rfl⟩
abbrev main_v95 : Ref sig .tc := ⟨.hbm, 141, rfl⟩
abbrev main_v96 : Ref sig .tc := ⟨.hbm, 142, rfl⟩
abbrev main_v97 : Ref sig .tc := ⟨.hbm, 143, rfl⟩
abbrev main_v98 : Ref sig .tc := ⟨.hbm, 144, rfl⟩
abbrev main_v99 : Ref sig .tc := ⟨.hbm, 145, rfl⟩
abbrev main_v100 : Ref sig .tc := ⟨.hbm, 146, rfl⟩
abbrev main_v101 : Ref sig .tc := ⟨.hbm, 147, rfl⟩
abbrev main_v102 : Ref sig .tc := ⟨.hbm, 148, rfl⟩
abbrev main_v103 : Ref sig .tc := ⟨.hbm, 149, rfl⟩
abbrev main_v104 : Ref sig .tc := ⟨.hbm, 150, rfl⟩
abbrev main_v105 : Ref sig .tc := ⟨.hbm, 151, rfl⟩
abbrev main_v106 : Ref sig .tc := ⟨.hbm, 152, rfl⟩
abbrev main_v107 : Ref sig .tc := ⟨.hbm, 153, rfl⟩
abbrev main_v108 : Ref sig .tc := ⟨.hbm, 154, rfl⟩
abbrev main_v109 : Ref sig .tc := ⟨.hbm, 155, rfl⟩
abbrev main_v110 : Ref sig .tc := ⟨.hbm, 156, rfl⟩
abbrev main_v111 : Ref sig .tc := ⟨.hbm, 157, rfl⟩
abbrev main_v112 : Ref sig .tc := ⟨.hbm, 158, rfl⟩
abbrev main_v113 : Ref sig .tc := ⟨.hbm, 159, rfl⟩
abbrev main_v114 : Ref sig .tc := ⟨.hbm, 160, rfl⟩
abbrev main_v115 : Ref sig .tc := ⟨.hbm, 161, rfl⟩
abbrev main_v116 : Ref sig .tc := ⟨.hbm, 162, rfl⟩
abbrev main_v117 : Ref sig .tc := ⟨.hbm, 163, rfl⟩
abbrev main_v118 : Ref sig .tc := ⟨.hbm, 164, rfl⟩
abbrev main_v119 : Ref sig .tc := ⟨.hbm, 165, rfl⟩
abbrev main_v120 : Ref sig .tc := ⟨.hbm, 166, rfl⟩
abbrev main_v121 : Ref sig .tc := ⟨.hbm, 167, rfl⟩
abbrev main_v122 : Ref sig .tc := ⟨.hbm, 168, rfl⟩
abbrev main_v123 : Ref sig .tc := ⟨.hbm, 169, rfl⟩
abbrev main_v124 : Ref sig .tc := ⟨.hbm, 170, rfl⟩
abbrev main_v125 : Ref sig .tc := ⟨.hbm, 171, rfl⟩
abbrev main_v126 : Ref sig .tc := ⟨.hbm, 172, rfl⟩
abbrev main_v127 : Ref sig .tc := ⟨.hbm, 173, rfl⟩
abbrev main_v128 : Ref sig .tc := ⟨.hbm, 174, rfl⟩
abbrev main_v129 : Ref sig .tc := ⟨.hbm, 175, rfl⟩
abbrev main_v130 : Ref sig .tc := ⟨.hbm, 176, rfl⟩
abbrev main_v131 : Ref sig .tc := ⟨.hbm, 177, rfl⟩
abbrev main_v132 : Ref sig .tc := ⟨.hbm, 178, rfl⟩
abbrev main_v133 : Ref sig .tc := ⟨.hbm, 179, rfl⟩
abbrev main_v134 : Ref sig .tc := ⟨.hbm, 180, rfl⟩
abbrev main_v135 : Ref sig .tc := ⟨.hbm, 181, rfl⟩
abbrev main_v136 : Ref sig .tc := ⟨.hbm, 182, rfl⟩
abbrev main_v137 : Ref sig .tc := ⟨.hbm, 183, rfl⟩
abbrev main_v138 : Ref sig .tc := ⟨.hbm, 184, rfl⟩
abbrev main_v139 : Ref sig .tc := ⟨.hbm, 185, rfl⟩
abbrev main_v140 : Ref sig .tc := ⟨.hbm, 186, rfl⟩
abbrev main_v141 : Ref sig .tc := ⟨.hbm, 187, rfl⟩
abbrev main_v142 : Ref sig .tc := ⟨.hbm, 188, rfl⟩
abbrev main_v143 : Ref sig .tc := ⟨.hbm, 189, rfl⟩
abbrev main_v144 : Ref sig .tc := ⟨.hbm, 190, rfl⟩
abbrev main_v145 : Ref sig .tc := ⟨.hbm, 191, rfl⟩
abbrev main_v146 : Ref sig .tc := ⟨.hbm, 192, rfl⟩
abbrev main_v147 : Ref sig .tc := ⟨.hbm, 193, rfl⟩
abbrev main_v148 : Ref sig .tc := ⟨.hbm, 194, rfl⟩
abbrev main_v149 : Ref sig .tc := ⟨.hbm, 195, rfl⟩
abbrev main_v150 : Ref sig .tc := ⟨.hbm, 196, rfl⟩
abbrev main_v151 : Ref sig .tc := ⟨.hbm, 197, rfl⟩
abbrev main_v152 : Ref sig .tc := ⟨.hbm, 198, rfl⟩
abbrev main_v153 : Ref sig .tc := ⟨.hbm, 199, rfl⟩
abbrev main_v154 : Ref sig .tc := ⟨.hbm, 200, rfl⟩
abbrev main_v155 : Ref sig .tc := ⟨.hbm, 201, rfl⟩
abbrev main_v156 : Ref sig .tc := ⟨.hbm, 202, rfl⟩
abbrev main_v157 : Ref sig .tc := ⟨.hbm, 203, rfl⟩
abbrev main_v158 : Ref sig .tc := ⟨.hbm, 204, rfl⟩
abbrev main_v159 : Ref sig .tc := ⟨.hbm, 205, rfl⟩
abbrev main_v160 : Ref sig .tc := ⟨.hbm, 206, rfl⟩
abbrev main_v161 : Ref sig .tc := ⟨.hbm, 207, rfl⟩
abbrev main_v162 : Ref sig .tc := ⟨.hbm, 208, rfl⟩
abbrev main_v163 : Ref sig .tc := ⟨.hbm, 209, rfl⟩
abbrev main_v164 : Ref sig .tc := ⟨.hbm, 210, rfl⟩
abbrev main_v165 : Ref sig .tc := ⟨.hbm, 211, rfl⟩
abbrev main_v166 : Ref sig .tc := ⟨.hbm, 212, rfl⟩
abbrev main_v167 : Ref sig .tc := ⟨.hbm, 213, rfl⟩
abbrev main_v168 : Ref sig .tc := ⟨.hbm, 214, rfl⟩
abbrev main_v169 : Ref sig .tc := ⟨.hbm, 215, rfl⟩
abbrev main_v170 : Ref sig .tc := ⟨.hbm, 216, rfl⟩
abbrev main_v171 : Ref sig .tc := ⟨.hbm, 217, rfl⟩
abbrev main_v172 : Ref sig .tc := ⟨.hbm, 218, rfl⟩
abbrev main_v173 : Ref sig .tc := ⟨.hbm, 219, rfl⟩
abbrev main_v174 : Ref sig .tc := ⟨.hbm, 220, rfl⟩
abbrev main_v175 : Ref sig .tc := ⟨.hbm, 221, rfl⟩
abbrev main_v176 : Ref sig .tc := ⟨.hbm, 222, rfl⟩
abbrev main_v177 : Ref sig .tc := ⟨.hbm, 223, rfl⟩
abbrev main_v178 : Ref sig .tc := ⟨.hbm, 224, rfl⟩
abbrev main_v179 : Ref sig .tc := ⟨.hbm, 225, rfl⟩
abbrev main_v180 : Ref sig .tc := ⟨.hbm, 226, rfl⟩
abbrev main_v181 : Ref sig .tc := ⟨.hbm, 227, rfl⟩
abbrev main_v182 : Ref sig .tc := ⟨.hbm, 228, rfl⟩
abbrev main_v183 : Ref sig .tc := ⟨.hbm, 229, rfl⟩
abbrev main_v184 : Ref sig .tc := ⟨.hbm, 230, rfl⟩
abbrev main_v185 : Ref sig .tc := ⟨.hbm, 231, rfl⟩
abbrev main_v186 : Ref sig .tc := ⟨.hbm, 232, rfl⟩
abbrev main_v187 : Ref sig .tc := ⟨.hbm, 233, rfl⟩
abbrev main_v188 : Ref sig .tc := ⟨.hbm, 234, rfl⟩
abbrev main_v189 : Ref sig .tc := ⟨.hbm, 235, rfl⟩
abbrev main_v190 : Ref sig .tc := ⟨.hbm, 236, rfl⟩
abbrev main_v191 : Ref sig .tc := ⟨.hbm, 237, rfl⟩
abbrev main_v192 : Ref sig .tc := ⟨.hbm, 238, rfl⟩
abbrev main_v193 : Ref sig .tc := ⟨.hbm, 239, rfl⟩
abbrev main_v194 : Ref sig .tc := ⟨.hbm, 240, rfl⟩
abbrev main_v195 : Ref sig .tc := ⟨.hbm, 241, rfl⟩
abbrev main_v196 : Ref sig .tc := ⟨.hbm, 242, rfl⟩
abbrev main_v197 : Ref sig .tc := ⟨.hbm, 243, rfl⟩
abbrev main_v198 : Ref sig .tc := ⟨.hbm, 244, rfl⟩
abbrev main_v199 : Ref sig .tc := ⟨.hbm, 245, rfl⟩
abbrev main_v200 : Ref sig .tc := ⟨.hbm, 246, rfl⟩
abbrev main_v201 : Ref sig .tc := ⟨.hbm, 247, rfl⟩
abbrev main_v202 : Ref sig .tc := ⟨.hbm, 248, rfl⟩
abbrev main_v203 : Ref sig .tc := ⟨.hbm, 249, rfl⟩
abbrev main_v204 : Ref sig .tc := ⟨.hbm, 250, rfl⟩
abbrev main_v205 : Ref sig .tc := ⟨.hbm, 251, rfl⟩
abbrev main_v206 : Ref sig .tc := ⟨.hbm, 252, rfl⟩
abbrev main_v207 : Ref sig .tc := ⟨.hbm, 253, rfl⟩
abbrev main_v208 : Ref sig .tc := ⟨.hbm, 254, rfl⟩
abbrev main_v209 : Ref sig .tc := ⟨.hbm, 255, rfl⟩
abbrev main_v210 : Ref sig .tc := ⟨.hbm, 256, rfl⟩
abbrev main_v211 : Ref sig .tc := ⟨.hbm, 257, rfl⟩
abbrev main_v212 : Ref sig .tc := ⟨.hbm, 258, rfl⟩
abbrev main_v213 : Ref sig .tc := ⟨.hbm, 259, rfl⟩
abbrev main_v214 : Ref sig .tc := ⟨.hbm, 260, rfl⟩
abbrev main_v215 : Ref sig .tc := ⟨.hbm, 261, rfl⟩
abbrev main_v216 : Ref sig .tc := ⟨.hbm, 262, rfl⟩
abbrev main_v217 : Ref sig .tc := ⟨.hbm, 263, rfl⟩
abbrev main_v218 : Ref sig .tc := ⟨.hbm, 264, rfl⟩
abbrev main_v219 : Ref sig .tc := ⟨.hbm, 265, rfl⟩
abbrev main_v220 : Ref sig .tc := ⟨.hbm, 266, rfl⟩
abbrev main_v221 : Ref sig .tc := ⟨.hbm, 267, rfl⟩
abbrev main_v222 : Ref sig .tc := ⟨.hbm, 268, rfl⟩
abbrev main_v223 : Ref sig .tc := ⟨.hbm, 269, rfl⟩
abbrev main_v224 : Ref sig .tc := ⟨.hbm, 270, rfl⟩
abbrev main_v225 : Ref sig .tc := ⟨.hbm, 271, rfl⟩
abbrev main_v226 : Ref sig .tc := ⟨.hbm, 272, rfl⟩
abbrev main_v227 : Ref sig .tc := ⟨.hbm, 273, rfl⟩
abbrev main_v228 : Ref sig .tc := ⟨.hbm, 274, rfl⟩
abbrev main_v229 : Ref sig .tc := ⟨.hbm, 275, rfl⟩
abbrev main_v230 : Ref sig .tc := ⟨.hbm, 276, rfl⟩
abbrev main_v231 : Ref sig .tc := ⟨.hbm, 277, rfl⟩
abbrev main_v232 : Ref sig .tc := ⟨.hbm, 278, rfl⟩
abbrev main_v233 : Ref sig .tc := ⟨.hbm, 279, rfl⟩
abbrev main_v234 : Ref sig .tc := ⟨.hbm, 280, rfl⟩
abbrev main_v235 : Ref sig .tc := ⟨.hbm, 281, rfl⟩
abbrev main_v236 : Ref sig .tc := ⟨.hbm, 282, rfl⟩
abbrev main_v237 : Ref sig .tc := ⟨.hbm, 283, rfl⟩
abbrev main_v238 : Ref sig .tc := ⟨.hbm, 284, rfl⟩
abbrev main_v239 : Ref sig .tc := ⟨.hbm, 285, rfl⟩
abbrev main_v240 : Ref sig .tc := ⟨.hbm, 286, rfl⟩
abbrev main_v241 : Ref sig .tc := ⟨.hbm, 287, rfl⟩
abbrev main_v242 : Ref sig .tc := ⟨.hbm, 288, rfl⟩
abbrev main_v243 : Ref sig .tc := ⟨.hbm, 289, rfl⟩
abbrev main_v244 : Ref sig .tc := ⟨.hbm, 290, rfl⟩
abbrev main_v245 : Ref sig .tc := ⟨.hbm, 291, rfl⟩
abbrev main_v246 : Ref sig .tc := ⟨.hbm, 292, rfl⟩
abbrev main_v247 : Ref sig .tc := ⟨.hbm, 293, rfl⟩
abbrev main_v248 : Ref sig .tc := ⟨.hbm, 294, rfl⟩
abbrev main_v249 : Ref sig .tc := ⟨.hbm, 295, rfl⟩
abbrev main_v250 : Ref sig .tc := ⟨.hbm, 296, rfl⟩
abbrev main_v251 : Ref sig .tc := ⟨.hbm, 297, rfl⟩
abbrev main_v252 : Ref sig .tc := ⟨.hbm, 298, rfl⟩
abbrev main_v253 : Ref sig .tc := ⟨.hbm, 299, rfl⟩
abbrev main_v254 : Ref sig .tc := ⟨.hbm, 300, rfl⟩
abbrev main_v255 : Ref sig .tc := ⟨.hbm, 301, rfl⟩
abbrev main_v256 : Ref sig .tc := ⟨.hbm, 302, rfl⟩
abbrev main_v257 : Ref sig .tc := ⟨.hbm, 303, rfl⟩
abbrev main_v258 : Ref sig .tc := ⟨.hbm, 304, rfl⟩
abbrev main_v259 : Ref sig .tc := ⟨.hbm, 305, rfl⟩
abbrev main_v260 : Ref sig .tc := ⟨.hbm, 306, rfl⟩
abbrev main_v261 : Ref sig .tc := ⟨.hbm, 307, rfl⟩
abbrev main_v262 : Ref sig .tc := ⟨.hbm, 308, rfl⟩
abbrev main_v263 : Ref sig .tc := ⟨.hbm, 309, rfl⟩
abbrev main_v264 : Ref sig .tc := ⟨.hbm, 310, rfl⟩
abbrev main_v265 : Ref sig .tc := ⟨.hbm, 311, rfl⟩
abbrev main_v266 : Ref sig .tc := ⟨.hbm, 312, rfl⟩
abbrev main_v267 : Ref sig .tc := ⟨.hbm, 313, rfl⟩
abbrev main_v268 : Ref sig .tc := ⟨.hbm, 314, rfl⟩
abbrev main_v269 : Ref sig .tc := ⟨.hbm, 315, rfl⟩
abbrev main_v270 : Ref sig .tc := ⟨.hbm, 316, rfl⟩
abbrev main_v271 : Ref sig .tc := ⟨.hbm, 317, rfl⟩
abbrev main_v272 : Ref sig .tc := ⟨.hbm, 318, rfl⟩
abbrev main_v273 : Ref sig .tc := ⟨.hbm, 319, rfl⟩
abbrev main_v274 : Ref sig .tc := ⟨.hbm, 320, rfl⟩
abbrev main_v275 : Ref sig .tc := ⟨.hbm, 321, rfl⟩

abbrev nD : Nat := 1
abbrev τ : Topo := Topo.v7x

variable {F : FTy → Type} [FloatOps F]
-- ==== Norm.lean ====
abbrev S32768x2048 : Shape := ⟨2, ![32768, 2048]⟩
abbrev S2048 : Shape := ⟨1, ![2048]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩

abbrev nBuf : Space → Nat
  | .hbm => 4
  | .vmem => 5
  | .smem => 0
  | _ => 0

abbrev bufTy : (tb : Table) → Fin (tcTables nBuf tb) → BufTy
  | .hbm, ⟨0, _⟩ => ⟨S32768x2048, .f32⟩
  | .hbm, ⟨1, _⟩ => ⟨S2048, .f32⟩
  | .hbm, ⟨2, _⟩ => ⟨S1x2048, .f32⟩
  | .hbm, ⟨3, _⟩ => ⟨S32768x2048, .bf16⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S512x2048, .bf16⟩
  | .local _ .vmem, ⟨4, _⟩ => ⟨S512x2048, .bf16⟩
  | _, _ => ⟨S32768x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== NormRefIdeal.lean ====
abbrev S32768x2048 : Shape := ⟨2, ![32768, 2048]⟩
abbrev S2048 : Shape := ⟨1, ![2048]⟩
abbrev S_ : Shape := ⟨0, ![]⟩
abbrev S32768 : Shape := ⟨1, ![32768]⟩
abbrev S32768x1 : Shape := ⟨2, ![32768, 1]⟩
abbrev S1x2048 : Shape := ⟨2, ![1, 2048]⟩

abbrev nBuf : Space → Nat
  | .hbm => 19
  | .vmem => 0
  | .smem => 0
  | _ => 0

abbrev bufTy : (tb : Table) → Fin (tcTables nBuf tb) → BufTy
  | .hbm, ⟨0, _⟩ => ⟨S32768x2048, .f32⟩
  | .hbm, ⟨1, _⟩ => ⟨S2048, .f32⟩
  | .hbm, ⟨2, _⟩ => ⟨S32768x2048, .f32⟩
  | .hbm, ⟨3, _⟩ => ⟨S_, .f32⟩
  | .hbm, ⟨4, _⟩ => ⟨S32768, .f32⟩
  | .hbm, ⟨5, _⟩ => ⟨S32768x1, .f32⟩
  | .hbm, ⟨6, _⟩ => ⟨S_, .f32⟩
  | .hbm, ⟨7, _⟩ => ⟨S32768x1, .f32⟩
  | .hbm, ⟨8, _⟩ => ⟨S32768x1, .f32⟩
  | .hbm, ⟨9, _⟩ => ⟨S_, .f32⟩
  | .hbm, ⟨10, _⟩ => ⟨S32768x1, .f32⟩
  | .hbm, ⟨11, _⟩ => ⟨S32768x1, .f32⟩
  | .hbm, ⟨12, _⟩ => ⟨S32768x1, .f32⟩
  | .hbm, ⟨13, _⟩ => ⟨S32768x2048, .f32⟩
  | .hbm, ⟨14, _⟩ => ⟨S32768x2048, .f32⟩
  | .hbm, ⟨15, _⟩ => ⟨S1x2048, .f32⟩
  | .hbm, ⟨16, _⟩ => ⟨S32768x2048, .f32⟩
  | .hbm, ⟨17, _⟩ => ⟨S32768x2048, .f32⟩
  | .hbm, ⟨18, _⟩ => ⟨S32768x2048, .bf16⟩
  | _, _ => ⟨S32768x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== Proof.MixIdealRunA.lean ====
/-
  The run of the three mixers' body (over the extended reals). At this shape a row of tokens is one chunk, so that
  every grid point is at once the first and the last of its sequence, and one run serves all of them.
-/
module

public import proofs.«01_k».proof.Proof.Gen.MixIdeal.Frame.Runs

@[expose] public section

set_option maxRecDepth 16384

noncomputable section

namespace Cert.MixIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 0 in
/-- The run of the mixers' body at one grid point: for each output and each buffer the pieces its stores leave, last one
    first, and the proof that on whole buffers the body ends with the inputs as they were and those pieces written. -/
noncomputable def kernelRun0_A (c : Dev nD) (i : grid0.Coords) (arg2 : Memref sig .tc .vmem S1x16x2560 .f32) (harg2 : arg2.IsWhole) (arg3 : Memref sig .tc .vmem S1x16x768 .f32) (harg3 : arg3.IsWhole) (arg4 : Memref sig .tc .vmem S1x768 .f32) (harg4 : arg4.IsWhole) (arg5 : Memref sig .tc .vmem S768x32 .bf16) (harg5 : arg5.IsWhole) (arg6 : Memref sig .tc .vmem S32x768 .bf16) (harg6 : arg6.IsWhole) (arg7 : Memref sig .tc .vmem S1x2560 .f32) (harg7 : arg7.IsWhole) (arg8 : Memref sig .tc .vmem S1x768 .f32) (harg8 : arg8.IsWhole) (arg9 : Memref sig .tc .vmem S128x768 .bf16) (harg9 : arg9.IsWhole) (arg10 : Memref sig .tc .vmem S1x768 .f32) (harg10 : arg10.IsWhole) (arg11 : Memref sig .tc .vmem S128x768 .bf16) (harg11 : arg11.IsWhole) (arg12 : Memref sig .tc .vmem S128x768 .bf16) (harg12 : arg12.IsWhole) (arg13 : Memref sig .tc .vmem S1x768 .f32) (harg13 : arg13.IsWhole) (arg14 : Memref sig .tc .vmem S1x768 .f32) (harg14 : arg14.IsWhole) (arg15 : Memref sig .tc .vmem S1x768 .f32) (harg15 : arg15.IsWhole) (arg16 : Memref sig .tc .vmem S1x768 .f32) (harg16 : arg16.IsWhole) (arg17 : Memref sig .tc .vmem S1x768 .f32) (harg17 : arg17.IsWhole) (arg18 : Memref sig .tc .vmem S1x1x2560 .f32) (harg18 : arg18.IsWhole) (arg19 : Memref sig .tc .vmem S1x6x128x128 .f32) (harg19 : arg19.IsWhole) (arg20 : Memref sig .tc .vmem S16x32 .bf16) (harg20 : arg20.IsWhole) (arg21 : Memref sig .tc .vmem S16x32 .bf16) (harg21 : arg21.IsWhole) (arg22 : Memref sig .tc .vmem S1x16x3072 .f32) (harg22 : arg22.IsWhole) (arg23 : Memref sig .tc .vmem S1x16x128 .f32) (harg23 : arg23.IsWhole) (arg24 : Memref sig .tc .vmem S4x2304 .f32) (harg24 : arg24.IsWhole) (arg25 : Memref sig .tc .vmem S1x128 .f32) (harg25 : arg25.IsWhole) (arg26 : Memref sig .tc .vmem S1x128 .f32) (harg26 : arg26.IsWhole) (arg27 : Memref sig .tc .vmem S1x128 .f32) (harg27 : arg27.IsWhole) (arg28 : Memref sig .tc .vmem S1x3x2304 .f32) (harg28 : arg28.IsWhole) (arg29 : Memref sig .tc .vmem S1x6x128x128 .f32) (harg29 : arg29.IsWhole) (arg30 : Memref sig .tc .vmem S16x32 .bf16) (harg30 : arg30.IsWhole) (arg31 : Memref sig .tc .vmem S16x128 .bf16) (harg31 : arg31.IsWhole) (arg32 : Memref sig .tc .vmem S16x32 .bf16) (harg32 : arg32.IsWhole) (arg33 : Memref sig .tc .vmem S1x16x1536 .f32) (harg33 : arg33.IsWhole) (arg34 : Memref sig .tc .vmem S1x16x128 .f32) (harg34 : arg34.IsWhole) (arg35 : Memref sig .tc .vmem S128x256 .bf16) (harg35 : arg35.IsWhole) (arg36 : Memref sig .tc .vmem S1x256 .f32) (harg36 : arg36.IsWhole) (arg37 : Memref sig .tc .vmem S1x128 .f32) (harg37 : arg37.IsWhole) (arg38 : Memref sig .tc .vmem S1x2x128x128 .f32) (harg38 : arg38.IsWhole) (arg39 : Memref sig .tc .vmem S160x32 .bf16) (harg39 : arg39.IsWhole) (arg40 : Memref sig .tc .vmem S4x16x16 .f32) (harg40 : arg40.IsWhole) (arg41 : Memref sig .tc .vmem S1x16x768 .bf16) (harg41 : arg41.IsWhole) (arg42 : Memref sig .tc .vmem S1x1x2560 .f32) (harg42 : arg42.IsWhole) (arg43 : Memref sig .tc .vmem S1x6x128x128 .f32) (harg43 : arg43.IsWhole) (arg44 : Memref sig .tc .vmem S1x16x768 .bf16) (harg44 : arg44.IsWhole) (arg45 : Memref sig .tc .vmem S1x3x2304 .f32) (harg45 : arg45.IsWhole) (arg46 : Memref sig .tc .vmem S1x6x128x128 .f32) (harg46 : arg46.IsWhole) (arg47 : Memref sig .tc .vmem S1x16x512 .bf16) (harg47 : arg47.IsWhole) (arg48 : Memref sig .tc .vmem S1x2x128x128 .f32) (harg48 : arg48.IsWhole) (arg49 : Memref sig .tc .vmem S24x2560 .f32) (harg49 : arg49.IsWhole) (arg50 : Memref sig .tc .vmem S6x128x128 .f32) (harg50 : arg50.IsWhole) (arg51 : Memref sig .tc .vmem S24x2304 .f32) (harg51 : arg51.IsWhole) (arg52 : Memref sig .tc .vmem S6x128x128 .f32) (harg52 : arg52.IsWhole) (arg53 : Memref sig .tc .vmem S2x128x128 .f32) (harg53 : arg53.IsWhole) (hc0 : cond0_0 i) (hc1 : cond0_1 i) (hc2 : cond0_2 i) (hc3 : cond0_3 i) (hc4 : cond0_4 i) (hc5 : cond0_5 i) (hc6 : cond0_6 i) (hc7 : cond0_7 i)
    (x0 : Vec F S1x16x2560 .f32) (x1 : Vec F S1x16x768 .f32) (x2 : Vec F S1x768 .f32) (x3 : Vec F S768x32 .bf16) (x4 : Vec F S32x768 .bf16) (x5 : Vec F S1x2560 .f32) (x6 : Vec F S1x768 .f32) (x7 : Vec F S128x768 .bf16) (x8 : Vec F S1x768 .f32) (x9 : Vec F S128x768 .bf16) (x10 : Vec F S128x768 .bf16) (x11 : Vec F S1x768 .f32) (x12 : Vec F S1x768 .f32) (x13 : Vec F S1x768 .f32) (x14 : Vec F S1x768 .f32) (x15 : Vec F S1x768 .f32) (x16 : Vec F S1x1x2560 .f32) (x17 : Vec F S1x6x128x128 .f32) (x18 : Vec F S16x32 .bf16) (x19 : Vec F S16x32 .bf16) (x20 : Vec F S1x16x3072 .f32) (x21 : Vec F S1x16x128 .f32) (x22 : Vec F S4x2304 .f32) (x23 : Vec F S1x128 .f32) (x24 : Vec F S1x128 .f32) (x25 : Vec F S1x128 .f32) (x26 : Vec F S1x3x2304 .f32) (x27 : Vec F S1x6x128x128 .f32) (x28 : Vec F S16x32 .bf16) (x29 : Vec F S16x128 .bf16) (x30 : Vec F S16x32 .bf16) (x31 : Vec F S1x16x1536 .f32) (x32 : Vec F S1x16x128 .f32) (x33 : Vec F S128x256 .bf16) (x34 : Vec F S1x256 .f32) (x35 : Vec F S1x128 .f32) (x36 : Vec F S1x2x128x128 .f32) (x37 : Vec F S160x32 .bf16) (x38 : Vec F S4x16x16 .f32) :
    Σ' (L39 : List (View.Piece (Elt F) S1x16x768 .bf16)), Σ' (L40 : List (View.Piece (Elt F) S1x1x2560 .f32)), Σ' (L41 : List (View.Piece (Elt F) S1x6x128x128 .f32)), Σ' (L42 : List (View.Piece (Elt F) S1x16x768 .bf16)), Σ' (L43 : List (View.Piece (Elt F) S1x3x2304 .f32)), Σ' (L44 : List (View.Piece (Elt F) S1x6x128x128 .f32)), Σ' (L45 : List (View.Piece (Elt F) S1x16x512 .bf16)), Σ' (L46 : List (View.Piece (Elt F) S1x2x128x128 .f32)), Σ' (LT0 : List (View.Piece (Elt F) S24x2560 .f32)), Σ' (LT1 : List (View.Piece (Elt F) S6x128x128 .f32)), Σ' (LT2 : List (View.Piece (Elt F) S24x2304 .f32)), Σ' (LT3 : List (View.Piece (Elt F) S6x128x128 .f32)), { LT4 : List (View.Piece (Elt F) S2x128x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15 ∗ owns (c : Thread nD τ) arg18 fullShare x16 ∗ owns (c : Thread nD τ) arg19 fullShare x17 ∗ owns (c : Thread nD τ) arg20 fullShare x18 ∗ owns (c : Thread nD τ) arg21 fullShare x19 ∗ owns (c : Thread nD τ) arg22 fullShare x20 ∗ owns (c : Thread nD τ) arg23 fullShare x21 ∗ owns (c : Thread nD τ) arg24 fullShare x22 ∗ owns (c : Thread nD τ) arg25 fullShare x23 ∗ owns (c : Thread nD τ) arg26 fullShare x24 ∗ owns (c : Thread nD τ) arg27 fullShare x25 ∗ owns (c : Thread nD τ) arg28 fullShare x26 ∗ owns (c : Thread nD τ) arg29 fullShare x27 ∗ owns (c : Thread nD τ) arg30 fullShare x28 ∗ owns (c : Thread nD τ) arg31 fullShare x29 ∗ owns (c : Thread nD τ) arg32 fullShare x30 ∗ owns (c : Thread nD τ) arg33 fullShare x31 ∗ owns (c : Thread nD τ) arg34 fullShare x32 ∗ owns (c : Thread nD τ) arg35 fullShare x33 ∗ owns (c : Thread nD τ) arg36 fullShare x34 ∗ owns (c : Thread nD τ) arg37 fullShare x35 ∗ owns (c : Thread nD τ) arg38 fullShare x36 ∗ owns (c : Thread nD τ) arg39 fullShare x37 ∗ owns (c : Thread nD τ) arg40 fullShare x38 ∗ (∃ d, owns (c : Thread nD τ) arg41 fullShare d) ∗ (∃ d, owns (c : Thread nD τ) arg42 fullShare d) ∗ (∃ d, owns (c : Thread nD τ) arg43 fullShare d) ∗ (∃ d, owns (c : Thread nD τ) arg44 fullShare d) ∗ (∃ d, owns (c : Thread nD τ) arg45 fullShare d) ∗ (∃ d, owns (c : Thread nD τ) arg46 fullShare d) ∗ (∃ d, owns (c : Thread nD τ) arg47 fullShare d) ∗ (∃ d, owns (c : Thread nD τ) arg48 fullShare d) ∗ (∃ d, owns (c : Thread nD τ) arg49 fullShare d) ∗ (∃ d, owns (c : Thread nD τ) arg50 fullShare d) ∗ (∃ d, owns (c : Thread nD τ) arg51 fullShare d) ∗ (∃ d, owns (c : Thread nD τ) arg52 fullShare d) ∗ (∃ d, owns (c : Thread nD τ) arg53 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15 ∗ owns (c : Thread nD τ) arg18 fullShare x16 ∗ owns (c : Thread nD τ) arg19 fullShare x17 ∗ owns (c : Thread nD τ) arg20 fullShare x18 ∗ owns (c : Thread nD τ) arg21 fullShare x19 ∗ owns (c : Thread nD τ) arg22 fullShare x20 ∗ owns (c : Thread nD τ) arg23 fullShare x21 ∗ owns (c : Thread nD τ) arg24 fullShare x22 ∗ owns (c : Thread nD τ) arg25 fullShare x23 ∗ owns (c : Thread nD τ) arg26 fullShare x24 ∗ owns (c : Thread nD τ) arg27 fullShare x25 ∗ owns (c : Thread nD τ) arg28 fullShare x26 ∗ owns (c : Thread nD τ) arg29 fullShare x27 ∗ owns (c : Thread nD τ) arg30 fullShare x28 ∗ owns (c : Thread nD τ) arg31 fullShare x29 ∗ owns (c : Thread nD τ) arg32 fullShare x30 ∗ owns (c : Thread nD τ) arg33 fullShare x31 ∗ owns (c : Thread nD τ) arg34 fullShare x32 ∗ owns (c : Thread nD τ) arg35 fullShare x33 ∗ owns (c : Thread nD τ) arg36 fullShare x34 ∗ owns (c : Thread nD τ) arg37 fullShare x35 ∗ owns (c : Thread nD τ) arg38 fullShare x36 ∗ owns (c : Thread nD τ) arg39 fullShare x37 ∗ owns (c : Thread nD τ) arg40 fullShare x38 ∗ (∃ f, arg41.view.loc (c : Thread nD τ) ↦[arg41.view.set]{fullShare} arg41.view.writes (Elt F) f L39) ∗ (∃ f, arg42.view.loc (c : Thread nD τ) ↦[arg42.view.set]{fullShare} arg42.view.writes (Elt F) f L40) ∗ (∃ f, arg43.view.loc (c : Thread nD τ) ↦[arg43.view.set]{fullShare} arg43.view.writes (Elt F) f L41) ∗ (∃ f, arg44.view.loc (c : Thread nD τ) ↦[arg44.view.set]{fullShare} arg44.view.writes (Elt F) f L42) ∗ (∃ f, arg45.view.loc (c : Thread nD τ) ↦[arg45.view.set]{fullShare} arg45.view.writes (Elt F) f L43) ∗ (∃ f, arg46.view.loc (c : Thread nD τ) ↦[arg46.view.set]{fullShare} arg46.view.writes (Elt F) f L44) ∗ (∃ f, arg47.view.loc (c : Thread nD τ) ↦[arg47.view.set]{fullShare} arg47.view.writes (Elt F) f L45) ∗ (∃ f, arg48.view.loc (c : Thread nD τ) ↦[arg48.view.set]{fullShare} arg48.view.writes (Elt F) f L46) ∗ (∃ f, arg49.view.loc (c : Thread nD τ) ↦[arg49.view.set]{fullShare} arg49.view.writes (Elt F) f LT0) ∗ (∃ f, arg50.view.loc (c : Thread nD τ) ↦[arg50.view.set]{fullShare} arg50.view.writes (Elt F) f LT1) ∗ (∃ f, arg51.view.loc (c : Thread nD τ) ↦[arg51.view.set]{fullShare} arg51.view.writes (Elt F) f LT2) ∗ (∃ f, arg52.view.loc (c : Thread nD τ) ↦[arg52.view.set]{fullShare} arg52.view.writes (Elt F) f LT3) ∗ (∃ f, arg53.view.loc (c : Thread nD τ) ↦[arg53.view.set]{fullShare} arg53.view.writes (Elt F) f LT4)) -∗ K ⟨⟩))
          ⊢ wp frame (wpE (defs₀ (F := F)) Variants.none c none) E (cc0_mixers i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 arg43 harg43 arg44 harg44 arg45 harg45 arg46 harg46 arg47 harg47 arg48 harg48 arg49 harg49 arg50 harg50 arg51 harg51 arg52 harg52 arg53 harg53) K } := by
  refine ⟨?_, ?_, ?_, ?_, ?_, ?_, ?_, ?_, ?_, ?_, ?_, ?_, ?_, fun E K => ?run⟩
  case run =>
    simp only [cc0_mixers_eq_skeleton]; unfold cc0_mixers_skel
    simp only [k0_part84_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%f22, %hf22, H22⟩, ⟨%f23, %hf23, H23⟩, ⟨%f24, %hf24, H24⟩, ⟨%f25, %hf25, H25⟩, ⟨%f26, %hf26, H26⟩, ⟨%f27, %hf27, H27⟩, ⟨%f28, %hf28, H28⟩, ⟨%f29, %hf29, H29⟩, ⟨%f30, %hf30, H30⟩, ⟨%f31, %hf31, H31⟩, ⟨%f32, %hf32, H32⟩, ⟨%f33, %hf33, H33⟩, ⟨%f34, %hf34, H34⟩, ⟨%f35, %hf35, H35⟩, ⟨%f36, %hf36, H36⟩, ⟨%f37, %hf37, H37⟩, ⟨%f38, %hf38, H38⟩, ⟨%d39, %f39, -, H39⟩, ⟨%d40, %f40, -, H40⟩, ⟨%d41, %f41, -, H41⟩, ⟨%d42, %f42, -, H42⟩, ⟨%d43, %f43, -, H43⟩, ⟨%d44, %f44, -, H44⟩, ⟨%d45, %f45, -, H45⟩, ⟨%d46, %f46, -, H46⟩, ⟨%ds0, %fs0, -, HS0⟩, ⟨%ds1, %fs1, -, HS1⟩, ⟨%ds2, %fs2, -, HS2⟩, ⟨%ds3, %fs3, -, HS3⟩, ⟨%ds4, %fs4, -, HS4⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg15.eq_unread hf13; obtain rfl := harg16.eq_unread hf14; obtain rfl := harg17.eq_unread hf15; obtain rfl := harg18.eq_unread hf16; obtain rfl := harg19.eq_unread hf17; obtain rfl := harg20.eq_unread hf18; obtain rfl := harg21.eq_unread hf19; obtain rfl := harg22.eq_unread hf20; obtain rfl := harg23.eq_unread hf21; obtain rfl := harg24.eq_unread hf22; obtain rfl := harg25.eq_unread hf23; obtain rfl := harg26.eq_unread hf24; obtain rfl := harg27.eq_unread hf25; obtain rfl := harg28.eq_unread hf26; obtain rfl := harg29.eq_unread hf27; obtain rfl := harg30.eq_unread hf28; obtain rfl := harg31.eq_unread hf29; obtain rfl := harg32.eq_unread hf30; obtain rfl := harg33.eq_unread hf31; obtain rfl := harg34.eq_unread hf32; obtain rfl := harg35.eq_unread hf33; obtain rfl := harg36.eq_unread hf34; obtain rfl := harg37.eq_unread hf35; obtain rfl := harg38.eq_unread hf36; obtain rfl := harg39.eq_unread hf37; obtain rfl := harg40.eq_unread hf38
    sl_exec (disch := first | sl_exact hc0 | sl_exact hc1 | sl_exact hc2 | sl_exact hc3 | sl_exact hc4 | sl_exact hc5 | sl_exact hc6 | sl_exact hc7)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [H12]
    · iexists _; isplitr; · ipureintro; exact harg14.read_unread _
      iexact H12
    isplitl [H13]
    · iexists _; isplitr; · ipureintro; exact harg15.read_unread _
      iexact H13
    isplitl [H14]
    · iexists _; isplitr; · ipureintro; exact harg16.read_unread _
      iexact H14
    isplitl [H15]
    · iexists _; isplitr; · ipureintro; exact harg17.read_unread _
      iexact H15
    isplitl [H16]
    · iexists _; isplitr; · ipureintro; exact harg18.read_unread _
      iexact H16
    isplitl [H17]
    · iexists _; isplitr; · ipureintro; exact harg19.read_unread _
      iexact H17
    isplitl [H18]
    · iexists _; isplitr; · ipureintro; exact harg20.read_unread _
      iexact H18
    isplitl [H19]
    · iexists _; isplitr; · ipureintro; exact harg21.read_unread _
      iexact H19
    isplitl [H20]
    · iexists _; isplitr; · ipureintro; exact harg22.read_unread _
      iexact H20
    isplitl [H21]
    · iexists _; isplitr; · ipureintro; exact harg23.read_unread _
      iexact H21
    isplitl [H22]
    · iexists _; isplitr; · ipureintro; exact harg24.read_unread _
      iexact H22
    isplitl [H23]
    · iexists _; isplitr; · ipureintro; exact harg25.read_unread _
      iexact H23
    isplitl [H24]
    · iexists _; isplitr; · ipureintro; exact harg26.read_unread _
      iexact H24
    isplitl [H25]
    · iexists _; isplitr; · ipureintro; exact harg27.read_unread _
      iexact H25
    isplitl [H26]
    · iexists _; isplitr; · ipureintro; exact harg28.read_unread _
      iexact H26
    isplitl [H27]
    · iexists _; isplitr; · ipureintro; exact harg29.read_unread _
      iexact H27
    isplitl [H28]
    · iexists _; isplitr; · ipureintro; exact harg30.read_unread _
      iexact H28
    isplitl [H29]
    · iexists _; isplitr; · ipureintro; exact harg31.read_unread _
      iexact H29
    isplitl [H30]
    · iexists _; isplitr; · ipureintro; exact harg32.read_unread _
      iexact H30
    isplitl [H31]
    · iexists _; isplitr; · ipureintro; exact harg33.read_unread _
      iexact H31
    isplitl [H32]
    · iexists _; isplitr; · ipureintro; exact harg34.read_unread _
      iexact H32
    isplitl [H33]
    · iexists _; isplitr; · ipureintro; exact harg35.read_unread _
      iexact H33
    isplitl [H34]
    · iexists _; isplitr; · ipureintro; exact harg36.read_unread _
      iexact H34
    isplitl [H35]
    · iexists _; isplitr; · ipureintro; exact harg37.read_unread _
      iexact H35
    isplitl [H36]
    · iexists _; isplitr; · ipureintro; exact harg38.read_unread _
      iexact H36
    isplitl [H37]
    · iexists _; isplitr; · ipureintro; exact harg39.read_unread _
      iexact H37
    isplitl [H38]
    · iexists _; isplitr; · ipureintro; exact harg40.read_unread _
      iexact H38
    isplitl [H39]; · iexists _; iexact H39
    isplitl [H40]; · iexists _; iexact H40
    isplitl [H41]; · iexists _; iexact H41
    isplitl [H42]; · iexists _; iexact H42
    isplitl [H43]; · iexists _; iexact H43
    isplitl [H44]; · iexists _; iexact H44
    isplitl [H45]; · iexists _; iexact H45
    isplitl [H46]; · iexists _; iexact H46
    isplitl [HS0]; · iexists _; iexact HS0
    isplitl [HS1]; · iexists _; iexact HS1
    isplitl [HS2]; · iexists _; iexact HS2
    isplitl [HS3]; · iexists _; iexact HS3
    iexists _; iexact HS4

end Cert.MixIdeal.Gen

end
-- ==== Proof.MixIdealFrame.lean ====
/-
  The frame of the mixers' call over the extended reals: it runs to its end, leaves its arguments as they were and every
  counter at zero; and what it leaves in the outputs that the value claim speaks of.
-/
module

public import proofs.«01_k».proof.Proof.MixIdealRunA
public import Idealize.ShloMosaic.Lib.Claim

@[expose] public section

set_option maxRecDepth 16384

noncomputable section

namespace Cert.MixIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- The stores of the run cover the whole block of this output. -/
theorem cover0_A_40 (c : Dev nD) (i : grid0.Coords) (arg2 : Memref sig .tc .vmem S1x16x2560 .f32) (harg2 : arg2.IsWhole) (arg3 : Memref sig .tc .vmem S1x16x768 .f32) (harg3 : arg3.IsWhole) (arg4 : Memref sig .tc .vmem S1x768 .f32) (harg4 : arg4.IsWhole) (arg5 : Memref sig .tc .vmem S768x32 .bf16) (harg5 : arg5.IsWhole) (arg6 : Memref sig .tc .vmem S32x768 .bf16) (harg6 : arg6.IsWhole) (arg7 : Memref sig .tc .vmem S1x2560 .f32) (harg7 : arg7.IsWhole) (arg8 : Memref sig .tc .vmem S1x768 .f32) (harg8 : arg8.IsWhole) (arg9 : Memref sig .tc .vmem S128x768 .bf16) (harg9 : arg9.IsWhole) (arg10 : Memref sig .tc .vmem S1x768 .f32) (harg10 : arg10.IsWhole) (arg11 : Memref sig .tc .vmem S128x768 .bf16) (harg11 : arg11.IsWhole) (arg12 : Memref sig .tc .vmem S128x768 .bf16) (harg12 : arg12.IsWhole) (arg13 : Memref sig .tc .vmem S1x768 .f32) (harg13 : arg13.IsWhole) (arg14 : Memref sig .tc .vmem S1x768 .f32) (harg14 : arg14.IsWhole) (arg15 : Memref sig .tc .vmem S1x768 .f32) (harg15 : arg15.IsWhole) (arg16 : Memref sig .tc .vmem S1x768 .f32) (harg16 : arg16.IsWhole) (arg17 : Memref sig .tc .vmem S1x768 .f32) (harg17 : arg17.IsWhole) (arg18 : Memref sig .tc .vmem S1x1x2560 .f32) (harg18 : arg18.IsWhole) (arg19 : Memref sig .tc .vmem S1x6x128x128 .f32) (harg19 : arg19.IsWhole) (arg20 : Memref sig .tc .vmem S16x32 .bf16) (harg20 : arg20.IsWhole) (arg21 : Memref sig .tc .vmem S16x32 .bf16) (harg21 : arg21.IsWhole) (arg22 : Memref sig .tc .vmem S1x16x3072 .f32) (harg22 : arg22.IsWhole) (arg23 : Memref sig .tc .vmem S1x16x128 .f32) (harg23 : arg23.IsWhole) (arg24 : Memref sig .tc .vmem S4x2304 .f32) (harg24 : arg24.IsWhole) (arg25 : Memref sig .tc .vmem S1x128 .f32) (harg25 : arg25.IsWhole) (arg26 : Memref sig .tc .vmem S1x128 .f32) (harg26 : arg26.IsWhole) (arg27 : Memref sig .tc .vmem S1x128 .f32) (harg27 : arg27.IsWhole) (arg28 : Memref sig .tc .vmem S1x3x2304 .f32) (harg28 : arg28.IsWhole) (arg29 : Memref sig .tc .vmem S1x6x128x128 .f32) (harg29 : arg29.IsWhole) (arg30 : Memref sig .tc .vmem S16x32 .bf16) (harg30 : arg30.IsWhole) (arg31 : Memref sig .tc .vmem S16x128 .bf16) (harg31 : arg31.IsWhole) (arg32 : Memref sig .tc .vmem S16x32 .bf16) (harg32 : arg32.IsWhole) (arg33 : Memref sig .tc .vmem S1x16x1536 .f32) (harg33 : arg33.IsWhole) (arg34 : Memref sig .tc .vmem S1x16x128 .f32) (harg34 : arg34.IsWhole) (arg35 : Memref sig .tc .vmem S128x256 .bf16) (harg35 : arg35.IsWhole) (arg36 : Memref sig .tc .vmem S1x256 .f32) (harg36 : arg36.IsWhole) (arg37 : Memref sig .tc .vmem S1x128 .f32) (harg37 : arg37.IsWhole) (arg38 : Memref sig .tc .vmem S1x2x128x128 .f32) (harg38 : arg38.IsWhole) (arg39 : Memref sig .tc .vmem S160x32 .bf16) (harg39 : arg39.IsWhole) (arg40 : Memref sig .tc .vmem S4x16x16 .f32) (harg40 : arg40.IsWhole) (arg41 : Memref sig .tc .vmem S1x16x768 .bf16) (harg41 : arg41.IsWhole) (arg42 : Memref sig .tc .vmem S1x1x2560 .f32) (harg42 : arg42.IsWhole) (arg43 : Memref sig .tc .vmem S1x6x128x128 .f32) (harg43 : arg43.IsWhole) (arg44 : Memref sig .tc .vmem S1x16x768 .bf16) (harg44 : arg44.IsWhole) (arg45 : Memref sig .tc .vmem S1x3x2304 .f32) (harg45 : arg45.IsWhole) (arg46 : Memref sig .tc .vmem S1x6x128x128 .f32) (harg46 : arg46.IsWhole) (arg47 : Memref sig .tc .vmem S1x16x512 .bf16) (harg47 : arg47.IsWhole) (arg48 : Memref sig .tc .vmem S1x2x128x128 .f32) (harg48 : arg48.IsWhole) (arg49 : Memref sig .tc .vmem S24x2560 .f32) (harg49 : arg49.IsWhole) (arg50 : Memref sig .tc .vmem S6x128x128 .f32) (harg50 : arg50.IsWhole) (arg51 : Memref sig .tc .vmem S24x2304 .f32) (harg51 : arg51.IsWhole) (arg52 : Memref sig .tc .vmem S6x128x128 .f32) (harg52 : arg52.IsWhole) (arg53 : Memref sig .tc .vmem S2x128x128 .f32) (harg53 : arg53.IsWhole) (hc0 : cond0_0 i) (hc1 : cond0_1 i) (hc2 : cond0_2 i) (hc3 : cond0_3 i) (hc4 : cond0_4 i) (hc5 : cond0_5 i) (hc6 : cond0_6 i) (hc7 : cond0_7 i)
    (x0 : Vec F S1x16x2560 .f32) (x1 : Vec F S1x16x768 .f32) (x2 : Vec F S1x768 .f32) (x3 : Vec F S768x32 .bf16) (x4 : Vec F S32x768 .bf16) (x5 : Vec F S1x2560 .f32) (x6 : Vec F S1x768 .f32) (x7 : Vec F S128x768 .bf16) (x8 : Vec F S1x768 .f32) (x9 : Vec F S128x768 .bf16) (x10 : Vec F S128x768 .bf16) (x11 : Vec F S1x768 .f32) (x12 : Vec F S1x768 .f32) (x13 : Vec F S1x768 .f32) (x14 : Vec F S1x768 .f32) (x15 : Vec F S1x768 .f32) (x16 : Vec F S1x1x2560 .f32) (x17 : Vec F S1x6x128x128 .f32) (x18 : Vec F S16x32 .bf16) (x19 : Vec F S16x32 .bf16) (x20 : Vec F S1x16x3072 .f32) (x21 : Vec F S1x16x128 .f32) (x22 : Vec F S4x2304 .f32) (x23 : Vec F S1x128 .f32) (x24 : Vec F S1x128 .f32) (x25 : Vec F S1x128 .f32) (x26 : Vec F S1x3x2304 .f32) (x27 : Vec F S1x6x128x128 .f32) (x28 : Vec F S16x32 .bf16) (x29 : Vec F S16x128 .bf16) (x30 : Vec F S16x32 .bf16) (x31 : Vec F S1x16x1536 .f32) (x32 : Vec F S1x16x128 .f32) (x33 : Vec F S128x256 .bf16) (x34 : Vec F S1x256 .f32) (x35 : Vec F S1x128 .f32) (x36 : Vec F S1x2x128x128 .f32) (x37 : Vec F S160x32 .bf16) (x38 : Vec F S4x16x16 .f32) (y : S1x1x2560.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 arg43 harg43 arg44 harg44 arg45 harg45 arg46 harg46 arg47 harg47 arg48 harg48 arg49 harg49 arg50 harg50 arg51 harg51 arg52 harg52 arg53 harg53 hc0 hc1 hc2 hc3 hc4 hc5 hc6 hc7 x0 x1 x2 x3 x4 x5 x6 x7 x8 x9 x10 x11 x12 x13 x14 x15 x16 x17 x18 x19 x20 x21 x22 x23 x24 x25 x26 x27 x28 x29 x30 x31 x32 x33 x34 x35 x36 x37 x38).2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 arg43 harg43 arg44 harg44 arg45 harg45 arg46 harg46 arg47 harg47 arg48 harg48 arg49 harg49 arg50 harg50 arg51 harg51 arg52 harg52 arg53 harg53 hc0 hc1 hc2 hc3 hc4 hc5 hc6 hc7 x0 x1 x2 x3 x4 x5 x6 x7 x8 x9 x10 x11 x12 x13 x14 x15 x16 x17 x18 x19 x20 x21 x22 x23 x24 x25 x26 x27 x28 x29 x30 x31 x32 x33 x34 x35 x36 x37 x38).2.1 S1x1x2560.size (by sl_kernel_rfl) y

/-- What the run leaves in the block of this output. -/
def out0_A_40 (c : Dev nD) (i : grid0.Coords) (arg2 : Memref sig .tc .vmem S1x16x2560 .f32) (harg2 : arg2.IsWhole) (arg3 : Memref sig .tc .vmem S1x16x768 .f32) (harg3 : arg3.IsWhole) (arg4 : Memref sig .tc .vmem S1x768 .f32) (harg4 : arg4.IsWhole) (arg5 : Memref sig .tc .vmem S768x32 .bf16) (harg5 : arg5.IsWhole) (arg6 : Memref sig .tc .vmem S32x768 .bf16) (harg6 : arg6.IsWhole) (arg7 : Memref sig .tc .vmem S1x2560 .f32) (harg7 : arg7.IsWhole) (arg8 : Memref sig .tc .vmem S1x768 .f32) (harg8 : arg8.IsWhole) (arg9 : Memref sig .tc .vmem S128x768 .bf16) (harg9 : arg9.IsWhole) (arg10 : Memref sig .tc .vmem S1x768 .f32) (harg10 : arg10.IsWhole) (arg11 : Memref sig .tc .vmem S128x768 .bf16) (harg11 : arg11.IsWhole) (arg12 : Memref sig .tc .vmem S128x768 .bf16) (harg12 : arg12.IsWhole) (arg13 : Memref sig .tc .vmem S1x768 .f32) (harg13 : arg13.IsWhole) (arg14 : Memref sig .tc .vmem S1x768 .f32) (harg14 : arg14.IsWhole) (arg15 : Memref sig .tc .vmem S1x768 .f32) (harg15 : arg15.IsWhole) (arg16 : Memref sig .tc .vmem S1x768 .f32) (harg16 : arg16.IsWhole) (arg17 : Memref sig .tc .vmem S1x768 .f32) (harg17 : arg17.IsWhole) (arg18 : Memref sig .tc .vmem S1x1x2560 .f32) (harg18 : arg18.IsWhole) (arg19 : Memref sig .tc .vmem S1x6x128x128 .f32) (harg19 : arg19.IsWhole) (arg20 : Memref sig .tc .vmem S16x32 .bf16) (harg20 : arg20.IsWhole) (arg21 : Memref sig .tc .vmem S16x32 .bf16) (harg21 : arg21.IsWhole) (arg22 : Memref sig .tc .vmem S1x16x3072 .f32) (harg22 : arg22.IsWhole) (arg23 : Memref sig .tc .vmem S1x16x128 .f32) (harg23 : arg23.IsWhole) (arg24 : Memref sig .tc .vmem S4x2304 .f32) (harg24 : arg24.IsWhole) (arg25 : Memref sig .tc .vmem S1x128 .f32) (harg25 : arg25.IsWhole) (arg26 : Memref sig .tc .vmem S1x128 .f32) (harg26 : arg26.IsWhole) (arg27 : Memref sig .tc .vmem S1x128 .f32) (harg27 : arg27.IsWhole) (arg28 : Memref sig .tc .vmem S1x3x2304 .f32) (harg28 : arg28.IsWhole) (arg29 : Memref sig .tc .vmem S1x6x128x128 .f32) (harg29 : arg29.IsWhole) (arg30 : Memref sig .tc .vmem S16x32 .bf16) (harg30 : arg30.IsWhole) (arg31 : Memref sig .tc .vmem S16x128 .bf16) (harg31 : arg31.IsWhole) (arg32 : Memref sig .tc .vmem S16x32 .bf16) (harg32 : arg32.IsWhole) (arg33 : Memref sig .tc .vmem S1x16x1536 .f32) (harg33 : arg33.IsWhole) (arg34 : Memref sig .tc .vmem S1x16x128 .f32) (harg34 : arg34.IsWhole) (arg35 : Memref sig .tc .vmem S128x256 .bf16) (harg35 : arg35.IsWhole) (arg36 : Memref sig .tc .vmem S1x256 .f32) (harg36 : arg36.IsWhole) (arg37 : Memref sig .tc .vmem S1x128 .f32) (harg37 : arg37.IsWhole) (arg38 : Memref sig .tc .vmem S1x2x128x128 .f32) (harg38 : arg38.IsWhole) (arg39 : Memref sig .tc .vmem S160x32 .bf16) (harg39 : arg39.IsWhole) (arg40 : Memref sig .tc .vmem S4x16x16 .f32) (harg40 : arg40.IsWhole) (arg41 : Memref sig .tc .vmem S1x16x768 .bf16) (harg41 : arg41.IsWhole) (arg42 : Memref sig .tc .vmem S1x1x2560 .f32) (harg42 : arg42.IsWhole) (arg43 : Memref sig .tc .vmem S1x6x128x128 .f32) (harg43 : arg43.IsWhole) (arg44 : Memref sig .tc .vmem S1x16x768 .bf16) (harg44 : arg44.IsWhole) (arg45 : Memref sig .tc .vmem S1x3x2304 .f32) (harg45 : arg45.IsWhole) (arg46 : Memref sig .tc .vmem S1x6x128x128 .f32) (harg46 : arg46.IsWhole) (arg47 : Memref sig .tc .vmem S1x16x512 .bf16) (harg47 : arg47.IsWhole) (arg48 : Memref sig .tc .vmem S1x2x128x128 .f32) (harg48 : arg48.IsWhole) (arg49 : Memref sig .tc .vmem S24x2560 .f32) (harg49 : arg49.IsWhole) (arg50 : Memref sig .tc .vmem S6x128x128 .f32) (harg50 : arg50.IsWhole) (arg51 : Memref sig .tc .vmem S24x2304 .f32) (harg51 : arg51.IsWhole) (arg52 : Memref sig .tc .vmem S6x128x128 .f32) (harg52 : arg52.IsWhole) (arg53 : Memref sig .tc .vmem S2x128x128 .f32) (harg53 : arg53.IsWhole) (hc0 : cond0_0 i) (hc1 : cond0_1 i) (hc2 : cond0_2 i) (hc3 : cond0_3 i) (hc4 : cond0_4 i) (hc5 : cond0_5 i) (hc6 : cond0_6 i) (hc7 : cond0_7 i)
    (x0 : Vec F S1x16x2560 .f32) (x1 : Vec F S1x16x768 .f32) (x2 : Vec F S1x768 .f32) (x3 : Vec F S768x32 .bf16) (x4 : Vec F S32x768 .bf16) (x5 : Vec F S1x2560 .f32) (x6 : Vec F S1x768 .f32) (x7 : Vec F S128x768 .bf16) (x8 : Vec F S1x768 .f32) (x9 : Vec F S128x768 .bf16) (x10 : Vec F S128x768 .bf16) (x11 : Vec F S1x768 .f32) (x12 : Vec F S1x768 .f32) (x13 : Vec F S1x768 .f32) (x14 : Vec F S1x768 .f32) (x15 : Vec F S1x768 .f32) (x16 : Vec F S1x1x2560 .f32) (x17 : Vec F S1x6x128x128 .f32) (x18 : Vec F S16x32 .bf16) (x19 : Vec F S16x32 .bf16) (x20 : Vec F S1x16x3072 .f32) (x21 : Vec F S1x16x128 .f32) (x22 : Vec F S4x2304 .f32) (x23 : Vec F S1x128 .f32) (x24 : Vec F S1x128 .f32) (x25 : Vec F S1x128 .f32) (x26 : Vec F S1x3x2304 .f32) (x27 : Vec F S1x6x128x128 .f32) (x28 : Vec F S16x32 .bf16) (x29 : Vec F S16x128 .bf16) (x30 : Vec F S16x32 .bf16) (x31 : Vec F S1x16x1536 .f32) (x32 : Vec F S1x16x128 .f32) (x33 : Vec F S128x256 .bf16) (x34 : Vec F S1x256 .f32) (x35 : Vec F S1x128 .f32) (x36 : Vec F S1x2x128x128 .f32) (x37 : Vec F S160x32 .bf16) (x38 : Vec F S4x16x16 .f32) : Vec F S1x1x2560 .f32 :=
  VO0_40.read (Elt F) (VO0_40.writes (Elt F) VO0_40.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 arg43 harg43 arg44 harg44 arg45 harg45 arg46 harg46 arg47 harg47 arg48 harg48 arg49 harg49 arg50 harg50 arg51 harg51 arg52 harg52 arg53 harg53 hc0 hc1 hc2 hc3 hc4 hc5 hc6 hc7 x0 x1 x2 x3 x4 x5 x6 x7 x8 x9 x10 x11 x12 x13 x14 x15 x16 x17 x18 x19 x20 x21 x22 x23 x24 x25 x26 x27 x28 x29 x30 x31 x32 x33 x34 x35 x36 x37 x38).2.1)

/-- The stores of the run cover the whole block of this output. -/
theorem cover0_A_43 (c : Dev nD) (i : grid0.Coords) (arg2 : Memref sig .tc .vmem S1x16x2560 .f32) (harg2 : arg2.IsWhole) (arg3 : Memref sig .tc .vmem S1x16x768 .f32) (harg3 : arg3.IsWhole) (arg4 : Memref sig .tc .vmem S1x768 .f32) (harg4 : arg4.IsWhole) (arg5 : Memref sig .tc .vmem S768x32 .bf16) (harg5 : arg5.IsWhole) (arg6 : Memref sig .tc .vmem S32x768 .bf16) (harg6 : arg6.IsWhole) (arg7 : Memref sig .tc .vmem S1x2560 .f32) (harg7 : arg7.IsWhole) (arg8 : Memref sig .tc .vmem S1x768 .f32) (harg8 : arg8.IsWhole) (arg9 : Memref sig .tc .vmem S128x768 .bf16) (harg9 : arg9.IsWhole) (arg10 : Memref sig .tc .vmem S1x768 .f32) (harg10 : arg10.IsWhole) (arg11 : Memref sig .tc .vmem S128x768 .bf16) (harg11 : arg11.IsWhole) (arg12 : Memref sig .tc .vmem S128x768 .bf16) (harg12 : arg12.IsWhole) (arg13 : Memref sig .tc .vmem S1x768 .f32) (harg13 : arg13.IsWhole) (arg14 : Memref sig .tc .vmem S1x768 .f32) (harg14 : arg14.IsWhole) (arg15 : Memref sig .tc .vmem S1x768 .f32) (harg15 : arg15.IsWhole) (arg16 : Memref sig .tc .vmem S1x768 .f32) (harg16 : arg16.IsWhole) (arg17 : Memref sig .tc .vmem S1x768 .f32) (harg17 : arg17.IsWhole) (arg18 : Memref sig .tc .vmem S1x1x2560 .f32) (harg18 : arg18.IsWhole) (arg19 : Memref sig .tc .vmem S1x6x128x128 .f32) (harg19 : arg19.IsWhole) (arg20 : Memref sig .tc .vmem S16x32 .bf16) (harg20 : arg20.IsWhole) (arg21 : Memref sig .tc .vmem S16x32 .bf16) (harg21 : arg21.IsWhole) (arg22 : Memref sig .tc .vmem S1x16x3072 .f32) (harg22 : arg22.IsWhole) (arg23 : Memref sig .tc .vmem S1x16x128 .f32) (harg23 : arg23.IsWhole) (arg24 : Memref sig .tc .vmem S4x2304 .f32) (harg24 : arg24.IsWhole) (arg25 : Memref sig .tc .vmem S1x128 .f32) (harg25 : arg25.IsWhole) (arg26 : Memref sig .tc .vmem S1x128 .f32) (harg26 : arg26.IsWhole) (arg27 : Memref sig .tc .vmem S1x128 .f32) (harg27 : arg27.IsWhole) (arg28 : Memref sig .tc .vmem S1x3x2304 .f32) (harg28 : arg28.IsWhole) (arg29 : Memref sig .tc .vmem S1x6x128x128 .f32) (harg29 : arg29.IsWhole) (arg30 : Memref sig .tc .vmem S16x32 .bf16) (harg30 : arg30.IsWhole) (arg31 : Memref sig .tc .vmem S16x128 .bf16) (harg31 : arg31.IsWhole) (arg32 : Memref sig .tc .vmem S16x32 .bf16) (harg32 : arg32.IsWhole) (arg33 : Memref sig .tc .vmem S1x16x1536 .f32) (harg33 : arg33.IsWhole) (arg34 : Memref sig .tc .vmem S1x16x128 .f32) (harg34 : arg34.IsWhole) (arg35 : Memref sig .tc .vmem S128x256 .bf16) (harg35 : arg35.IsWhole) (arg36 : Memref sig .tc .vmem S1x256 .f32) (harg36 : arg36.IsWhole) (arg37 : Memref sig .tc .vmem S1x128 .f32) (harg37 : arg37.IsWhole) (arg38 : Memref sig .tc .vmem S1x2x128x128 .f32) (harg38 : arg38.IsWhole) (arg39 : Memref sig .tc .vmem S160x32 .bf16) (harg39 : arg39.IsWhole) (arg40 : Memref sig .tc .vmem S4x16x16 .f32) (harg40 : arg40.IsWhole) (arg41 : Memref sig .tc .vmem S1x16x768 .bf16) (harg41 : arg41.IsWhole) (arg42 : Memref sig .tc .vmem S1x1x2560 .f32) (harg42 : arg42.IsWhole) (arg43 : Memref sig .tc .vmem S1x6x128x128 .f32) (harg43 : arg43.IsWhole) (arg44 : Memref sig .tc .vmem S1x16x768 .bf16) (harg44 : arg44.IsWhole) (arg45 : Memref sig .tc .vmem S1x3x2304 .f32) (harg45 : arg45.IsWhole) (arg46 : Memref sig .tc .vmem S1x6x128x128 .f32) (harg46 : arg46.IsWhole) (arg47 : Memref sig .tc .vmem S1x16x512 .bf16) (harg47 : arg47.IsWhole) (arg48 : Memref sig .tc .vmem S1x2x128x128 .f32) (harg48 : arg48.IsWhole) (arg49 : Memref sig .tc .vmem S24x2560 .f32) (harg49 : arg49.IsWhole) (arg50 : Memref sig .tc .vmem S6x128x128 .f32) (harg50 : arg50.IsWhole) (arg51 : Memref sig .tc .vmem S24x2304 .f32) (harg51 : arg51.IsWhole) (arg52 : Memref sig .tc .vmem S6x128x128 .f32) (harg52 : arg52.IsWhole) (arg53 : Memref sig .tc .vmem S2x128x128 .f32) (harg53 : arg53.IsWhole) (hc0 : cond0_0 i) (hc1 : cond0_1 i) (hc2 : cond0_2 i) (hc3 : cond0_3 i) (hc4 : cond0_4 i) (hc5 : cond0_5 i) (hc6 : cond0_6 i) (hc7 : cond0_7 i)
    (x0 : Vec F S1x16x2560 .f32) (x1 : Vec F S1x16x768 .f32) (x2 : Vec F S1x768 .f32) (x3 : Vec F S768x32 .bf16) (x4 : Vec F S32x768 .bf16) (x5 : Vec F S1x2560 .f32) (x6 : Vec F S1x768 .f32) (x7 : Vec F S128x768 .bf16) (x8 : Vec F S1x768 .f32) (x9 : Vec F S128x768 .bf16) (x10 : Vec F S128x768 .bf16) (x11 : Vec F S1x768 .f32) (x12 : Vec F S1x768 .f32) (x13 : Vec F S1x768 .f32) (x14 : Vec F S1x768 .f32) (x15 : Vec F S1x768 .f32) (x16 : Vec F S1x1x2560 .f32) (x17 : Vec F S1x6x128x128 .f32) (x18 : Vec F S16x32 .bf16) (x19 : Vec F S16x32 .bf16) (x20 : Vec F S1x16x3072 .f32) (x21 : Vec F S1x16x128 .f32) (x22 : Vec F S4x2304 .f32) (x23 : Vec F S1x128 .f32) (x24 : Vec F S1x128 .f32) (x25 : Vec F S1x128 .f32) (x26 : Vec F S1x3x2304 .f32) (x27 : Vec F S1x6x128x128 .f32) (x28 : Vec F S16x32 .bf16) (x29 : Vec F S16x128 .bf16) (x30 : Vec F S16x32 .bf16) (x31 : Vec F S1x16x1536 .f32) (x32 : Vec F S1x16x128 .f32) (x33 : Vec F S128x256 .bf16) (x34 : Vec F S1x256 .f32) (x35 : Vec F S1x128 .f32) (x36 : Vec F S1x2x128x128 .f32) (x37 : Vec F S160x32 .bf16) (x38 : Vec F S4x16x16 .f32) (y : S1x3x2304.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 arg43 harg43 arg44 harg44 arg45 harg45 arg46 harg46 arg47 harg47 arg48 harg48 arg49 harg49 arg50 harg50 arg51 harg51 arg52 harg52 arg53 harg53 hc0 hc1 hc2 hc3 hc4 hc5 hc6 hc7 x0 x1 x2 x3 x4 x5 x6 x7 x8 x9 x10 x11 x12 x13 x14 x15 x16 x17 x18 x19 x20 x21 x22 x23 x24 x25 x26 x27 x28 x29 x30 x31 x32 x33 x34 x35 x36 x37 x38).2.2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 arg43 harg43 arg44 harg44 arg45 harg45 arg46 harg46 arg47 harg47 arg48 harg48 arg49 harg49 arg50 harg50 arg51 harg51 arg52 harg52 arg53 harg53 hc0 hc1 hc2 hc3 hc4 hc5 hc6 hc7 x0 x1 x2 x3 x4 x5 x6 x7 x8 x9 x10 x11 x12 x13 x14 x15 x16 x17 x18 x19 x20 x21 x22 x23 x24 x25 x26 x27 x28 x29 x30 x31 x32 x33 x34 x35 x36 x37 x38).2.2.2.2.1 S1x3x2304.size (by sl_kernel_rfl) y

/-- What the run leaves in the block of this output. -/
def out0_A_43 (c : Dev nD) (i : grid0.Coords) (arg2 : Memref sig .tc .vmem S1x16x2560 .f32) (harg2 : arg2.IsWhole) (arg3 : Memref sig .tc .vmem S1x16x768 .f32) (harg3 : arg3.IsWhole) (arg4 : Memref sig .tc .vmem S1x768 .f32) (harg4 : arg4.IsWhole) (arg5 : Memref sig .tc .vmem S768x32 .bf16) (harg5 : arg5.IsWhole) (arg6 : Memref sig .tc .vmem S32x768 .bf16) (harg6 : arg6.IsWhole) (arg7 : Memref sig .tc .vmem S1x2560 .f32) (harg7 : arg7.IsWhole) (arg8 : Memref sig .tc .vmem S1x768 .f32) (harg8 : arg8.IsWhole) (arg9 : Memref sig .tc .vmem S128x768 .bf16) (harg9 : arg9.IsWhole) (arg10 : Memref sig .tc .vmem S1x768 .f32) (harg10 : arg10.IsWhole) (arg11 : Memref sig .tc .vmem S128x768 .bf16) (harg11 : arg11.IsWhole) (arg12 : Memref sig .tc .vmem S128x768 .bf16) (harg12 : arg12.IsWhole) (arg13 : Memref sig .tc .vmem S1x768 .f32) (harg13 : arg13.IsWhole) (arg14 : Memref sig .tc .vmem S1x768 .f32) (harg14 : arg14.IsWhole) (arg15 : Memref sig .tc .vmem S1x768 .f32) (harg15 : arg15.IsWhole) (arg16 : Memref sig .tc .vmem S1x768 .f32) (harg16 : arg16.IsWhole) (arg17 : Memref sig .tc .vmem S1x768 .f32) (harg17 : arg17.IsWhole) (arg18 : Memref sig .tc .vmem S1x1x2560 .f32) (harg18 : arg18.IsWhole) (arg19 : Memref sig .tc .vmem S1x6x128x128 .f32) (harg19 : arg19.IsWhole) (arg20 : Memref sig .tc .vmem S16x32 .bf16) (harg20 : arg20.IsWhole) (arg21 : Memref sig .tc .vmem S16x32 .bf16) (harg21 : arg21.IsWhole) (arg22 : Memref sig .tc .vmem S1x16x3072 .f32) (harg22 : arg22.IsWhole) (arg23 : Memref sig .tc .vmem S1x16x128 .f32) (harg23 : arg23.IsWhole) (arg24 : Memref sig .tc .vmem S4x2304 .f32) (harg24 : arg24.IsWhole) (arg25 : Memref sig .tc .vmem S1x128 .f32) (harg25 : arg25.IsWhole) (arg26 : Memref sig .tc .vmem S1x128 .f32) (harg26 : arg26.IsWhole) (arg27 : Memref sig .tc .vmem S1x128 .f32) (harg27 : arg27.IsWhole) (arg28 : Memref sig .tc .vmem S1x3x2304 .f32) (harg28 : arg28.IsWhole) (arg29 : Memref sig .tc .vmem S1x6x128x128 .f32) (harg29 : arg29.IsWhole) (arg30 : Memref sig .tc .vmem S16x32 .bf16) (harg30 : arg30.IsWhole) (arg31 : Memref sig .tc .vmem S16x128 .bf16) (harg31 : arg31.IsWhole) (arg32 : Memref sig .tc .vmem S16x32 .bf16) (harg32 : arg32.IsWhole) (arg33 : Memref sig .tc .vmem S1x16x1536 .f32) (harg33 : arg33.IsWhole) (arg34 : Memref sig .tc .vmem S1x16x128 .f32) (harg34 : arg34.IsWhole) (arg35 : Memref sig .tc .vmem S128x256 .bf16) (harg35 : arg35.IsWhole) (arg36 : Memref sig .tc .vmem S1x256 .f32) (harg36 : arg36.IsWhole) (arg37 : Memref sig .tc .vmem S1x128 .f32) (harg37 : arg37.IsWhole) (arg38 : Memref sig .tc .vmem S1x2x128x128 .f32) (harg38 : arg38.IsWhole) (arg39 : Memref sig .tc .vmem S160x32 .bf16) (harg39 : arg39.IsWhole) (arg40 : Memref sig .tc .vmem S4x16x16 .f32) (harg40 : arg40.IsWhole) (arg41 : Memref sig .tc .vmem S1x16x768 .bf16) (harg41 : arg41.IsWhole) (arg42 : Memref sig .tc .vmem S1x1x2560 .f32) (harg42 : arg42.IsWhole) (arg43 : Memref sig .tc .vmem S1x6x128x128 .f32) (harg43 : arg43.IsWhole) (arg44 : Memref sig .tc .vmem S1x16x768 .bf16) (harg44 : arg44.IsWhole) (arg45 : Memref sig .tc .vmem S1x3x2304 .f32) (harg45 : arg45.IsWhole) (arg46 : Memref sig .tc .vmem S1x6x128x128 .f32) (harg46 : arg46.IsWhole) (arg47 : Memref sig .tc .vmem S1x16x512 .bf16) (harg47 : arg47.IsWhole) (arg48 : Memref sig .tc .vmem S1x2x128x128 .f32) (harg48 : arg48.IsWhole) (arg49 : Memref sig .tc .vmem S24x2560 .f32) (harg49 : arg49.IsWhole) (arg50 : Memref sig .tc .vmem S6x128x128 .f32) (harg50 : arg50.IsWhole) (arg51 : Memref sig .tc .vmem S24x2304 .f32) (harg51 : arg51.IsWhole) (arg52 : Memref sig .tc .vmem S6x128x128 .f32) (harg52 : arg52.IsWhole) (arg53 : Memref sig .tc .vmem S2x128x128 .f32) (harg53 : arg53.IsWhole) (hc0 : cond0_0 i) (hc1 : cond0_1 i) (hc2 : cond0_2 i) (hc3 : cond0_3 i) (hc4 : cond0_4 i) (hc5 : cond0_5 i) (hc6 : cond0_6 i) (hc7 : cond0_7 i)
    (x0 : Vec F S1x16x2560 .f32) (x1 : Vec F S1x16x768 .f32) (x2 : Vec F S1x768 .f32) (x3 : Vec F S768x32 .bf16) (x4 : Vec F S32x768 .bf16) (x5 : Vec F S1x2560 .f32) (x6 : Vec F S1x768 .f32) (x7 : Vec F S128x768 .bf16) (x8 : Vec F S1x768 .f32) (x9 : Vec F S128x768 .bf16) (x10 : Vec F S128x768 .bf16) (x11 : Vec F S1x768 .f32) (x12 : Vec F S1x768 .f32) (x13 : Vec F S1x768 .f32) (x14 : Vec F S1x768 .f32) (x15 : Vec F S1x768 .f32) (x16 : Vec F S1x1x2560 .f32) (x17 : Vec F S1x6x128x128 .f32) (x18 : Vec F S16x32 .bf16) (x19 : Vec F S16x32 .bf16) (x20 : Vec F S1x16x3072 .f32) (x21 : Vec F S1x16x128 .f32) (x22 : Vec F S4x2304 .f32) (x23 : Vec F S1x128 .f32) (x24 : Vec F S1x128 .f32) (x25 : Vec F S1x128 .f32) (x26 : Vec F S1x3x2304 .f32) (x27 : Vec F S1x6x128x128 .f32) (x28 : Vec F S16x32 .bf16) (x29 : Vec F S16x128 .bf16) (x30 : Vec F S16x32 .bf16) (x31 : Vec F S1x16x1536 .f32) (x32 : Vec F S1x16x128 .f32) (x33 : Vec F S128x256 .bf16) (x34 : Vec F S1x256 .f32) (x35 : Vec F S1x128 .f32) (x36 : Vec F S1x2x128x128 .f32) (x37 : Vec F S160x32 .bf16) (x38 : Vec F S4x16x16 .f32) : Vec F S1x3x2304 .f32 :=
  VO0_43.read (Elt F) (VO0_43.writes (Elt F) VO0_43.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 arg43 harg43 arg44 harg44 arg45 harg45 arg46 harg46 arg47 harg47 arg48 harg48 arg49 harg49 arg50 harg50 arg51 harg51 arg52 harg52 arg53 harg53 hc0 hc1 hc2 hc3 hc4 hc5 hc6 hc7 x0 x1 x2 x3 x4 x5 x6 x7 x8 x9 x10 x11 x12 x13 x14 x15 x16 x17 x18 x19 x20 x21 x22 x23 x24 x25 x26 x27 x28 x29 x30 x31 x32 x33 x34 x35 x36 x37 x38).2.2.2.2.1)

/-- The stores of the run cover the whole block of this output. -/
theorem cover0_A_46 (c : Dev nD) (i : grid0.Coords) (arg2 : Memref sig .tc .vmem S1x16x2560 .f32) (harg2 : arg2.IsWhole) (arg3 : Memref sig .tc .vmem S1x16x768 .f32) (harg3 : arg3.IsWhole) (arg4 : Memref sig .tc .vmem S1x768 .f32) (harg4 : arg4.IsWhole) (arg5 : Memref sig .tc .vmem S768x32 .bf16) (harg5 : arg5.IsWhole) (arg6 : Memref sig .tc .vmem S32x768 .bf16) (harg6 : arg6.IsWhole) (arg7 : Memref sig .tc .vmem S1x2560 .f32) (harg7 : arg7.IsWhole) (arg8 : Memref sig .tc .vmem S1x768 .f32) (harg8 : arg8.IsWhole) (arg9 : Memref sig .tc .vmem S128x768 .bf16) (harg9 : arg9.IsWhole) (arg10 : Memref sig .tc .vmem S1x768 .f32) (harg10 : arg10.IsWhole) (arg11 : Memref sig .tc .vmem S128x768 .bf16) (harg11 : arg11.IsWhole) (arg12 : Memref sig .tc .vmem S128x768 .bf16) (harg12 : arg12.IsWhole) (arg13 : Memref sig .tc .vmem S1x768 .f32) (harg13 : arg13.IsWhole) (arg14 : Memref sig .tc .vmem S1x768 .f32) (harg14 : arg14.IsWhole) (arg15 : Memref sig .tc .vmem S1x768 .f32) (harg15 : arg15.IsWhole) (arg16 : Memref sig .tc .vmem S1x768 .f32) (harg16 : arg16.IsWhole) (arg17 : Memref sig .tc .vmem S1x768 .f32) (harg17 : arg17.IsWhole) (arg18 : Memref sig .tc .vmem S1x1x2560 .f32) (harg18 : arg18.IsWhole) (arg19 : Memref sig .tc .vmem S1x6x128x128 .f32) (harg19 : arg19.IsWhole) (arg20 : Memref sig .tc .vmem S16x32 .bf16) (harg20 : arg20.IsWhole) (arg21 : Memref sig .tc .vmem S16x32 .bf16) (harg21 : arg21.IsWhole) (arg22 : Memref sig .tc .vmem S1x16x3072 .f32) (harg22 : arg22.IsWhole) (arg23 : Memref sig .tc .vmem S1x16x128 .f32) (harg23 : arg23.IsWhole) (arg24 : Memref sig .tc .vmem S4x2304 .f32) (harg24 : arg24.IsWhole) (arg25 : Memref sig .tc .vmem S1x128 .f32) (harg25 : arg25.IsWhole) (arg26 : Memref sig .tc .vmem S1x128 .f32) (harg26 : arg26.IsWhole) (arg27 : Memref sig .tc .vmem S1x128 .f32) (harg27 : arg27.IsWhole) (arg28 : Memref sig .tc .vmem S1x3x2304 .f32) (harg28 : arg28.IsWhole) (arg29 : Memref sig .tc .vmem S1x6x128x128 .f32) (harg29 : arg29.IsWhole) (arg30 : Memref sig .tc .vmem S16x32 .bf16) (harg30 : arg30.IsWhole) (arg31 : Memref sig .tc .vmem S16x128 .bf16) (harg31 : arg31.IsWhole) (arg32 : Memref sig .tc .vmem S16x32 .bf16) (harg32 : arg32.IsWhole) (arg33 : Memref sig .tc .vmem S1x16x1536 .f32) (harg33 : arg33.IsWhole) (arg34 : Memref sig .tc .vmem S1x16x128 .f32) (harg34 : arg34.IsWhole) (arg35 : Memref sig .tc .vmem S128x256 .bf16) (harg35 : arg35.IsWhole) (arg36 : Memref sig .tc .vmem S1x256 .f32) (harg36 : arg36.IsWhole) (arg37 : Memref sig .tc .vmem S1x128 .f32) (harg37 : arg37.IsWhole) (arg38 : Memref sig .tc .vmem S1x2x128x128 .f32) (harg38 : arg38.IsWhole) (arg39 : Memref sig .tc .vmem S160x32 .bf16) (harg39 : arg39.IsWhole) (arg40 : Memref sig .tc .vmem S4x16x16 .f32) (harg40 : arg40.IsWhole) (arg41 : Memref sig .tc .vmem S1x16x768 .bf16) (harg41 : arg41.IsWhole) (arg42 : Memref sig .tc .vmem S1x1x2560 .f32) (harg42 : arg42.IsWhole) (arg43 : Memref sig .tc .vmem S1x6x128x128 .f32) (harg43 : arg43.IsWhole) (arg44 : Memref sig .tc .vmem S1x16x768 .bf16) (harg44 : arg44.IsWhole) (arg45 : Memref sig .tc .vmem S1x3x2304 .f32) (harg45 : arg45.IsWhole) (arg46 : Memref sig .tc .vmem S1x6x128x128 .f32) (harg46 : arg46.IsWhole) (arg47 : Memref sig .tc .vmem S1x16x512 .bf16) (harg47 : arg47.IsWhole) (arg48 : Memref sig .tc .vmem S1x2x128x128 .f32) (harg48 : arg48.IsWhole) (arg49 : Memref sig .tc .vmem S24x2560 .f32) (harg49 : arg49.IsWhole) (arg50 : Memref sig .tc .vmem S6x128x128 .f32) (harg50 : arg50.IsWhole) (arg51 : Memref sig .tc .vmem S24x2304 .f32) (harg51 : arg51.IsWhole) (arg52 : Memref sig .tc .vmem S6x128x128 .f32) (harg52 : arg52.IsWhole) (arg53 : Memref sig .tc .vmem S2x128x128 .f32) (harg53 : arg53.IsWhole) (hc0 : cond0_0 i) (hc1 : cond0_1 i) (hc2 : cond0_2 i) (hc3 : cond0_3 i) (hc4 : cond0_4 i) (hc5 : cond0_5 i) (hc6 : cond0_6 i) (hc7 : cond0_7 i)
    (x0 : Vec F S1x16x2560 .f32) (x1 : Vec F S1x16x768 .f32) (x2 : Vec F S1x768 .f32) (x3 : Vec F S768x32 .bf16) (x4 : Vec F S32x768 .bf16) (x5 : Vec F S1x2560 .f32) (x6 : Vec F S1x768 .f32) (x7 : Vec F S128x768 .bf16) (x8 : Vec F S1x768 .f32) (x9 : Vec F S128x768 .bf16) (x10 : Vec F S128x768 .bf16) (x11 : Vec F S1x768 .f32) (x12 : Vec F S1x768 .f32) (x13 : Vec F S1x768 .f32) (x14 : Vec F S1x768 .f32) (x15 : Vec F S1x768 .f32) (x16 : Vec F S1x1x2560 .f32) (x17 : Vec F S1x6x128x128 .f32) (x18 : Vec F S16x32 .bf16) (x19 : Vec F S16x32 .bf16) (x20 : Vec F S1x16x3072 .f32) (x21 : Vec F S1x16x128 .f32) (x22 : Vec F S4x2304 .f32) (x23 : Vec F S1x128 .f32) (x24 : Vec F S1x128 .f32) (x25 : Vec F S1x128 .f32) (x26 : Vec F S1x3x2304 .f32) (x27 : Vec F S1x6x128x128 .f32) (x28 : Vec F S16x32 .bf16) (x29 : Vec F S16x128 .bf16) (x30 : Vec F S16x32 .bf16) (x31 : Vec F S1x16x1536 .f32) (x32 : Vec F S1x16x128 .f32) (x33 : Vec F S128x256 .bf16) (x34 : Vec F S1x256 .f32) (x35 : Vec F S1x128 .f32) (x36 : Vec F S1x2x128x128 .f32) (x37 : Vec F S160x32 .bf16) (x38 : Vec F S4x16x16 .f32) (y : S1x2x128x128.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 arg43 harg43 arg44 harg44 arg45 harg45 arg46 harg46 arg47 harg47 arg48 harg48 arg49 harg49 arg50 harg50 arg51 harg51 arg52 harg52 arg53 harg53 hc0 hc1 hc2 hc3 hc4 hc5 hc6 hc7 x0 x1 x2 x3 x4 x5 x6 x7 x8 x9 x10 x11 x12 x13 x14 x15 x16 x17 x18 x19 x20 x21 x22 x23 x24 x25 x26 x27 x28 x29 x30 x31 x32 x33 x34 x35 x36 x37 x38).2.2.2.2.2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 arg43 harg43 arg44 harg44 arg45 harg45 arg46 harg46 arg47 harg47 arg48 harg48 arg49 harg49 arg50 harg50 arg51 harg51 arg52 harg52 arg53 harg53 hc0 hc1 hc2 hc3 hc4 hc5 hc6 hc7 x0 x1 x2 x3 x4 x5 x6 x7 x8 x9 x10 x11 x12 x13 x14 x15 x16 x17 x18 x19 x20 x21 x22 x23 x24 x25 x26 x27 x28 x29 x30 x31 x32 x33 x34 x35 x36 x37 x38).2.2.2.2.2.2.2.1 S1x2x128x128.size (by sl_kernel_rfl) y

/-- What the run leaves in the block of this output. -/
def out0_A_46 (c : Dev nD) (i : grid0.Coords) (arg2 : Memref sig .tc .vmem S1x16x2560 .f32) (harg2 : arg2.IsWhole) (arg3 : Memref sig .tc .vmem S1x16x768 .f32) (harg3 : arg3.IsWhole) (arg4 : Memref sig .tc .vmem S1x768 .f32) (harg4 : arg4.IsWhole) (arg5 : Memref sig .tc .vmem S768x32 .bf16) (harg5 : arg5.IsWhole) (arg6 : Memref sig .tc .vmem S32x768 .bf16) (harg6 : arg6.IsWhole) (arg7 : Memref sig .tc .vmem S1x2560 .f32) (harg7 : arg7.IsWhole) (arg8 : Memref sig .tc .vmem S1x768 .f32) (harg8 : arg8.IsWhole) (arg9 : Memref sig .tc .vmem S128x768 .bf16) (harg9 : arg9.IsWhole) (arg10 : Memref sig .tc .vmem S1x768 .f32) (harg10 : arg10.IsWhole) (arg11 : Memref sig .tc .vmem S128x768 .bf16) (harg11 : arg11.IsWhole) (arg12 : Memref sig .tc .vmem S128x768 .bf16) (harg12 : arg12.IsWhole) (arg13 : Memref sig .tc .vmem S1x768 .f32) (harg13 : arg13.IsWhole) (arg14 : Memref sig .tc .vmem S1x768 .f32) (harg14 : arg14.IsWhole) (arg15 : Memref sig .tc .vmem S1x768 .f32) (harg15 : arg15.IsWhole) (arg16 : Memref sig .tc .vmem S1x768 .f32) (harg16 : arg16.IsWhole) (arg17 : Memref sig .tc .vmem S1x768 .f32) (harg17 : arg17.IsWhole) (arg18 : Memref sig .tc .vmem S1x1x2560 .f32) (harg18 : arg18.IsWhole) (arg19 : Memref sig .tc .vmem S1x6x128x128 .f32) (harg19 : arg19.IsWhole) (arg20 : Memref sig .tc .vmem S16x32 .bf16) (harg20 : arg20.IsWhole) (arg21 : Memref sig .tc .vmem S16x32 .bf16) (harg21 : arg21.IsWhole) (arg22 : Memref sig .tc .vmem S1x16x3072 .f32) (harg22 : arg22.IsWhole) (arg23 : Memref sig .tc .vmem S1x16x128 .f32) (harg23 : arg23.IsWhole) (arg24 : Memref sig .tc .vmem S4x2304 .f32) (harg24 : arg24.IsWhole) (arg25 : Memref sig .tc .vmem S1x128 .f32) (harg25 : arg25.IsWhole) (arg26 : Memref sig .tc .vmem S1x128 .f32) (harg26 : arg26.IsWhole) (arg27 : Memref sig .tc .vmem S1x128 .f32) (harg27 : arg27.IsWhole) (arg28 : Memref sig .tc .vmem S1x3x2304 .f32) (harg28 : arg28.IsWhole) (arg29 : Memref sig .tc .vmem S1x6x128x128 .f32) (harg29 : arg29.IsWhole) (arg30 : Memref sig .tc .vmem S16x32 .bf16) (harg30 : arg30.IsWhole) (arg31 : Memref sig .tc .vmem S16x128 .bf16) (harg31 : arg31.IsWhole) (arg32 : Memref sig .tc .vmem S16x32 .bf16) (harg32 : arg32.IsWhole) (arg33 : Memref sig .tc .vmem S1x16x1536 .f32) (harg33 : arg33.IsWhole) (arg34 : Memref sig .tc .vmem S1x16x128 .f32) (harg34 : arg34.IsWhole) (arg35 : Memref sig .tc .vmem S128x256 .bf16) (harg35 : arg35.IsWhole) (arg36 : Memref sig .tc .vmem S1x256 .f32) (harg36 : arg36.IsWhole) (arg37 : Memref sig .tc .vmem S1x128 .f32) (harg37 : arg37.IsWhole) (arg38 : Memref sig .tc .vmem S1x2x128x128 .f32) (harg38 : arg38.IsWhole) (arg39 : Memref sig .tc .vmem S160x32 .bf16) (harg39 : arg39.IsWhole) (arg40 : Memref sig .tc .vmem S4x16x16 .f32) (harg40 : arg40.IsWhole) (arg41 : Memref sig .tc .vmem S1x16x768 .bf16) (harg41 : arg41.IsWhole) (arg42 : Memref sig .tc .vmem S1x1x2560 .f32) (harg42 : arg42.IsWhole) (arg43 : Memref sig .tc .vmem S1x6x128x128 .f32) (harg43 : arg43.IsWhole) (arg44 : Memref sig .tc .vmem S1x16x768 .bf16) (harg44 : arg44.IsWhole) (arg45 : Memref sig .tc .vmem S1x3x2304 .f32) (harg45 : arg45.IsWhole) (arg46 : Memref sig .tc .vmem S1x6x128x128 .f32) (harg46 : arg46.IsWhole) (arg47 : Memref sig .tc .vmem S1x16x512 .bf16) (harg47 : arg47.IsWhole) (arg48 : Memref sig .tc .vmem S1x2x128x128 .f32) (harg48 : arg48.IsWhole) (arg49 : Memref sig .tc .vmem S24x2560 .f32) (harg49 : arg49.IsWhole) (arg50 : Memref sig .tc .vmem S6x128x128 .f32) (harg50 : arg50.IsWhole) (arg51 : Memref sig .tc .vmem S24x2304 .f32) (harg51 : arg51.IsWhole) (arg52 : Memref sig .tc .vmem S6x128x128 .f32) (harg52 : arg52.IsWhole) (arg53 : Memref sig .tc .vmem S2x128x128 .f32) (harg53 : arg53.IsWhole) (hc0 : cond0_0 i) (hc1 : cond0_1 i) (hc2 : cond0_2 i) (hc3 : cond0_3 i) (hc4 : cond0_4 i) (hc5 : cond0_5 i) (hc6 : cond0_6 i) (hc7 : cond0_7 i)
    (x0 : Vec F S1x16x2560 .f32) (x1 : Vec F S1x16x768 .f32) (x2 : Vec F S1x768 .f32) (x3 : Vec F S768x32 .bf16) (x4 : Vec F S32x768 .bf16) (x5 : Vec F S1x2560 .f32) (x6 : Vec F S1x768 .f32) (x7 : Vec F S128x768 .bf16) (x8 : Vec F S1x768 .f32) (x9 : Vec F S128x768 .bf16) (x10 : Vec F S128x768 .bf16) (x11 : Vec F S1x768 .f32) (x12 : Vec F S1x768 .f32) (x13 : Vec F S1x768 .f32) (x14 : Vec F S1x768 .f32) (x15 : Vec F S1x768 .f32) (x16 : Vec F S1x1x2560 .f32) (x17 : Vec F S1x6x128x128 .f32) (x18 : Vec F S16x32 .bf16) (x19 : Vec F S16x32 .bf16) (x20 : Vec F S1x16x3072 .f32) (x21 : Vec F S1x16x128 .f32) (x22 : Vec F S4x2304 .f32) (x23 : Vec F S1x128 .f32) (x24 : Vec F S1x128 .f32) (x25 : Vec F S1x128 .f32) (x26 : Vec F S1x3x2304 .f32) (x27 : Vec F S1x6x128x128 .f32) (x28 : Vec F S16x32 .bf16) (x29 : Vec F S16x128 .bf16) (x30 : Vec F S16x32 .bf16) (x31 : Vec F S1x16x1536 .f32) (x32 : Vec F S1x16x128 .f32) (x33 : Vec F S128x256 .bf16) (x34 : Vec F S1x256 .f32) (x35 : Vec F S1x128 .f32) (x36 : Vec F S1x2x128x128 .f32) (x37 : Vec F S160x32 .bf16) (x38 : Vec F S4x16x16 .f32) : Vec F S1x2x128x128 .f32 :=
  VO0_46.read (Elt F) (VO0_46.writes (Elt F) VO0_46.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 arg43 harg43 arg44 harg44 arg45 harg45 arg46 harg46 arg47 harg47 arg48 harg48 arg49 harg49 arg50 harg50 arg51 harg51 arg52 harg52 arg53 harg53 hc0 hc1 hc2 hc3 hc4 hc5 hc6 hc7 x0 x1 x2 x3 x4 x5 x6 x7 x8 x9 x10 x11 x12 x13 x14 x15 x16 x17 x18 x19 x20 x21 x22 x23 x24 x25 x26 x27 x28 x29 x30 x31 x32 x33 x34 x35 x36 x37 x38).2.2.2.2.2.2.2.1)

/-! ## What the outputs hold after each point -/

/-- What the body leaves in output 40's buffer at point `t`. -/
def left40 (c : Dev nD) (t : Fin cfg0.N) : Vec F S1x1x2560 .f32 :=
  out0_A_40 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (ms0_28 t) (hs0_28 t) (ms0_29 t) (hs0_29 t) (ms0_30 t) (hs0_30 t) (ms0_31 t) (hs0_31 t) (ms0_32 t) (hs0_32 t) (ms0_33 t) (hs0_33 t) (ms0_34 t) (hs0_34 t) (ms0_35 t) (hs0_35 t) (ms0_36 t) (hs0_36 t) (ms0_37 t) (hs0_37 t) (ms0_38 t) (hs0_38 t) (ms0_39 t) (hs0_39 t) (ms0_40 t) (hs0_40 t) (ms0_41 t) (hs0_41 t) (ms0_42 t) (hs0_42 t) (ms0_43 t) (hs0_43 t) (ms0_44 t) (hs0_44 t) (ms0_45 t) (hs0_45 t) (ms0_46 t) (hs0_46 t) scM0_0 (Memref.isWhole_whole _) scM0_1 (Memref.isWhole_whole _) scM0_2 (Memref.isWhole_whole _) scM0_3 (Memref.isWhole_whole _) scM0_4 (Memref.isWhole_whole _) (hcond0_0 t) (hcond0_1 t) (hcond0_2 t) (hcond0_3 t) (hcond0_4 t) (hcond0_5 t) (hcond0_6 t) (hcond0_7 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t) (iblk m c 27 t) (iblk m c 28 t) (iblk m c 29 t) (iblk m c 30 t) (X0_31 m c t) (iblk m c 32 t) (iblk m c 33 t) (iblk m c 34 t) (iblk m c 35 t) (iblk m c 36 t) (iblk m c 37 t) (iblk m c 38 t)

/-- What the body leaves in output 43's buffer at point `t`. -/
def left43 (c : Dev nD) (t : Fin cfg0.N) : Vec F S1x3x2304 .f32 :=
  out0_A_43 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (ms0_28 t) (hs0_28 t) (ms0_29 t) (hs0_29 t) (ms0_30 t) (hs0_30 t) (ms0_31 t) (hs0_31 t) (ms0_32 t) (hs0_32 t) (ms0_33 t) (hs0_33 t) (ms0_34 t) (hs0_34 t) (ms0_35 t) (hs0_35 t) (ms0_36 t) (hs0_36 t) (ms0_37 t) (hs0_37 t) (ms0_38 t) (hs0_38 t) (ms0_39 t) (hs0_39 t) (ms0_40 t) (hs0_40 t) (ms0_41 t) (hs0_41 t) (ms0_42 t) (hs0_42 t) (ms0_43 t) (hs0_43 t) (ms0_44 t) (hs0_44 t) (ms0_45 t) (hs0_45 t) (ms0_46 t) (hs0_46 t) scM0_0 (Memref.isWhole_whole _) scM0_1 (Memref.isWhole_whole _) scM0_2 (Memref.isWhole_whole _) scM0_3 (Memref.isWhole_whole _) scM0_4 (Memref.isWhole_whole _) (hcond0_0 t) (hcond0_1 t) (hcond0_2 t) (hcond0_3 t) (hcond0_4 t) (hcond0_5 t) (hcond0_6 t) (hcond0_7 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t) (iblk m c 27 t) (iblk m c 28 t) (iblk m c 29 t) (iblk m c 30 t) (X0_31 m c t) (iblk m c 32 t) (iblk m c 33 t) (iblk m c 34 t) (iblk m c 35 t) (iblk m c 36 t) (iblk m c 37 t) (iblk m c 38 t)

/-- What the body leaves in output 46's buffer at point `t`. -/
def left46 (c : Dev nD) (t : Fin cfg0.N) : Vec F S1x2x128x128 .f32 :=
  out0_A_46 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (ms0_28 t) (hs0_28 t) (ms0_29 t) (hs0_29 t) (ms0_30 t) (hs0_30 t) (ms0_31 t) (hs0_31 t) (ms0_32 t) (hs0_32 t) (ms0_33 t) (hs0_33 t) (ms0_34 t) (hs0_34 t) (ms0_35 t) (hs0_35 t) (ms0_36 t) (hs0_36 t) (ms0_37 t) (hs0_37 t) (ms0_38 t) (hs0_38 t) (ms0_39 t) (hs0_39 t) (ms0_40 t) (hs0_40 t) (ms0_41 t) (hs0_41 t) (ms0_42 t) (hs0_42 t) (ms0_43 t) (hs0_43 t) (ms0_44 t) (hs0_44 t) (ms0_45 t) (hs0_45 t) (ms0_46 t) (hs0_46 t) scM0_0 (Memref.isWhole_whole _) scM0_1 (Memref.isWhole_whole _) scM0_2 (Memref.isWhole_whole _) scM0_3 (Memref.isWhole_whole _) scM0_4 (Memref.isWhole_whole _) (hcond0_0 t) (hcond0_1 t) (hcond0_2 t) (hcond0_3 t) (hcond0_4 t) (hcond0_5 t) (hcond0_6 t) (hcond0_7 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t) (iblk m c 27 t) (iblk m c 28 t) (iblk m c 29 t) (iblk m c 30 t) (X0_31 m c t) (iblk m c 32 t) (iblk m c 33 t) (iblk m c 34 t) (iblk m c 35 t) (iblk m c 36 t) (iblk m c 37 t) (iblk m c 38 t)

/-! ## The pipeline's proof data -/

/-- The outputs of which nothing is said here. -/
def forgets0 : Fin 47 → Bool := fun w => w.val == 39 || w.val == 41 || w.val == 42 || w.val == 44 || w.val == 45

/-- What every buffer holds after the body at point `t`: an input its block, an output that is named what the body
    left in it. The buffers of the body's own carry nothing from point to point that is named. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => iblk m c 18 t
    | ⟨19, _⟩ => iblk m c 19 t
    | ⟨20, _⟩ => iblk m c 20 t
    | ⟨21, _⟩ => iblk m c 21 t
    | ⟨22, _⟩ => iblk m c 22 t
    | ⟨23, _⟩ => iblk m c 23 t
    | ⟨24, _⟩ => iblk m c 24 t
    | ⟨25, _⟩ => iblk m c 25 t
    | ⟨26, _⟩ => iblk m c 26 t
    | ⟨27, _⟩ => iblk m c 27 t
    | ⟨28, _⟩ => iblk m c 28 t
    | ⟨29, _⟩ => iblk m c 29 t
    | ⟨30, _⟩ => iblk m c 30 t
    | ⟨31, _⟩ => X0_31 m c t
    | ⟨32, _⟩ => iblk m c 32 t
    | ⟨33, _⟩ => iblk m c 33 t
    | ⟨34, _⟩ => iblk m c 34 t
    | ⟨35, _⟩ => iblk m c 35 t
    | ⟨36, _⟩ => iblk m c 36 t
    | ⟨37, _⟩ => iblk m c 37 t
    | ⟨38, _⟩ => iblk m c 38 t
    | ⟨39, h⟩ => Pipeline.Dat.unnamed (cfg := cfg0) ⟨39, h⟩ t
    | ⟨40, _⟩ => left40 m c t
    | ⟨41, h⟩ => Pipeline.Dat.unnamed (cfg := cfg0) ⟨41, h⟩ t
    | ⟨42, h⟩ => Pipeline.Dat.unnamed (cfg := cfg0) ⟨42, h⟩ t
    | ⟨43, _⟩ => left43 m c t
    | ⟨44, h⟩ => Pipeline.Dat.unnamed (cfg := cfg0) ⟨44, h⟩ t
    | ⟨45, h⟩ => Pipeline.Dat.unnamed (cfg := cfg0) ⟨45, h⟩ t
    | ⟨46, _⟩ => left46 m c t
    | ⟨_ + 47, h⟩ => absurd h (Nat.not_lt.2 (Nat.le_add_left _ _))
  Φ _ := Pipeline.ΦA spec0 c
  q _ := fullShare
  owed _ := 0

/-- The arrays start as the call finds them. -/
theorem A_eq (c : Dev nD) (w : Fin cfg0.W) : (dats m 0 c).A w = V m c (Pipeline.arrRef spec0 w) := by
  dsimp only [dats]

/-- What each buffer holds after the body. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_15 (c : Dev nD) (t : Fin cfg0.N) : (dats m 0 c).after 15 t = iblk m c 15 t := by dsimp only [dats]
theorem after0_16 (c : Dev nD) (t : Fin cfg0.N) : (dats m 0 c).after 16 t = iblk m c 16 t := by dsimp only [dats]
theorem after0_17 (c : Dev nD) (t : Fin cfg0.N) : (dats m 0 c).after 17 t = iblk m c 17 t := by dsimp only [dats]
theorem after0_18 (c : Dev nD) (t : Fin cfg0.N) : (dats m 0 c).after 18 t = iblk m c 18 t := by dsimp only [dats]
theorem after0_19 (c : Dev nD) (t : Fin cfg0.N) : (dats m 0 c).after 19 t = iblk m c 19 t := by dsimp only [dats]
theorem after0_20 (c : Dev nD) (t : Fin cfg0.N) : (dats m 0 c).after 20 t = iblk m c 20 t := by dsimp only [dats]
theorem after0_21 (c : Dev nD) (t : Fin cfg0.N) : (dats m 0 c).after 21 t = iblk m c 21 t := by dsimp only [dats]
theorem after0_22 (c : Dev nD) (t : Fin cfg0.N) : (dats m 0 c).after 22 t = iblk m c 22 t := by dsimp only [dats]
theorem after0_23 (c : Dev nD) (t : Fin cfg0.N) : (dats m 0 c).after 23 t = iblk m c 23 t := by dsimp only [dats]
theorem after0_24 (c : Dev nD) (t : Fin cfg0.N) : (dats m 0 c).after 24 t = iblk m c 24 t := by dsimp only [dats]
theorem after0_25 (c : Dev nD) (t : Fin cfg0.N) : (dats m 0 c).after 25 t = iblk m c 25 t := by dsimp only [dats]
theorem after0_26 (c : Dev nD) (t : Fin cfg0.N) : (dats m 0 c).after 26 t = iblk m c 26 t := by dsimp only [dats]
theorem after0_27 (c : Dev nD) (t : Fin cfg0.N) : (dats m 0 c).after 27 t = iblk m c 27 t := by dsimp only [dats]
theorem after0_28 (c : Dev nD) (t : Fin cfg0.N) : (dats m 0 c).after 28 t = iblk m c 28 t := by dsimp only [dats]
theorem after0_29 (c : Dev nD) (t : Fin cfg0.N) : (dats m 0 c).after 29 t = iblk m c 29 t := by dsimp only [dats]
theorem after0_30 (c : Dev nD) (t : Fin cfg0.N) : (dats m 0 c).after 30 t = iblk m c 30 t := by dsimp only [dats]
theorem after0_31 (c : Dev nD) (t : Fin cfg0.N) : (dats m 0 c).after 31 t = X0_31 m c t := by dsimp only [dats]
theorem after0_32 (c : Dev nD) (t : Fin cfg0.N) : (dats m 0 c).after 32 t = iblk m c 32 t := by dsimp only [dats]
theorem after0_33 (c : Dev nD) (t : Fin cfg0.N) : (dats m 0 c).after 33 t = iblk m c 33 t := by dsimp only [dats]
theorem after0_34 (c : Dev nD) (t : Fin cfg0.N) : (dats m 0 c).after 34 t = iblk m c 34 t := by dsimp only [dats]
theorem after0_35 (c : Dev nD) (t : Fin cfg0.N) : (dats m 0 c).after 35 t = iblk m c 35 t := by dsimp only [dats]
theorem after0_36 (c : Dev nD) (t : Fin cfg0.N) : (dats m 0 c).after 36 t = iblk m c 36 t := by dsimp only [dats]
theorem after0_37 (c : Dev nD) (t : Fin cfg0.N) : (dats m 0 c).after 37 t = iblk m c 37 t := by dsimp only [dats]
theorem after0_38 (c : Dev nD) (t : Fin cfg0.N) : (dats m 0 c).after 38 t = iblk m c 38 t := by dsimp only [dats]
theorem after0_40 (c : Dev nD) (t : Fin cfg0.N) : (dats m 0 c).after 40 t = left40 m c t := by dsimp only [dats]
theorem after0_43 (c : Dev nD) (t : Fin cfg0.N) : (dats m 0 c).after 43 t = left43 m c t := by dsimp only [dats]
theorem after0_46 (c : Dev nD) (t : Fin cfg0.N) : (dats m 0 c).after 46 t = left46 m c t := by dsimp only [dats]

/-- What each input buffer holds before the body: its block. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d
theorem before0_14 (c : Dev nD) (t : Fin cfg0.N) (d) : (dats m 0 c).before 14 t d = iblk m c 14 t :=
  before0_14_of m (dats m 0 c) (A_eq m c 14) (after0_14 m c) t d
theorem before0_15 (c : Dev nD) (t : Fin cfg0.N) (d) : (dats m 0 c).before 15 t d = iblk m c 15 t :=
  before0_15_of m (dats m 0 c) (A_eq m c 15) (after0_15 m c) t d
theorem before0_16 (c : Dev nD) (t : Fin cfg0.N) (d) : (dats m 0 c).before 16 t d = iblk m c 16 t :=
  before0_16_of m (dats m 0 c) (A_eq m c 16) (after0_16 m c) t d
theorem before0_17 (c : Dev nD) (t : Fin cfg0.N) (d) : (dats m 0 c).before 17 t d = iblk m c 17 t :=
  before0_17_of m (dats m 0 c) (A_eq m c 17) (after0_17 m c) t d
theorem before0_18 (c : Dev nD) (t : Fin cfg0.N) (d) : (dats m 0 c).before 18 t d = iblk m c 18 t :=
  before0_18_of m (dats m 0 c) (A_eq m c 18) (after0_18 m c) t d
theorem before0_19 (c : Dev nD) (t : Fin cfg0.N) (d) : (dats m 0 c).before 19 t d = iblk m c 19 t :=
  before0_19_of m (dats m 0 c) (A_eq m c 19) (after0_19 m c) t d
theorem before0_20 (c : Dev nD) (t : Fin cfg0.N) (d) : (dats m 0 c).before 20 t d = iblk m c 20 t :=
  before0_20_of m (dats m 0 c) (A_eq m c 20) (after0_20 m c) t d
theorem before0_21 (c : Dev nD) (t : Fin cfg0.N) (d) : (dats m 0 c).before 21 t d = iblk m c 21 t :=
  before0_21_of m (dats m 0 c) (A_eq m c 21) (after0_21 m c) t d
theorem before0_22 (c : Dev nD) (t : Fin cfg0.N) (d) : (dats m 0 c).before 22 t d = iblk m c 22 t :=
  before0_22_of m (dats m 0 c) (A_eq m c 22) (after0_22 m c) t d
theorem before0_23 (c : Dev nD) (t : Fin cfg0.N) (d) : (dats m 0 c).before 23 t d = iblk m c 23 t :=
  before0_23_of m (dats m 0 c) (A_eq m c 23) (after0_23 m c) t d
theorem before0_24 (c : Dev nD) (t : Fin cfg0.N) (d) : (dats m 0 c).before 24 t d = iblk m c 24 t :=
  before0_24_of m (dats m 0 c) (A_eq m c 24) (after0_24 m c) t d
theorem before0_25 (c : Dev nD) (t : Fin cfg0.N) (d) : (dats m 0 c).before 25 t d = iblk m c 25 t :=
  before0_25_of m (dats m 0 c) (A_eq m c 25) (after0_25 m c) t d
theorem before0_26 (c : Dev nD) (t : Fin cfg0.N) (d) : (dats m 0 c).before 26 t d = iblk m c 26 t :=
  before0_26_of m (dats m 0 c) (A_eq m c 26) (after0_26 m c) t d
theorem before0_27 (c : Dev nD) (t : Fin cfg0.N) (d) : (dats m 0 c).before 27 t d = iblk m c 27 t :=
  before0_27_of m (dats m 0 c) (A_eq m c 27) (after0_27 m c) t d
theorem before0_28 (c : Dev nD) (t : Fin cfg0.N) (d) : (dats m 0 c).before 28 t d = iblk m c 28 t :=
  before0_28_of m (dats m 0 c) (A_eq m c 28) (after0_28 m c) t d
theorem before0_29 (c : Dev nD) (t : Fin cfg0.N) (d) : (dats m 0 c).before 29 t d = iblk m c 29 t :=
  before0_29_of m (dats m 0 c) (A_eq m c 29) (after0_29 m c) t d
theorem before0_30 (c : Dev nD) (t : Fin cfg0.N) (d) : (dats m 0 c).before 30 t d = iblk m c 30 t :=
  before0_30_of m (dats m 0 c) (A_eq m c 30) (after0_30 m c) t d
theorem before0_31 (c : Dev nD) (t : Fin cfg0.N) (d) : (dats m 0 c).before 31 t d = X0_31 m c t :=
  before0_31_of m (dats m 0 c) (A_eq m c 31) (after0_31 m c) t d
theorem before0_32 (c : Dev nD) (t : Fin cfg0.N) (d) : (dats m 0 c).before 32 t d = iblk m c 32 t :=
  before0_32_of m (dats m 0 c) (A_eq m c 32) (after0_32 m c) t d
theorem before0_33 (c : Dev nD) (t : Fin cfg0.N) (d) : (dats m 0 c).before 33 t d = iblk m c 33 t :=
  before0_33_of m (dats m 0 c) (A_eq m c 33) (after0_33 m c) t d
theorem before0_34 (c : Dev nD) (t : Fin cfg0.N) (d) : (dats m 0 c).before 34 t d = iblk m c 34 t :=
  before0_34_of m (dats m 0 c) (A_eq m c 34) (after0_34 m c) t d
theorem before0_35 (c : Dev nD) (t : Fin cfg0.N) (d) : (dats m 0 c).before 35 t d = iblk m c 35 t :=
  before0_35_of m (dats m 0 c) (A_eq m c 35) (after0_35 m c) t d
theorem before0_36 (c : Dev nD) (t : Fin cfg0.N) (d) : (dats m 0 c).before 36 t d = iblk m c 36 t :=
  before0_36_of m (dats m 0 c) (A_eq m c 36) (after0_36 m c) t d
theorem before0_37 (c : Dev nD) (t : Fin cfg0.N) (d) : (dats m 0 c).before 37 t d = iblk m c 37 t :=
  before0_37_of m (dats m 0 c) (A_eq m c 37) (after0_37 m c) t d
theorem before0_38 (c : Dev nD) (t : Fin cfg0.N) (d) : (dats m 0 c).before 38 t d = iblk m c 38 t :=
  before0_38_of m (dats m 0 c) (A_eq m c 38) (after0_38 m c) t d

/-! ## The body obligation, at a generic point -/

/-- What the body is called with at point `t`, buffer by buffer, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare ((dats m 0 c).before 17 t d))
    ∗ (∃ d, owns (c : Thread nD τ) (ms0_18 t) fullShare ((dats m 0 c).before 18 t d))
    ∗ (∃ d, owns (c : Thread nD τ) (ms0_19 t) fullShare ((dats m 0 c).before 19 t d))
    ∗ (∃ d, owns (c : Thread nD τ) (ms0_20 t) fullShare ((dats m 0 c).before 20 t d))
    ∗ (∃ d, owns (c : Thread nD τ) (ms0_21 t) fullShare ((dats m 0 c).before 21 t d))
    ∗ (∃ d, owns (c : Thread nD τ) (ms0_22 t) fullShare ((dats m 0 c).before 22 t d))
    ∗ (∃ d, owns (c : Thread nD τ) (ms0_23 t) fullShare ((dats m 0 c).before 23 t d))
    ∗ (∃ d, owns (c : Thread nD τ) (ms0_24 t) fullShare ((dats m 0 c).before 24 t d))
    ∗ (∃ d, owns (c : Thread nD τ) (ms0_25 t) fullShare ((dats m 0 c).before 25 t d))
    ∗ (∃ d, owns (c : Thread nD τ) (ms0_26 t) fullShare ((dats m 0 c).before 26 t d))
    ∗ (∃ d, owns (c : Thread nD τ) (ms0_27 t) fullShare ((dats m 0 c).before 27 t d))
    ∗ (∃ d, owns (c : Thread nD τ) (ms0_28 t) fullShare ((dats m 0 c).before 28 t d))
    ∗ (∃ d, owns (c : Thread nD τ) (ms0_29 t) fullShare ((dats m 0 c).before 29 t d))
    ∗ (∃ d, owns (c : Thread nD τ) (ms0_30 t) fullShare ((dats m 0 c).before 30 t d))
    ∗ (∃ d, owns (c : Thread nD τ) (ms0_31 t) fullShare ((dats m 0 c).before 31 t d))
    ∗ (∃ d, owns (c : Thread nD τ) (ms0_32 t) fullShare ((dats m 0 c).before 32 t d))
    ∗ (∃ d, owns (c : Thread nD τ) (ms0_33 t) fullShare ((dats m 0 c).before 33 t d))
    ∗ (∃ d, owns (c : Thread nD τ) (ms0_34 t) fullShare ((dats m 0 c).before 34 t d))
    ∗ (∃ d, owns (c : Thread nD τ) (ms0_35 t) fullShare ((dats m 0 c).before 35 t d))
    ∗ (∃ d, owns (c : Thread nD τ) (ms0_36 t) fullShare ((dats m 0 c).before 36 t d))
    ∗ (∃ d, owns (c : Thread nD τ) (ms0_37 t) fullShare ((dats m 0 c).before 37 t d))
    ∗ (∃ d, owns (c : Thread nD τ) (ms0_38 t) fullShare ((dats m 0 c).before 38 t d))
    ∗ (∃ d, owns (c : Thread nD τ) (ms0_39 t) fullShare d)
    ∗ (∃ d, owns (c : Thread nD τ) (ms0_40 t) fullShare ((dats m 0 c).before 40 t d))
    ∗ (∃ d, owns (c : Thread nD τ) (ms0_41 t) fullShare d)
    ∗ (∃ d, owns (c : Thread nD τ) (ms0_42 t) fullShare d)
    ∗ (∃ d, owns (c : Thread nD τ) (ms0_43 t) fullShare ((dats m 0 c).before 43 t d))
    ∗ (∃ d, owns (c : Thread nD τ) (ms0_44 t) fullShare d)
    ∗ (∃ d, owns (c : Thread nD τ) (ms0_45 t) fullShare d)
    ∗ (∃ d, owns (c : Thread nD τ) (ms0_46 t) fullShare ((dats m 0 c).before 46 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t
    ∗ (dats m 0 c).leavesExact 13 t
    ∗ (dats m 0 c).leavesExact 14 t
    ∗ (dats m 0 c).leavesExact 15 t
    ∗ (dats m 0 c).leavesExact 16 t
    ∗ (dats m 0 c).leavesExact 17 t
    ∗ (dats m 0 c).leavesExact 18 t
    ∗ (dats m 0 c).leavesExact 19 t
    ∗ (dats m 0 c).leavesExact 20 t
    ∗ (dats m 0 c).leavesExact 21 t
    ∗ (dats m 0 c).leavesExact 22 t
    ∗ (dats m 0 c).leavesExact 23 t
    ∗ (dats m 0 c).leavesExact 24 t
    ∗ (dats m 0 c).leavesExact 25 t
    ∗ (dats m 0 c).leavesExact 26 t
    ∗ (dats m 0 c).leavesExact 27 t
    ∗ (dats m 0 c).leavesExact 28 t
    ∗ (dats m 0 c).leavesExact 29 t
    ∗ (dats m 0 c).leavesExact 30 t
    ∗ (dats m 0 c).leavesExact 31 t
    ∗ (dats m 0 c).leavesExact 32 t
    ∗ (dats m 0 c).leavesExact 33 t
    ∗ (dats m 0 c).leavesExact 34 t
    ∗ (dats m 0 c).leavesExact 35 t
    ∗ (dats m 0 c).leavesExact 36 t
    ∗ (dats m 0 c).leavesExact 37 t
    ∗ (dats m 0 c).leavesExact 38 t
    ∗ (∃ d, owns (c : Thread nD τ) (ms0_39 t) fullShare d)
    ∗ (dats m 0 c).leavesExact 40 t
    ∗ (∃ d, owns (c : Thread nD τ) (ms0_41 t) fullShare d)
    ∗ (∃ d, owns (c : Thread nD τ) (ms0_42 t) fullShare d)
    ∗ (dats m 0 c).leavesExact 43 t
    ∗ (∃ d, owns (c : Thread nD τ) (ms0_44 t) fullShare d)
    ∗ (∃ d, owns (c : Thread nD τ) (ms0_45 t) fullShare d)
    ∗ (dats m 0 c).leavesExact 46 t)

set_option maxHeartbeats 5200000 in
/-- The body at any point: its buffers hold their blocks, so the run applies. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14, before0_15, before0_16, before0_17, before0_18, before0_19, before0_20, before0_21, before0_22, before0_23, before0_24, before0_25, before0_26, before0_27, before0_28, before0_29, before0_30, before0_31, before0_32, before0_33, before0_34, before0_35, before0_36, before0_37, before0_38]
  rw [show (dats m 0 c).Φ t.succ = (dats m 0 c).Φ t.castSucc from rfl,
    show (dats m 0 c).owesAt () t.succ = (dats m 0 c).owesAt () t.castSucc from rfl]
  rw [show (dats m 0 c).Φ t.castSucc = Pipeline.ΦA spec0 c from rfl, PhiA0_eq]
  rw [show (dats m 0 c).leavesExact 0 t = owns (c : Thread nD τ) (ms0_0 t) fullShare ((dats m 0 c).after 0 t) from by
      unfold Dat.leavesExact; rw [liveAt0_0 t], after0_0]
  rw [show (dats m 0 c).leavesExact 1 t = owns (c : Thread nD τ) (ms0_1 t) fullShare ((dats m 0 c).after 1 t) from by
      unfold Dat.leavesExact; rw [liveAt0_1 t], after0_1]
  rw [show (dats m 0 c).leavesExact 2 t = owns (c : Thread nD τ) (ms0_2 t) fullShare ((dats m 0 c).after 2 t) from by
      unfold Dat.leavesExact; rw [liveAt0_2 t], after0_2]
  rw [show (dats m 0 c).leavesExact 3 t = owns (c : Thread nD τ) (ms0_3 t) fullShare ((dats m 0 c).after 3 t) from by
      unfold Dat.leavesExact; rw [liveAt0_3 t], after0_3]
  rw [show (dats m 0 c).leavesExact 4 t = owns (c : Thread nD τ) (ms0_4 t) fullShare ((dats m 0 c).after 4 t) from by
      unfold Dat.leavesExact; rw [liveAt0_4 t], after0_4]
  rw [show (dats m 0 c).leavesExact 5 t = owns (c : Thread nD τ) (ms0_5 t) fullShare ((dats m 0 c).after 5 t) from by
      unfold Dat.leavesExact; rw [liveAt0_5 t], after0_5]
  rw [show (dats m 0 c).leavesExact 6 t = owns (c : Thread nD τ) (ms0_6 t) fullShare ((dats m 0 c).after 6 t) from by
      unfold Dat.leavesExact; rw [liveAt0_6 t], after0_6]
  rw [show (dats m 0 c).leavesExact 7 t = owns (c : Thread nD τ) (ms0_7 t) fullShare ((dats m 0 c).after 7 t) from by
      unfold Dat.leavesExact; rw [liveAt0_7 t], after0_7]
  rw [show (dats m 0 c).leavesExact 8 t = owns (c : Thread nD τ) (ms0_8 t) fullShare ((dats m 0 c).after 8 t) from by
      unfold Dat.leavesExact; rw [liveAt0_8 t], after0_8]
  rw [show (dats m 0 c).leavesExact 9 t = owns (c : Thread nD τ) (ms0_9 t) fullShare ((dats m 0 c).after 9 t) from by
      unfold Dat.leavesExact; rw [liveAt0_9 t], after0_9]
  rw [show (dats m 0 c).leavesExact 10 t = owns (c : Thread nD τ) (ms0_10 t) fullShare ((dats m 0 c).after 10 t) from by
      unfold Dat.leavesExact; rw [liveAt0_10 t], after0_10]
  rw [show (dats m 0 c).leavesExact 11 t = owns (c : Thread nD τ) (ms0_11 t) fullShare ((dats m 0 c).after 11 t) from by
      unfold Dat.leavesExact; rw [liveAt0_11 t], after0_11]
  rw [show (dats m 0 c).leavesExact 12 t = owns (c : Thread nD τ) (ms0_12 t) fullShare ((dats m 0 c).after 12 t) from by
      unfold Dat.leavesExact; rw [liveAt0_12 t], after0_12]
  rw [show (dats m 0 c).leavesExact 13 t = owns (c : Thread nD τ) (ms0_13 t) fullShare ((dats m 0 c).after 13 t) from by
      unfold Dat.leavesExact; rw [liveAt0_13 t], after0_13]
  rw [show (dats m 0 c).leavesExact 14 t = owns (c : Thread nD τ) (ms0_14 t) fullShare ((dats m 0 c).after 14 t) from by
      unfold Dat.leavesExact; rw [liveAt0_14 t], after0_14]
  rw [show (dats m 0 c).leavesExact 15 t = owns (c : Thread nD τ) (ms0_15 t) fullShare ((dats m 0 c).after 15 t) from by
      unfold Dat.leavesExact; rw [liveAt0_15 t], after0_15]
  rw [show (dats m 0 c).leavesExact 16 t = owns (c : Thread nD τ) (ms0_16 t) fullShare ((dats m 0 c).after 16 t) from by
      unfold Dat.leavesExact; rw [liveAt0_16 t], after0_16]
  rw [show (dats m 0 c).leavesExact 17 t = owns (c : Thread nD τ) (ms0_17 t) fullShare ((dats m 0 c).after 17 t) from by
      unfold Dat.leavesExact; rw [liveAt0_17 t], after0_17]
  rw [show (dats m 0 c).leavesExact 18 t = owns (c : Thread nD τ) (ms0_18 t) fullShare ((dats m 0 c).after 18 t) from by
      unfold Dat.leavesExact; rw [liveAt0_18 t], after0_18]
  rw [show (dats m 0 c).leavesExact 19 t = owns (c : Thread nD τ) (ms0_19 t) fullShare ((dats m 0 c).after 19 t) from by
      unfold Dat.leavesExact; rw [liveAt0_19 t], after0_19]
  rw [show (dats m 0 c).leavesExact 20 t = owns (c : Thread nD τ) (ms0_20 t) fullShare ((dats m 0 c).after 20 t) from by
      unfold Dat.leavesExact; rw [liveAt0_20 t], after0_20]
  rw [show (dats m 0 c).leavesExact 21 t = owns (c : Thread nD τ) (ms0_21 t) fullShare ((dats m 0 c).after 21 t) from by
      unfold Dat.leavesExact; rw [liveAt0_21 t], after0_21]
  rw [show (dats m 0 c).leavesExact 22 t = owns (c : Thread nD τ) (ms0_22 t) fullShare ((dats m 0 c).after 22 t) from by
      unfold Dat.leavesExact; rw [liveAt0_22 t], after0_22]
  rw [show (dats m 0 c).leavesExact 23 t = owns (c : Thread nD τ) (ms0_23 t) fullShare ((dats m 0 c).after 23 t) from by
      unfold Dat.leavesExact; rw [liveAt0_23 t], after0_23]
  rw [show (dats m 0 c).leavesExact 24 t = owns (c : Thread nD τ) (ms0_24 t) fullShare ((dats m 0 c).after 24 t) from by
      unfold Dat.leavesExact; rw [liveAt0_24 t], after0_24]
  rw [show (dats m 0 c).leavesExact 25 t = owns (c : Thread nD τ) (ms0_25 t) fullShare ((dats m 0 c).after 25 t) from by
      unfold Dat.leavesExact; rw [liveAt0_25 t], after0_25]
  rw [show (dats m 0 c).leavesExact 26 t = owns (c : Thread nD τ) (ms0_26 t) fullShare ((dats m 0 c).after 26 t) from by
      unfold Dat.leavesExact; rw [liveAt0_26 t], after0_26]
  rw [show (dats m 0 c).leavesExact 27 t = owns (c : Thread nD τ) (ms0_27 t) fullShare ((dats m 0 c).after 27 t) from by
      unfold Dat.leavesExact; rw [liveAt0_27 t], after0_27]
  rw [show (dats m 0 c).leavesExact 28 t = owns (c : Thread nD τ) (ms0_28 t) fullShare ((dats m 0 c).after 28 t) from by
      unfold Dat.leavesExact; rw [liveAt0_28 t], after0_28]
  rw [show (dats m 0 c).leavesExact 29 t = owns (c : Thread nD τ) (ms0_29 t) fullShare ((dats m 0 c).after 29 t) from by
      unfold Dat.leavesExact; rw [liveAt0_29 t], after0_29]
  rw [show (dats m 0 c).leavesExact 30 t = owns (c : Thread nD τ) (ms0_30 t) fullShare ((dats m 0 c).after 30 t) from by
      unfold Dat.leavesExact; rw [liveAt0_30 t], after0_30]
  rw [show (dats m 0 c).leavesExact 31 t = owns (c : Thread nD τ) (ms0_31 t) fullShare ((dats m 0 c).after 31 t) from by
      unfold Dat.leavesExact; rw [liveAt0_31 t], after0_31]
  rw [show (dats m 0 c).leavesExact 32 t = owns (c : Thread nD τ) (ms0_32 t) fullShare ((dats m 0 c).after 32 t) from by
      unfold Dat.leavesExact; rw [liveAt0_32 t], after0_32]
  rw [show (dats m 0 c).leavesExact 33 t = owns (c : Thread nD τ) (ms0_33 t) fullShare ((dats m 0 c).after 33 t) from by
      unfold Dat.leavesExact; rw [liveAt0_33 t], after0_33]
  rw [show (dats m 0 c).leavesExact 34 t = owns (c : Thread nD τ) (ms0_34 t) fullShare ((dats m 0 c).after 34 t) from by
      unfold Dat.leavesExact; rw [liveAt0_34 t], after0_34]
  rw [show (dats m 0 c).leavesExact 35 t = owns (c : Thread nD τ) (ms0_35 t) fullShare ((dats m 0 c).after 35 t) from by
      unfold Dat.leavesExact; rw [liveAt0_35 t], after0_35]
  rw [show (dats m 0 c).leavesExact 36 t = owns (c : Thread nD τ) (ms0_36 t) fullShare ((dats m 0 c).after 36 t) from by
      unfold Dat.leavesExact; rw [liveAt0_36 t], after0_36]
  rw [show (dats m 0 c).leavesExact 37 t = owns (c : Thread nD τ) (ms0_37 t) fullShare ((dats m 0 c).after 37 t) from by
      unfold Dat.leavesExact; rw [liveAt0_37 t], after0_37]
  rw [show (dats m 0 c).leavesExact 38 t = owns (c : Thread nD τ) (ms0_38 t) fullShare ((dats m 0 c).after 38 t) from by
      unfold Dat.leavesExact; rw [liveAt0_38 t], after0_38]
  rw [show (dats m 0 c).leavesExact 40 t = owns (c : Thread nD τ) (ms0_40 t) fullShare ((dats m 0 c).after 40 t) from by
      unfold Dat.leavesExact; rw [liveAt0_40_A t (hcond0_0 t) (hcond0_1 t) (hcond0_2 t) (hcond0_3 t) (hcond0_4 t) (hcond0_5 t) (hcond0_6 t) (hcond0_7 t)], after0_40]
  rw [show (dats m 0 c).leavesExact 43 t = owns (c : Thread nD τ) (ms0_43 t) fullShare ((dats m 0 c).after 43 t) from by
      unfold Dat.leavesExact; rw [liveAt0_43_A t (hcond0_0 t) (hcond0_1 t) (hcond0_2 t) (hcond0_3 t) (hcond0_4 t) (hcond0_5 t) (hcond0_6 t) (hcond0_7 t)], after0_43]
  rw [show (dats m 0 c).leavesExact 46 t = owns (c : Thread nD τ) (ms0_46 t) fullShare ((dats m 0 c).after 46 t) from by
      unfold Dat.leavesExact; rw [liveAt0_46_A t (hcond0_0 t) (hcond0_1 t) (hcond0_2 t) (hcond0_3 t) (hcond0_4 t) (hcond0_5 t) (hcond0_6 t) (hcond0_7 t)], after0_46]
  unfold left40 left43 left46
  unfold out0_A_40 out0_A_43 out0_A_46; (try dsimp only)
  iintro ⟨⟨⟨HS0, HS1, HS2, HS3, HS4⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩, ⟨%d27, H27⟩, ⟨%d28, H28⟩, ⟨%d29, H29⟩, ⟨%d30, H30⟩, ⟨%d31, H31⟩, ⟨%d32, H32⟩, ⟨%d33, H33⟩, ⟨%d34, H34⟩, ⟨%d35, H35⟩, ⟨%d36, H36⟩, ⟨%d37, H37⟩, ⟨%d38, H38⟩, ⟨%d39, H39⟩, ⟨%d40, H40⟩, ⟨%d41, H41⟩, ⟨%d42, H42⟩, ⟨%d43, H43⟩, ⟨%d44, H44⟩, ⟨%d45, H45⟩, ⟨%d46, H46⟩⟩
  iapply ((kernelRun0_A c (grid0.coords t) _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ (hcond0_0 t) (hcond0_1 t) (hcond0_2 t) (hcond0_3 t) (hcond0_4 t) (hcond0_5 t) (hcond0_6 t) (hcond0_7 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t) (iblk m c 27 t) (iblk m c 28 t) (iblk m c 29 t) (iblk m c 30 t) (X0_31 m c t) (iblk m c 32 t) (iblk m c 33 t) (iblk m c 34 t) (iblk m c 35 t) (iblk m c 36 t) (iblk m c 37 t) (iblk m c 38 t)).2.2.2.2.2.2.2.2.2.2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  isplitl [H27]; · iexact H27
  isplitl [H28]; · iexact H28
  isplitl [H29]; · iexact H29
  isplitl [H30]; · iexact H30
  isplitl [H31]; · iexact H31
  isplitl [H32]; · iexact H32
  isplitl [H33]; · iexact H33
  isplitl [H34]; · iexact H34
  isplitl [H35]; · iexact H35
  isplitl [H36]; · iexact H36
  isplitl [H37]; · iexact H37
  isplitl [H38]; · iexact H38
  isplitl [H39]; · iexists _; iexact H39
  isplitl [H40]; · iexists _; iexact H40
  isplitl [H41]; · iexists _; iexact H41
  isplitl [H42]; · iexists _; iexact H42
  isplitl [H43]; · iexists _; iexact H43
  isplitl [H44]; · iexists _; iexact H44
  isplitl [H45]; · iexists _; iexact H45
  isplitl [H46]; · iexists _; iexact H46
  isplitl [HS0]; · iexact HS0
  isplitl [HS1]; · iexact HS1
  isplitl [HS2]; · iexact HS2
  isplitl [HS3]; · iexact HS3
  isplitl [HS4]; · iexact HS4
  iintro ⟨H0, H1, H2, H3, H4, H5, H6, H7, H8, H9, H10, H11, H12, H13, H14, H15, H16, H17, H18, H19, H20, H21, H22, H23, H24, H25, H26, H27, H28, H29, H30, H31, H32, H33, H34, H35, H36, H37, H38, ⟨%e39, H39⟩, ⟨%e40, H40⟩, ⟨%e41, H41⟩, ⟨%e42, H42⟩, ⟨%e43, H43⟩, ⟨%e44, H44⟩, ⟨%e45, H45⟩, ⟨%e46, H46⟩, ⟨%fT0, HS0⟩, ⟨%fT1, HS1⟩, ⟨%fT2, HS2⟩, ⟨%fT3, HS3⟩, ⟨%fT4, HS4⟩⟩
  isplitl [HS0 HS1 HS2 HS3 HS4 Hg]
  · isplitl [HS0 HS1 HS2 HS3 HS4]
    · isplitl [HS0]
      · iexists _; unfold owns; iexists _; isplitr
        swap; · iexact HS0
        ipureintro; rfl
      isplitl [HS1]
      · iexists _; unfold owns; iexists _; isplitr
        swap; · iexact HS1
        ipureintro; rfl
      isplitl [HS2]
      · iexists _; unfold owns; iexists _; isplitr
        swap; · iexact HS2
        ipureintro; rfl
      isplitl [HS3]
      · iexists _; unfold owns; iexists _; isplitr
        swap; · iexact HS3
        ipureintro; rfl
      iexists _; unfold owns; iexists _; isplitr
      swap; · iexact HS4
      ipureintro; rfl
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  isplitl [H27]; · iexact H27
  isplitl [H28]; · iexact H28
  isplitl [H29]; · iexact H29
  isplitl [H30]; · iexact H30
  isplitl [H31]; · iexact H31
  isplitl [H32]; · iexact H32
  isplitl [H33]; · iexact H33
  isplitl [H34]; · iexact H34
  isplitl [H35]; · iexact H35
  isplitl [H36]; · iexact H36
  isplitl [H37]; · iexact H37
  isplitl [H38]; · iexact H38
  isplitl [H39]
  · iexists _; unfold owns; iexists _; isplitr
    swap; · iexact H39
    ipureintro; rfl
  isplitl [H40]
  · unfold owns; iexists _; isplitr
    swap; · iexact H40
    ipureintro; exact View.read_writes_of_cover _ _ _ _ _ (cover0_A_40 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [H41]
  · iexists _; unfold owns; iexists _; isplitr
    swap; · iexact H41
    ipureintro; rfl
  isplitl [H42]
  · iexists _; unfold owns; iexists _; isplitr
    swap; · iexact H42
    ipureintro; rfl
  isplitl [H43]
  · unfold owns; iexists _; isplitr
    swap; · iexact H43
    ipureintro; exact View.read_writes_of_cover _ _ _ _ _ (cover0_A_43 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [H44]
  · iexists _; unfold owns; iexists _; isplitr
    swap; · iexact H44
    ipureintro; rfl
  isplitl [H45]
  · iexists _; unfold owns; iexists _; isplitr
    swap; · iexact H45
    ipureintro; rfl
  unfold owns; iexists _; isplitr
  swap; · iexact H46
  ipureintro; exact View.read_writes_of_cover _ _ _ _ _ (cover0_A_46 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)

/-- The body at the buffers of point `t`. -/
theorem defs₀_row (t : Fin cfg0.N) :
    defs₀ (F := F) .tc cfg0.body (cfg0.bodyArgs t (cfg0.slots t)) = bodyAt0 t := by
  unfold defs₀; rw [Defs.onTc_tc]

set_option maxHeartbeats 4000000 in
/-- The body at every point, as the pipeline asks for it. -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-! ## The run and the frame -/

set_option maxHeartbeats 2820000 in
/-- A run of the pipeline leaves the arguments as they were. -/
theorem frame_of_rel (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28)
      ∧ r.2.mem ((c.tc : Thread nD τ).loc main_arg29) = m ((c.tc : Thread nD τ).loc main_arg29)) :=
  (θ_run defs _ _).mono (fun _ h c => ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      (Pipeline.RDat.FramePost.arr_in h c 1 rfl).trans ((hA c 1).trans (V_main_arg3 m c)),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c),
      ((h c).2 main_arg12 (Pipeline.mem_restRefs_of main_arg12 (by decide) (by decide))).trans (V_main_arg12 m c),
      ((h c).2 main_arg13 (Pipeline.mem_restRefs_of main_arg13 (by decide) (by decide))).trans (V_main_arg13 m c),
      ((h c).2 main_arg14 (Pipeline.mem_restRefs_of main_arg14 (by decide) (by decide))).trans (V_main_arg14 m c),
      ((h c).2 main_arg15 (Pipeline.mem_restRefs_of main_arg15 (by decide) (by decide))).trans (V_main_arg15 m c),
      ((h c).2 main_arg16 (Pipeline.mem_restRefs_of main_arg16 (by decide) (by decide))).trans (V_main_arg16 m c),
      ((h c).2 main_arg17 (Pipeline.mem_restRefs_of main_arg17 (by decide) (by decide))).trans (V_main_arg17 m c),
      (Pipeline.RDat.FramePost.arr_in h c 16 rfl).trans ((hA c 16).trans (V_main_arg18 m c)),
      ((h c).2 main_arg19 (Pipeline.mem_restRefs_of main_arg19 (by decide) (by decide))).trans (V_main_arg19 m c),
      (Pipeline.RDat.FramePost.arr_in h c 22 rfl).trans ((hA c 22).trans (V_main_arg20 m c)),
      ((h c).2 main_arg21 (Pipeline.mem_restRefs_of main_arg21 (by decide) (by decide))).trans (V_main_arg21 m c),
      ((h c).2 main_arg22 (Pipeline.mem_restRefs_of main_arg22 (by decide) (by decide))).trans (V_main_arg22 m c),
      ((h c).2 main_arg23 (Pipeline.mem_restRefs_of main_arg23 (by decide) (by decide))).trans (V_main_arg23 m c),
      (Pipeline.RDat.FramePost.arr_in h c 26 rfl).trans ((hA c 26).trans (V_main_arg24 m c)),
      (Pipeline.RDat.FramePost.arr_in h c 27 rfl).trans ((hA c 27).trans (V_main_arg25 m c)),
      ((h c).2 main_arg26 (Pipeline.mem_restRefs_of main_arg26 (by decide) (by decide))).trans (V_main_arg26 m c),
      ((h c).2 main_arg27 (Pipeline.mem_restRefs_of main_arg27 (by decide) (by decide))).trans (V_main_arg27 m c),
      ((h c).2 main_arg28 (Pipeline.mem_restRefs_of main_arg28 (by decide) (by decide))).trans (V_main_arg28 m c),
      ((h c).2 main_arg29 (Pipeline.mem_restRefs_of main_arg29 (by decide) (by decide))).trans (V_main_arg29 m c)⟩) h

set_option backward.isDefEq.respectTransparency.types false in
/-- The call runs to its end, the arrays then hold what the points wrote, and every counter is zero. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The same without the counters. -/
theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

/-- The arguments end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28)
      ∧ r.2.mem ((c.tc : Thread nD τ).loc main_arg29) = m ((c.tc : Thread nD τ).loc main_arg29)) :=
  frame_of_rel m ρ (fun c => (dats m 0 c).toRForget forgets0) (A_eq m) (run_main m ρ)

/-- The frame: the call runs to its end, the arguments are unchanged and every counter is zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28)
      ∧ r.2.mem ((c.tc : Thread nD τ).loc main_arg29) = m ((c.tc : Thread nD τ).loc main_arg29))
      ∧ r.2.sem = fun _ => 0) :=
  θ_run_and (unchanged m ρ) ((θ_run defs _ _).mono (fun _ h => h.2) (run_main_quiescent m ρ))

end Cert.MixIdeal.Gen

end
-- ==== Proof.FfnMath.lean ====
/-
  The feed-forward block over the extended reals, as a function of its arrays: the hidden columns, the residual row and
  the normalised row, and the sum over the hidden columns cut into eleven blocks of 512.
-/
module

public import Idealize.ShloMosaic.Lib.Pointwise

@[expose] public section

noncomputable section

namespace Cert.FfnValue

open Idealize.ShloMosaic
open scoped BigOperators

/-- The gated unit: `silu g · u`, the sigmoid written as the programs write it. -/
def act (g u : EReal) : EReal := g * Ideal.div 1 (1 + Ideal.exp (0 - g)) * u

-- The layer `L`, the rows `x`, the gate and up weights `wg`, `wu`, the down weights `wd`, the residual `y`.
variable (L : Fin 4) (x : Vec Ideal ⟨2, ![32768, 2048]⟩ .bf16) (wg wu : Vec Ideal ⟨3, ![4, 2048, 5632]⟩ .f32)
  (wd : Vec Ideal ⟨3, ![4, 5632, 2048]⟩ .f32) (y : Vec Ideal ⟨2, ![32768, 2048]⟩ .f32)

/-- Hidden column `n` of row `R`, before the down product. -/
def hid (R : Fin 32768) (n : Fin 5632) : EReal :=
  act (∑ k : Fin 2048, x (ix2 R k) * wg (ix3 L k n)) (∑ k : Fin 2048, x (ix2 R k) * wu (ix3 L k n))

/-- The term of the down product at hidden column `n` (zero past the last one). -/
def term (R : Fin 32768) (l : Fin 2048) (n : ℕ) : EReal :=
  if h : n < 5632 then hid L x wg wu R ⟨n, h⟩ * wd (ix3 L ⟨n, h⟩ l) else 0

/-- The share of block `s` of hidden columns. -/
def share (R : Fin 32768) (l : Fin 2048) (s : ℕ) : EReal := ∑ f : Fin 512, term L x wg wu wd R l (512 * s + f.val)

/-- Eleven shares are the sum over all hidden columns. -/
theorem sum_share (R : Fin 32768) (l : Fin 2048) :
    ∑ s ∈ Finset.range 11, share L x wg wu wd R l s = ∑ n : Fin 5632, hid L x wg wu R n * wd (ix3 L n l) := by
  have e : ∀ n : Fin 5632, hid L x wg wu R n * wd (ix3 L n l) = term L x wg wu wd R l n.val := fun n => by
    unfold term; rw [dif_pos n.isLt]
  rw [Finset.sum_congr rfl fun n _ => e n, Finset.sum_range]
  unfold share
  rw [← Fintype.sum_prod_type', ← Equiv.sum_comp (finProdFinEquiv (m := 11) (n := 512))]
  exact Finset.sum_congr rfl fun z _ => congrArg (term L x wg wu wd R l) (by simp [finProdFinEquiv]; omega)

/-- The residual row: the input row plus the whole down product. -/
def resid (R : Fin 32768) (l : Fin 2048) : EReal := y (ix2 R l) + ∑ n : Fin 5632, hid L x wg wu R n * wd (ix3 L n l)

/-- The residual row normalised by the root of its mean square, times `g`. -/
def normed (g : Vec Ideal ⟨1, ![2048]⟩ .f32) (R : Fin 32768) (l : Fin 2048) : EReal :=
  resid L x wg wu wd y R l
    * Ideal.rsqrt (Ideal.div (∑ k : Fin 2048, resid L x wg wu wd y R k * resid L x wg wu wd y R k) (Ideal.ofBits .f32 0x45000000#32)
      + Ideal.ofBits .f32 0x358637BD#32) * g (ix1 l)

end Cert.FfnValue
-- ==== Proof.FfnPay.lean ====
/-
  What the body of the feed-forward kernel computes from the blocks one grid point holds, read at an index over the
  extended reals: the point's share of the product with the down weights (`pay1_apply`: a sum over the point's 512
  hidden columns), the running sum with that share added, the residual row, and the normalised row.
-/
module

public import proofs.«01_k».proof.Proof.Gen.FfnIdeal.Skeleton
public import proofs.«01_k».proof.Proof.FfnMath

@[expose] public section

set_option maxRecDepth 16384

noncomputable section

namespace Cert.FfnValue

open Cert.FfnIdeal Cert.FfnIdeal.Gen Idealize.ShloMosaic

/-- The share of one block of 512 hidden columns. -/
theorem pay1_apply (x0 : Vec Ideal S512x2048 .bf16) (x1 x2 : Vec Ideal S1x2048x512 .bf16) (x3 : Vec Ideal S1x512x2048 .bf16)
    (r : Fin 512) (l : Fin 2048) : k0_pay1 x0 x1 x2 x3 (ix2 r l)
      = ∑ f : Fin 512, act (∑ k : Fin 2048, x0 (ix2 r k) * x1 (ix3 0 k f)) (∑ k : Fin 2048, x0 (ix2 r k) * x2 (ix3 0 k f))
          * x3 (ix3 0 f l) := by
  pointwise [k0_pay1]
  rfl

theorem pay2_apply (a : Vec Ideal S512x2048 .f32) (x0 : Vec Ideal S512x2048 .bf16) (x1 x2 : Vec Ideal S1x2048x512 .bf16)
    (x3 : Vec Ideal S1x512x2048 .bf16) (r : Fin 512) (l : Fin 2048) :
    k0_pay2 a x0 x1 x2 x3 (ix2 r l) = a (ix2 r l) + k0_pay1 x0 x1 x2 x3 (ix2 r l) := by
  pointwise! [k0_pay1, k0_pay2]

theorem pay4_apply (y a : Vec Ideal S512x2048 .f32) (x0 : Vec Ideal S512x2048 .bf16) (x1 x2 : Vec Ideal S1x2048x512 .bf16)
    (x3 : Vec Ideal S1x512x2048 .bf16) (r : Fin 512) (l : Fin 2048) :
    k0_pay4 y a x0 x1 x2 x3 (ix2 r l) = y (ix2 r l) + (a (ix2 r l) + k0_pay1 x0 x1 x2 x3 (ix2 r l)) := by
  pointwise! [k0_pay1, k0_pay4]

/-- The mean of the squares of the residual row. -/
theorem pay6_apply (y a : Vec Ideal S512x2048 .f32) (x0 : Vec Ideal S512x2048 .bf16) (x1 x2 : Vec Ideal S1x2048x512 .bf16)
    (x3 : Vec Ideal S1x512x2048 .bf16) (r : Fin 512) (u : Fin 1) :
    k0_pay6 y a x0 x1 x2 x3 (ix2 r u)
      = Ideal.div (∑ k : Fin 2048, k0_pay4 y a x0 x1 x2 x3 (ix2 r k) * k0_pay4 y a x0 x1 x2 x3 (ix2 r k))
          (Ideal.ofBits .f32 0x45000000#32) := by
  pointwise [k0_pay6]

/-- The normalised row. -/
theorem pay3_apply (x : FVec Ideal S512x2048 .f32) (g : FVec Ideal S1x2048 .f32) (q : FVec Ideal S512x1 .f32)
    (r : Fin 512) (l : Fin 2048) : k0_pay3 x (k0_pay5 g) q (ix2 r l)
      = x (ix2 r l) * Ideal.rsqrt (q (ix2 r 0) + Ideal.ofBits .f32 0x358637BD#32) * g (ix2 0 l) := by
  pointwise [k0_pay3, k0_pay5]

end Cert.FfnValue
-- ==== Proof.FfnCases.lean ====
/-
  What each of the three kinds of grid point of the feed-forward kernel leaves, as functions of the blocks it holds: the
  first point of a row block starts the running sum, the middle points add to it, the last point stores the residual row
  block and its normalised rows.
-/
module

public import proofs.«01_k».proof.Proof.FfnPay
public import proofs.«01_k».proof.Proof.Gen.FfnIdeal.Value
public import Idealize.ShloMosaic.Lib.Tactic

@[expose] public section

noncomputable section

namespace Cert.FfnValue

open Cert.FfnIdeal Cert.FfnIdeal.Gen Idealize.ShloMosaic Idealize.ShloMosaic.TcCoe Idealize.SL.Sem

theorem hz2 : (![0, 0] : Fin 2 → Nat) = fun _ => 0 := funext fun a => by fin_cases a <;> rfl
theorem hz3 : (![0, 0, 0] : Fin 3 → Nat) = fun _ => 0 := funext fun a => by fin_cases a <;> rfl

variable {F : FTy → Type} [FloatOps F]

section
variable (c : Dev nD) (i : grid0.Coords) (a2 : Memref sig .tc .vmem S512x2048 .bf16) (h2 : a2.IsWhole)
  (a3 : Memref sig .tc .vmem S1x2048x512 .bf16) (h3 : a3.IsWhole) (a4 : Memref sig .tc .vmem S1x2048x512 .bf16) (h4 : a4.IsWhole)
  (a5 : Memref sig .tc .vmem S1x512x2048 .bf16) (h5 : a5.IsWhole) (a6 : Memref sig .tc .vmem S512x2048 .f32) (h6 : a6.IsWhole)
  (a7 : Memref sig .tc .vmem S1x2048 .f32) (h7 : a7.IsWhole) (a8 : Memref sig .tc .vmem S512x2048 .f32) (h8 : a8.IsWhole)
  (a9 : Memref sig .tc .vmem S512x2048 .bf16) (h9 : a9.IsWhole) (a10 : Memref sig .tc .vmem S512x2048 .f32) (h10 : a10.IsWhole)
  (x0 : Vec F S512x2048 .bf16) (x1 : Vec F S1x2048x512 .bf16) (x2 : Vec F S1x2048x512 .bf16) (x3 : Vec F S1x512x2048 .bf16)
  (x4 : Vec F S512x2048 .f32) (x5 : Vec F S1x2048 .f32) (xs : Vec F S512x2048 .f32)

/-- The first point of a row block: the running sum is the point's share. -/
theorem sout_A (p0 : cond0_0 i) (p1 : ¬cond0_1 i) (p2 : ¬cond0_2 i) :
    sout0_A_0 c i a2 h2 a3 h3 a4 h4 a5 h5 a6 h6 a7 h7 a8 h8 a9 h9 a10 h10 p0 p1 p2 x0 x1 x2 x3 x4 x5 = k0_pay1 x0 x1 x2 x3 := by
  unfold sout0_A_0
  rw [View.read_writes_eq_canon _ _ _ (scover0_A_0 c i a2 h2 a3 h3 a4 h4 a5 h5 a6 h6 a7 h7 a8 h8 a9 h9 a10 h10 p0 p1 p2 x0 x1 x2 x3 x4 x5)]
  unfold kernelRun0_A
  dsimp only
  rw [View.canon_unit_zero hz2]
  simp only [View.readAt_eq_ld, h2.read_unread, h3.read_unread, h4.read_unread, h5.read_unread, View.ld_unit_zero (S := S512x2048) hz2,
    View.ld_unit_zero (S := S1x2048x512) hz3, View.ld_unit_zero (S := S1x512x2048) hz3]

/-- A middle point: the running sum gains the point's share. -/
theorem sout_B (p0 : ¬cond0_0 i) (p1 : cond0_1 i) (p2 : ¬cond0_2 i) :
    sout0_B_0 c i a2 h2 a3 h3 a4 h4 a5 h5 a6 h6 a7 h7 a8 h8 a9 h9 a10 h10 p0 p1 p2 x0 x1 x2 x3 x4 x5 xs = k0_pay2 xs x0 x1 x2 x3 := by
  unfold sout0_B_0
  rw [View.read_writes_eq_canon _ _ _ (scover0_B_0 c i a2 h2 a3 h3 a4 h4 a5 h5 a6 h6 a7 h7 a8 h8 a9 h9 a10 h10 p0 p1 p2 x0 x1 x2 x3 x4 x5 xs)]
  unfold kernelRun0_B
  dsimp only
  rw [View.canon_unit_zero hz2]
  simp only [View.readAt_eq_ld, h2.read_unread, h3.read_unread, h4.read_unread, h5.read_unread, h10.read_unread, View.ld_unit_zero (S := S512x2048) hz2,
    View.ld_unit_zero (S := S1x2048x512) hz3, View.ld_unit_zero (S := S1x512x2048) hz3]

/-- The last point: the residual row block. -/
theorem out_C_6 (p0 : ¬cond0_0 i) (p1 : ¬cond0_1 i) (p2 : cond0_2 i) :
    out0_C_6 c i a2 h2 a3 h3 a4 h4 a5 h5 a6 h6 a7 h7 a8 h8 a9 h9 a10 h10 p0 p1 p2 x0 x1 x2 x3 x4 x5 xs = k0_pay4 x4 xs x0 x1 x2 x3 := by
  unfold out0_C_6
  rw [View.read_writes_eq_canon _ _ _ (cover0_C_6 c i a2 h2 a3 h3 a4 h4 a5 h5 a6 h6 a7 h7 a8 h8 a9 h9 a10 h10 p0 p1 p2 x0 x1 x2 x3 x4 x5 xs)]
  unfold kernelRun0_C
  dsimp only
  sl_unfold_words
  rw [View.canon_unit_zero hz2]
  simp only [View.readAt_eq_ld, h2.read_unread, h3.read_unread, h4.read_unread, h5.read_unread, h6.read_unread, h10.read_unread,
    View.ld_unit_zero (S := S512x2048) hz2, View.ld_unit_zero (S := S1x2048x512) hz3, View.ld_unit_zero (S := S1x512x2048) hz3]

/-- The last point: the normalised rows of the residual row block. -/
theorem out_C_7 (p0 : ¬cond0_0 i) (p1 : ¬cond0_1 i) (p2 : cond0_2 i) :
    out0_C_7 c i a2 h2 a3 h3 a4 h4 a5 h5 a6 h6 a7 h7 a8 h8 a9 h9 a10 h10 p0 p1 p2 x0 x1 x2 x3 x4 x5 xs
      = k0_pay3 (k0_pay4 x4 xs x0 x1 x2 x3) (k0_pay5 x5) (k0_pay6 x4 xs x0 x1 x2 x3) := by
  unfold out0_C_7
  rw [View.read_writes_eq_canon _ _ _ (cover0_C_7 c i a2 h2 a3 h3 a4 h4 a5 h5 a6 h6 a7 h7 a8 h8 a9 h9 a10 h10 p0 p1 p2 x0 x1 x2 x3 x4 x5 xs)]
  unfold kernelRun0_C
  dsimp only
  sl_unfold_words
  rw [View.canon_unit_zero hz2]
  simp only [View.readAt_eq_ld, h2.read_unread, h3.read_unread, h4.read_unread, h5.read_unread, h6.read_unread, h7.read_unread, h10.read_unread,
    View.ld_unit_zero (S := S512x2048) hz2, View.ld_unit_zero (S := S1x2048) hz2, View.ld_unit_zero (S := S1x2048x512) hz3, View.ld_unit_zero (S := S1x512x2048) hz3]

end

end Cert.FfnValue
-- ==== Proof.FfnBlocks.lean ====
/-
  The blocks one grid point of the feed-forward kernel holds, read at an index of the program's arguments: point `t` works
  on the 512 rows from `512·(t / 11)` and on the 512 hidden columns from `512·(t mod 11)` of the second layer's weights.
-/
module

public import proofs.«01_k».proof.Proof.Gen.FfnIdeal.Value
public import proofs.«01_k».proof.Proof.FfnMath
public import Idealize.ShloMosaic.Lib.Tactic

@[expose] public section

set_option maxRecDepth 16384

noncomputable section

namespace Cert.FfnValue

open Cert.FfnIdeal Cert.FfnIdeal.Gen Idealize.ShloMosaic Idealize.ShloMosaic.TcCoe Idealize.SL.Sem

variable (m : (ℓ : Loc nD τ sig) → Buf (Elt Ideal) ℓ)

/-- The weights the region finds are the arguments (a change of format is the identity over the extended reals). -/
theorem V_v0 (c : Dev nD) : V m c main_v0 = truncf (F := Ideal) .bf16 (m ((c : Thread nD τ).loc main_arg1)) bitsLt_bf16_f32 := by
  simp only [V, hostOps0]; after_results_simp <;> rfl
theorem V_v1 (c : Dev nD) : V m c main_v1 = truncf (F := Ideal) .bf16 (m ((c : Thread nD τ).loc main_arg2)) bitsLt_bf16_f32 := by
  simp only [V, hostOps0]; after_results_simp <;> rfl
theorem V_v2 (c : Dev nD) : V m c main_v2 = truncf (F := Ideal) .bf16 (m ((c : Thread nD τ).loc main_arg3)) bitsLt_bf16_f32 := by
  simp only [V, hostOps0]; after_results_simp <;> rfl
theorem V_v3 (c : Dev nD) : V m c main_v3 = shapeCast S1x2048 (m ((c : Thread nD τ).loc main_arg5)) shapeCasts_S2048_S1x2048 := by
  simp only [V, hostOps0]; after_results_simp <;> rfl

/-- Where each window's block lies, decided over the grid. -/
theorem index_facts : ∀ t : Fin grid0.N,
    (win0_0.index t (0 : Fin 2) = t.val / 11 ∧ win0_0.index t (1 : Fin 2) = 0)
    ∧ (win0_1.index t (0 : Fin 3) = 1 ∧ win0_1.index t (1 : Fin 3) = 0 ∧ win0_1.index t (2 : Fin 3) = t.val % 11)
    ∧ (win0_2.index t (0 : Fin 3) = 1 ∧ win0_2.index t (1 : Fin 3) = 0 ∧ win0_2.index t (2 : Fin 3) = t.val % 11)
    ∧ (win0_3.index t (0 : Fin 3) = 1 ∧ win0_3.index t (1 : Fin 3) = t.val % 11 ∧ win0_3.index t (2 : Fin 3) = 0)
    ∧ (win0_4.index t (0 : Fin 2) = t.val / 11 ∧ win0_4.index t (1 : Fin 2) = 0)
    ∧ (win0_5.index t (0 : Fin 2) = 0 ∧ win0_5.index t (1 : Fin 2) = 0) := by
  decide +kernel

theorem t_div (t : Fin cfg0.N) : t.val / 11 < 64 := by
  have h := lt_of_lt_of_eq t.isLt (show cfg0.N = 704 from N_0); omega

/-- Row `r` of the block of 512 rows number `b`. -/
abbrev row (b : ℕ) (hb : b < 64) (r : Fin 512) : Fin 32768 := ⟨512 * b + r.val, by have := r.isLt; omega⟩
/-- Hidden column `f` of the block of 512 columns number `j`. -/
abbrev col (j : ℕ) (hj : j < 11) (f : Fin 512) : Fin 5632 := ⟨512 * j + f.val, by have := f.isLt; omega⟩

/-- The program's arguments as arrays of extended reals. -/
abbrev A0 (c : Dev nD) : Vec Ideal S32768x2048 .bf16 := m ((c : Thread nD τ).loc main_arg0)
abbrev A1 (c : Dev nD) : Vec Ideal S4x2048x5632 .f32 := m ((c : Thread nD τ).loc main_arg1)
abbrev A2 (c : Dev nD) : Vec Ideal S4x2048x5632 .f32 := m ((c : Thread nD τ).loc main_arg2)
abbrev A3 (c : Dev nD) : Vec Ideal S4x5632x2048 .f32 := m ((c : Thread nD τ).loc main_arg3)
abbrev A4 (c : Dev nD) : Vec Ideal S32768x2048 .f32 := m ((c : Thread nD τ).loc main_arg4)
abbrev A5 (c : Dev nD) : Vec Ideal S2048 .f32 := m ((c : Thread nD τ).loc main_arg5)

theorem iblk0 (c : Dev nD) (t : Fin cfg0.N) (r : Fin 512) (k : Fin 2048) :
    (iblk m c 0 t : Vec Ideal S512x2048 .bf16) (ix2 r k)
      = A0 m c (ix2 (row (t.val / 11) (t_div t) r) k) := by
  have hi := (index_facts t).1
  unfold iblk
  rw [View.read_apply]
  show V m c main_arg0 _ = _
  rw [V_main_arg0]
  congr 1
  funext a
  apply Fin.ext
  match a with
  | ⟨0, _⟩ => show win0_0.index t 0 * 512 + 1 * r.val = 512 * (t.val / 11) + r.val; rw [hi.1]; omega
  | ⟨1, _⟩ => show win0_0.index t 1 * 2048 + 1 * k.val = k.val; rw [hi.2]; omega

theorem iblk1 (c : Dev nD) (t : Fin cfg0.N) (k : Fin 2048) (f : Fin 512) :
    (iblk m c 1 t : Vec Ideal S1x2048x512 .bf16) (ix3 0 k f)
      = A1 m c (ix3 1 k (col (t.val % 11) (Nat.mod_lt _ (by decide)) f)) := by
  have hi := (index_facts t).2.1
  unfold iblk
  rw [View.read_apply]
  show V m c main_v0 _ = _
  rw [V_v0]
  show m ((c : Thread nD τ).loc main_arg1) _ = _
  congr 1
  funext a
  apply Fin.ext
  match a with
  | ⟨0, _⟩ => show win0_1.index t 0 * 1 + 1 * 0 = 1; rw [hi.1]
  | ⟨1, _⟩ => show win0_1.index t 1 * 2048 + 1 * k.val = k.val; rw [hi.2.1]; omega
  | ⟨2, _⟩ => show win0_1.index t 2 * 512 + 1 * f.val = 512 * (t.val % 11) + f.val; rw [hi.2.2]; omega

theorem iblk2 (c : Dev nD) (t : Fin cfg0.N) (k : Fin 2048) (f : Fin 512) :
    (iblk m c 2 t : Vec Ideal S1x2048x512 .bf16) (ix3 0 k f)
      = A2 m c (ix3 1 k (col (t.val % 11) (Nat.mod_lt _ (by decide)) f)) := by
  have hi := (index_facts t).2.2.1
  unfold iblk
  rw [View.read_apply]
  show V m c main_v1 _ = _
  rw [V_v1]
  show m ((c : Thread nD τ).loc main_arg2) _ = _
  congr 1
  funext a
  apply Fin.ext
  match a with
  | ⟨0, _⟩ => show win0_2.index t 0 * 1 + 1 * 0 = 1; rw [hi.1]
  | ⟨1, _⟩ => show win0_2.index t 1 * 2048 + 1 * k.val = k.val; rw [hi.2.1]; omega
  | ⟨2, _⟩ => show win0_2.index t 2 * 512 + 1 * f.val = 512 * (t.val % 11) + f.val; rw [hi.2.2]; omega

theorem iblk3 (c : Dev nD) (t : Fin cfg0.N) (f : Fin 512) (l : Fin 2048) :
    (iblk m c 3 t : Vec Ideal S1x512x2048 .bf16) (ix3 0 f l)
      = A3 m c (ix3 1 (col (t.val % 11) (Nat.mod_lt _ (by decide)) f) l) := by
  have hi := (index_facts t).2.2.2.1
  unfold iblk
  rw [View.read_apply]
  show V m c main_v2 _ = _
  rw [V_v2]
  show m ((c : Thread nD τ).loc main_arg3) _ = _
  congr 1
  funext a
  apply Fin.ext
  match a with
  | ⟨0, _⟩ => show win0_3.index t 0 * 1 + 1 * 0 = 1; rw [hi.1]
  | ⟨1, _⟩ => show win0_3.index t 1 * 512 + 1 * f.val = 512 * (t.val % 11) + f.val; rw [hi.2.1]; omega
  | ⟨2, _⟩ => show win0_3.index t 2 * 2048 + 1 * l.val = l.val; rw [hi.2.2]; omega

theorem iblk4 (c : Dev nD) (t : Fin cfg0.N) (r : Fin 512) (k : Fin 2048) :
    (iblk m c 4 t : Vec Ideal S512x2048 .f32) (ix2 r k)
      = A4 m c (ix2 (row (t.val / 11) (t_div t) r) k) := by
  have hi := (index_facts t).2.2.2.2.1
  unfold iblk
  rw [View.read_apply]
  show V m c main_arg4 _ = _
  rw [V_main_arg4]
  congr 1
  funext a
  apply Fin.ext
  match a with
  | ⟨0, _⟩ => show win0_4.index t 0 * 512 + 1 * r.val = 512 * (t.val / 11) + r.val; rw [hi.1]; omega
  | ⟨1, _⟩ => show win0_4.index t 1 * 2048 + 1 * k.val = k.val; rw [hi.2]; omega

theorem iblk5 (c : Dev nD) (t : Fin cfg0.N) (l : Fin 2048) :
    (iblk m c 5 t : Vec Ideal S1x2048 .f32) (ix2 0 l) = A5 m c (ix1 l) := by
  have hi := (index_facts t).2.2.2.2.2
  unfold iblk
  rw [View.read_apply]
  show V m c main_v3 _ = _
  rw [V_v3]
  refine (congrArg (shapeCast S1x2048 (m ((c : Thread nD τ).loc main_arg5)) shapeCasts_S2048_S1x2048) (?_ : _ = ix2 0 l)).trans ?_
  · funext a
    apply Fin.ext
    match a with
    | ⟨0, _⟩ => show win0_5.index t 0 * 1 + 1 * 0 = 0; rw [hi.1]
    | ⟨1, _⟩ => show win0_5.index t 1 * 2048 + 1 * l.val = l.val; rw [hi.2]; omega
  · pointwise

end Cert.FfnValue
-- ==== Proof.FfnSum.lean ====
/-
  The running sum of the feed-forward kernel, and what its two result arrays end holding: row `R` of the first is the
  residual row plus the product over all 5632 hidden columns (the eleven points of a row block each add 512 of them), row
  `R` of the second is that row normalised.
-/
module

public import proofs.«01_k».proof.Proof.FfnCases
public import proofs.«01_k».proof.Proof.FfnBlocks

@[expose] public section

set_option maxRecDepth 16384

noncomputable section

namespace Cert.FfnValue

open Cert.FfnIdeal Cert.FfnIdeal.Gen Idealize.ShloMosaic Idealize.ShloMosaic.TcCoe Idealize.SL.Sem
open scoped BigOperators

variable (m : (ℓ : Loc nD τ sig) → Buf (Elt Ideal) ℓ)

/-- The share, the residual row and the normalised row at the program's arguments. -/
abbrev shareOf (c : Dev nD) := share 1 (A0 m c) (A1 m c) (A2 m c) (A3 m c)
abbrev residOf (c : Dev nD) := resid 1 (A0 m c) (A1 m c) (A2 m c) (A3 m c) (A4 m c)

/-- What the body computes from the blocks of point `t` is the share of the point's hidden columns. -/
theorem share_eq (c : Dev nD) (t : Fin cfg0.N) (r : Fin 512) (l : Fin 2048) :
    k0_pay1 (F := Ideal) (iblk m c 0 t) (iblk m c 1 t) (iblk m c 2 t) (iblk m c 3 t) (ix2 r l)
      = shareOf m c (row (t.val / 11) (t_div t) r) l (t.val % 11) := by
  rw [pay1_apply]
  unfold shareOf share
  refine Finset.sum_congr rfl fun f _ => ?_
  have h11 : t.val % 11 < 11 := Nat.mod_lt _ (by decide)
  unfold term
  rw [dif_pos (show 512 * (t.val % 11) + f.val < 5632 by have := f.isLt; omega)]
  unfold hid
  simp only [iblk0, iblk1, iblk2, iblk3]

/-- After the first points of row block `b`, up to its point number `j`, the carried sum holds the first `j + 1` shares. -/
theorem acc_eq (c : Dev nD) (b : ℕ) (hb : b < 64) (r : Fin 512) (l : Fin 2048) : ∀ (j : ℕ) (hj : j ≤ 9) (h : 11 * b + j < cfg0.N),
    (outsAt0 m c (11 * b + j) h).2.2 (ix2 r l) = ∑ s ∈ Finset.range (j + 1), shareOf m c (row b hb r) l s
  | 0, _, h => by
    have e := share_eq m c ⟨11 * b + 0, h⟩ r l
    simp only [show (11 * b + 0) / 11 = b by omega, show (11 * b + 0) % 11 = 0 by omega] at e
    rw [outsAt0_A m c ⟨11 * b + 0, h⟩ (by simp only []; omega) (by simp only []; omega) (by simp only []; omega)]
    dsimp only
    rw [sout_A, e, Finset.sum_range_one]
  | j + 1, hj, h => by
    have e := share_eq m c ⟨11 * b + (j + 1), h⟩ r l
    simp only [show (11 * b + (j + 1)) / 11 = b by omega, show (11 * b + (j + 1)) % 11 = j + 1 by omega] at e
    rw [outsAt0_B m c ⟨11 * b + (j + 1), h⟩ (by simp only []; omega) (by simp only []; omega) (by simp only []; omega)]
    dsimp only
    rw [sout_B, pay2_apply, e, Finset.sum_range_succ]
    congr 1
    exact acc_eq c b hb r l j (by omega) (by omega)

/-- What the last point of a row block adds up to. -/
theorem last_eq (c : Dev nD) (b : ℕ) (hb : b < 64) (h : 11 * b + 10 < cfg0.N) (r : Fin 512) (l : Fin 2048) :
    k0_pay4 (F := Ideal) (iblk m c 4 ⟨11 * b + 10, h⟩) (outsAt0 m c (11 * b + 10 - 1) (Nat.lt_of_le_of_lt (Nat.sub_le _ _) h)).2.2
        (iblk m c 0 ⟨11 * b + 10, h⟩) (iblk m c 1 ⟨11 * b + 10, h⟩) (iblk m c 2 ⟨11 * b + 10, h⟩) (iblk m c 3 ⟨11 * b + 10, h⟩) (ix2 r l)
      = residOf m c (row b hb r) l := by
  have e := share_eq m c ⟨11 * b + 10, h⟩ r l
  have e4 := iblk4 m c ⟨11 * b + 10, h⟩ r l
  simp only [show (11 * b + 10) / 11 = b by omega, show (11 * b + 10) % 11 = 10 by omega] at e e4
  rw [pay4_apply, e, e4]
  unfold residOf resid
  rw [← sum_share 1 (A0 m c) (A1 m c) (A2 m c) (A3 m c) (row b hb r) l, Finset.sum_range_succ]
  congr 2
  exact acc_eq m c b hb r l 9 (by omega) (by omega)

/-- The first result array. -/
theorem G6_apply (c : Dev nD) (R : Fin 32768) (l : Fin 2048) : Value.G6 m c (ix2 R l) = residOf m c R l := by
  have hR := R.isLt
  have hl := l.isLt
  have hp : Value.pt6Of (ix2 R l) = 11 * (R.val / 512) + 10 := by
    show 11 * (1 * (R.val / 512 - 0) + 1 * (l.val / 2048 - 0)) + 10 = _
    rw [Nat.div_eq_of_lt hl]; omega
  have hq : 11 * (R.val / 512) + 10 < cfg0.N := by rw [show cfg0.N = 704 from N_0]; omega
  have hloc : Value.loc6Of (ix2 R l) = ix2 (⟨R.val % 512, Nat.mod_lt _ (by decide)⟩ : Fin 512) l := by
    funext a
    apply Fin.ext
    match a with
    | ⟨0, _⟩ => rfl
    | ⟨1, _⟩ => exact Nat.mod_eq_of_lt hl
  unfold Value.G6
  rw [dif_pos (by rw [hp]; exact hq), ← Value.outsAt0_sweep m c _ (by rw [hp]; exact hq), hloc]
  have ho : ∀ (n : ℕ) (hn : n < cfg0.N), n = 11 * (R.val / 512) + 10 → outsAt0 m c n hn = outsAt0 m c (11 * (R.val / 512) + 10) hq := by
    intro n hn e; subst e; rfl
  rw [ho _ _ hp, outsAt0_C m c ⟨11 * (R.val / 512) + 10, hq⟩ (by simp only []; omega) (by simp only []; omega) (by simp only []; omega)]
  dsimp only
  rw [out_C_6, last_eq m c (R.val / 512) (by omega) hq]
  congr 1
  exact Fin.ext (by show 512 * (R.val / 512) + R.val % 512 = R.val; omega)

/-- The second result array: the residual row normalised. -/
theorem G7_apply (c : Dev nD) (R : Fin 32768) (l : Fin 2048) : Value.G7 m c (ix2 R l)
    = normed 1 (A0 m c) (A1 m c) (A2 m c) (A3 m c) (A4 m c) (A5 m c) R l := by
  have hR := R.isLt
  have hl := l.isLt
  have hp : Value.pt7Of (ix2 R l) = 11 * (R.val / 512) + 10 := by
    show 11 * (1 * (R.val / 512 - 0) + 1 * (l.val / 2048 - 0)) + 10 = _
    rw [Nat.div_eq_of_lt hl]; omega
  have hq : 11 * (R.val / 512) + 10 < cfg0.N := by rw [show cfg0.N = 704 from N_0]; omega
  have hloc : Value.loc7Of (ix2 R l) = ix2 (⟨R.val % 512, Nat.mod_lt _ (by decide)⟩ : Fin 512) l := by
    funext a
    apply Fin.ext
    match a with
    | ⟨0, _⟩ => rfl
    | ⟨1, _⟩ => exact Nat.mod_eq_of_lt hl
  have hrow : row (R.val / 512) (by omega) ⟨R.val % 512, Nat.mod_lt _ (by decide)⟩ = R :=
    Fin.ext (by show 512 * (R.val / 512) + R.val % 512 = R.val; omega)
  unfold Value.G7
  rw [dif_pos (by rw [hp]; exact hq), ← Value.outsAt0_sweep m c _ (by rw [hp]; exact hq), hloc]
  have ho : ∀ (n : ℕ) (hn : n < cfg0.N), n = 11 * (R.val / 512) + 10 → outsAt0 m c n hn = outsAt0 m c (11 * (R.val / 512) + 10) hq := by
    intro n hn e; subst e; rfl
  rw [ho _ _ hp, outsAt0_C m c ⟨11 * (R.val / 512) + 10, hq⟩ (by simp only []; omega) (by simp only []; omega) (by simp only []; omega)]
  dsimp only
  rw [out_C_7, pay3_apply, pay6_apply]
  simp only [last_eq m c (R.val / 512) (by omega) hq, hrow, iblk5]
  rfl

end Cert.FfnValue
-- ==== Proof.FfnRef.lean ====
/-
  The reference of the feed-forward block, read at an index.
-/
module

public import proofs.«01_k».proof.Proof.FfnMath
public import proofs.«01_k».proof.Proof.Gen.FfnRefIdeal.Run
public import proofs.«01_k».proof.Proof.Gen.FfnRefIdeal.Read

@[expose] public section

set_option maxRecDepth 16384

noncomputable section

namespace Cert.FfnValue

open Idealize.ShloMosaic
open Cert.FfnRefIdeal Cert.FfnRefIdeal.Read
open scoped BigOperators

variable (x0 : Vec Ideal S32768x2048 .bf16) (x1 x2 : Vec Ideal S4x2048x5632 .f32) (x3 : Vec Ideal S4x5632x2048 .f32)
  (x4 : Vec Ideal S32768x2048 .f32) (x5 : Vec Ideal S2048 .f32)

/-- The reference's first result is the residual row. -/
theorem ref12_apply (R : Fin 32768) (l : Fin 2048) : val_main_v12 (F := Ideal) x0 x1 x2 x3 x4 (ix2 R l) = resid 1 x0 x1 x2 x3 x4 R l := by
  rw [← val_main_v12_eq]
  pointwise
  unfold resid hid act
  simp only [zero_sub]

/-- The reference's second result is the normalised row. -/
theorem ref26_apply (R : Fin 32768) (l : Fin 2048) :
    val_main_v26 (F := Ideal) x0 x1 x2 x3 x4 x5 (ix2 R l) = normed 1 x0 x1 x2 x3 x4 x5 R l := by
  simp only [val_main_v26, val_main_v25, val_main_v24, val_main_v23, val_main_v22, val_main_v21, val_main_v20, val_main_v19,
    val_main_v18, val_main_v17, val_main_v16, val_main_v15, val_main_v14, val_main_v13,
    val_main_cst, val_main_cst_0, val_main_cst_1]
  have h := ref12_apply x0 x1 x2 x3 x4
  generalize val_main_v12 (F := Ideal) x0 x1 x2 x3 x4 = z at h ⊢
  pointwise
  simp only [h]
  unfold normed
  try simp only [zero_add]

end Cert.FfnValue
-- ==== Proof.FfnClaim.lean ====
/-
  The feed-forward block: the kernel's two results are the reference's, and the reference leaves its arguments alone.
-/
module

public import proofs.«01_k».proof.Defs
public import proofs.«01_k».proof.Proof.FfnSum
public import proofs.«01_k».proof.Proof.FfnRef
public import proofs.«01_k».proof.Proof.Gen.FfnIdeal.Value
public import Idealize.ShloMosaic.Lib.Quiescent

@[expose] public section

noncomputable section

namespace Cert.FfnValue

open Idealize.ShloMosaic
open Cert.FfnIdeal Cert.FfnIdeal.Gen

/-- The reference runs to the end and leaves its arguments and its counters as they were. -/
theorem ref_frame : Cert.quiescent_FfnRefIdeal (hFfnRefIdeal := Cert.FfnRefIdeal.Gen.facts) := fun m ρ _ =>
  (θ_run Cert.FfnRefIdeal.defs _ _).mono
    (fun r h => ⟨fun c => (by obtain rfl : c = 0 := Subsingleton.elim _ _; exact (h 0).2.2), sem_eq_zero_of_no_sems (by decide) r.2⟩)
    (Cert.FfnRefIdeal.Value.run (F := Ideal) m ρ)

/-- The kernel's first result array is the reference's first stage of the same arguments. -/
theorem G6_eq (m : (ℓ : Loc nD τ sig) → Buf (Elt Ideal) ℓ) (c : Dev nD) :
    Cert.FfnRefIdeal.Read.val_main_v12 (F := Ideal) (A0 m c) (A1 m c) (A2 m c) (A3 m c) (A4 m c) = Value.G6 m c := by
  funext j
  obtain ⟨R, l, rfl⟩ : ∃ (R : Fin 32768) (l : Fin 2048), j = ix2 R l :=
    ⟨j 0, j 1, funext fun a => match a with | ⟨0, _⟩ => rfl | ⟨1, _⟩ => rfl⟩
  exact (ref12_apply _ _ _ _ _ R l).trans (G6_apply m c R l).symm

/-- The kernel's second result array is the reference's last stage of the same arguments. -/
theorem G7_eq (m : (ℓ : Loc nD τ sig) → Buf (Elt Ideal) ℓ) (c : Dev nD) :
    Cert.FfnRefIdeal.Read.val_main_v26 (F := Ideal) (A0 m c) (A1 m c) (A2 m c) (A3 m c) (A4 m c) (A5 m c) = Value.G7 m c := by
  funext j
  obtain ⟨R, l, rfl⟩ : ∃ (R : Fin 32768) (l : Fin 2048), j = ix2 R l :=
    ⟨j 0, j 1, funext fun a => match a with | ⟨0, _⟩ => rfl | ⟨1, _⟩ => rfl⟩
  exact (ref26_apply _ _ _ _ _ _ R l).trans (G7_apply m c R l).symm

/-- Over the extended reals the kernel computes the reference. -/
theorem algebraic : Cert.algebraic_FfnIdeal_FfnRefIdeal (hFfnIdeal := Cert.FfnIdeal.Gen.facts) (hFfnRefIdeal := Cert.FfnRefIdeal.Gen.facts) := by
  intro m g m' g' _ hagree
  refine ⟨fun c => Value.G6 m c, fun c => Value.G7 m c, Value.run m g,
    (θ_run Cert.FfnRefIdeal.defs _ _).mono (fun _ h c => ⟨(h c).1.trans ?_, (h c).2.1.trans ?_, (h c).2.2⟩)
      (Cert.FfnRefIdeal.Value.run (F := Ideal) m' g')⟩
  · obtain ⟨h0, h1, h2, h3, h4, _⟩ := hagree c
    rw [h0, h1, h2, h3, h4]
    exact (Cert.FfnRefIdeal.Read.val_main_v12_eq _ _ _ _ _).trans (G6_eq m c)
  · obtain ⟨h0, h1, h2, h3, h4, h5⟩ := hagree c
    refine (Cert.FfnRefIdeal.Read.val_main_v26_eq m' c).trans ?_
    rw [h0, h1, h2, h3, h4, h5]
    exact G7_eq m c

end Cert.FfnValue
-- ==== Proof.LastPay.lean ====
/-
  What the body of the last feed-forward kernel computes from the blocks one grid point holds, read at an index over the
  extended reals: the point's share of the product with the down weights (`pay1_apply`: a sum over the point's 512
  hidden columns), the running sum with that share added, the residual row, and the normalised row.
-/
module

public import proofs.«01_k».proof.Proof.Gen.LastIdeal.Skeleton
public import proofs.«01_k».proof.Proof.FfnMath

@[expose] public section

set_option maxRecDepth 16384

noncomputable section

namespace Cert.LastValue

open Cert.FfnValue (act hid term share sum_share resid normed)
open Cert.LastIdeal Cert.LastIdeal.Gen Idealize.ShloMosaic

/-- The share of one block of 512 hidden columns. -/
theorem pay1_apply (x0 : Vec Ideal S512x2048 .bf16) (x1 x2 : Vec Ideal S1x2048x512 .bf16) (x3 : Vec Ideal S1x512x2048 .bf16)
    (r : Fin 512) (l : Fin 2048) : k0_pay1 x0 x1 x2 x3 (ix2 r l)
      = ∑ f : Fin 512, act (∑ k : Fin 2048, x0 (ix2 r k) * x1 (ix3 0 k f)) (∑ k : Fin 2048, x0 (ix2 r k) * x2 (ix3 0 k f))
          * x3 (ix3 0 f l) := by
  pointwise [k0_pay1]
  rfl

theorem pay2_apply (a : Vec Ideal S512x2048 .f32) (x0 : Vec Ideal S512x2048 .bf16) (x1 x2 : Vec Ideal S1x2048x512 .bf16)
    (x3 : Vec Ideal S1x512x2048 .bf16) (r : Fin 512) (l : Fin 2048) :
    k0_pay2 a x0 x1 x2 x3 (ix2 r l) = a (ix2 r l) + k0_pay1 x0 x1 x2 x3 (ix2 r l) := by
  pointwise! [k0_pay1, k0_pay2]

theorem pay4_apply (y a : Vec Ideal S512x2048 .f32) (x0 : Vec Ideal S512x2048 .bf16) (x1 x2 : Vec Ideal S1x2048x512 .bf16)
    (x3 : Vec Ideal S1x512x2048 .bf16) (r : Fin 512) (l : Fin 2048) :
    k0_pay4 y a x0 x1 x2 x3 (ix2 r l) = y (ix2 r l) + (a (ix2 r l) + k0_pay1 x0 x1 x2 x3 (ix2 r l)) := by
  pointwise! [k0_pay1, k0_pay4]

/-- The inverse root of the mean of the squares of the residual row. -/
theorem pay6_apply (y a : Vec Ideal S512x2048 .f32) (x0 : Vec Ideal S512x2048 .bf16) (x1 x2 : Vec Ideal S1x2048x512 .bf16)
    (x3 : Vec Ideal S1x512x2048 .bf16) (r : Fin 512) (u : Fin 1) :
    k0_pay6 y a x0 x1 x2 x3 (ix2 r u)
      = Ideal.rsqrt (Ideal.div (∑ k : Fin 2048, k0_pay4 y a x0 x1 x2 x3 (ix2 r k) * k0_pay4 y a x0 x1 x2 x3 (ix2 r k))
          (Ideal.ofBits .f32 0x45000000#32) + Ideal.ofBits .f32 0x358637BD#32) := by
  pointwise [k0_pay6]

/-- The normalised row. -/
theorem pay3_apply (x : FVec Ideal S512x2048 .f32) (g : FVec Ideal S1x2048 .f32) (q : FVec Ideal S512x1 .f32)
    (r : Fin 512) (l : Fin 2048) : k0_pay3 x (k0_pay5 g) q (ix2 r l) = x (ix2 r l) * q (ix2 r 0) * g (ix2 0 l) := by
  pointwise [k0_pay3, k0_pay5]

end Cert.LastValue
-- ==== Proof.LastCases.lean ====
/-
  What each of the three kinds of grid point of the last feed-forward kernel leaves, as functions of the blocks it holds: the
  first point of a row block starts the running sum, the middle points add to it, the last point stores the
  normalised rows of the residual row block.
-/
module

public import proofs.«01_k».proof.Proof.LastPay
public import proofs.«01_k».proof.Proof.Gen.LastIdeal.Value
public import Idealize.ShloMosaic.Lib.Tactic

@[expose] public section

noncomputable section

namespace Cert.LastValue

open Cert.FfnValue (act hid term share sum_share resid normed)
open Cert.LastIdeal Cert.LastIdeal.Gen Idealize.ShloMosaic Idealize.ShloMosaic.TcCoe Idealize.SL.Sem

theorem hz2 : (![0, 0] : Fin 2 → Nat) = fun _ => 0 := funext fun a => by fin_cases a <;> rfl
theorem hz3 : (![0, 0, 0] : Fin 3 → Nat) = fun _ => 0 := funext fun a => by fin_cases a <;> rfl

variable {F : FTy → Type} [FloatOps F]

section
variable (c : Dev nD) (i : grid0.Coords) (a2 : Memref sig .tc .vmem S512x2048 .bf16) (h2 : a2.IsWhole)
  (a3 : Memref sig .tc .vmem S1x2048x512 .bf16) (h3 : a3.IsWhole) (a4 : Memref sig .tc .vmem S1x2048x512 .bf16) (h4 : a4.IsWhole)
  (a5 : Memref sig .tc .vmem S1x512x2048 .bf16) (h5 : a5.IsWhole) (a6 : Memref sig .tc .vmem S512x2048 .f32) (h6 : a6.IsWhole)
  (a7 : Memref sig .tc .vmem S1x2048 .f32) (h7 : a7.IsWhole) (a8 : Memref sig .tc .vmem S512x2048 .f32) (h8 : a8.IsWhole)
  (a9 : Memref sig .tc .vmem S512x2048 .f32) (h9 : a9.IsWhole)
  (x0 : Vec F S512x2048 .bf16) (x1 : Vec F S1x2048x512 .bf16) (x2 : Vec F S1x2048x512 .bf16) (x3 : Vec F S1x512x2048 .bf16)
  (x4 : Vec F S512x2048 .f32) (x5 : Vec F S1x2048 .f32) (xs : Vec F S512x2048 .f32)

/-- The first point of a row block: the running sum is the point's share. -/
theorem sout_A (p0 : cond0_0 i) (p1 : ¬cond0_1 i) (p2 : ¬cond0_2 i) :
    sout0_A_0 c i a2 h2 a3 h3 a4 h4 a5 h5 a6 h6 a7 h7 a8 h8 a9 h9 p0 p1 p2 x0 x1 x2 x3 x4 x5 = k0_pay1 x0 x1 x2 x3 := by
  unfold sout0_A_0
  rw [View.read_writes_eq_canon _ _ _ (scover0_A_0 c i a2 h2 a3 h3 a4 h4 a5 h5 a6 h6 a7 h7 a8 h8 a9 h9 p0 p1 p2 x0 x1 x2 x3 x4 x5)]
  unfold kernelRun0_A
  dsimp only
  rw [View.canon_unit_zero hz2]
  simp only [View.readAt_eq_ld, h2.read_unread, h3.read_unread, h4.read_unread, h5.read_unread, View.ld_unit_zero (S := S512x2048) hz2,
    View.ld_unit_zero (S := S1x2048x512) hz3, View.ld_unit_zero (S := S1x512x2048) hz3]

/-- A middle point: the running sum gains the point's share. -/
theorem sout_B (p0 : ¬cond0_0 i) (p1 : cond0_1 i) (p2 : ¬cond0_2 i) :
    sout0_B_0 c i a2 h2 a3 h3 a4 h4 a5 h5 a6 h6 a7 h7 a8 h8 a9 h9 p0 p1 p2 x0 x1 x2 x3 x4 x5 xs = k0_pay2 xs x0 x1 x2 x3 := by
  unfold sout0_B_0
  rw [View.read_writes_eq_canon _ _ _ (scover0_B_0 c i a2 h2 a3 h3 a4 h4 a5 h5 a6 h6 a7 h7 a8 h8 a9 h9 p0 p1 p2 x0 x1 x2 x3 x4 x5 xs)]
  unfold kernelRun0_B
  dsimp only
  rw [View.canon_unit_zero hz2]
  simp only [View.readAt_eq_ld, h2.read_unread, h3.read_unread, h4.read_unread, h5.read_unread, h9.read_unread, View.ld_unit_zero (S := S512x2048) hz2,
    View.ld_unit_zero (S := S1x2048x512) hz3, View.ld_unit_zero (S := S1x512x2048) hz3]

/-- The last point: the normalised rows of the residual row block. -/
theorem out_C_6 (p0 : ¬cond0_0 i) (p1 : ¬cond0_1 i) (p2 : cond0_2 i) :
    out0_C_6 c i a2 h2 a3 h3 a4 h4 a5 h5 a6 h6 a7 h7 a8 h8 a9 h9 p0 p1 p2 x0 x1 x2 x3 x4 x5 xs
      = k0_pay3 (k0_pay4 x4 xs x0 x1 x2 x3) (k0_pay5 x5) (k0_pay6 x4 xs x0 x1 x2 x3) := by
  unfold out0_C_6
  rw [View.read_writes_eq_canon _ _ _ (cover0_C_6 c i a2 h2 a3 h3 a4 h4 a5 h5 a6 h6 a7 h7 a8 h8 a9 h9 p0 p1 p2 x0 x1 x2 x3 x4 x5 xs)]
  unfold kernelRun0_C
  dsimp only
  sl_unfold_words
  rw [View.canon_unit_zero hz2]
  simp only [View.readAt_eq_ld, h2.read_unread, h3.read_unread, h4.read_unread, h5.read_unread, h6.read_unread, h7.read_unread, h9.read_unread,
    View.ld_unit_zero (S := S512x2048) hz2, View.ld_unit_zero (S := S1x2048) hz2, View.ld_unit_zero (S := S1x2048x512) hz3, View.ld_unit_zero (S := S1x512x2048) hz3]

end

end Cert.LastValue
-- ==== Proof.LastBlocks.lean ====
/-
  The blocks one grid point of the last feed-forward kernel holds, read at an index of the program's arguments: point `t` works
  on the 512 rows from `512·(t / 11)` and on the 512 hidden columns from `512·(t mod 11)` of the last layer's weights.
-/
module

public import proofs.«01_k».proof.Proof.Gen.LastIdeal.Value
public import proofs.«01_k».proof.Proof.FfnMath
public import Idealize.ShloMosaic.Lib.Tactic

@[expose] public section

set_option maxRecDepth 16384

noncomputable section

namespace Cert.LastValue

open Cert.FfnValue (act hid term share sum_share resid normed)
open Cert.LastIdeal Cert.LastIdeal.Gen Idealize.ShloMosaic Idealize.ShloMosaic.TcCoe Idealize.SL.Sem

variable (m : (ℓ : Loc nD τ sig) → Buf (Elt Ideal) ℓ)

/-- The weights the region finds are the arguments (a change of format is the identity over the extended reals). -/
theorem V_v0 (c : Dev nD) : V m c main_v0 = truncf (F := Ideal) .bf16 (m ((c : Thread nD τ).loc main_arg1)) bitsLt_bf16_f32 := by
  simp only [V, hostOps0]; after_results_simp <;> rfl
theorem V_v1 (c : Dev nD) : V m c main_v1 = truncf (F := Ideal) .bf16 (m ((c : Thread nD τ).loc main_arg2)) bitsLt_bf16_f32 := by
  simp only [V, hostOps0]; after_results_simp <;> rfl
theorem V_v2 (c : Dev nD) : V m c main_v2 = truncf (F := Ideal) .bf16 (m ((c : Thread nD τ).loc main_arg3)) bitsLt_bf16_f32 := by
  simp only [V, hostOps0]; after_results_simp <;> rfl
theorem V_v3 (c : Dev nD) : V m c main_v3 = shapeCast S1x2048 (m ((c : Thread nD τ).loc main_arg5)) shapeCasts_S2048_S1x2048 := by
  simp only [V, hostOps0]; after_results_simp <;> rfl

/-- Where each window's block lies, decided over the grid. -/
theorem index_facts : ∀ t : Fin grid0.N,
    (win0_0.index t (0 : Fin 2) = t.val / 11 ∧ win0_0.index t (1 : Fin 2) = 0)
    ∧ (win0_1.index t (0 : Fin 3) = 3 ∧ win0_1.index t (1 : Fin 3) = 0 ∧ win0_1.index t (2 : Fin 3) = t.val % 11)
    ∧ (win0_2.index t (0 : Fin 3) = 3 ∧ win0_2.index t (1 : Fin 3) = 0 ∧ win0_2.index t (2 : Fin 3) = t.val % 11)
    ∧ (win0_3.index t (0 : Fin 3) = 3 ∧ win0_3.index t (1 : Fin 3) = t.val % 11 ∧ win0_3.index t (2 : Fin 3) = 0)
    ∧ (win0_4.index t (0 : Fin 2) = t.val / 11 ∧ win0_4.index t (1 : Fin 2) = 0)
    ∧ (win0_5.index t (0 : Fin 2) = 0 ∧ win0_5.index t (1 : Fin 2) = 0) := by
  decide +kernel

theorem t_div (t : Fin cfg0.N) : t.val / 11 < 64 := by
  have h := lt_of_lt_of_eq t.isLt (show cfg0.N = 704 from N_0); omega

/-- Row `r` of the block of 512 rows number `b`. -/
abbrev row (b : ℕ) (hb : b < 64) (r : Fin 512) : Fin 32768 := ⟨512 * b + r.val, by have := r.isLt; omega⟩
/-- Hidden column `f` of the block of 512 columns number `j`. -/
abbrev col (j : ℕ) (hj : j < 11) (f : Fin 512) : Fin 5632 := ⟨512 * j + f.val, by have := f.isLt; omega⟩

/-- The program's arguments as arrays of extended reals. -/
abbrev A0 (c : Dev nD) : Vec Ideal S32768x2048 .bf16 := m ((c : Thread nD τ).loc main_arg0)
abbrev A1 (c : Dev nD) : Vec Ideal S4x2048x5632 .f32 := m ((c : Thread nD τ).loc main_arg1)
abbrev A2 (c : Dev nD) : Vec Ideal S4x2048x5632 .f32 := m ((c : Thread nD τ).loc main_arg2)
abbrev A3 (c : Dev nD) : Vec Ideal S4x5632x2048 .f32 := m ((c : Thread nD τ).loc main_arg3)
abbrev A4 (c : Dev nD) : Vec Ideal S32768x2048 .f32 := m ((c : Thread nD τ).loc main_arg4)
abbrev A5 (c : Dev nD) : Vec Ideal S2048 .f32 := m ((c : Thread nD τ).loc main_arg5)

theorem iblk0 (c : Dev nD) (t : Fin cfg0.N) (r : Fin 512) (k : Fin 2048) :
    (iblk m c 0 t : Vec Ideal S512x2048 .bf16) (ix2 r k)
      = A0 m c (ix2 (row (t.val / 11) (t_div t) r) k) := by
  have hi := (index_facts t).1
  unfold iblk
  rw [View.read_apply]
  show V m c main_arg0 _ = _
  rw [V_main_arg0]
  congr 1
  funext a
  apply Fin.ext
  match a with
  | ⟨0, _⟩ => show win0_0.index t 0 * 512 + 1 * r.val = 512 * (t.val / 11) + r.val; rw [hi.1]; omega
  | ⟨1, _⟩ => show win0_0.index t 1 * 2048 + 1 * k.val = k.val; rw [hi.2]; omega

theorem iblk1 (c : Dev nD) (t : Fin cfg0.N) (k : Fin 2048) (f : Fin 512) :
    (iblk m c 1 t : Vec Ideal S1x2048x512 .bf16) (ix3 0 k f)
      = A1 m c (ix3 3 k (col (t.val % 11) (Nat.mod_lt _ (by decide)) f)) := by
  have hi := (index_facts t).2.1
  unfold iblk
  rw [View.read_apply]
  show V m c main_v0 _ = _
  rw [V_v0]
  show m ((c : Thread nD τ).loc main_arg1) _ = _
  congr 1
  funext a
  apply Fin.ext
  match a with
  | ⟨0, _⟩ => show win0_1.index t 0 * 1 + 1 * 0 = 3; rw [hi.1]
  | ⟨1, _⟩ => show win0_1.index t 1 * 2048 + 1 * k.val = k.val; rw [hi.2.1]; omega
  | ⟨2, _⟩ => show win0_1.index t 2 * 512 + 1 * f.val = 512 * (t.val % 11) + f.val; rw [hi.2.2]; omega

theorem iblk2 (c : Dev nD) (t : Fin cfg0.N) (k : Fin 2048) (f : Fin 512) :
    (iblk m c 2 t : Vec Ideal S1x2048x512 .bf16) (ix3 0 k f)
      = A2 m c (ix3 3 k (col (t.val % 11) (Nat.mod_lt _ (by decide)) f)) := by
  have hi := (index_facts t).2.2.1
  unfold iblk
  rw [View.read_apply]
  show V m c main_v1 _ = _
  rw [V_v1]
  show m ((c : Thread nD τ).loc main_arg2) _ = _
  congr 1
  funext a
  apply Fin.ext
  match a with
  | ⟨0, _⟩ => show win0_2.index t 0 * 1 + 1 * 0 = 3; rw [hi.1]
  | ⟨1, _⟩ => show win0_2.index t 1 * 2048 + 1 * k.val = k.val; rw [hi.2.1]; omega
  | ⟨2, _⟩ => show win0_2.index t 2 * 512 + 1 * f.val = 512 * (t.val % 11) + f.val; rw [hi.2.2]; omega

theorem iblk3 (c : Dev nD) (t : Fin cfg0.N) (f : Fin 512) (l : Fin 2048) :
    (iblk m c 3 t : Vec Ideal S1x512x2048 .bf16) (ix3 0 f l)
      = A3 m c (ix3 3 (col (t.val % 11) (Nat.mod_lt _ (by decide)) f) l) := by
  have hi := (index_facts t).2.2.2.1
  unfold iblk
  rw [View.read_apply]
  show V m c main_v2 _ = _
  rw [V_v2]
  show m ((c : Thread nD τ).loc main_arg3) _ = _
  congr 1
  funext a
  apply Fin.ext
  match a with
  | ⟨0, _⟩ => show win0_3.index t 0 * 1 + 1 * 0 = 3; rw [hi.1]
  | ⟨1, _⟩ => show win0_3.index t 1 * 512 + 1 * f.val = 512 * (t.val % 11) + f.val; rw [hi.2.1]; omega
  | ⟨2, _⟩ => show win0_3.index t 2 * 2048 + 1 * l.val = l.val; rw [hi.2.2]; omega

theorem iblk4 (c : Dev nD) (t : Fin cfg0.N) (r : Fin 512) (k : Fin 2048) :
    (iblk m c 4 t : Vec Ideal S512x2048 .f32) (ix2 r k)
      = A4 m c (ix2 (row (t.val / 11) (t_div t) r) k) := by
  have hi := (index_facts t).2.2.2.2.1
  unfold iblk
  rw [View.read_apply]
  show V m c main_arg4 _ = _
  rw [V_main_arg4]
  congr 1
  funext a
  apply Fin.ext
  match a with
  | ⟨0, _⟩ => show win0_4.index t 0 * 512 + 1 * r.val = 512 * (t.val / 11) + r.val; rw [hi.1]; omega
  | ⟨1, _⟩ => show win0_4.index t 1 * 2048 + 1 * k.val = k.val; rw [hi.2]; omega

theorem iblk5 (c : Dev nD) (t : Fin cfg0.N) (l : Fin 2048) :
    (iblk m c 5 t : Vec Ideal S1x2048 .f32) (ix2 0 l) = A5 m c (ix1 l) := by
  have hi := (index_facts t).2.2.2.2.2
  unfold iblk
  rw [View.read_apply]
  show V m c main_v3 _ = _
  rw [V_v3]
  refine (congrArg (shapeCast S1x2048 (m ((c : Thread nD τ).loc main_arg5)) shapeCasts_S2048_S1x2048) (?_ : _ = ix2 0 l)).trans ?_
  · funext a
    apply Fin.ext
    match a with
    | ⟨0, _⟩ => show win0_5.index t 0 * 1 + 1 * 0 = 0; rw [hi.1]
    | ⟨1, _⟩ => show win0_5.index t 1 * 2048 + 1 * l.val = l.val; rw [hi.2]; omega
  · pointwise

end Cert.LastValue
-- ==== Proof.LastSum.lean ====
/-
  The running sum of the last feed-forward kernel, and what its result array ends holding: row `R` of it is the
  residual row, the input row plus the product over all 5632 hidden columns (the eleven points of a row block each add 512 of them),
  normalised.
-/
module

public import proofs.«01_k».proof.Proof.LastCases
public import proofs.«01_k».proof.Proof.LastBlocks

@[expose] public section

set_option maxRecDepth 16384

noncomputable section

namespace Cert.LastValue

open Cert.FfnValue (act hid term share sum_share resid normed)
open Cert.LastIdeal Cert.LastIdeal.Gen Idealize.ShloMosaic Idealize.ShloMosaic.TcCoe Idealize.SL.Sem
open scoped BigOperators

variable (m : (ℓ : Loc nD τ sig) → Buf (Elt Ideal) ℓ)

/-- The share, the residual row and the normalised row at the program's arguments. -/
abbrev shareOf (c : Dev nD) := share 3 (A0 m c) (A1 m c) (A2 m c) (A3 m c)
abbrev residOf (c : Dev nD) := resid 3 (A0 m c) (A1 m c) (A2 m c) (A3 m c) (A4 m c)

/-- What the body computes from the blocks of point `t` is the share of the point's hidden columns. -/
theorem share_eq (c : Dev nD) (t : Fin cfg0.N) (r : Fin 512) (l : Fin 2048) :
    k0_pay1 (F := Ideal) (iblk m c 0 t) (iblk m c 1 t) (iblk m c 2 t) (iblk m c 3 t) (ix2 r l)
      = shareOf m c (row (t.val / 11) (t_div t) r) l (t.val % 11) := by
  rw [pay1_apply]
  unfold shareOf share
  refine Finset.sum_congr rfl fun f _ => ?_
  have h11 : t.val % 11 < 11 := Nat.mod_lt _ (by decide)
  unfold term
  rw [dif_pos (show 512 * (t.val % 11) + f.val < 5632 by have := f.isLt; omega)]
  unfold hid
  simp only [iblk0, iblk1, iblk2, iblk3]

/-- After the first points of row block `b`, up to its point number `j`, the carried sum holds the first `j + 1` shares. -/
theorem acc_eq (c : Dev nD) (b : ℕ) (hb : b < 64) (r : Fin 512) (l : Fin 2048) : ∀ (j : ℕ) (hj : j ≤ 9) (h : 11 * b + j < cfg0.N),
    (outsAt0 m c (11 * b + j) h).2 (ix2 r l) = ∑ s ∈ Finset.range (j + 1), shareOf m c (row b hb r) l s
  | 0, _, h => by
    have e := share_eq m c ⟨11 * b + 0, h⟩ r l
    simp only [show (11 * b + 0) / 11 = b by omega, show (11 * b + 0) % 11 = 0 by omega] at e
    rw [outsAt0_A m c ⟨11 * b + 0, h⟩ (by simp only []; omega) (by simp only []; omega) (by simp only []; omega)]
    dsimp only
    rw [sout_A, e, Finset.sum_range_one]
  | j + 1, hj, h => by
    have e := share_eq m c ⟨11 * b + (j + 1), h⟩ r l
    simp only [show (11 * b + (j + 1)) / 11 = b by omega, show (11 * b + (j + 1)) % 11 = j + 1 by omega] at e
    rw [outsAt0_B m c ⟨11 * b + (j + 1), h⟩ (by simp only []; omega) (by simp only []; omega) (by simp only []; omega)]
    dsimp only
    rw [sout_B, pay2_apply, e, Finset.sum_range_succ]
    congr 1
    exact acc_eq c b hb r l j (by omega) (by omega)

/-- What the last point of a row block adds up to. -/
theorem last_eq (c : Dev nD) (b : ℕ) (hb : b < 64) (h : 11 * b + 10 < cfg0.N) (r : Fin 512) (l : Fin 2048) :
    k0_pay4 (F := Ideal) (iblk m c 4 ⟨11 * b + 10, h⟩) (outsAt0 m c (11 * b + 10 - 1) (Nat.lt_of_le_of_lt (Nat.sub_le _ _) h)).2
        (iblk m c 0 ⟨11 * b + 10, h⟩) (iblk m c 1 ⟨11 * b + 10, h⟩) (iblk m c 2 ⟨11 * b + 10, h⟩) (iblk m c 3 ⟨11 * b + 10, h⟩) (ix2 r l)
      = residOf m c (row b hb r) l := by
  have e := share_eq m c ⟨11 * b + 10, h⟩ r l
  have e4 := iblk4 m c ⟨11 * b + 10, h⟩ r l
  simp only [show (11 * b + 10) / 11 = b by omega, show (11 * b + 10) % 11 = 10 by omega] at e e4
  rw [pay4_apply, e, e4]
  unfold residOf resid
  rw [← sum_share 3 (A0 m c) (A1 m c) (A2 m c) (A3 m c) (row b hb r) l, Finset.sum_range_succ]
  congr 2
  exact acc_eq m c b hb r l 9 (by omega) (by omega)

/-- The result array: the residual row normalised. -/
theorem G6_apply (c : Dev nD) (R : Fin 32768) (l : Fin 2048) : Value.G6 m c (ix2 R l)
    = normed 3 (A0 m c) (A1 m c) (A2 m c) (A3 m c) (A4 m c) (A5 m c) R l := by
  have hR := R.isLt
  have hl := l.isLt
  have hp : Value.pt6Of (ix2 R l) = 11 * (R.val / 512) + 10 := by
    show 11 * (1 * (R.val / 512 - 0) + 1 * (l.val / 2048 - 0)) + 10 = _
    rw [Nat.div_eq_of_lt hl]; omega
  have hq : 11 * (R.val / 512) + 10 < cfg0.N := by rw [show cfg0.N = 704 from N_0]; omega
  have hloc : Value.loc6Of (ix2 R l) = ix2 (⟨R.val % 512, Nat.mod_lt _ (by decide)⟩ : Fin 512) l := by
    funext a
    apply Fin.ext
    match a with
    | ⟨0, _⟩ => rfl
    | ⟨1, _⟩ => exact Nat.mod_eq_of_lt hl
  have hrow : row (R.val / 512) (by omega) ⟨R.val % 512, Nat.mod_lt _ (by decide)⟩ = R :=
    Fin.ext (by show 512 * (R.val / 512) + R.val % 512 = R.val; omega)
  unfold Value.G6
  rw [dif_pos (by rw [hp]; exact hq), ← Value.outsAt0_sweep m c _ (by rw [hp]; exact hq), hloc]
  have ho : ∀ (n : ℕ) (hn : n < cfg0.N), n = 11 * (R.val / 512) + 10 → outsAt0 m c n hn = outsAt0 m c (11 * (R.val / 512) + 10) hq := by
    intro n hn e; subst e; rfl
  rw [ho _ _ hp, outsAt0_C m c ⟨11 * (R.val / 512) + 10, hq⟩ (by simp only []; omega) (by simp only []; omega) (by simp only []; omega)]
  dsimp only
  rw [out_C_6, pay3_apply, pay6_apply]
  simp only [last_eq m c (R.val / 512) (by omega) hq, hrow, iblk5]
  rfl

end Cert.LastValue
-- ==== Proof.LastRef.lean ====
/-
  The reference of the last feed-forward block, read at an index.
-/
module

public import proofs.«01_k».proof.Proof.FfnMath
public import proofs.«01_k».proof.Proof.Gen.LastRefIdeal.Run
public import proofs.«01_k».proof.Proof.Gen.LastRefIdeal.Read

@[expose] public section

set_option maxRecDepth 16384

noncomputable section

namespace Cert.LastValue

open Idealize.ShloMosaic
open Cert.FfnValue (act hid term share sum_share resid normed)
open Cert.LastRefIdeal Cert.LastRefIdeal.Read
open scoped BigOperators

variable (x0 : Vec Ideal S32768x2048 .bf16) (x1 x2 : Vec Ideal S4x2048x5632 .f32) (x3 : Vec Ideal S4x5632x2048 .f32)
  (x4 : Vec Ideal S32768x2048 .f32) (x5 : Vec Ideal S2048 .f32)

/-- The reference's stage before the normalisation is the residual row. -/
theorem ref12_apply (R : Fin 32768) (l : Fin 2048) : val_main_v12 (F := Ideal) x0 x1 x2 x3 x4 (ix2 R l) = resid 3 x0 x1 x2 x3 x4 R l := by
  simp only [val_main_v12, val_main_v11, val_main_v10, val_main_v9, val_main_v8, val_main_v7, val_main_v6, val_main_v5, val_main_v4,
    val_main_v3, val_main_v2, val_main_v1, val_main_v0, val_main_call0_v5, val_main_call0_v4, val_main_call0_v3, val_main_call0_v2,
    val_main_call0_v1, val_main_call0_v0, val_main_call0_cst, val_main_call0_cst_0]
  pointwise
  unfold resid hid act
  simp only [zero_sub]

/-- The reference's result is the normalised row. -/
theorem ref25_apply (R : Fin 32768) (l : Fin 2048) :
    val_main_v25 (F := Ideal) x0 x1 x2 x3 x4 x5 (ix2 R l) = normed 3 x0 x1 x2 x3 x4 x5 R l := by
  simp only [val_main_v25, val_main_v24, val_main_v23, val_main_v22, val_main_v21, val_main_v20, val_main_v19,
    val_main_v18, val_main_v17, val_main_v16, val_main_v15, val_main_v14, val_main_v13,
    val_main_cst, val_main_cst_0, val_main_cst_1]
  have h := ref12_apply x0 x1 x2 x3 x4
  generalize val_main_v12 (F := Ideal) x0 x1 x2 x3 x4 = z at h ⊢
  pointwise
  simp only [h]
  unfold normed
  try simp only [zero_add]

end Cert.LastValue
-- ==== Proof.LastClaim.lean ====
/-
  The last layer's feed-forward block: the kernel's result is the reference's, and the reference leaves its arguments alone.
-/
module

public import proofs.«01_k».proof.Defs
public import proofs.«01_k».proof.Proof.LastSum
public import proofs.«01_k».proof.Proof.LastRef
public import proofs.«01_k».proof.Proof.Gen.LastIdeal.Value
public import Idealize.ShloMosaic.Lib.Quiescent

@[expose] public section

noncomputable section

namespace Cert.LastValue

open Idealize.ShloMosaic
open Cert.LastIdeal Cert.LastIdeal.Gen

/-- The reference runs to the end and leaves its arguments and its counters as they were. -/
theorem ref_frame : Cert.quiescent_LastRefIdeal (hLastRefIdeal := Cert.LastRefIdeal.Gen.facts) := fun m ρ _ =>
  (θ_run Cert.LastRefIdeal.defs _ _).mono
    (fun r h => ⟨fun c => (by obtain rfl : c = 0 := Subsingleton.elim _ _; exact (h 0).2), sem_eq_zero_of_no_sems (by decide) r.2⟩)
    (Cert.LastRefIdeal.Value.run (F := Ideal) m ρ)

/-- The kernel's result array is the reference's last stage of the same arguments. -/
theorem G6_eq (m : (ℓ : Loc nD τ sig) → Buf (Elt Ideal) ℓ) (c : Dev nD) :
    Cert.LastRefIdeal.Read.val_main_v25 (F := Ideal) (A0 m c) (A1 m c) (A2 m c) (A3 m c) (A4 m c) (A5 m c) = Value.G6 m c := by
  funext j
  obtain ⟨R, l, rfl⟩ : ∃ (R : Fin 32768) (l : Fin 2048), j = ix2 R l :=
    ⟨j 0, j 1, funext fun a => match a with | ⟨0, _⟩ => rfl | ⟨1, _⟩ => rfl⟩
  exact (ref25_apply _ _ _ _ _ _ R l).trans (G6_apply m c R l).symm

/-- Over the extended reals the kernel computes the reference. -/
theorem algebraic : Cert.algebraic_LastIdeal_LastRefIdeal (hLastIdeal := Cert.LastIdeal.Gen.facts) (hLastRefIdeal := Cert.LastRefIdeal.Gen.facts) := by
  intro m g m' g' _ hagree
  refine ⟨fun c => Value.G6 m c, Value.run m g,
    (θ_run Cert.LastRefIdeal.defs _ _).mono (fun _ h c => ⟨(h c).1.trans ?_, (h c).2⟩)
      (Cert.LastRefIdeal.Value.run (F := Ideal) m' g')⟩
  obtain ⟨h0, h1, h2, h3, h4, h5⟩ := hagree c
  refine (Cert.LastRefIdeal.Read.val_main_v25_eq m' c).trans ?_
  rw [h0, h1, h2, h3, h4, h5]
  exact G6_eq m c

end Cert.LastValue
-- ==== Proof.OutMath.lean ====
/-
  The output projection over the extended reals, as a function of its arrays: the three mixers' columns side by side, the
  residual row, the normalised row, and the sum over the 2048 columns cut where the mixers meet.
-/
module

public import Idealize.ShloMosaic.Lib.Pointwise

@[expose] public section

noncomputable section

namespace Cert.OutValue

open Idealize.ShloMosaic
open scoped BigOperators

-- The three mixers' rows `a`, `b`, `d`, the weights `w`, the residual `y`.
variable (a : Vec Ideal ⟨2, ![32768, 512]⟩ .bf16) (b d : Vec Ideal ⟨2, ![32768, 768]⟩ .bf16)
  (w : Vec Ideal ⟨3, ![4, 2048, 2048]⟩ .f32) (y : Vec Ideal ⟨2, ![32768, 2048]⟩ .f32)

/-- Column `k` of the three rows side by side. -/
def side (R : Fin 32768) (k : Fin 2048) : EReal :=
  if h : k.val < 512 then a (ix2 R ⟨k.val, h⟩)
  else if h' : k.val - 512 < 768 then b (ix2 R ⟨k.val - 512, h'⟩)
  else d (ix2 R ⟨k.val - 512 - 768, by have := k.isLt; omega⟩)

/-- A sum over 2048 columns in three pieces. -/
theorem sum_pieces (f : Fin 2048 → EReal) : ∑ k : Fin 2048, f k
    = (∑ k : Fin 512, f ⟨k.val, by have := k.isLt; omega⟩) + (∑ k : Fin 768, f ⟨512 + k.val, by have := k.isLt; omega⟩)
      + ∑ k : Fin 768, f ⟨1280 + k.val, by have := k.isLt; omega⟩ := by
  rw [show (∑ k : Fin 2048, f k) = ∑ k : Fin (1280 + 768), f k from rfl, Fin.sum_univ_add]
  congr 1
  rw [show (∑ k : Fin 1280, f (Fin.castAdd 768 k)) = ∑ k : Fin (512 + 768), f (Fin.castAdd 768 k) from rfl, Fin.sum_univ_add]
  rfl

/-- The product with the three pieces of the weights is the product of the rows side by side. -/
theorem sum_side (R : Fin 32768) (l : Fin 2048) : ∑ k : Fin 2048, side a b d R k * w (ix3 1 k l)
    = (∑ k : Fin 512, a (ix2 R k) * w (ix3 1 ⟨k.val, by have := k.isLt; omega⟩ l))
      + (∑ k : Fin 768, b (ix2 R k) * w (ix3 1 ⟨512 + k.val, by have := k.isLt; omega⟩ l))
      + ∑ k : Fin 768, d (ix2 R k) * w (ix3 1 ⟨1280 + k.val, by have := k.isLt; omega⟩ l) := by
  rw [sum_pieces]
  refine congrArg₂ (· + ·) (congrArg₂ (· + ·) ?_ ?_) ?_
  · refine Finset.sum_congr rfl fun k _ => congrArg (· * _) ?_
    unfold side
    rw [dif_pos k.isLt]
  · refine Finset.sum_congr rfl fun k _ => congrArg (· * _) ?_
    unfold side
    have := k.isLt
    rw [dif_neg (by show ¬ 512 + k.val < 512; omega), dif_pos (by show 512 + k.val - 512 < 768; omega)]
    exact congrArg (fun q => b (ix2 R q)) (Fin.ext (by show 512 + k.val - 512 = k.val; omega))
  · refine Finset.sum_congr rfl fun k _ => congrArg (· * _) ?_
    unfold side
    have := k.isLt
    rw [dif_neg (by show ¬ 1280 + k.val < 512; omega), dif_neg (by show ¬ 1280 + k.val - 512 < 768; omega)]
    exact congrArg (fun q => d (ix2 R q)) (Fin.ext (by show 1280 + k.val - 512 - 768 = k.val; omega))

/-- The residual row: the input row plus the product. -/
def resid (R : Fin 32768) (l : Fin 2048) : EReal := y (ix2 R l) + ∑ k : Fin 2048, side a b d R k * w (ix3 1 k l)

/-- The residual row normalised by the root of its mean square, times `g`. -/
def normed (g : Vec Ideal ⟨1, ![2048]⟩ .f32) (R : Fin 32768) (l : Fin 2048) : EReal :=
  resid a b d w y R l
    * Ideal.rsqrt (Ideal.div (∑ k : Fin 2048, resid a b d w y R k * resid a b d w y R k) (Ideal.ofBits .f32 0x45000000#32)
      + Ideal.ofBits .f32 0x358637BD#32) * g (ix1 l)

end Cert.OutValue
-- ==== Proof.OutValue.lean ====
/-
  The output projection's kernel: each grid point holds 512 rows of the three mixers' results and the second layer's
  weights, and leaves the residual rows and the normalised rows.
-/
module

public import proofs.«01_k».proof.Proof.OutMath
public import proofs.«01_k».proof.Proof.Gen.OutIdeal.Value
public import Idealize.ShloMosaic.Lib.Pipeline.ValueKit
public import Idealize.ShloMosaic.Lib.Tactic

@[expose] public section

set_option maxRecDepth 16384

noncomputable section

namespace Cert.OutValue

open Cert.OutIdeal Cert.OutIdeal.Gen Idealize.ShloMosaic Idealize.ShloMosaic.TcCoe Idealize.SL.Sem
open scoped BigOperators

variable (m : (ℓ : Loc nD τ sig) → Buf (Elt Ideal) ℓ)

/-- The program's arguments as arrays of extended reals. -/
abbrev A0 (c : Dev nD) : Vec Ideal S32768x512 .bf16 := m ((c : Thread nD τ).loc main_arg0)
abbrev A1 (c : Dev nD) : Vec Ideal S32768x768 .bf16 := m ((c : Thread nD τ).loc main_arg1)
abbrev A2 (c : Dev nD) : Vec Ideal S32768x768 .bf16 := m ((c : Thread nD τ).loc main_arg2)
abbrev A3 (c : Dev nD) : Vec Ideal S4x2048x2048 .f32 := m ((c : Thread nD τ).loc main_arg3)
abbrev A4 (c : Dev nD) : Vec Ideal S32768x2048 .f32 := m ((c : Thread nD τ).loc main_arg4)
abbrev A5 (c : Dev nD) : Vec Ideal S2048 .f32 := m ((c : Thread nD τ).loc main_arg5)

/-- What the region finds: the weights in another format, the scale as one row. -/
theorem V_v0 (c : Dev nD) : V m c main_v0 = truncf (F := Ideal) .bf16 (A3 m c) bitsLt_bf16_f32 := by
  simp only [V, hostOps0]; after_results_simp <;> rfl
theorem V_v1 (c : Dev nD) : V m c main_v1 = shapeCast S1x2048 (A5 m c) shapeCasts_S2048_S1x2048 := by
  simp only [V, hostOps0]; after_results_simp <;> rfl

/-- Where each window's block lies, decided over the grid. -/
theorem index_facts : ∀ t : Fin grid0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_3.index t (0 : Fin 3) = 1 ∧ win0_3.index t (1 : Fin 3) = 0 ∧ win0_3.index t (2 : Fin 3) = 0)
    ∧ (win0_4.index t (0 : Fin 2) = t.val ∧ win0_4.index t (1 : Fin 2) = 0)
    ∧ (win0_5.index t (0 : Fin 2) = 0 ∧ win0_5.index t (1 : Fin 2) = 0)
    ∧ (win0_6.index t (0 : Fin 2) = t.val ∧ win0_6.index t (1 : Fin 2) = 0)
    ∧ (win0_7.index t (0 : Fin 2) = t.val ∧ win0_7.index t (1 : Fin 2) = 0) := by
  decide +kernel

/-- Row `r` of the 512 rows of point `t`. -/
abbrev row (t : Fin cfg0.N) (r : Fin 512) : Fin 32768 :=
  ⟨512 * t.val + r.val, by have := r.isLt; have h := lt_of_lt_of_eq t.isLt (show cfg0.N = 64 from N_0); omega⟩

theorem iblk0 (c : Dev nD) (t : Fin cfg0.N) (r : Fin 512) (k : Fin 512) :
    (iblk m c 0 t : Vec Ideal S512x512 .bf16) (ix2 r k) = A0 m c (ix2 (row t r) k) := by
  have hi := (index_facts t).1
  unfold iblk
  rw [View.read_apply]
  show V m c main_arg0 _ = _
  rw [V_main_arg0]
  congr 1
  funext a
  apply Fin.ext
  match a with
  | ⟨0, _⟩ => show win0_0.index t 0 * 512 + 1 * r.val = 512 * t.val + r.val; rw [hi.1]; omega
  | ⟨1, _⟩ => show win0_0.index t 1 * 512 + 1 * k.val = k.val; rw [hi.2]; omega

theorem iblk1 (c : Dev nD) (t : Fin cfg0.N) (r : Fin 512) (k : Fin 768) :
    (iblk m c 1 t : Vec Ideal S512x768 .bf16) (ix2 r k) = A1 m c (ix2 (row t r) k) := by
  have hi := (index_facts t).2.1
  unfold iblk
  rw [View.read_apply]
  show V m c main_arg1 _ = _
  rw [V_main_arg1]
  congr 1
  funext a
  apply Fin.ext
  match a with
  | ⟨0, _⟩ => show win0_1.index t 0 * 512 + 1 * r.val = 512 * t.val + r.val; rw [hi.1]; omega
  | ⟨1, _⟩ => show win0_1.index t 1 * 768 + 1 * k.val = k.val; rw [hi.2]; omega

theorem iblk2 (c : Dev nD) (t : Fin cfg0.N) (r : Fin 512) (k : Fin 768) :
    (iblk m c 2 t : Vec Ideal S512x768 .bf16) (ix2 r k) = A2 m c (ix2 (row t r) k) := by
  have hi := (index_facts t).2.2.1
  unfold iblk
  rw [View.read_apply]
  show V m c main_arg2 _ = _
  rw [V_main_arg2]
  congr 1
  funext a
  apply Fin.ext
  match a with
  | ⟨0, _⟩ => show win0_2.index t 0 * 512 + 1 * r.val = 512 * t.val + r.val; rw [hi.1]; omega
  | ⟨1, _⟩ => show win0_2.index t 1 * 768 + 1 * k.val = k.val; rw [hi.2]; omega

theorem iblk3 (c : Dev nD) (t : Fin cfg0.N) (k l : Fin 2048) :
    (iblk m c 3 t : Vec Ideal S1x2048x2048 .bf16) (ix3 0 k l) = A3 m c (ix3 1 k l) := by
  have hi := (index_facts t).2.2.2.1
  unfold iblk
  rw [View.read_apply]
  show V m c main_v0 _ = _
  rw [V_v0]
  show A3 m c _ = _
  congr 1
  funext a
  apply Fin.ext
  match a with
  | ⟨0, _⟩ => show win0_3.index t 0 * 1 + 1 * 0 = 1; rw [hi.1]
  | ⟨1, _⟩ => show win0_3.index t 1 * 2048 + 1 * k.val = k.val; rw [hi.2.1]; omega
  | ⟨2, _⟩ => show win0_3.index t 2 * 2048 + 1 * l.val = l.val; rw [hi.2.2]; omega

theorem iblk4 (c : Dev nD) (t : Fin cfg0.N) (r : Fin 512) (l : Fin 2048) :
    (iblk m c 4 t : Vec Ideal S512x2048 .f32) (ix2 r l) = A4 m c (ix2 (row t r) l) := by
  have hi := (index_facts t).2.2.2.2.1
  unfold iblk
  rw [View.read_apply]
  show V m c main_arg4 _ = _
  rw [V_main_arg4]
  congr 1
  funext a
  apply Fin.ext
  match a with
  | ⟨0, _⟩ => show win0_4.index t 0 * 512 + 1 * r.val = 512 * t.val + r.val; rw [hi.1]; omega
  | ⟨1, _⟩ => show win0_4.index t 1 * 2048 + 1 * l.val = l.val; rw [hi.2]; omega

theorem iblk5 (c : Dev nD) (t : Fin cfg0.N) (l : Fin 2048) :
    (iblk m c 5 t : Vec Ideal S1x2048 .f32) (ix2 0 l) = A5 m c (ix1 l) := by
  have hi := (index_facts t).2.2.2.2.2.1
  unfold iblk
  rw [View.read_apply]
  show V m c main_v1 _ = _
  rw [V_v1]
  have e : ((cfg0.win 5).blk t).view.emb (ix2 0 l) = (ix2 0 l : S1x2048.Idx) := funext fun a => Fin.ext (match a with
    | ⟨0, _⟩ => by show win0_5.index t 0 * 1 + 1 * 0 = 0; rw [hi.1]
    | ⟨1, _⟩ => by show win0_5.index t 1 * 2048 + 1 * l.val = l.val; rw [hi.2]; omega)
  rw [e]
  pointwise

/-- The residual rows of a block. -/
theorem pay2_apply (x0 : Vec Ideal S512x512 .bf16) (w0 : Vec Ideal S1x512x2048 .bf16) (x1 : Vec Ideal S512x768 .bf16)
    (w1 : Vec Ideal S1x768x2048 .bf16) (x2 : Vec Ideal S512x768 .bf16) (w2 : Vec Ideal S1x768x2048 .bf16)
    (y : Vec Ideal S512x2048 .f32) (r : Fin 512) (l : Fin 2048) :
    k0_pay2 x0 w0 x1 w1 x2 w2 y (ix2 r l) = y (ix2 r l) + ((∑ k : Fin 512, x0 (ix2 r k) * w0 (ix3 0 k l))
      + (∑ k : Fin 768, x1 (ix2 r k) * w1 (ix3 0 k l)) + ∑ k : Fin 768, x2 (ix2 r k) * w2 (ix3 0 k l)) := by
  pointwise [k0_pay2]

/-- The normalised rows of a block. -/
theorem pay3_apply (x0 : Vec Ideal S512x512 .bf16) (w0 : Vec Ideal S1x512x2048 .bf16) (x1 : Vec Ideal S512x768 .bf16)
    (w1 : Vec Ideal S1x768x2048 .bf16) (x2 : Vec Ideal S512x768 .bf16) (w2 : Vec Ideal S1x768x2048 .bf16)
    (y : Vec Ideal S512x2048 .f32) (g : Vec Ideal S1x2048 .f32) (r : Fin 512) (l : Fin 2048) :
    k0_pay1 (k0_pay3 x0 w0 x1 w1 x2 w2 y g) (ix2 r l) = k0_pay2 x0 w0 x1 w1 x2 w2 y (ix2 r l)
      * Ideal.rsqrt (Ideal.div (∑ k : Fin 2048, k0_pay2 x0 w0 x1 w1 x2 w2 y (ix2 r k) * k0_pay2 x0 w0 x1 w1 x2 w2 y (ix2 r k))
          (Ideal.ofBits .f32 0x45000000#32) + Ideal.ofBits .f32 0x358637BD#32) * g (ix2 0 l) := by
  pointwise [k0_pay1, k0_pay3]

/-- A row of the slices of the weights a point loads. -/
theorem ld0 (W : Vec Ideal S1x2048x2048 .bf16) (k : Fin 512) (l : Fin 2048) :
    (View.ld W r0_1 : Vec Ideal S1x512x2048 .bf16) (ix3 0 k l) = W (ix3 0 ⟨k.val, by have := k.isLt; omega⟩ l) := by
  refine congrArg W (funext fun a => Fin.ext ?_)
  match a with
  | ⟨0, _⟩ => show 0 + 1 * 0 = 0; rfl
  | ⟨1, _⟩ => show 0 + 1 * k.val = k.val; omega
  | ⟨2, _⟩ => show 0 + 1 * l.val = l.val; omega

theorem ld1 (W : Vec Ideal S1x2048x2048 .bf16) (k : Fin 768) (l : Fin 2048) :
    (View.ld W r0_3 : Vec Ideal S1x768x2048 .bf16) (ix3 0 k l) = W (ix3 0 ⟨512 + k.val, by have := k.isLt; omega⟩ l) := by
  refine congrArg W (funext fun a => Fin.ext ?_)
  match a with
  | ⟨0, _⟩ => show 0 + 1 * 0 = 0; rfl
  | ⟨1, _⟩ => show 512 + 1 * k.val = 512 + k.val; omega
  | ⟨2, _⟩ => show 0 + 1 * l.val = l.val; omega

theorem ld2 (W : Vec Ideal S1x2048x2048 .bf16) (k : Fin 768) (l : Fin 2048) :
    (View.ld W r0_4 : Vec Ideal S1x768x2048 .bf16) (ix3 0 k l) = W (ix3 0 ⟨1280 + k.val, by have := k.isLt; omega⟩ l) := by
  refine congrArg W (funext fun a => Fin.ext ?_)
  match a with
  | ⟨0, _⟩ => show 0 + 1 * 0 = 0; rfl
  | ⟨1, _⟩ => show 1280 + 1 * k.val = 1280 + k.val; omega
  | ⟨2, _⟩ => show 0 + 1 * l.val = l.val; omega

/-- The residual rows a point leaves. -/
theorem rows (c : Dev nD) (t : Fin cfg0.N) (r : Fin 512) (l : Fin 2048) :
    k0_pay2 (iblk m c 0 t) (View.ld (iblk m c 3 t) r0_1) (iblk m c 1 t) (View.ld (iblk m c 3 t) r0_3) (iblk m c 2 t)
      (View.ld (iblk m c 3 t) r0_4) (iblk m c 4 t) (ix2 r l)
    = resid (A0 m c) (A1 m c) (A2 m c) (A3 m c) (A4 m c) (row t r) l := by
  rw [pay2_apply, iblk4]
  unfold resid
  rw [sum_side]
  refine congrArg₂ (· + ·) rfl (congrArg₂ (· + ·) (congrArg₂ (· + ·) ?_ ?_) ?_)
  · exact Finset.sum_congr rfl fun k _ => congrArg₂ (· * ·) (iblk0 m c t r k) ((ld0 _ k l).trans (iblk3 m c t _ l))
  · exact Finset.sum_congr rfl fun k _ => congrArg₂ (· * ·) (iblk1 m c t r k) ((ld1 _ k l).trans (iblk3 m c t _ l))
  · exact Finset.sum_congr rfl fun k _ => congrArg₂ (· * ·) (iblk2 m c t r k) ((ld2 _ k l).trans (iblk3 m c t _ l))

/-- The kernel's first result array. -/
theorem final6 (c : Dev nD) : (dats m 0 c).arrAt 6 cfg0.N
    = fun i => resid (A0 m c) (A1 m c) (A2 m c) (A3 m c) (A4 m c) (i 0) (i 1) := by
  refine (dats m 0 c).arrAt_eq_of_covers 6 _ (by decide +kernel) fun t hf y => ?_
  have hi := (index_facts t).2.2.2.2.2.2.1
  blk_simp
  rw [after0_6]
  frame_out
  obtain ⟨r, l, rfl⟩ : ∃ (r : Fin 512) (l : Fin 2048), y = ix2 r l :=
    ⟨y 0, y 1, funext fun a => match a with | ⟨0, _⟩ => rfl | ⟨1, _⟩ => rfl⟩
  have e0 : ((((cfg0.win 6).blk t).view.emb (ix2 r l)) 0 : Fin 32768) = row t r := Fin.ext (by
    show win0_6.index t 0 * 512 + 1 * r.val = 512 * t.val + r.val; rw [hi.1]; omega)
  have e1 : ((((cfg0.win 6).blk t).view.emb (ix2 r l)) 1 : Fin 2048) = l := Fin.ext (by
    show win0_6.index t 1 * 2048 + 1 * l.val = l.val; rw [hi.2]; omega)
  refine (rows m c t r l).trans ?_
  exact (congrArg₂ (resid (A0 m c) (A1 m c) (A2 m c) (A3 m c) (A4 m c)) e0 e1).symm

/-- The kernel's second result array. -/
theorem final7 (c : Dev nD) : (dats m 0 c).arrAt 7 cfg0.N
    = fun i => normed (A0 m c) (A1 m c) (A2 m c) (A3 m c) (A4 m c) (A5 m c) (i 0) (i 1) := by
  refine (dats m 0 c).arrAt_eq_of_covers 7 _ (by decide +kernel) fun t hf y => ?_
  have hi := (index_facts t).2.2.2.2.2.2.2
  blk_simp
  rw [after0_7]
  frame_out
  obtain ⟨r, l, rfl⟩ : ∃ (r : Fin 512) (l : Fin 2048), y = ix2 r l :=
    ⟨y 0, y 1, funext fun a => match a with | ⟨0, _⟩ => rfl | ⟨1, _⟩ => rfl⟩
  have e0 : ((((cfg0.win 7).blk t).view.emb (ix2 r l)) 0 : Fin 32768) = row t r := Fin.ext (by
    show win0_7.index t 0 * 512 + 1 * r.val = 512 * t.val + r.val; rw [hi.1]; omega)
  have e1 : ((((cfg0.win 7).blk t).view.emb (ix2 r l)) 1 : Fin 2048) = l := Fin.ext (by
    show win0_7.index t 1 * 2048 + 1 * l.val = l.val; rw [hi.2]; omega)
  refine Eq.trans ?_ (congrArg₂ (normed (A0 m c) (A1 m c) (A2 m c) (A3 m c) (A4 m c) (A5 m c)) e0 e1).symm
  refine (pay3_apply _ _ _ _ _ _ _ _ r l).trans ?_
  have h := rows m c t r
  have hg := iblk5 m c t l
  unfold normed
  refine congrArg₂ (· * ·) (congrArg₂ (· * ·) (h l) (congrArg (fun s => Ideal.rsqrt (Ideal.div s _ + _)) ?_)) hg
  exact Finset.sum_congr rfl fun k _ => congrArg₂ (· * ·) (h k) (h k)

end Cert.OutValue
-- ==== Proof.OutClaim.lean ====
/-
  The output projection: the kernel's two results are the reference's, and the reference leaves its arguments alone.
-/
module

public import proofs.«01_k».proof.Defs
public import proofs.«01_k».proof.Proof.OutValue
public import proofs.«01_k».proof.Proof.Gen.OutRefIdeal.Run
public import proofs.«01_k».proof.Proof.Gen.OutRefIdeal.Read
public import Idealize.ShloMosaic.Lib.Quiescent

@[expose] public section

set_option maxRecDepth 16384

noncomputable section

namespace Cert.OutValue

open Idealize.ShloMosaic
open Cert.OutIdeal Cert.OutIdeal.Gen
open Cert.OutRefIdeal.Read

/-- The reference runs to the end and leaves its arguments and its counters as they were. -/
theorem ref_frame : Cert.quiescent_OutRefIdeal (hOutRefIdeal := Cert.OutRefIdeal.Gen.facts) := fun m ρ _ =>
  (θ_run Cert.OutRefIdeal.defs _ _).mono
    (fun r h => ⟨fun c => (by obtain rfl : c = 0 := Subsingleton.elim _ _; exact (h 0).2.2), sem_eq_zero_of_no_sems (by decide) r.2⟩)
    (Cert.OutRefIdeal.Value.run (F := Ideal) m ρ)

variable (x0 : Vec Ideal S32768x512 .bf16) (x1 x2 : Vec Ideal S32768x768 .bf16) (x3 : Vec Ideal S4x2048x2048 .f32)
  (x4 : Vec Ideal S32768x2048 .f32) (x5 : Vec Ideal S2048 .f32)

/-- The reference's first result is the residual row. -/
theorem ref7_apply (R : Fin 32768) (l : Fin 2048) : val_main_v7 (F := Ideal) x0 x1 x2 x3 x4 (ix2 R l) = resid x0 x1 x2 x3 x4 R l := by
  simp only [val_main_v7, val_main_v6, val_main_v5, val_main_v4, val_main_v3, val_main_v2, val_main_v1, val_main_v0]
  pointwise
  rfl

/-- The reference's second result is the normalised row. -/
theorem ref21_apply (R : Fin 32768) (l : Fin 2048) :
    val_main_v21 (F := Ideal) x0 x1 x2 x3 x4 x5 (ix2 R l) = normed x0 x1 x2 x3 x4 x5 R l := by
  simp only [val_main_v21, val_main_v20, val_main_v19, val_main_v18, val_main_v17, val_main_v16, val_main_v15, val_main_v14,
    val_main_v13, val_main_v12, val_main_v11, val_main_v10, val_main_v9, val_main_v8,
    val_main_cst, val_main_cst_0, val_main_cst_1]
  have h := ref7_apply x0 x1 x2 x3 x4
  generalize val_main_v7 (F := Ideal) x0 x1 x2 x3 x4 = z at h ⊢
  pointwise
  simp only [h]
  unfold normed
  try simp only [zero_add]

/-- Over the extended reals the kernel computes the reference. -/
theorem algebraic : Cert.algebraic_OutIdeal_OutRefIdeal (hOutIdeal := Cert.OutIdeal.Gen.facts)
    (hOutRefIdeal := Cert.OutRefIdeal.Gen.facts) := by
  intro m g m' g' _ hagree
  refine ⟨fun c i => resid (A0 m c) (A1 m c) (A2 m c) (A3 m c) (A4 m c) (i 0) (i 1),
    fun c i => normed (A0 m c) (A1 m c) (A2 m c) (A3 m c) (A4 m c) (A5 m c) (i 0) (i 1),
    (θ_run defs _ _).mono (fun _ h c => ⟨(h c).1.trans (final6 m c), (h c).2.1.trans (final7 m c), (h c).2.2⟩)
      (Value.run_blocks (F := Ideal) m g),
    (θ_run Cert.OutRefIdeal.defs _ _).mono (fun _ h c => ⟨(h c).1.trans ?_, (h c).2.1.trans ?_, (h c).2.2⟩)
      (Cert.OutRefIdeal.Value.run (F := Ideal) m' g')⟩
  · obtain ⟨h0, h1, h2, h3, h4, _⟩ := hagree c
    rw [h0, h1, h2, h3, h4]
    refine (val_main_v7_eq _ _ _ _ _).trans (funext fun j => ?_)
    obtain ⟨R, l, rfl⟩ : ∃ (R : Fin 32768) (l : Fin 2048), j = ix2 R l :=
      ⟨j 0, j 1, funext fun a => match a with | ⟨0, _⟩ => rfl | ⟨1, _⟩ => rfl⟩
    exact ref7_apply _ _ _ _ _ R l
  · obtain ⟨h0, h1, h2, h3, h4, h5⟩ := hagree c
    rw [h0, h1, h2, h3, h4, h5]
    refine (val_main_v21_eq _ _ _ _ _ _).trans (funext fun j => ?_)
    obtain ⟨R, l, rfl⟩ : ∃ (R : Fin 32768) (l : Fin 2048), j = ix2 R l :=
      ⟨j 0, j 1, funext fun a => match a with | ⟨0, _⟩ => rfl | ⟨1, _⟩ => rfl⟩
    exact ref21_apply _ _ _ _ _ _ R l

end Cert.OutValue
-- ==== Proof.GlaProjValue.lean ====
/-
  The projection onto the gated-attention columns: what one grid point holds, and the kernel's result as one product over all rows.
-/
module

public import proofs.«01_k».proof.Proof.Gen.GlaProjIdeal.Value
public import Idealize.ShloMosaic.Lib.Pointwise
public import Idealize.ShloMosaic.Lib.Pipeline.ValueKit

@[expose] public section

set_option maxRecDepth 16384

noncomputable section

namespace Cert.GlaProjValue

open Cert.GlaProjIdeal Cert.GlaProjIdeal.Gen Idealize.ShloMosaic Idealize.ShloMosaic.TcCoe Idealize.SL.Sem
open scoped BigOperators

variable (m : (ℓ : Loc nD τ sig) → Buf (Elt Ideal) ℓ)

/-- The program's arguments as arrays of extended reals. -/
abbrev A0 (c : Dev nD) : Vec Ideal S32768x2048 .bf16 := m ((c : Thread nD τ).loc main_arg0)
abbrev A1 (c : Dev nD) : Vec Ideal S4x2048x7196 .f32 := m ((c : Thread nD τ).loc main_arg1)

/-- Column `n` of the projection's weights: queries, keys and values; the gate; the low-rank decay; the two scalars of the
    other mixer; zeros up to a whole number of lanes. -/
def wcol (w : Vec Ideal S4x2048x7196 .f32) (k : Fin 2048) (n : Fin 1664) : EReal :=
  if n.val < 1024 then w (ix3 1 k ⟨n.val, by have := n.isLt; omega⟩)
  else if n.val < 1536 then w (ix3 1 k ⟨16 + n.val, by have := n.isLt; omega⟩)
  else if n.val < 1552 then w (ix3 1 k ⟨n.val - 512, by have := n.isLt; omega⟩)
  else if n.val < 1564 then w (ix3 1 k ⟨2304 + n.val, by have := n.isLt; omega⟩)
  else 0

/-- The product's column `n`, as a sum over the model's width. -/
def val (x : Vec Ideal S32768x2048 .bf16) (w : Vec Ideal S4x2048x7196 .f32) (R : Fin 32768) (n : Fin 1664) : EReal :=
  ∑ k : Fin 2048, x (ix2 R k) * wcol w k n

set_option maxHeartbeats 1000000 in
/-- The weights the region finds, as the host's operations leave them. -/
theorem V_v7 (c : Dev nD) : V m c main_v7 = concatenate S4x2048x1664 2 [⟨S4x2048x1024, extractStridedSlice S4x2048x1024 ![0, 0, 0]
        (truncf (F := Ideal) .bf16 (A1 m c) bitsLt_bf16_f32) slices_S4x2048x7196_S4x2048x1024_0_0_0⟩,
      ⟨S4x2048x512, extractStridedSlice S4x2048x512 ![0, 0, 1040]
        (truncf (F := Ideal) .bf16 (A1 m c) bitsLt_bf16_f32) slices_S4x2048x7196_S4x2048x512_0_0_1040⟩,
      ⟨S4x2048x128, pad S4x2048x128 ![0, 0, 0] ![0, 0, 100] ![0, 0, 0]
        (concatenate S4x2048x28 2 [⟨S4x2048x16, extractStridedSlice S4x2048x16 ![0, 0, 1024]
            (truncf (F := Ideal) .bf16 (A1 m c) bitsLt_bf16_f32) slices_S4x2048x7196_S4x2048x16_0_0_1024⟩,
          ⟨S4x2048x12, extractStridedSlice S4x2048x12 ![0, 0, 3856]
            (truncf (F := Ideal) .bf16 (A1 m c) bitsLt_bf16_f32) slices_S4x2048x7196_S4x2048x12_0_0_3856⟩]
          concatenates_S4x2048x16_S4x2048x12_S4x2048x28_d2)
        (sitofp .bf16 (constantI S_ 32 0#32)) pads_S4x2048x28_S4x2048x128_000_000_01000 h_S_⟩]
      concatenates_S4x2048x1024_S4x2048x512_S4x2048x128_S4x2048x1664_d2 := by
  unfold V
  simp only [List.flatten_cons, List.flatten_nil, List.append_nil, List.cons_append, List.nil_append]
  after_results <;> rfl

/-- The scalars' columns, padded to a whole number of lanes. -/
def small (w : Vec Ideal S4x2048x7196 .f32) : Vec Ideal S4x2048x128 .bf16 :=
  pad S4x2048x128 ![0, 0, 0] ![0, 0, 100] ![0, 0, 0]
    (concatenate S4x2048x28 2 [⟨S4x2048x16, extractStridedSlice S4x2048x16 ![0, 0, 1024]
        (truncf (F := Ideal) .bf16 w bitsLt_bf16_f32) slices_S4x2048x7196_S4x2048x16_0_0_1024⟩,
      ⟨S4x2048x12, extractStridedSlice S4x2048x12 ![0, 0, 3856]
        (truncf (F := Ideal) .bf16 w bitsLt_bf16_f32) slices_S4x2048x7196_S4x2048x12_0_0_3856⟩]
      concatenates_S4x2048x16_S4x2048x12_S4x2048x28_d2)
    (sitofp (F := Ideal) .bf16 (constantI S_ 32 0#32)) pads_S4x2048x28_S4x2048x128_000_000_01000 h_S_

theorem small_apply (w : Vec Ideal S4x2048x7196 .f32) (k : Fin 2048) (n : Fin 128) :
    small w (ix3 1 k n) = if n.val < 16 then w (ix3 1 k ⟨1024 + n.val, by have := n.isLt; omega⟩)
      else if n.val < 28 then w (ix3 1 k ⟨3840 + n.val, by have := n.isLt; omega⟩) else 0 := by
  have e : ∀ p q : Fin 7196, p.val = q.val → w (ix3 1 k p) = w (ix3 1 k q) := fun p q h => by rw [Fin.ext h]
  pointwise [small]
  have hz : FloatOps.sitofp (F := Ideal) FTy.bf16 0#32 = 0 := by simp [FloatOps.sitofp]
  by_cases h2 : n.val < 16
  · rw [dif_pos (by omega : n.val < 28), dif_pos h2, if_pos h2]
  · rw [if_neg h2]
    by_cases h3 : n.val < 28
    · rw [dif_pos h3, dif_neg h2, if_pos h3]
      exact e _ _ (by show 3856 + (n.val - 16) = 3840 + n.val; omega)
    · rw [dif_neg h3, if_neg h3, hz]

/-- All the columns together. -/
def wide (w : Vec Ideal S4x2048x7196 .f32) : Vec Ideal S4x2048x1664 .bf16 :=
  concatenate S4x2048x1664 2 [⟨S4x2048x1024, extractStridedSlice S4x2048x1024 ![0, 0, 0]
        (truncf (F := Ideal) .bf16 w bitsLt_bf16_f32) slices_S4x2048x7196_S4x2048x1024_0_0_0⟩,
      ⟨S4x2048x512, extractStridedSlice S4x2048x512 ![0, 0, 1040]
        (truncf (F := Ideal) .bf16 w bitsLt_bf16_f32) slices_S4x2048x7196_S4x2048x512_0_0_1040⟩,
      ⟨S4x2048x128, small w⟩]
    concatenates_S4x2048x1024_S4x2048x512_S4x2048x128_S4x2048x1664_d2

theorem wide_apply (w : Vec Ideal S4x2048x7196 .f32) (k : Fin 2048) (n : Fin 1664) : wide w (ix3 1 k n) = wcol w k n := by
  have e : ∀ p q : Fin 7196, p.val = q.val → w (ix3 1 k p) = w (ix3 1 k q) := fun p q h => by rw [Fin.ext h]
  pointwise [wide]
  unfold wcol
  by_cases h0 : n.val < 1024
  · rw [dif_pos h0, if_pos h0]
  · rw [dif_neg h0, if_neg h0]
    by_cases h1 : n.val < 1536
    · rw [dif_pos (by omega), if_pos h1]
      exact e _ _ (by show 1040 + (n.val - 1024) = 16 + n.val; omega)
    · rw [dif_neg (by omega), if_neg h1]
      rw [small_apply]
      by_cases h2 : n.val < 1552
      · rw [if_pos h2, if_pos (by show n.val - 1024 - 512 < 16; omega)]
        exact e _ _ (by show 1024 + (n.val - 1024 - 512) = n.val - 512; omega)
      · rw [if_neg h2, if_neg (by show ¬ n.val - 1024 - 512 < 16; omega)]
        by_cases h3 : n.val < 1564
        · rw [if_pos h3, if_pos (by show n.val - 1024 - 512 < 28; omega)]
          exact e _ _ (by show 3840 + (n.val - 1024 - 512) = 2304 + n.val; omega)
        · rw [if_neg h3, if_neg (by show ¬ n.val - 1024 - 512 < 28; omega)]

/-- The weights the region finds: those columns. -/
theorem V_w (c : Dev nD) (k : Fin 2048) (n : Fin 1664) :
    (V m c main_v7 : Vec Ideal S4x2048x1664 .bf16) (ix3 1 k n) = wcol (A1 m c) k n :=
  (congrFun (V_v7 m c) _).trans (wide_apply _ k n)

/-- Where each window's block lies, decided over the grid. -/
theorem index_facts : ∀ t : Fin grid0.N,
    (win0_0.index t (0 : Fin 2) = t.val % 32 ∧ win0_0.index t (1 : Fin 2) = 0)
    ∧ (win0_1.index t (0 : Fin 3) = 1 ∧ win0_1.index t (1 : Fin 3) = 0 ∧ win0_1.index t (2 : Fin 3) = t.val / 32)
    ∧ (win0_2.index t (0 : Fin 2) = t.val % 32 ∧ win0_2.index t (1 : Fin 2) = t.val / 32) := by
  decide +kernel

theorem t_div (t : Fin cfg0.N) : t.val / 32 < 1 := by
  have h := lt_of_lt_of_eq t.isLt (show cfg0.N = 32 from N_0); omega

/-- Row `r` of the row block of point `t`, and column `n` of its column block. -/
abbrev row (t : Fin cfg0.N) (r : Fin 1024) : Fin 32768 := ⟨1024 * (t.val % 32) + r.val, by have := r.isLt; omega⟩
abbrev col (t : Fin cfg0.N) (n : Fin 1664) : Fin 1664 := ⟨1664 * (t.val / 32) + n.val, by have := n.isLt; have := t_div t; omega⟩

theorem iblk0 (c : Dev nD) (t : Fin cfg0.N) (r : Fin 1024) (k : Fin 2048) :
    (iblk m c 0 t : Vec Ideal S1024x2048 .bf16) (ix2 r k) = A0 m c (ix2 (row t r) k) := by
  have hi := (index_facts t).1
  unfold iblk
  rw [View.read_apply]
  show V m c main_arg0 _ = _
  rw [V_main_arg0]
  congr 1
  funext a
  apply Fin.ext
  match a with
  | ⟨0, _⟩ => show win0_0.index t 0 * 1024 + 1 * r.val = 1024 * (t.val % 32) + r.val; rw [hi.1]; omega
  | ⟨1, _⟩ => show win0_0.index t 1 * 2048 + 1 * k.val = k.val; rw [hi.2]; omega

theorem iblk1 (c : Dev nD) (t : Fin cfg0.N) (k : Fin 2048) (n : Fin 1664) :
    (iblk m c 1 t : Vec Ideal S1x2048x1664 .bf16) (ix3 0 k n) = (V m c main_v7 : Vec Ideal S4x2048x1664 .bf16) (ix3 1 k (col t n)) := by
  have hi := (index_facts t).2.1
  unfold iblk
  rw [View.read_apply]
  show V m c main_v7 _ = _
  congr 1
  funext a
  apply Fin.ext
  match a with
  | ⟨0, _⟩ => show win0_1.index t 0 * 1 + 1 * 0 = 1; rw [hi.1]
  | ⟨1, _⟩ => show win0_1.index t 1 * 2048 + 1 * k.val = k.val; rw [hi.2.1]; omega
  | ⟨2, _⟩ => show win0_1.index t 2 * 1664 + 1 * n.val = 1664 * (t.val / 32) + n.val; rw [hi.2.2]; omega

/-- The body at an index. -/
theorem pay_apply (x : Vec Ideal S1024x2048 .bf16) (w : Vec Ideal S1x2048x1664 .bf16) (r : Fin 1024) (n : Fin 1664) :
    k0_pay1 x w (ix2 r n) = ∑ k : Fin 2048, x (ix2 r k) * w (ix3 0 k n) := by
  pointwise [k0_pay1]

/-- The kernel's result array is the product. -/
theorem final (c : Dev nD) : (dats m 0 c).arrAt 2 cfg0.N = fun i => val (A0 m c) (A1 m c) (i 0) (i 1) := by
  refine (dats m 0 c).arrAt_eq_of_covers 2 _ (by decide +kernel) fun t hf y => ?_
  have hi := (index_facts t).2.2
  blk_simp
  rw [after0_2]
  frame_out
  obtain ⟨r, n, rfl⟩ : ∃ (r : Fin 1024) (n : Fin 1664), y = ix2 r n :=
    ⟨y 0, y 1, funext fun a => match a with | ⟨0, _⟩ => rfl | ⟨1, _⟩ => rfl⟩
  rw [pay_apply]
  simp only [iblk0, iblk1]
  have e0 : ((((cfg0.win 2).blk t).view.emb (ix2 r n)) 0 : Fin 32768) = row t r := Fin.ext (by
    show win0_2.index t 0 * 1024 + 1 * r.val = 1024 * (t.val % 32) + r.val; rw [hi.1]; omega)
  have e1 : ((((cfg0.win 2).blk t).view.emb (ix2 r n)) 1 : Fin 1664) = col t n := Fin.ext (by
    show win0_2.index t 1 * 1664 + 1 * n.val = 1664 * (t.val / 32) + n.val; rw [hi.2]; omega)
  rw [e0, e1]
  have e : (∑ k : Fin 2048, A0 m c (ix2 (row t r) k) * (V m c main_v7 : Vec Ideal S4x2048x1664 .bf16) (ix3 1 k (col t n)) : EReal)
      = val (A0 m c) (A1 m c) (row t r) (col t n) := by
    unfold val
    exact Finset.sum_congr rfl fun k _ => congrArg (A0 m c (ix2 (row t r) k) * ·) (V_w m c k (col t n))
  exact e

end Cert.GlaProjValue
-- ==== Proof.GlaProjClaim.lean ====
/-
  The projection onto the gated-attention columns: the kernel's result is the reference's.
-/
module

public import proofs.«01_k».proof.Defs
public import proofs.«01_k».proof.Proof.GlaProjValue
public import proofs.«01_k».proof.Proof.Gen.GlaProjRefIdeal.Run
public import Idealize.ShloMosaic.Lib.Quiescent

@[expose] public section

set_option maxRecDepth 16384

noncomputable section

namespace Cert.GlaProjValue

open Idealize.ShloMosaic
open Cert.GlaProjIdeal Cert.GlaProjIdeal.Gen

/-- The reference runs to the end and leaves its arguments and its counters as they were. -/
theorem ref_frame : Cert.quiescent_GlaProjRefIdeal (hGlaProjRefIdeal := Cert.GlaProjRefIdeal.Gen.facts) := fun m ρ _ =>
  (θ_run Cert.GlaProjRefIdeal.defs _ _).mono
    (fun r h => ⟨fun c => (by obtain rfl : c = 0 := Subsingleton.elim _ _; exact (h 0).2), sem_eq_zero_of_no_sems (by decide) r.2⟩)
    (Cert.GlaProjRefIdeal.Value.run (F := Ideal) m ρ)

/-- Over the extended reals the kernel computes the reference. -/
theorem algebraic : Cert.algebraic_GlaProjIdeal_GlaProjRefIdeal (hGlaProjIdeal := Cert.GlaProjIdeal.Gen.facts)
    (hGlaProjRefIdeal := Cert.GlaProjRefIdeal.Gen.facts) := by
  intro m g m' g' _ hagree
  refine ⟨fun c i => val (A0 m c) (A1 m c) (i 0) (i 1),
    (θ_run defs _ _).mono (fun _ h c => ⟨(h c).1.trans (final m c), (h c).2⟩) (Value.run_blocks (F := Ideal) m g),
    (θ_run Cert.GlaProjRefIdeal.defs _ _).mono (fun _ h c => ⟨(h c).1.trans ?_, (h c).2⟩)
      (Cert.GlaProjRefIdeal.Value.run (F := Ideal) m' g')⟩
  obtain ⟨h0, h1⟩ := hagree c
  rw [h0, h1]
  funext j
  obtain ⟨R, n, rfl⟩ : ∃ (R : Fin 32768) (n : Fin 1664), j = ix2 R n :=
    ⟨j 0, j 1, funext fun a => match a with | ⟨0, _⟩ => rfl | ⟨1, _⟩ => rfl⟩
  pointwise
  have e : ∀ p q : Fin 7196, p.val = q.val → (∑ x : Fin 2048, A0 m c (ix2 R x) * A1 m c (ix3 1 x p) : EReal)
      = ∑ x : Fin 2048, A0 m c (ix2 R x) * A1 m c (ix3 1 x q) := fun p q h => by rw [Fin.ext h]
  unfold val wcol
  by_cases h0 : n.val < 1024
  · simp only [dif_pos h0, if_pos h0]
  simp only [dif_neg h0, if_neg h0]
  by_cases h1 : n.val < 1536
  · simp only [dif_pos (show n.val - 1024 < 512 by omega), if_pos h1]
    exact e _ _ (by show 1040 + (n.val - 1024) = 16 + n.val; omega)
  simp only [dif_neg (show ¬ n.val - 1024 < 512 by omega), if_neg h1]
  by_cases h2 : n.val < 1552
  · simp only [dif_pos (show n.val - 1024 - 512 < 16 by omega), if_pos h2]
    exact e _ _ (by show 1024 + (n.val - 1024 - 512) = n.val - 512; omega)
  simp only [dif_neg (show ¬ n.val - 1024 - 512 < 16 by omega), if_neg h2]
  by_cases h3 : n.val < 1564
  · simp only [dif_pos (show n.val - 1024 - 512 - 16 < 12 by omega), if_pos h3]
    exact e _ _ (by show 1552 + (2304 + (n.val - 1024 - 512 - 16)) = 2304 + n.val; omega)
  simp only [dif_neg (show ¬ n.val - 1024 - 512 - 16 < 12 by omega), if_neg h3, mul_zero, Finset.sum_const_zero]

end Cert.GlaProjValue
-- ==== Proof.GdnProjValue.lean ====
/-
  The projection onto the delta-rule columns: what one grid point holds, and the kernel's result as one product over all rows.
-/
module

public import proofs.«01_k».proof.Proof.Gen.GdnProjIdeal.Value
public import Idealize.ShloMosaic.Lib.Pointwise
public import Idealize.ShloMosaic.Lib.Pipeline.ValueKit

@[expose] public section

set_option maxRecDepth 16384

noncomputable section

namespace Cert.GdnProjValue

open Cert.GdnProjIdeal Cert.GdnProjIdeal.Gen Idealize.ShloMosaic Idealize.ShloMosaic.TcCoe Idealize.SL.Sem
open scoped BigOperators

variable (m : (ℓ : Loc nD τ sig) → Buf (Elt Ideal) ℓ)

/-- The program's arguments as arrays of extended reals. -/
abbrev A0 (c : Dev nD) : Vec Ideal S32768x2048 .bf16 := m ((c : Thread nD τ).loc main_arg0)
abbrev A1 (c : Dev nD) : Vec Ideal S4x2048x7196 .f32 := m ((c : Thread nD τ).loc main_arg1)

/-- Column `n` of the projection's weights: the convolution's columns, then the gate's. -/
def wcol (w : Vec Ideal S4x2048x7196 .f32) (k : Fin 2048) (n : Fin 3072) : EReal :=
  if n.val < 2304 then w (ix3 1 k ⟨1552 + n.val, by have := n.isLt; omega⟩) else w (ix3 1 k ⟨1564 + n.val, by have := n.isLt; omega⟩)

/-- The product's column `n`, as a sum over the model's width. -/
def val (x : Vec Ideal S32768x2048 .bf16) (w : Vec Ideal S4x2048x7196 .f32) (R : Fin 32768) (n : Fin 3072) : EReal :=
  ∑ k : Fin 2048, x (ix2 R k) * wcol w k n

/-- The weights the region finds: those columns. -/
theorem V_w (c : Dev nD) (k : Fin 2048) (n : Fin 3072) :
    (V m c main_v3 : Vec Ideal S4x2048x3072 .bf16) (ix3 1 k n) = wcol (A1 m c) k n := by
  simp only [V, hostOps0]
  after_results_simp
  unfold wcol
  pointwise
  by_cases h : n.val < 2304
  · rw [dif_pos h, if_pos h]
  · rw [dif_neg h, if_neg h]
    exact congrArg (fun q : Fin 7196 => A1 m c (ix3 1 k q)) (Fin.ext (by show 3868 + (n.val - 2304) = 1564 + n.val; omega))

/-- Where each window's block lies, decided over the grid. -/
theorem index_facts : ∀ t : Fin grid0.N,
    (win0_0.index t (0 : Fin 2) = t.val % 32 ∧ win0_0.index t (1 : Fin 2) = 0)
    ∧ (win0_1.index t (0 : Fin 3) = 1 ∧ win0_1.index t (1 : Fin 3) = 0 ∧ win0_1.index t (2 : Fin 3) = t.val / 32)
    ∧ (win0_2.index t (0 : Fin 2) = t.val % 32 ∧ win0_2.index t (1 : Fin 2) = t.val / 32) := by
  decide +kernel

theorem t_div (t : Fin cfg0.N) : t.val / 32 < 2 := by
  have h := lt_of_lt_of_eq t.isLt (show cfg0.N = 64 from N_0); omega

/-- Row `r` of the row block of point `t`, and column `n` of its column block. -/
abbrev row (t : Fin cfg0.N) (r : Fin 1024) : Fin 32768 := ⟨1024 * (t.val % 32) + r.val, by have := r.isLt; omega⟩
abbrev col (t : Fin cfg0.N) (n : Fin 1536) : Fin 3072 := ⟨1536 * (t.val / 32) + n.val, by have := n.isLt; have := t_div t; omega⟩

theorem iblk0 (c : Dev nD) (t : Fin cfg0.N) (r : Fin 1024) (k : Fin 2048) :
    (iblk m c 0 t : Vec Ideal S1024x2048 .bf16) (ix2 r k) = A0 m c (ix2 (row t r) k) := by
  have hi := (index_facts t).1
  unfold iblk
  rw [View.read_apply]
  show V m c main_arg0 _ = _
  rw [V_main_arg0]
  congr 1
  funext a
  apply Fin.ext
  match a with
  | ⟨0, _⟩ => show win0_0.index t 0 * 1024 + 1 * r.val = 1024 * (t.val % 32) + r.val; rw [hi.1]; omega
  | ⟨1, _⟩ => show win0_0.index t 1 * 2048 + 1 * k.val = k.val; rw [hi.2]; omega

theorem iblk1 (c : Dev nD) (t : Fin cfg0.N) (k : Fin 2048) (n : Fin 1536) :
    (iblk m c 1 t : Vec Ideal S1x2048x1536 .bf16) (ix3 0 k n) = (V m c main_v3 : Vec Ideal S4x2048x3072 .bf16) (ix3 1 k (col t n)) := by
  have hi := (index_facts t).2.1
  unfold iblk
  rw [View.read_apply]
  show V m c main_v3 _ = _
  congr 1
  funext a
  apply Fin.ext
  match a with
  | ⟨0, _⟩ => show win0_1.index t 0 * 1 + 1 * 0 = 1; rw [hi.1]
  | ⟨1, _⟩ => show win0_1.index t 1 * 2048 + 1 * k.val = k.val; rw [hi.2.1]; omega
  | ⟨2, _⟩ => show win0_1.index t 2 * 1536 + 1 * n.val = 1536 * (t.val / 32) + n.val; rw [hi.2.2]; omega

/-- The body at an index. -/
theorem pay_apply (x : Vec Ideal S1024x2048 .bf16) (w : Vec Ideal S1x2048x1536 .bf16) (r : Fin 1024) (n : Fin 1536) :
    k0_pay1 x w (ix2 r n) = ∑ k : Fin 2048, x (ix2 r k) * w (ix3 0 k n) := by
  pointwise [k0_pay1]

/-- The kernel's result array is the product. -/
theorem final (c : Dev nD) : (dats m 0 c).arrAt 2 cfg0.N = fun i => val (A0 m c) (A1 m c) (i 0) (i 1) := by
  refine (dats m 0 c).arrAt_eq_of_covers 2 _ (by decide +kernel) fun t hf y => ?_
  have hi := (index_facts t).2.2
  blk_simp
  rw [after0_2]
  frame_out
  obtain ⟨r, n, rfl⟩ : ∃ (r : Fin 1024) (n : Fin 1536), y = ix2 r n :=
    ⟨y 0, y 1, funext fun a => match a with | ⟨0, _⟩ => rfl | ⟨1, _⟩ => rfl⟩
  rw [pay_apply]
  simp only [iblk0, iblk1]
  have e0 : ((((cfg0.win 2).blk t).view.emb (ix2 r n)) 0 : Fin 32768) = row t r := Fin.ext (by
    show win0_2.index t 0 * 1024 + 1 * r.val = 1024 * (t.val % 32) + r.val; rw [hi.1]; omega)
  have e1 : ((((cfg0.win 2).blk t).view.emb (ix2 r n)) 1 : Fin 3072) = col t n := Fin.ext (by
    show win0_2.index t 1 * 1536 + 1 * n.val = 1536 * (t.val / 32) + n.val; rw [hi.2]; omega)
  rw [e0, e1]
  have e : (∑ k : Fin 2048, A0 m c (ix2 (row t r) k) * (V m c main_v3 : Vec Ideal S4x2048x3072 .bf16) (ix3 1 k (col t n)) : EReal)
      = val (A0 m c) (A1 m c) (row t r) (col t n) := by
    unfold val
    exact Finset.sum_congr rfl fun k _ => congrArg (A0 m c (ix2 (row t r) k) * ·) (V_w m c k (col t n))
  exact e

end Cert.GdnProjValue
-- ==== Proof.GdnProjClaim.lean ====
/-
  The projection onto the delta-rule columns: the kernel's result is the reference's.
-/
module

public import proofs.«01_k».proof.Defs
public import proofs.«01_k».proof.Proof.GdnProjValue
public import proofs.«01_k».proof.Proof.Gen.GdnProjRefIdeal.Run
public import Idealize.ShloMosaic.Lib.Quiescent

@[expose] public section

set_option maxRecDepth 16384

noncomputable section

namespace Cert.GdnProjValue

open Idealize.ShloMosaic
open Cert.GdnProjIdeal Cert.GdnProjIdeal.Gen

/-- The reference runs to the end and leaves its arguments and its counters as they were. -/
theorem ref_frame : Cert.quiescent_GdnProjRefIdeal (hGdnProjRefIdeal := Cert.GdnProjRefIdeal.Gen.facts) := fun m ρ _ =>
  (θ_run Cert.GdnProjRefIdeal.defs _ _).mono
    (fun r h => ⟨fun c => (by obtain rfl : c = 0 := Subsingleton.elim _ _; exact (h 0).2), sem_eq_zero_of_no_sems (by decide) r.2⟩)
    (Cert.GdnProjRefIdeal.Value.run (F := Ideal) m ρ)

/-- Over the extended reals the kernel computes the reference. -/
theorem algebraic : Cert.algebraic_GdnProjIdeal_GdnProjRefIdeal (hGdnProjIdeal := Cert.GdnProjIdeal.Gen.facts)
    (hGdnProjRefIdeal := Cert.GdnProjRefIdeal.Gen.facts) := by
  intro m g m' g' _ hagree
  refine ⟨fun c i => val (A0 m c) (A1 m c) (i 0) (i 1),
    (θ_run defs _ _).mono (fun _ h c => ⟨(h c).1.trans (final m c), (h c).2⟩) (Value.run_blocks (F := Ideal) m g),
    (θ_run Cert.GdnProjRefIdeal.defs _ _).mono (fun _ h c => ⟨(h c).1.trans ?_, (h c).2⟩)
      (Cert.GdnProjRefIdeal.Value.run (F := Ideal) m' g')⟩
  obtain ⟨h0, h1⟩ := hagree c
  rw [h0, h1]
  funext j
  obtain ⟨R, n, rfl⟩ : ∃ (R : Fin 32768) (n : Fin 3072), j = ix2 R n :=
    ⟨j 0, j 1, funext fun a => match a with | ⟨0, _⟩ => rfl | ⟨1, _⟩ => rfl⟩
  pointwise
  unfold val wcol
  by_cases h : n.val < 2304
  · simp only [dif_pos h, if_pos h]
  · simp only [dif_neg h, if_neg h]
    refine Finset.sum_congr rfl fun x _ => congrArg (fun q : Fin 7196 => A0 m c (ix2 R x) * A1 m c (ix3 1 x q)) (Fin.ext ?_)
    show 1552 + (2316 + (n.val - 2304)) = 1564 + n.val
    omega

end Cert.GdnProjValue
-- ==== Proof.RwProjValue.lean ====
/-
  The projection onto the RWKV columns: what one grid point holds, and the kernel's result as one product over all rows.
-/
module

public import proofs.«01_k».proof.Proof.Gen.RwProjIdeal.Value
public import Idealize.ShloMosaic.Lib.Pointwise
public import Idealize.ShloMosaic.Lib.Pipeline.ValueKit

@[expose] public section

set_option maxRecDepth 16384

noncomputable section

namespace Cert.RwProjValue

open Cert.RwProjIdeal Cert.RwProjIdeal.Gen Idealize.ShloMosaic Idealize.ShloMosaic.TcCoe Idealize.SL.Sem
open scoped BigOperators

variable (m : (ℓ : Loc nD τ sig) → Buf (Elt Ideal) ℓ)

/-- The program's arguments as arrays of extended reals. -/
abbrev A0 (c : Dev nD) : Vec Ideal S32768x2048 .bf16 := m ((c : Thread nD τ).loc main_arg0)
abbrev A1 (c : Dev nD) : Vec Ideal S4x2048x7196 .f32 := m ((c : Thread nD τ).loc main_arg1)

/-- The product's column `n`, as a sum over the model's width. -/
def val (x : Vec Ideal S32768x2048 .bf16) (w : Vec Ideal S4x2048x7196 .f32) (R : Fin 32768) (n : Fin 2560) : EReal :=
  ∑ k : Fin 2048, x (ix2 R k) * w (ix3 1 k ⟨4636 + n.val, by have := n.isLt; omega⟩)

/-- The weights the region finds: the columns from 4636 on. -/
theorem V_w (c : Dev nD) (k : Fin 2048) (n : Fin 2560) :
    (V m c main_v1 : Vec Ideal S4x2048x2560 .bf16) (ix3 1 k n) = A1 m c (ix3 1 k ⟨4636 + n.val, by have := n.isLt; omega⟩) := by
  have h : V m c main_v1 = extractStridedSlice S4x2048x2560 ![0, 0, 4636] (truncf (F := Ideal) .bf16 (m ((c : Thread nD τ).loc main_arg1)) bitsLt_bf16_f32) slices_S4x2048x7196_S4x2048x2560_0_0_4636 := by
    simp only [V, hostOps0]; after_results_simp <;> rfl
  rw [h]
  pointwise

/-- Where each window's block lies, decided over the grid. -/
theorem index_facts : ∀ t : Fin grid0.N,
    (win0_0.index t (0 : Fin 2) = t.val % 32 ∧ win0_0.index t (1 : Fin 2) = 0)
    ∧ (win0_1.index t (0 : Fin 3) = 1 ∧ win0_1.index t (1 : Fin 3) = 0 ∧ win0_1.index t (2 : Fin 3) = t.val / 32)
    ∧ (win0_2.index t (0 : Fin 2) = t.val % 32 ∧ win0_2.index t (1 : Fin 2) = t.val / 32) := by
  decide +kernel

theorem t_div (t : Fin cfg0.N) : t.val / 32 < 2 := by
  have h := lt_of_lt_of_eq t.isLt (show cfg0.N = 64 from N_0); omega

/-- Row `r` of the row block of point `t`, and column `n` of its column block. -/
abbrev row (t : Fin cfg0.N) (r : Fin 1024) : Fin 32768 := ⟨1024 * (t.val % 32) + r.val, by have := r.isLt; omega⟩
abbrev col (t : Fin cfg0.N) (n : Fin 1280) : Fin 2560 := ⟨1280 * (t.val / 32) + n.val, by have := n.isLt; have := t_div t; omega⟩

theorem iblk0 (c : Dev nD) (t : Fin cfg0.N) (r : Fin 1024) (k : Fin 2048) :
    (iblk m c 0 t : Vec Ideal S1024x2048 .bf16) (ix2 r k) = A0 m c (ix2 (row t r) k) := by
  have hi := (index_facts t).1
  unfold iblk
  rw [View.read_apply]
  show V m c main_arg0 _ = _
  rw [V_main_arg0]
  congr 1
  funext a
  apply Fin.ext
  match a with
  | ⟨0, _⟩ => show win0_0.index t 0 * 1024 + 1 * r.val = 1024 * (t.val % 32) + r.val; rw [hi.1]; omega
  | ⟨1, _⟩ => show win0_0.index t 1 * 2048 + 1 * k.val = k.val; rw [hi.2]; omega

theorem iblk1 (c : Dev nD) (t : Fin cfg0.N) (k : Fin 2048) (n : Fin 1280) :
    (iblk m c 1 t : Vec Ideal S1x2048x1280 .bf16) (ix3 0 k n) = (V m c main_v1 : Vec Ideal S4x2048x2560 .bf16) (ix3 1 k (col t n)) := by
  have hi := (index_facts t).2.1
  unfold iblk
  rw [View.read_apply]
  show V m c main_v1 _ = _
  congr 1
  funext a
  apply Fin.ext
  match a with
  | ⟨0, _⟩ => show win0_1.index t 0 * 1 + 1 * 0 = 1; rw [hi.1]
  | ⟨1, _⟩ => show win0_1.index t 1 * 2048 + 1 * k.val = k.val; rw [hi.2.1]; omega
  | ⟨2, _⟩ => show win0_1.index t 2 * 1280 + 1 * n.val = 1280 * (t.val / 32) + n.val; rw [hi.2.2]; omega

/-- The body at an index. -/
theorem pay_apply (x : Vec Ideal S1024x2048 .bf16) (w : Vec Ideal S1x2048x1280 .bf16) (r : Fin 1024) (n : Fin 1280) :
    k0_pay1 x w (ix2 r n) = ∑ k : Fin 2048, x (ix2 r k) * w (ix3 0 k n) := by
  pointwise [k0_pay1]

/-- The kernel's result array is the product. -/
theorem final (c : Dev nD) : (dats m 0 c).arrAt 2 cfg0.N = fun i => val (A0 m c) (A1 m c) (i 0) (i 1) := by
  refine (dats m 0 c).arrAt_eq_of_covers 2 _ (by decide +kernel) fun t hf y => ?_
  have hi := (index_facts t).2.2
  blk_simp
  rw [after0_2]
  frame_out
  obtain ⟨r, n, rfl⟩ : ∃ (r : Fin 1024) (n : Fin 1280), y = ix2 r n :=
    ⟨y 0, y 1, funext fun a => match a with | ⟨0, _⟩ => rfl | ⟨1, _⟩ => rfl⟩
  rw [pay_apply]
  simp only [iblk0, iblk1]
  have e0 : ((((cfg0.win 2).blk t).view.emb (ix2 r n)) 0 : Fin 32768) = row t r := Fin.ext (by
    show win0_2.index t 0 * 1024 + 1 * r.val = 1024 * (t.val % 32) + r.val; rw [hi.1]; omega)
  have e1 : ((((cfg0.win 2).blk t).view.emb (ix2 r n)) 1 : Fin 2560) = col t n := Fin.ext (by
    show win0_2.index t 1 * 1280 + 1 * n.val = 1280 * (t.val / 32) + n.val; rw [hi.2]; omega)
  rw [e0, e1]
  have e : (∑ k : Fin 2048, A0 m c (ix2 (row t r) k) * (V m c main_v1 : Vec Ideal S4x2048x2560 .bf16) (ix3 1 k (col t n)) : EReal)
      = val (A0 m c) (A1 m c) (row t r) (col t n) := by
    unfold val
    exact Finset.sum_congr rfl fun k _ => congrArg (A0 m c (ix2 (row t r) k) * ·) (V_w m c k (col t n))
  exact e

end Cert.RwProjValue
-- ==== Proof.RwProjClaim.lean ====
/-
  The projection onto the RWKV columns: the kernel's result is the reference's.
-/
module

public import proofs.«01_k».proof.Defs
public import proofs.«01_k».proof.Proof.RwProjValue
public import proofs.«01_k».proof.Proof.Gen.RwProjRefIdeal.Run
public import Idealize.ShloMosaic.Lib.Quiescent

@[expose] public section

set_option maxRecDepth 16384

noncomputable section

namespace Cert.RwProjValue

open Idealize.ShloMosaic
open Cert.RwProjIdeal Cert.RwProjIdeal.Gen

/-- The reference runs to the end and leaves its arguments and its counters as they were. -/
theorem ref_frame : Cert.quiescent_RwProjRefIdeal (hRwProjRefIdeal := Cert.RwProjRefIdeal.Gen.facts) := fun m ρ _ =>
  (θ_run Cert.RwProjRefIdeal.defs _ _).mono
    (fun r h => ⟨fun c => (by obtain rfl : c = 0 := Subsingleton.elim _ _; exact (h 0).2), sem_eq_zero_of_no_sems (by decide) r.2⟩)
    (Cert.RwProjRefIdeal.Value.run (F := Ideal) m ρ)

/-- Over the extended reals the kernel computes the reference. -/
theorem algebraic : Cert.algebraic_RwProjIdeal_RwProjRefIdeal (hRwProjIdeal := Cert.RwProjIdeal.Gen.facts)
    (hRwProjRefIdeal := Cert.RwProjRefIdeal.Gen.facts) := by
  intro m g m' g' _ hagree
  refine ⟨fun c i => val (A0 m c) (A1 m c) (i 0) (i 1),
    (θ_run defs _ _).mono (fun _ h c => ⟨(h c).1.trans (final m c), (h c).2⟩) (Value.run_blocks (F := Ideal) m g),
    (θ_run Cert.RwProjRefIdeal.defs _ _).mono (fun _ h c => ⟨(h c).1.trans ?_, (h c).2⟩)
      (Cert.RwProjRefIdeal.Value.run (F := Ideal) m' g')⟩
  obtain ⟨h0, h1⟩ := hagree c
  rw [h0, h1]
  funext j
  obtain ⟨R, n, rfl⟩ : ∃ (R : Fin 32768) (n : Fin 2560), j = ix2 R n :=
    ⟨j 0, j 1, funext fun a => match a with | ⟨0, _⟩ => rfl | ⟨1, _⟩ => rfl⟩
  pointwise
  rfl

end Cert.RwProjValue
-- ==== Proof.MixMath.lean ====
/-
  The arithmetic of the gated state: the gate is never positive, so a decay is a number of the unit interval, products
  of decays are the decay of a sum, and the recurrence over a chunk of tokens is one sum over the tokens.
-/
module

public import Idealize.ShloMosaic.PureOps.Ideal
public import Mathlib.Algebra.BigOperators.Fin
public import Mathlib.Analysis.SpecialFunctions.Log.Basic

@[expose] public section

noncomputable section

namespace Cert.MixMath

open Idealize.ShloMosaic

/-! ### The gate -/

/-- A sixteenth of the logarithm of the logistic function. -/
def gate (x : EReal) : EReal := (min x 0 - Ideal.log (1 + Ideal.exp (0 - max x (-x)))) * ((0.0625 : ℝ) : EReal)

theorem exp_coe (r : ℝ) : Ideal.exp (r : EReal) = ((Real.exp r : ℝ) : EReal) := rfl
theorem exp_bot : Ideal.exp ⊥ = 0 := rfl
theorem log_coe (r : ℝ) : Ideal.log (r : EReal) = if r ≤ 0 then ⊥ else ((Real.log r : ℝ) : EReal) := rfl
theorem coe_max (r s : ℝ) : ((max r s : ℝ) : EReal) = max (r : EReal) (s : EReal) :=
  EReal.coe_strictMono.monotone.map_max

theorem log1p_exp_coe (r : ℝ) : Ideal.log (1 + Ideal.exp (r : EReal)) = ((Real.log (1 + Real.exp r) : ℝ) : EReal) := by
  have h : (0 : ℝ) < 1 + Real.exp r := by positivity
  have e : (1 + Ideal.exp (r : EReal)) = ((1 + Real.exp r : ℝ) : EReal) := by
    rw [exp_coe, EReal.coe_add]; rfl
  rw [e, log_coe, if_neg (not_le.mpr h)]

theorem log1p_exp_bot : Ideal.log (1 + Ideal.exp ⊥) = 0 := by
  have e : (1 + Ideal.exp ⊥ : EReal) = ((1 : ℝ) : EReal) := by rw [exp_bot, add_zero]; rfl
  rw [e, log_coe, if_neg (by norm_num), Real.log_one]; rfl

theorem gate_coe (r : ℝ) : gate r = (((min r 0 - Real.log (1 + Real.exp (-|r|))) * 0.0625 : ℝ) : EReal) := by
  unfold gate
  have e : (0 - max (r : EReal) (-(r : EReal))) = ((-|r| : ℝ) : EReal) := by
    rw [← EReal.coe_neg, ← coe_max, zero_sub, ← EReal.coe_neg]; rfl
  rw [e, log1p_exp_coe]
  norm_cast

theorem gate_top : gate ⊤ = 0 := by
  unfold gate
  have e : (0 - max (⊤ : EReal) (-⊤)) = ⊥ := by simp
  rw [e, log1p_exp_bot]; simp

theorem gate_bot : gate ⊥ = ⊥ := by
  unfold gate
  have e : (0 - max (⊥ : EReal) (-⊥)) = ⊥ := by simp
  rw [e, log1p_exp_bot, min_eq_left bot_le, sub_zero, EReal.bot_mul_coe_of_pos (by norm_num)]

theorem gate_nonpos (x : EReal) : gate x ≤ 0 := by
  induction x using EReal.rec with
  | bot => rw [gate_bot]; exact bot_le
  | top => rw [gate_top]
  | coe r =>
    rw [gate_coe]
    have h : 0 ≤ Real.log (1 + Real.exp (-|r|)) := Real.log_nonneg (by linarith [Real.exp_pos (-|r|)])
    have h' : min r 0 ≤ 0 := min_le_right _ _
    exact_mod_cast mul_nonpos_of_nonpos_of_nonneg (by linarith) (by norm_num)

/-- The gate as the reference writes it: minus the larger of minus `x` and zero, minus the logarithm, over sixteen. -/
theorem gate_eq (x : EReal) :
    Ideal.div (-(max (-x) 0 + Ideal.log (1 + Ideal.exp (-(max (-x - 0) (-(-x - 0))))))) ((16 : ℝ) : EReal) = gate x := by
  have h16 : ((16 : ℝ) : EReal) ≠ 0 := by exact_mod_cast (by norm_num : (16 : ℝ) ≠ 0)
  have hi : (((16 : ℝ) : EReal))⁻¹ = ((0.0625 : ℝ) : EReal) := by rw [← EReal.coe_inv]; norm_num
  unfold Ideal.div; rw [if_neg h16, hi, sub_zero]
  induction x using EReal.rec with
  | bot =>
    have e : (-(max (-⊥ : EReal) (-(-⊥)))) = ⊥ := by simp
    rw [e, log1p_exp_bot, gate_bot]
    simp only [EReal.neg_bot, add_zero]
    rw [max_eq_left le_top, EReal.neg_top, EReal.bot_mul_coe_of_pos (by norm_num)]
  | top =>
    have e : (-(max (-⊤ : EReal) (-(-⊤)))) = ⊥ := by simp
    rw [e, log1p_exp_bot, gate_top]
    simp
  | coe r =>
    have e : (-(max (-(r : EReal)) (-(-(r : EReal))))) = ((-|r| : ℝ) : EReal) := by
      rw [neg_neg, max_comm, ← EReal.coe_neg, ← coe_max, ← EReal.coe_neg]; rfl
    rw [e, log1p_exp_coe, gate_coe]
    have m : max (-(r : EReal)) 0 = ((max (-r) 0 : ℝ) : EReal) := by
      rw [coe_max]; rfl
    rw [m]
    have k : -(max (-r) 0 + Real.log (1 + Real.exp (-|r|))) = min r 0 - Real.log (1 + Real.exp (-|r|)) := by
      have : max (-r) 0 = -(min r 0) := by rw [← neg_zero (G := ℝ), max_neg_neg]; simp
      rw [this]; ring
    rw [← EReal.coe_add, ← EReal.coe_neg, k, ← EReal.coe_mul]

/-! ### Decays -/

theorem exp_nonneg (x : EReal) : 0 ≤ Ideal.exp x := by
  induction x using EReal.rec with
  | bot => exact le_refl _
  | top => exact le_top
  | coe r => rw [exp_coe]; exact_mod_cast (Real.exp_pos r).le

theorem exp_ne_top {x : EReal} (h : x ≤ 0) : Ideal.exp x ≠ ⊤ := by
  induction x using EReal.rec with
  | bot => exact EReal.zero_ne_top
  | top => exact absurd h (by simp)
  | coe r => exact EReal.coe_ne_top _

theorem exp_zero : Ideal.exp 0 = 1 := by
  show ((Real.exp 0 : ℝ) : EReal) = 1
  rw [Real.exp_zero]; rfl

theorem exp_add {x y : EReal} (hx : x ≤ 0) (hy : y ≤ 0) : Ideal.exp (x + y) = Ideal.exp x * Ideal.exp y := by
  induction x using EReal.rec with
  | bot => rw [EReal.bot_add]; show (0 : EReal) = 0 * _; rw [zero_mul]
  | top => exact absurd hx (by simp)
  | coe r =>
    induction y using EReal.rec with
    | bot => rw [EReal.add_bot]; show (0 : EReal) = _ * 0; rw [mul_zero]
    | top => exact absurd hy (by simp)
    | coe s =>
      rw [← EReal.coe_add]
      show ((Real.exp (r + s) : ℝ) : EReal) = ((Real.exp r : ℝ) : EReal) * ((Real.exp s : ℝ) : EReal)
      rw [Real.exp_add, EReal.coe_mul]

theorem exp_sum {ι : Type*} (s : Finset ι) (f : ι → EReal) (h : ∀ i, f i ≤ 0) :
    Ideal.exp (∑ i ∈ s, f i) = ∏ i ∈ s, Ideal.exp (f i) := by
  classical
  have : (∑ i ∈ s, f i) ≤ 0 ∧ Ideal.exp (∑ i ∈ s, f i) = ∏ i ∈ s, Ideal.exp (f i) := by
    induction s using Finset.induction_on with
    | empty => simp [exp_zero]
    | insert a s ha ih =>
      rw [Finset.sum_insert ha, Finset.prod_insert ha]
      exact ⟨add_nonpos (h a) ih.1, by rw [exp_add (h a) ih.1, ih.2]⟩
  exact this.2

/-- A word and what the word leaves over make the number again. -/
theorem add_sub_self_of_nonpos {x : EReal} (h : x ≤ 0) : x + (x - x) = x := by
  induction x using EReal.rec with
  | bot => rw [EReal.bot_add]
  | top => exact absurd h (by simp)
  | coe r => rw [← EReal.coe_sub, ← EReal.coe_add]; congr 1; ring

/-- A decay spreads over a sum. -/
theorem exp_mul_sum {ι : Type*} (s : Finset ι) (f : ι → EReal) {x : EReal} (h : x ≤ 0) :
    Ideal.exp x * ∑ i ∈ s, f i = ∑ i ∈ s, Ideal.exp x * f i := by
  classical
  induction s using Finset.induction_on with
  | empty => simp
  | insert a s ha ih =>
    rw [Finset.sum_insert ha, Finset.sum_insert ha,
      EReal.left_distrib_of_nonneg_of_ne_top (exp_nonneg x) (exp_ne_top h), ih]

/-! ### The recurrence -/

/-- The state after `n` tokens. -/
def state (s0 : EReal) (la k v : ℕ → EReal) : ℕ → EReal
  | 0 => s0
  | n + 1 => Ideal.exp (la n) * state s0 la k v n + k n * v n

theorem state_eq (s0 : EReal) (la k v : ℕ → EReal) (h : ∀ t, la t ≤ 0) (n : ℕ) :
    state s0 la k v n = (∏ u ∈ Finset.range n, Ideal.exp (la u)) * s0
      + ∑ t ∈ Finset.range n, (k t * ∏ u ∈ Finset.range n, Ideal.exp (if t < u then la u else 0)) * v t := by
  induction n with
  | zero => simp [state]
  | succ n ih =>
    rw [state, ih, EReal.left_distrib_of_nonneg_of_ne_top (exp_nonneg _) (exp_ne_top (h n)), exp_mul_sum _ _ (h n),
      Finset.prod_range_succ, Finset.sum_range_succ, ← add_assoc]
    congr 1
    · congr 1
      · ac_rfl
      refine Finset.sum_congr rfl fun t ht => ?_
      have : t < n := Finset.mem_range.mp ht
      rw [Finset.prod_range_succ, if_pos this]; ac_rfl
    · have : ∏ u ∈ Finset.range (n + 1), Ideal.exp (if n < u then la u else 0) = 1 := by
        refine Finset.prod_eq_one fun u hu => ?_
        rw [if_neg (by have := Finset.mem_range.mp hu; omega), exp_zero]
      rw [this, mul_one]

/-- The state after sixteen tokens as one sum over them. -/
theorem state16 (s0 : EReal) (la k v : Fin 16 → EReal) (h : ∀ t, la t ≤ 0) (la' k' v' : ℕ → EReal)
    (hl : ∀ t : Fin 16, la' t = la t) (hk : ∀ t : Fin 16, k' t = k t) (hv : ∀ t : Fin 16, v' t = v t)
    (h' : ∀ t, la' t ≤ 0) :
    state s0 la' k' v' 16 = Ideal.exp (∑ u : Fin 16, la u) * s0
      + ∑ t : Fin 16, (k t * Ideal.exp (∑ u : Fin 16, if t < u then la u else 0)) * v t := by
  rw [state_eq s0 la' k' v' h', exp_sum _ _ h, Finset.prod_range, Finset.sum_range]
  simp only [hl]
  congr 1
  refine Finset.sum_congr rfl fun t _ => ?_
  rw [hk, hv, exp_sum _ _ (fun u => by split <;> [exact h u; exact le_refl _]), Finset.prod_range]
  simp only [hl, Fin.lt_def]

end Cert.MixMath

end
-- ==== Proof.MixHost.lean ====
/-
  What one sequence of the mixers finds in its buffers: the rows of that sequence in each input of the gated state, of the
  shift and of the convolution.
-/
module

public import proofs.«01_k».proof.Proof.Gen.MixIdeal.Frame.Runs
public import proofs.«01_k».proof.Proof.MixMath
public import Idealize.ShloMosaic.Lib.Pointwise
public import Idealize.ShloMosaic.Lib.Pipeline.ValueKit

@[expose] public section

set_option maxRecDepth 16384

noncomputable section

namespace Cert.MixHost

open Cert.MixIdeal Cert.MixIdeal.Gen Idealize.ShloMosaic Idealize.ShloMosaic.TcCoe Idealize.SL.Sem
open scoped BigOperators

variable (m : (ℓ : Loc nD τ sig) → Buf (Elt Ideal) ℓ)

/-- The arguments these results depend on, as arrays of extended reals. -/
abbrev A0 (c : Dev nD) : Vec Ideal S128x1664 .f32 := m ((c : Thread nD τ).loc main_arg0)
abbrev A1 (c : Dev nD) : Vec Ideal S128x3072 .f32 := m ((c : Thread nD τ).loc main_arg1)
abbrev A2 (c : Dev nD) : Vec Ideal S128x2560 .f32 := m ((c : Thread nD τ).loc main_arg2)
abbrev A26 (c : Dev nD) : Vec Ideal S16x256 .f32 := m ((c : Thread nD τ).loc main_arg26)
abbrev A27 (c : Dev nD) : Vec Ideal S256 .f32 := m ((c : Thread nD τ).loc main_arg27)
abbrev A29 (c : Dev nD) : Vec Ideal S8x4x64x128 .f32 := m ((c : Thread nD τ).loc main_arg29)

set_option maxHeartbeats 1000000 in
theorem V_v27 (c : Dev nD) : V m c main_v27 = shapeCast S8x16x2560 (A2 m c) shapeCasts_S128x2560_S8x16x2560 := by
  unfold V
  simp only [List.flatten_cons, List.flatten_nil, List.append_nil, List.cons_append, List.nil_append]
  after_results <;> rfl

set_option maxHeartbeats 1000000 in
theorem V_v33 (c : Dev nD) : V m c main_v33 = shapeCast S8x16x3072 (A1 m c) shapeCasts_S128x3072_S8x16x3072 := by
  unfold V
  simp only [List.flatten_cons, List.flatten_nil, List.append_nil, List.cons_append, List.nil_append]
  after_results <;> rfl

set_option maxHeartbeats 1000000 in
theorem V_v40 (c : Dev nD) : V m c main_v40 = shapeCast S8x16x1664 (A0 m c) shapeCasts_S128x1664_S8x16x1664 := by
  unfold V
  simp only [List.flatten_cons, List.flatten_nil, List.append_nil, List.cons_append, List.nil_append]
  after_results <;> rfl

set_option maxHeartbeats 1000000 in
theorem V_v41 (c : Dev nD) : V m c main_v41 = shapeCast S8x16x1664 (A0 m c) shapeCasts_S128x1664_S8x16x1664 := by
  unfold V
  simp only [List.flatten_cons, List.flatten_nil, List.append_nil, List.cons_append, List.nil_append]
  after_results <;> rfl

set_option maxHeartbeats 1000000 in
theorem V_v36 (c : Dev nD) : V m c main_v36 = truncf (F := Ideal) .bf16 (pad S128x256 ![0, 0] ![112, 0] ![0, 0] (A26 m c)
    (sitofp .f32 (constantI S_ 32 0#32)) pads_S16x256_S128x256_01120_000 h_S_) bitsLt_bf16_f32 := by
  unfold V
  simp only [List.flatten_cons, List.flatten_nil, List.append_nil, List.cons_append, List.nil_append]
  after_results <;> rfl

set_option maxHeartbeats 1000000 in
theorem V_v37 (c : Dev nD) : V m c main_v37 = shapeCast S1x256 (A27 m c) shapeCasts_S256_S1x256 := by
  unfold V
  simp only [List.flatten_cons, List.flatten_nil, List.append_nil, List.cons_append, List.nil_append]
  after_results <;> rfl

set_option maxHeartbeats 1000000 in
theorem V_v39 (c : Dev nD) : V m c main_v39 = shapeCast S8x2x128x128 (A29 m c) shapeCasts_S8x4x64x128_S8x2x128x128 := by
  unfold V
  simp only [List.flatten_cons, List.flatten_nil, List.append_nil, List.cons_append, List.nil_append]
  after_results <;> rfl

set_option maxHeartbeats 1000000 in
theorem V_cst4 (c : Dev nD) : V m c main_cst_4 = fun i => FloatOps.ofBits (F := Ideal) .bf16 (lit5 (S160x32.rowMajor i)) := by
  unfold V
  simp only [List.flatten_cons, List.flatten_nil, List.append_nil, List.cons_append, List.nil_append]
  after_results <;> rfl

/-- Where each block lies, decided over the grid. -/
theorem index_facts : ∀ t : Fin grid0.N,
    (win0_0.index t (0 : Fin 3) = t.val ∧ win0_0.index t (1 : Fin 3) = 0 ∧ win0_0.index t (2 : Fin 3) = 0)
    ∧ (win0_20.index t (0 : Fin 3) = t.val ∧ win0_20.index t (1 : Fin 3) = 0 ∧ win0_20.index t (2 : Fin 3) = 0)
    ∧ (win0_31.index t (0 : Fin 3) = t.val ∧ win0_31.index t (1 : Fin 3) = 0 ∧ win0_31.index t (2 : Fin 3) = 0)
    ∧ (win0_32.index t (0 : Fin 3) = t.val ∧ win0_32.index t (1 : Fin 3) = 0 ∧ win0_32.index t (2 : Fin 3) = 12)
    ∧ (win0_33.index t (0 : Fin 2) = 0 ∧ win0_33.index t (1 : Fin 2) = 0)
    ∧ (win0_34.index t (0 : Fin 2) = 0 ∧ win0_34.index t (1 : Fin 2) = 0)
    ∧ (win0_36.index t (0 : Fin 4) = t.val ∧ win0_36.index t (1 : Fin 4) = 0 ∧ win0_36.index t (2 : Fin 4) = 0
      ∧ win0_36.index t (3 : Fin 4) = 0)
    ∧ (win0_37.index t (0 : Fin 2) = 0 ∧ win0_37.index t (1 : Fin 2) = 0) := by
  decide +kernel

/-- The sequence of a grid point. -/
abbrev seq (t : Fin cfg0.N) : Fin 8 := ⟨t.val, lt_of_lt_of_eq t.isLt (show cfg0.N = 8 from N_0)⟩
/-- Row `r` of sequence `b` among all the rows. -/
abbrev row (b : Fin 8) (r : Fin 16) : Fin 128 := ⟨b.val * 16 + r.val, by have := b.isLt; have := r.isLt; omega⟩

theorem blk0 (c : Dev nD) (t : Fin cfg0.N) (r : Fin 16) (n : Fin 2560) :
    (iblk m c 0 t : Vec Ideal S1x16x2560 .f32) (ix3 0 r n) = A2 m c (ix2 (row (seq t) r) n) := by
  have hi := (index_facts t).1
  unfold iblk
  rw [View.read_apply]
  show V m c main_v27 _ = _
  rw [V_v27]
  refine Eq.trans (b := shapeCast S8x16x2560 (A2 m c) shapeCasts_S128x2560_S8x16x2560 (ix3 (seq t) r n)) ?_ (by pointwise)
  congr 1
  funext a
  apply Fin.ext
  match a with
  | ⟨0, _⟩ => show win0_0.index t 0 * 1 + 1 * 0 = t.val; rw [hi.1]; omega
  | ⟨1, _⟩ => show win0_0.index t 1 * 16 + 1 * r.val = r.val; rw [hi.2.1]; omega
  | ⟨2, _⟩ => show win0_0.index t 2 * 2560 + 1 * n.val = n.val; rw [hi.2.2]; omega

theorem blk20 (c : Dev nD) (t : Fin cfg0.N) (r : Fin 16) (n : Fin 3072) :
    (iblk m c 20 t : Vec Ideal S1x16x3072 .f32) (ix3 0 r n) = A1 m c (ix2 (row (seq t) r) n) := by
  have hi := (index_facts t).2.1
  unfold iblk
  rw [View.read_apply]
  show V m c main_v33 _ = _
  rw [V_v33]
  refine Eq.trans (b := shapeCast S8x16x3072 (A1 m c) shapeCasts_S128x3072_S8x16x3072 (ix3 (seq t) r n)) ?_ (by pointwise)
  congr 1
  funext a
  apply Fin.ext
  match a with
  | ⟨0, _⟩ => show win0_20.index t 0 * 1 + 1 * 0 = t.val; rw [hi.1]; omega
  | ⟨1, _⟩ => show win0_20.index t 1 * 16 + 1 * r.val = r.val; rw [hi.2.1]; omega
  | ⟨2, _⟩ => show win0_20.index t 2 * 3072 + 1 * n.val = n.val; rw [hi.2.2]; omega

theorem blk31 (c : Dev nD) (t : Fin cfg0.N) (r : Fin 16) (n : Fin 1536) :
    (X0_31 m c t : Vec Ideal S1x16x1536 .f32) (ix3 0 r n)
      = A0 m c (ix2 (row (seq t) r) ⟨n.val, by have := n.isLt; omega⟩) := by
  have hi := (index_facts t).2.2.1
  unfold X0_31 Pipeline.Window.fill
  rw [dif_pos (moved0_31 t _)]
  unfold iblk
  rw [View.read_apply]
  show V m c main_v40 _ = _
  rw [V_v40]
  refine Eq.trans (b := shapeCast S8x16x1664 (A0 m c) shapeCasts_S128x1664_S8x16x1664
    (ix3 (seq t) r ⟨n.val, by have := n.isLt; omega⟩)) ?_ (by pointwise)
  congr 1
  funext a
  apply Fin.ext
  match a with
  | ⟨0, _⟩ => show win0_31.index t 0 * 1 + 1 * 0 = t.val; rw [hi.1]; omega
  | ⟨1, _⟩ => show win0_31.index t 1 * 16 + 1 * r.val = r.val; rw [hi.2.1]; omega
  | ⟨2, _⟩ => show win0_31.index t 2 * 1536 + 1 * n.val = n.val; rw [hi.2.2]; omega

theorem blk32 (c : Dev nD) (t : Fin cfg0.N) (r : Fin 16) (n : Fin 128) :
    (iblk m c 32 t : Vec Ideal S1x16x128 .f32) (ix3 0 r n)
      = A0 m c (ix2 (row (seq t) r) ⟨1536 + n.val, by have := n.isLt; omega⟩) := by
  have hi := (index_facts t).2.2.2.1
  unfold iblk
  rw [View.read_apply]
  show V m c main_v41 _ = _
  rw [V_v41]
  refine Eq.trans (b := shapeCast S8x16x1664 (A0 m c) shapeCasts_S128x1664_S8x16x1664
    (ix3 (seq t) r ⟨1536 + n.val, by have := n.isLt; omega⟩)) ?_ (by pointwise)
  congr 1
  funext a
  apply Fin.ext
  match a with
  | ⟨0, _⟩ => show win0_32.index t 0 * 1 + 1 * 0 = t.val; rw [hi.1]; omega
  | ⟨1, _⟩ => show win0_32.index t 1 * 16 + 1 * r.val = r.val; rw [hi.2.1]; omega
  | ⟨2, _⟩ => show win0_32.index t 2 * 128 + 1 * n.val = 1536 + n.val; rw [hi.2.2]; omega

/-- The decay's second factor, with the rows of zeros below it. -/
def up (w : Vec Ideal S16x256 .f32) (k : Fin 128) (n : Fin 256) : EReal :=
  if h : k.val < 16 then w (ix2 ⟨k.val, h⟩ n) else 0

theorem blk33 (c : Dev nD) (t : Fin cfg0.N) (k : Fin 128) (n : Fin 256) :
    (iblk m c 33 t : Vec Ideal S128x256 .bf16) (ix2 k n) = up (A26 m c) k n := by
  have hi := (index_facts t).2.2.2.2.1
  unfold iblk
  rw [View.read_apply]
  show V m c main_v36 _ = _
  rw [V_v36]
  refine Eq.trans (b := truncf (F := Ideal) .bf16 (pad S128x256 ![0, 0] ![112, 0] ![0, 0] (A26 m c)
    (sitofp .f32 (constantI S_ 32 0#32)) pads_S16x256_S128x256_01120_000 h_S_) bitsLt_bf16_f32 (ix2 k n)) ?_ ?_
  · congr 1
    funext a
    apply Fin.ext
    match a with
    | ⟨0, _⟩ => show win0_33.index t 0 * 128 + 1 * k.val = k.val; rw [hi.1]; omega
    | ⟨1, _⟩ => show win0_33.index t 1 * 256 + 1 * n.val = n.val; rw [hi.2]; omega
  · pointwise [up]
    have hz : FloatOps.sitofp (F := Ideal) FTy.f32 0#32 = 0 := by simp [FloatOps.sitofp]
    by_cases h : k.val < 16
    · rw [dif_pos h, dif_pos h]
    · rw [dif_neg h, dif_neg h, hz]

theorem blk34 (c : Dev nD) (t : Fin cfg0.N) (n : Fin 256) :
    (iblk m c 34 t : Vec Ideal S1x256 .f32) (ix2 0 n) = A27 m c (ix1 n) := by
  have hi := (index_facts t).2.2.2.2.2.1
  unfold iblk
  rw [View.read_apply]
  show V m c main_v37 _ = _
  rw [V_v37]
  refine Eq.trans (b := shapeCast S1x256 (A27 m c) shapeCasts_S256_S1x256 (ix2 0 n)) ?_ (by pointwise)
  congr 1
  funext a
  apply Fin.ext
  match a with
  | ⟨0, _⟩ => show win0_34.index t 0 * 1 + 1 * 0 = 0; rw [hi.1]
  | ⟨1, _⟩ => show win0_34.index t 1 * 256 + 1 * n.val = n.val; rw [hi.2]; omega

/-- Row `l` of pair `p` of the states is lane `l % 64` of head `2p + l / 64`. -/
theorem blk36 (c : Dev nD) (t : Fin cfg0.N) (p : Fin 2) (l j : Fin 128) :
    (iblk m c 36 t : Vec Ideal S1x2x128x128 .f32) (ix4 0 p l j)
      = A29 m c (ix4 (seq t) ⟨p.val * 2 + l.val / 64, by have := p.isLt; have := l.isLt; omega⟩
          ⟨l.val % 64, Nat.mod_lt _ (by decide)⟩ j) := by
  have hi := (index_facts t).2.2.2.2.2.2.1
  unfold iblk
  rw [View.read_apply]
  show V m c main_v39 _ = _
  rw [V_v39]
  refine Eq.trans (b := shapeCast S8x2x128x128 (A29 m c) shapeCasts_S8x4x64x128_S8x2x128x128 (ix4 (seq t) p l j)) ?_ ?_
  · congr 1
    funext a
    apply Fin.ext
    match a with
    | ⟨0, _⟩ => show win0_36.index t 0 * 1 + 1 * 0 = t.val; rw [hi.1]; omega
    | ⟨1, _⟩ => show win0_36.index t 1 * 2 + 1 * p.val = p.val; rw [hi.2.1]; omega
    | ⟨2, _⟩ => show win0_36.index t 2 * 128 + 1 * l.val = l.val; rw [hi.2.2.1]; omega
    | ⟨3, _⟩ => show win0_36.index t 3 * 128 + 1 * j.val = j.val; rw [hi.2.2.2]; omega
  · obtain ⟨e, i, rfl⟩ : ∃ (e : Fin 2) (i : Fin 64), l = ⟨e.val * 64 + i.val, by have := e.isLt; have := i.isLt; omega⟩ :=
      ⟨⟨l.val / 64, by have := l.isLt; omega⟩, ⟨l.val % 64, Nat.mod_lt _ (by decide)⟩, Fin.ext (by show l.val = _; simp only []; omega)⟩
    pointwise
    have hm : (e.val * 64 + i.val) % 64 = i.val := by have := i.isLt; omega
    congr 1
    exact congrArg (fun z => ix4 (seq t) _ z j) (Fin.ext hm.symm)

theorem blk37 (c : Dev nD) (t : Fin cfg0.N) (r : Fin 160) (n : Fin 32) :
    (iblk m c 37 t : Vec Ideal S160x32 .bf16) (ix2 r n) = FloatOps.ofBits (F := Ideal) .bf16 (lit5 (S160x32.rowMajor (ix2 r n))) := by
  have hi := (index_facts t).2.2.2.2.2.2.2
  unfold iblk
  rw [View.read_apply]
  show V m c main_cst_4 _ = _
  rw [V_cst4]
  refine congrArg (fun y => FloatOps.ofBits (F := Ideal) .bf16 (lit5 (S160x32.rowMajor y))) ?_
  funext a
  apply Fin.ext
  match a with
  | ⟨0, _⟩ => show win0_37.index t 0 * 160 + 1 * r.val = r.val; rw [hi.1]; omega
  | ⟨1, _⟩ => show win0_37.index t 1 * 32 + 1 * n.val = n.val; rw [hi.2]; omega

end Cert.MixHost

end
-- ==== Proof.MixPay.lean ====
/-
  The body's stages of the gated state at an index.
-/
module

public import proofs.«01_k».proof.Proof.Gen.MixIdeal.Skeleton
public import proofs.«01_k».proof.Proof.MixMath
public import Idealize.ShloMosaic.Lib.Pointwise
public import Idealize.ShloMosaic.Lib.IdealHost

@[expose] public section

set_option maxRecDepth 16384

noncomputable section

namespace Cert.MixPay

open Cert.MixIdeal Cert.MixIdeal.Gen Idealize.ShloMosaic Idealize.ShloMosaic.TcCoe Cert.MixMath
open scoped BigOperators

theorem pay16_apply (x : Vec Ideal S1x16x128 .f32) (w : Vec Ideal S128x256 .bf16) (t : Fin 16) (n : Fin 256) :
    k0_pay16 (F := Ideal) x w (ix2 t n) = ∑ k : Fin 128, x (ix3 0 t k) * w (ix2 k n) := by
  pointwise [k0_pay16]

theorem lit16th : (Ideal.ofBits FTy.f32 1031798784#32 : EReal) = ((0.0625 : ℝ) : EReal) := by
  have h0 : ((1031798784#32).extractLsb' (8 + 23) 1 == 1#1) = false := by decide
  have h1 : ((1031798784#32).extractLsb' 23 8).toNat = 123 := by decide
  have h2 : ((1031798784#32).extractLsb' 0 23).toNat = 0 := by decide
  simp only [Ideal.ofBits, Ideal.ieee, h0, h1, h2]
  norm_num

/-- The decay's logarithm is the gate. -/
theorem pay17_apply (x : Vec Ideal S16x256 .f32) (b : Vec Ideal S1x256 .f32) (t : Fin 16) (n : Fin 256) :
    k0_pay17 (F := Ideal) x b (ix2 t n) = gate (x (ix2 t n) + b (ix2 0 n)) := by
  pointwise [k0_pay17]
  rw [lit16th]
  rfl

/-- The decays of the rows of sums the constant asks for. -/
theorem pay30_apply (la : Vec Ideal S16x256 .f32) (mc : Vec Ideal S160x32 .bf16) (r : Fin 160) (n : Fin 256) :
    k0_pay30 (F := Ideal) la mc (ix2 r n)
      = Ideal.exp (∑ u : Fin 16, mc (ix2 r ⟨u.val, by have := u.isLt; omega⟩) * la (ix2 u n)
        + ∑ u : Fin 16, mc (ix2 r ⟨16 + u.val, by have := u.isLt; omega⟩) * (la (ix2 u n) - la (ix2 u n))) := by
  pointwise [k0_pay30]

theorem pay85_apply (e : Vec Ideal S160x256 .f32) (k : Vec Ideal S1x16x256 .f32) (t : Fin 16) (n : Fin 256) :
    k0_pay85 (F := Ideal) e k (ix2 t n) = k (ix3 0 t n) * e (ix2 ⟨16 + t.val, by have := t.isLt; omega⟩ n) := by
  pointwise [k0_pay85, k0_pay83]

/-- The mask of the lanes of the even head. -/
theorem pay87_apply (t : Fin 16) (l : Fin 128) :
    k0_pay87 (iota .tc S16x128 32 [1] iota_S16x128_d1_w32) k0_pay86 (ix2 t l) = if l.val < 64 then 1#1 else 0#1 := by
  pointwise [k0_pay87, k0_pay86]
  revert l
  decide +kernel

theorem hi_lo (la : Fin 16 → EReal) (h : ∀ t, la t ≤ 0) : (∑ u, la u) + ∑ u, (la u - la u) = ∑ u, la u := by
  rw [← Finset.sum_add_distrib]
  exact Finset.sum_congr rfl fun u _ => add_sub_self_of_nonpos (h u)

theorem hi_lo_mask (la c c' : Fin 16 → EReal) (t : Fin 16) (h : ∀ t, la t ≤ 0) (hc : ∀ u, c u = if t < u then 1 else 0)
    (hc' : ∀ u, c' u = if t < u then 1 else 0) :
    (∑ u, c u * la u) + ∑ u, c' u * (la u - la u) = ∑ u, if t < u then la u else 0 := by
  rw [← Finset.sum_add_distrib]
  refine Finset.sum_congr rfl fun u _ => ?_
  rw [hc, hc']
  by_cases hu : t < u
  · rw [if_pos hu, if_pos hu, one_mul, one_mul, add_sub_self_of_nonpos (h u)]
  · rw [if_neg hu, if_neg hu, zero_mul, zero_mul, add_zero]

theorem sum_select (m : Fin 16 → BitVec 1) (kd v w : Fin 16 → EReal) (q : Prop) [Decidable q] (hm : ∀ t, m t = if q then 1#1 else 0#1) :
    (∑ t, Scalar.select (m t) (kd t * v t) 0) + ∑ t, Scalar.select (m t) 0 (kd t * w t)
      = ∑ t, kd t * (if q then v t else w t) := by
  rw [← Finset.sum_add_distrib]
  refine Finset.sum_congr rfl fun t _ => ?_
  rw [hm]
  by_cases hq : q
  · simp [hq, Scalar.select]
  · simp [hq, Scalar.select]

/-- The two heads of a slab, before the slab's first and second columns are told apart. -/
theorem pay555_apply (la kd : Vec Ideal S16x256 .f32) (msk : IVec S16x128 1) (v w : Vec Ideal S16x128 .f32) (s : Vec Ideal S128x128 .f32)
    (hla : ∀ i, la i ≤ 0) (hm : ∀ t l, msk (ix2 t l) = if l.val < 64 then 1#1 else 0#1) (l j : Fin 128) :
    k0_pay555 (F := Ideal) la kd msk (k0_pay89 (F := Ideal)) v w s (ix3 0 l j)
      = Ideal.exp (∑ t : Fin 16, la (ix2 t ⟨l.val, by have := l.isLt; omega⟩)) * s (ix2 l j)
        + ∑ t : Fin 16, kd (ix2 t ⟨l.val, by have := l.isLt; omega⟩) * (if l.val < 64 then v (ix2 t j) else w (ix2 t j)) := by
  pointwise [k0_pay555, k0_pay89]
  rw [sum_select (fun t => msk (ix2 t l)) (fun t => kd (ix2 t ⟨l.val, by have := l.isLt; omega⟩)) (fun t => v (ix2 t j))
    (fun t => w (ix2 t j)) _ (fun t => hm t l), hi_lo _ (fun t => hla _)]

theorem pay557_apply (la kd : Vec Ideal S16x256 .f32) (msk : IVec S16x128 1) (v w : Vec Ideal S16x128 .f32) (s : Vec Ideal S128x128 .f32)
    (hla : ∀ i, la i ≤ 0) (hm : ∀ t l, msk (ix2 t l) = if l.val < 64 then 1#1 else 0#1) (l j : Fin 128) :
    k0_pay557 (F := Ideal) kd msk (k0_pay89 (F := Ideal)) v w s (k0_pay556 (F := Ideal) la) (ix3 0 l j)
      = Ideal.exp (∑ t : Fin 16, la (ix2 t ⟨128 + l.val, by have := l.isLt; omega⟩)) * s (ix2 l j)
        + ∑ t : Fin 16, kd (ix2 t ⟨128 + l.val, by have := l.isLt; omega⟩) * (if l.val < 64 then v (ix2 t j) else w (ix2 t j)) := by
  pointwise [k0_pay557, k0_pay556, k0_pay89]
  rw [sum_select (fun t => msk (ix2 t l)) (fun t => kd (ix2 t ⟨128 + l.val, by have := l.isLt; omega⟩)) (fun t => v (ix2 t j))
    (fun t => w (ix2 t j)) _ (fun t => hm t l), hi_lo _ (fun t => hla _)]

/-- The constant's second sixteen rows: row `t` asks for the tokens after `t`, in the numbers' words and in what those leave over. -/
theorem mask_rows : ∀ t u : Fin 16,
    lit5 (S160x32.rowMajor (ix2 (⟨16 + t.val, by have := t.isLt; omega⟩ : Fin 160) (⟨u.val, by have := u.isLt; omega⟩ : Fin 32)))
      = (if t < u then 0x3F80#16 else 0x0000#16)
    ∧ lit5 (S160x32.rowMajor (ix2 (⟨16 + t.val, by have := t.isLt; omega⟩ : Fin 160) (⟨16 + u.val, by have := u.isLt; omega⟩ : Fin 32)))
      = (if t < u then 0x3F80#16 else 0x0000#16) := by
  decide +kernel

theorem lit_ite (p : Prop) [Decidable p] :
    (FloatOps.ofBits (F := Ideal) .bf16 (if p then 0x3F80#16 else 0x0000#16) : EReal) = if p then 1 else 0 := by
  by_cases h : p
  · rw [if_pos h, if_pos h]; exact Ideal.ofBits_one_bf16
  · rw [if_neg h, if_neg h]; exact Ideal.ofBits_zero_bf16

end Cert.MixPay

end
-- ==== Proof.MixOut.lean ====
/-
  The body's scratch buffers read back: the token rows behind the cached ones, and the two pairs of states.
-/
module

public import proofs.«01_k».proof.Proof.MixPay
public import Idealize.ShloMosaic.Lib.Pipeline.ValueKit
public import Idealize.ShloMosaic.Lib.Pipeline.ReadBack

@[expose] public section

set_option maxRecDepth 16384

noncomputable section

namespace Cert.MixOut

open Cert.MixIdeal Cert.MixIdeal.Gen Idealize.ShloMosaic Idealize.ShloMosaic.TcCoe Cert.MixMath
open scoped BigOperators

/-- A load of some lanes of every token. -/
theorem ld_lanes {a b n k o : ℕ} (X : (⟨3, ![a, b, n]⟩ : Shape).Idx → EReal) (h : o + k ≤ n)
    (inb : ∀ x, (![0, 0, o] : Fin 3 → ℕ) x + (⟨3, ![a, b, k]⟩ : Shape).size x ≤ (⟨3, ![a, b, n]⟩ : Shape).size x)
    (p : Fin a) (q : Fin b) (r : Fin k) :
    (fun y => X ((Rect.unit (s := (⟨3, ![a, b, n]⟩ : Shape)) ![0, 0, o] (⟨3, ![a, b, k]⟩ : Shape).size inb).idx y)) (ix3 p q r)
      = X (ix3 p q ⟨o + r.val, by have := r.isLt; omega⟩) := by
  refine congrArg X (funext fun x => Fin.ext ?_)
  match x with
  | ⟨0, _⟩ => show 0 + 1 * p.val = p.val; omega
  | ⟨1, _⟩ => show 0 + 1 * q.val = q.val; omega
  | ⟨2, _⟩ => show o + 1 * r.val = o + r.val; omega

/-- The last `k` rows of a buffer whose rows from the eighth were stored last are the last `k` rows stored. -/
theorem last_rows {n k o d : ℕ} (v : View sig .tc .vmem (⟨2, ![24, n]⟩ : Shape) .f32) (w : (⟨2, ![16, n]⟩ : Shape).Idx → EReal)
    (L : List (View.Piece (Elt Ideal) (⟨2, ![24, n]⟩ : Shape) .f32)) (ho : o = 8 + d) (hk : d + k ≤ 16)
    (inb : ∀ a, (![8, 0] : Fin 2 → ℕ) a + (⟨2, ![16, n]⟩ : Shape).size a ≤ (⟨2, ![24, n]⟩ : Shape).size a)
    (inb' : ∀ a, (![o, 0] : Fin 2 → ℕ) a + (⟨2, ![k, n]⟩ : Shape).size a ≤ (⟨2, ![24, n]⟩ : Shape).size a)
    (r : Fin k) (q : Fin n) :
    v.readCov ((⟨Rect.unit (s := (⟨2, ![24, n]⟩ : Shape)) ![8, 0] (⟨2, ![16, n]⟩ : Shape).size inb, w⟩ :
        View.Piece (Elt Ideal) (⟨2, ![24, n]⟩ : Shape) .f32) :: L)
      (Rect.unit (s := (⟨2, ![24, n]⟩ : Shape)) ![o, 0] (⟨2, ![k, n]⟩ : Shape).size inb').toLoadRect (ix2 r q)
      = w (ix2 ⟨d + r.val, by have := r.isLt; omega⟩ q) := by
  subst ho
  rw [View.readCov_eq_canon']
  refine Eq.trans (congrArg _ ?_) (View.canon_cons_emb
    (Rect.unit (s := (⟨2, ![24, n]⟩ : Shape)) ![8, 0] (⟨2, ![16, n]⟩ : Shape).size inb) w L (ix2 ⟨d + r.val, by have := r.isLt; omega⟩ q))
  funext a
  apply Fin.ext
  match a with
  | ⟨0, _⟩ => show 8 + d + 1 * r.val = 8 + 1 * (d + r.val); omega
  | ⟨1, _⟩ => rfl

/-- A pair of states stored last is what a load of it reads, -/
theorem pair_eq {n k : ℕ} (w : (⟨3, ![1, n, k]⟩ : Shape).Idx → EReal) (L : List (View.Piece (Elt Ideal) (⟨3, ![2, n, k]⟩ : Shape) .f32)) (o : ℕ)
    (inb : ∀ a, (![o, 0, 0] : Fin 3 → ℕ) a + (⟨3, ![1, n, k]⟩ : Shape).size a ≤ (⟨3, ![2, n, k]⟩ : Shape).size a)
    (p : Fin 2) (hp : p.val = o) (l : Fin n) (j : Fin k) :
    View.canon ((⟨Rect.unit (s := (⟨3, ![2, n, k]⟩ : Shape)) ![o, 0, 0] (⟨3, ![1, n, k]⟩ : Shape).size inb, w⟩ :
        View.Piece (Elt Ideal) (⟨3, ![2, n, k]⟩ : Shape) .f32) :: L) (ix3 p l j) = w (ix3 0 l j) := by
  refine Eq.trans (congrArg _ ?_) (View.canon_cons_emb
    (Rect.unit (s := (⟨3, ![2, n, k]⟩ : Shape)) ![o, 0, 0] (⟨3, ![1, n, k]⟩ : Shape).size inb) w L (ix3 0 l j))
  funext a
  apply Fin.ext
  match a with
  | ⟨0, _⟩ => show p.val = o + 1 * 0; omega
  | ⟨1, _⟩ => show l.val = 0 + 1 * l.val; omega
  | ⟨2, _⟩ => show j.val = 0 + 1 * j.val; omega

/-- and the other pair is not touched. -/
theorem pair_ne {n k : ℕ} (w : (⟨3, ![1, n, k]⟩ : Shape).Idx → EReal) (L : List (View.Piece (Elt Ideal) (⟨3, ![2, n, k]⟩ : Shape) .f32)) (o : ℕ)
    (inb : ∀ a, (![o, 0, 0] : Fin 3 → ℕ) a + (⟨3, ![1, n, k]⟩ : Shape).size a ≤ (⟨3, ![2, n, k]⟩ : Shape).size a)
    (p : Fin 2) (hp : p.val ≠ o) (l : Fin n) (j : Fin k) :
    View.canon ((⟨Rect.unit (s := (⟨3, ![2, n, k]⟩ : Shape)) ![o, 0, 0] (⟨3, ![1, n, k]⟩ : Shape).size inb, w⟩ :
        View.Piece (Elt Ideal) (⟨3, ![2, n, k]⟩ : Shape) .f32) :: L) (ix3 p l j) = View.canon L (ix3 p l j) := by
  refine View.canon_cons_of_not_mem _ _ fun hm => ?_
  obtain ⟨x, hx⟩ := LoadRect.exists_idx_of_mem
    (Rect.unit (s := (⟨3, ![2, n, k]⟩ : Shape)) ![o, 0, 0] (⟨3, ![1, n, k]⟩ : Shape).size inb).toLoadRect hm
  have h : o + 1 * (x 0).val = p.val := congrArg (fun y : (⟨3, ![2, n, k]⟩ : Shape).Idx => (y 0).val) hx
  have h1 : (x 0).val < 1 := (x 0).isLt
  omega

/-- The buffer of the states after both pairs were stored. -/
theorem pairs (v : View sig .tc .vmem S2x128x128 .f32) (w₁ w₀ : S1x128x128.Idx → EReal)
    (L : List (View.Piece (Elt Ideal) S2x128x128 .f32)) (p : Fin 2) (l j : Fin 128) :
    v.readCov ((⟨Rect.unit (s := S2x128x128) ![1, 0, 0] S1x128x128.size inb_S2x128x128_S1x128x128_1_0_0, w₁⟩ :
        View.Piece (Elt Ideal) S2x128x128 .f32)
        :: ⟨Rect.unit (s := S2x128x128) ![0, 0, 0] S1x128x128.size inb_S2x128x128_S1x128x128_0_0_0, w₀⟩ :: L)
      (Rect.unit (s := S2x128x128) ![0, 0, 0] S2x128x128.size inb_S2x128x128_S2x128x128_0_0_0).toLoadRect (ix3 p l j)
      = if p.val = 0 then w₀ (ix3 0 l j) else w₁ (ix3 0 l j) := by
  rw [View.readCov_eq_canon']
  have e : (Rect.unit (s := S2x128x128) ![0, 0, 0] S2x128x128.size inb_S2x128x128_S2x128x128_0_0_0).toLoadRect.idx (ix3 p l j)
      = (ix3 p l j : S2x128x128.Idx) := by
    funext a
    apply Fin.ext
    match a with
    | ⟨0, _⟩ => show 0 + 1 * p.val = p.val; omega
    | ⟨1, _⟩ => show 0 + 1 * l.val = l.val; omega
    | ⟨2, _⟩ => show 0 + 1 * j.val = j.val; omega
  refine (congrArg _ e).trans ?_
  have hp : p.val = 0 ∨ p.val = 1 := by have := p.isLt; omega
  rcases hp with hp | hp
  · rw [if_pos hp]
    exact (pair_ne w₁ _ 1 _ p (by omega) l j).trans (pair_eq w₀ L 0 _ p hp l j)
  · rw [if_neg (by omega)]
    exact pair_eq w₁ _ 1 _ p hp l j

/-- One pair of the states as first stored. -/
theorem first (v : View sig .tc .vmem S2x128x128 .f32) (z : S2x128x128.Idx → EReal) (p : ℕ) (hp : p < 2)
    (inb : ∀ a, (![p, 0, 0] : Fin 3 → ℕ) a + S1x128x128.size a ≤ S2x128x128.size a) (l j : Fin 128) :
    v.readCov [(⟨Rect.unit (s := S2x128x128) ![0, 0, 0] S2x128x128.size inb_S2x128x128_S2x128x128_0_0_0, z⟩ :
        View.Piece (Elt Ideal) S2x128x128 .f32)]
      (Rect.unit (s := S2x128x128) ![p, 0, 0] S1x128x128.size inb).toLoadRect (ix3 0 l j) = z (ix3 ⟨p, hp⟩ l j) := by
  refine (congrFun (View.readCov_fill (Val := Elt Ideal) v inb_S2x128x128_S2x128x128_0_0_0 z []
    (Rect.unit (s := S2x128x128) ![p, 0, 0] S1x128x128.size inb)
    (fun a => match a with | ⟨0, _⟩ => rfl | ⟨1, _⟩ => rfl | ⟨2, _⟩ => rfl)) (ix3 0 l j)).trans ?_
  refine congrArg z (funext fun a => Fin.ext ?_)
  match a with
  | ⟨0, _⟩ => show p + 1 * 0 = p; omega
  | ⟨1, _⟩ => show 0 + 1 * l.val = l.val; omega
  | ⟨2, _⟩ => show 0 + 1 * j.val = j.val; omega

theorem pay15_apply (x : Vec Ideal S1x2x128x128 .f32) (p : Fin 2) (l j : Fin 128) :
    k0_pay15 (F := Ideal) x (ix3 p l j) = x (ix4 0 p l j) := by
  pointwise [k0_pay15]

theorem pay678_apply (x : Vec Ideal S2x128x128 .f32) (p : Fin 2) (l j : Fin 128) :
    k0_pay678 (F := Ideal) x (ix4 0 p l j) = x (ix3 p l j) := by
  pointwise [k0_pay678]

theorem pay94_apply (x : Vec Ideal S1x128x128 .f32) (l j : Fin 128) : k0_pay94 (F := Ideal) x (ix2 l j) = x (ix3 0 l j) := by
  pointwise [k0_pay94]
theorem pay95_apply (x : Vec Ideal S1x128x128 .f32) (l j : Fin 128) : k0_pay95 (F := Ideal) x (ix2 l j) = x (ix3 0 l j) := by
  pointwise [k0_pay95]
theorem pay90_apply (x : Vec Ideal S1x16x128 .f32) (t : Fin 16) (j : Fin 128) : k0_pay90 (F := Ideal) x (ix2 t j) = x (ix3 0 t j) := by
  pointwise [k0_pay90]
theorem pay91_apply (x : Vec Ideal S1x16x128 .f32) (t : Fin 16) (j : Fin 128) : k0_pay91 (F := Ideal) x (ix2 t j) = x (ix3 0 t j) := by
  pointwise [k0_pay91]
theorem pay92_apply (x : Vec Ideal S1x16x128 .f32) (t : Fin 16) (j : Fin 128) : k0_pay92 (F := Ideal) x (ix2 t j) = x (ix3 0 t j) := by
  pointwise [k0_pay92]
theorem pay93_apply (x : Vec Ideal S1x16x128 .f32) (t : Fin 16) (j : Fin 128) : k0_pay93 (F := Ideal) x (ix2 t j) = x (ix3 0 t j) := by
  pointwise [k0_pay93]
theorem pay14_apply (x : Vec Ideal S3x2304 .f32) (d : Fin 3) (n : Fin 2304) : k0_pay14 (F := Ideal) x (ix3 0 d n) = x (ix2 d n) := by
  pointwise [k0_pay14]
theorem pay7_apply (x : Vec Ideal S1x2560 .f32) (n : Fin 2560) :
    shapeCast S1x1x2560 x shapeCasts_S1x2560_S1x1x2560 (ix3 0 0 n) = x (ix2 0 n) := by
  pointwise
theorem pay5_apply (x : Vec Ideal S1x16x2560 .f32) (t : Fin 16) (n : Fin 2560) :
    shapeCast S16x2560 (shapeCast S16x2560 x shapeCasts_S1x16x2560_S16x2560) shapeCasts_S16x2560_S16x2560 (ix2 t n) = x (ix3 0 t n) := by
  pointwise
theorem pay11_apply (x : Vec Ideal S1x16x2304 .f32) (t : Fin 16) (n : Fin 2304) :
    shapeCast S16x2304 (shapeCast S16x2304 x shapeCasts_S1x16x2304_S16x2304) shapeCasts_S16x2304_S16x2304 (ix2 t n) = x (ix3 0 t n) := by
  pointwise

end Cert.MixOut

end
-- ==== Proof.MixRef.lean ====
/-
  The reference of the mixers at an index: the shift's last row, the convolution's last three rows, and the gated state,
  which is the recurrence over the sixteen tokens of a sequence.
-/
module

public import proofs.«01_k».proof.Proof.Gen.MixRefIdeal.Read
public import proofs.«01_k».proof.Proof.MixMath
public import Idealize.ShloMosaic.Lib.Pointwise

@[expose] public section

set_option maxRecDepth 16384

noncomputable section

namespace Cert.MixRef

open Cert.MixRefIdeal Cert.MixRefIdeal.Gen Cert.MixRefIdeal.Read Idealize.ShloMosaic Idealize.ShloMosaic.TcCoe Cert.MixMath
open scoped BigOperators

/-- Row `t` of sequence `b` among all the rows. -/
abbrev row (b : Fin 8) (t : Fin 16) : Fin 128 := ⟨b.val * 16 + t.val, by have := b.isLt; have := t.isLt; omega⟩
/-- Lane `i` of head `h`. -/
abbrev lane (h : Fin 4) (i : Fin 64) : Fin 256 := ⟨h.val * 64 + i.val, by have := h.isLt; have := i.isLt; omega⟩

/-- The gate's argument. -/
def xa (zg : Vec Ideal S128x1664 .f32) (up : Vec Ideal S16x256 .f32) (bias : Vec Ideal S256 .f32) (b : Fin 8) (t : Fin 16)
    (n : Fin 256) : EReal :=
  (∑ x : Fin 16, zg (ix2 (row b t) ⟨1536 + x.val, by have := x.isLt; omega⟩) * up (ix2 x n)) + bias (ix1 n)

/-- A family over sixteen tokens, zero after the last of them. -/
def ext (f : Fin 16 → EReal) (t : ℕ) : EReal := if h : t < 16 then f ⟨t, h⟩ else 0

theorem ext_coe (f : Fin 16 → EReal) (t : Fin 16) : ext f t = f t := by unfold ext; rw [dif_pos t.isLt]

/-- The decay's logarithm, a key's lane and a value's lane of token `t`. -/
def gk (zg : Vec Ideal S128x1664 .f32) (b : Fin 8) (t : Fin 16) (h : Fin 4) (i : Fin 64) : EReal :=
  zg (ix2 (row b t) ⟨256 + (lane h i).val, by have := (lane h i).isLt; omega⟩)
def gv (zg : Vec Ideal S128x1664 .f32) (b : Fin 8) (t : Fin 16) (h : Fin 4) (j : Fin 128) : EReal :=
  zg (ix2 (row b t) ⟨512 + (h.val * 128 + j.val), by have := h.isLt; have := j.isLt; omega⟩)

/-- The gated state after the sixteen tokens. -/
def gstate (zg : Vec Ideal S128x1664 .f32) (up : Vec Ideal S16x256 .f32) (bias : Vec Ideal S256 .f32)
    (s0 : Vec Ideal S8x4x64x128 .f32) (b : Fin 8) (h : Fin 4) (i : Fin 64) (j : Fin 128) (n : ℕ) : EReal :=
  state (s0 (ix4 b h i j)) (ext fun t => gate (xa zg up bias b t (lane h i))) (ext fun t => gk zg b t h i)
    (ext fun t => gv zg b t h j) n

/-- One token's step, on any arrays. -/
theorem step (t : Fin 16) (hk : S8x16x4x64.Slices ![0, t.val, 0, 0] S8x1x4x64) (hv : S8x16x4x128.Slices ![0, t.val, 0, 0] S8x1x4x128)
    (la k : Vec Ideal S8x16x4x64 .f32) (v : Vec Ideal S8x16x4x128 .f32) (s : Vec Ideal S8x4x64x128 .f32)
    (b : Fin 8) (h : Fin 4) (i : Fin 64) (j : Fin 128) :
    addf (F := Ideal) (φ := .f32) (mulf (broadcastInDim S8x4x64x128 ![0, 1, 2, 3] bcast_S8x4x64x1_S8x4x64x128_0_1_2_3
        (broadcastInDim S8x4x64x1 ![0, 1, 2] bcast_S8x4x64_S8x4x64x1_0_1_2
          (Host.exp (shapeCast S8x4x64 (extractStridedSlice S8x1x4x64 ![0, t.val, 0, 0] la hk) shapeCasts_S8x1x4x64_S8x4x64)))) s)
      (mulf (broadcastInDim S8x4x64x128 ![0, 1, 2, 3] bcast_S8x4x64x1_S8x4x64x128_0_1_2_3
        (broadcastInDim S8x4x64x1 ![0, 1, 2] bcast_S8x4x64_S8x4x64x1_0_1_2
          (shapeCast S8x4x64 (extractStridedSlice S8x1x4x64 ![0, t.val, 0, 0] k hk) shapeCasts_S8x1x4x64_S8x4x64)))
        (broadcastInDim S8x4x64x128 ![0, 1, 2, 3] bcast_S8x4x1x128_S8x4x64x128_0_1_2_3
          (broadcastInDim S8x4x1x128 ![0, 1, 3] bcast_S8x4x128_S8x4x1x128_0_1_3
            (shapeCast S8x4x128 (extractStridedSlice S8x1x4x128 ![0, t.val, 0, 0] v hv) shapeCasts_S8x1x4x128_S8x4x128)))) (ix4 b h i j)
    = Ideal.exp (la (ix4 b t h i)) * s (ix4 b h i j) + k (ix4 b t h i) * v (ix4 b t h j) := by
  pointwise

variable (x0 : Vec Ideal S128x1664 .f32) (x26 : Vec Ideal S16x256 .f32) (x27 : Vec Ideal S256 .f32) (x29 : Vec Ideal S8x4x64x128 .f32)

theorem lit16 : (Ideal.ofBits FTy.f32 1098907648#32 : EReal) = ((16 : ℝ) : EReal) := by
  have h0 : ((1098907648#32).extractLsb' (8 + 23) 1 == 1#1) = false := by decide
  have h1 : ((1098907648#32).extractLsb' 23 8).toNat = 131 := by decide
  have h2 : ((1098907648#32).extractLsb' 0 23).toNat = 0 := by decide
  simp only [Ideal.ofBits, Ideal.ieee, h0, h1, h2]
  norm_num

/-- The negated argument of the gate. -/
theorem neg_apply (b : Fin 8) (t : Fin 16) (n : Fin 256) :
    (val_main_call0_v0 (F := Ideal) x0 x26 x27 : Vec Ideal S128x256 .f32) (ix2 (row b t) n) = -xa x0 x26 x27 b t n := by
  unfold val_main_call0_v0 val_main_v14 val_main_v13 val_main_v12 val_main_v11 val_main_v10
  pointwise
  rfl

theorem la_apply (b : Fin 8) (t : Fin 16) (h : Fin 4) (i : Fin 64) :
    (val_main_v18 (F := Ideal) x0 x26 x27 : Vec Ideal S8x16x4x64 .f32) (ix4 b t h i) = gate (xa x0 x26 x27 b t (lane h i)) := by
  rw [← gate_eq, ← neg_apply]
  unfold val_main_v18 val_main_v17 val_main_v16 val_main_v15 val_main_cst val_main_call0_v1 val_main_call0_call0_v11
    val_main_call0_call0_v10 val_main_call0_call0_v9 val_main_call0_call0_v8 val_main_call0_call0_v7 val_main_call0_call0_v6
    val_main_call0_call0_v5 val_main_call0_call0_v4 val_main_call0_call0_v3 val_main_call0_call0_v2 val_main_call0_call0_v1
    val_main_call0_call0_v0 val_main_call0_call0_cst
  generalize val_main_call0_v0 (F := Ideal) x0 x26 x27 = y
  pointwise
  rw [if_neg (fun h => h rfl), show (Ideal.ofBits FTy.f32 1098907648#32 : EReal) = ((16 : ℝ) : EReal) from lit16]
  rfl

theorem k_apply (b : Fin 8) (t : Fin 16) (h : Fin 4) (i : Fin 64) :
    (val_main_v7 (F := Ideal) x0 : Vec Ideal S8x16x4x64 .f32) (ix4 b t h i) = gk x0 b t h i := by
  unfold val_main_v7 val_main_v6
  pointwise
  rfl

theorem v_apply (b : Fin 8) (t : Fin 16) (h : Fin 4) (j : Fin 128) :
    (val_main_v9 (F := Ideal) x0 : Vec Ideal S8x16x4x128 .f32) (ix4 b t h j) = gv x0 b t h j := by
  unfold val_main_v9 val_main_v8
  pointwise
  rfl

/-- The reference's step of token `t`, from the state before it. -/
theorem step_gstate (t : Fin 16) (hk : S8x16x4x64.Slices ![0, t.val, 0, 0] S8x1x4x64) (hv : S8x16x4x128.Slices ![0, t.val, 0, 0] S8x1x4x128)
    (s : Vec Ideal S8x4x64x128 .f32) (hs : ∀ b h i j, s (ix4 b h i j) = gstate x0 x26 x27 x29 b h i j t.val)
    (b : Fin 8) (h : Fin 4) (i : Fin 64) (j : Fin 128) :
    addf (F := Ideal) (φ := .f32) (mulf (broadcastInDim S8x4x64x128 ![0, 1, 2, 3] bcast_S8x4x64x1_S8x4x64x128_0_1_2_3
        (broadcastInDim S8x4x64x1 ![0, 1, 2] bcast_S8x4x64_S8x4x64x1_0_1_2
          (Host.exp (shapeCast S8x4x64 (extractStridedSlice S8x1x4x64 ![0, t.val, 0, 0] (val_main_v18 (F := Ideal) x0 x26 x27) hk)
            shapeCasts_S8x1x4x64_S8x4x64)))) s)
      (mulf (broadcastInDim S8x4x64x128 ![0, 1, 2, 3] bcast_S8x4x64x1_S8x4x64x128_0_1_2_3
        (broadcastInDim S8x4x64x1 ![0, 1, 2] bcast_S8x4x64_S8x4x64x1_0_1_2
          (shapeCast S8x4x64 (extractStridedSlice S8x1x4x64 ![0, t.val, 0, 0] (val_main_v7 (F := Ideal) x0) hk) shapeCasts_S8x1x4x64_S8x4x64)))
        (broadcastInDim S8x4x64x128 ![0, 1, 2, 3] bcast_S8x4x1x128_S8x4x64x128_0_1_2_3
          (broadcastInDim S8x4x1x128 ![0, 1, 3] bcast_S8x4x128_S8x4x1x128_0_1_3
            (shapeCast S8x4x128 (extractStridedSlice S8x1x4x128 ![0, t.val, 0, 0] (val_main_v9 (F := Ideal) x0) hv)
              shapeCasts_S8x1x4x128_S8x4x128)))) (ix4 b h i j)
    = gstate x0 x26 x27 x29 b h i j (t.val + 1) := by
  rw [step, la_apply, k_apply, v_apply, hs]
  unfold gstate
  rw [state, ext_coe, ext_coe, ext_coe]

theorem state1 (b : Fin 8) (h : Fin 4) (i : Fin 64) (j : Fin 128) :
    (val_main_v34 (F := Ideal) x0 x26 x27 x29 : Vec Ideal S8x4x64x128 .f32) (ix4 b h i j) = gstate x0 x26 x27 x29 b h i j 1 :=
  step_gstate x0 x26 x27 x29 0 slices_S8x16x4x64_S8x1x4x64_0_0_0_0 slices_S8x16x4x128_S8x1x4x128_0_0_0_0 _ (fun _ _ _ _ => rfl) b h i j

theorem state2 (b : Fin 8) (h : Fin 4) (i : Fin 64) (j : Fin 128) :
    (val_main_v50 (F := Ideal) x0 x26 x27 x29 : Vec Ideal S8x4x64x128 .f32) (ix4 b h i j) = gstate x0 x26 x27 x29 b h i j 2 :=
  step_gstate x0 x26 x27 x29 1 slices_S8x16x4x64_S8x1x4x64_0_1_0_0 slices_S8x16x4x128_S8x1x4x128_0_1_0_0 _ (state1 x0 x26 x27 x29) b h i j

theorem state3 (b : Fin 8) (h : Fin 4) (i : Fin 64) (j : Fin 128) :
    (val_main_v66 (F := Ideal) x0 x26 x27 x29 : Vec Ideal S8x4x64x128 .f32) (ix4 b h i j) = gstate x0 x26 x27 x29 b h i j 3 :=
  step_gstate x0 x26 x27 x29 2 slices_S8x16x4x64_S8x1x4x64_0_2_0_0 slices_S8x16x4x128_S8x1x4x128_0_2_0_0 _ (state2 x0 x26 x27 x29) b h i j

theorem state4 (b : Fin 8) (h : Fin 4) (i : Fin 64) (j : Fin 128) :
    (val_main_v82 (F := Ideal) x0 x26 x27 x29 : Vec Ideal S8x4x64x128 .f32) (ix4 b h i j) = gstate x0 x26 x27 x29 b h i j 4 :=
  step_gstate x0 x26 x27 x29 3 slices_S8x16x4x64_S8x1x4x64_0_3_0_0 slices_S8x16x4x128_S8x1x4x128_0_3_0_0 _ (state3 x0 x26 x27 x29) b h i j

theorem state5 (b : Fin 8) (h : Fin 4) (i : Fin 64) (j : Fin 128) :
    (val_main_v98 (F := Ideal) x0 x26 x27 x29 : Vec Ideal S8x4x64x128 .f32) (ix4 b h i j) = gstate x0 x26 x27 x29 b h i j 5 :=
  step_gstate x0 x26 x27 x29 4 slices_S8x16x4x64_S8x1x4x64_0_4_0_0 slices_S8x16x4x128_S8x1x4x128_0_4_0_0 _ (state4 x0 x26 x27 x29) b h i j

theorem state6 (b : Fin 8) (h : Fin 4) (i : Fin 64) (j : Fin 128) :
    (val_main_v114 (F := Ideal) x0 x26 x27 x29 : Vec Ideal S8x4x64x128 .f32) (ix4 b h i j) = gstate x0 x26 x27 x29 b h i j 6 :=
  step_gstate x0 x26 x27 x29 5 slices_S8x16x4x64_S8x1x4x64_0_5_0_0 slices_S8x16x4x128_S8x1x4x128_0_5_0_0 _ (state5 x0 x26 x27 x29) b h i j

theorem state7 (b : Fin 8) (h : Fin 4) (i : Fin 64) (j : Fin 128) :
    (val_main_v130 (F := Ideal) x0 x26 x27 x29 : Vec Ideal S8x4x64x128 .f32) (ix4 b h i j) = gstate x0 x26 x27 x29 b h i j 7 :=
  step_gstate x0 x26 x27 x29 6 slices_S8x16x4x64_S8x1x4x64_0_6_0_0 slices_S8x16x4x128_S8x1x4x128_0_6_0_0 _ (state6 x0 x26 x27 x29) b h i j

theorem state8 (b : Fin 8) (h : Fin 4) (i : Fin 64) (j : Fin 128) :
    (val_main_v146 (F := Ideal) x0 x26 x27 x29 : Vec Ideal S8x4x64x128 .f32) (ix4 b h i j) = gstate x0 x26 x27 x29 b h i j 8 :=
  step_gstate x0 x26 x27 x29 7 slices_S8x16x4x64_S8x1x4x64_0_7_0_0 slices_S8x16x4x128_S8x1x4x128_0_7_0_0 _ (state7 x0 x26 x27 x29) b h i j

theorem state9 (b : Fin 8) (h : Fin 4) (i : Fin 64) (j : Fin 128) :
    (val_main_v162 (F := Ideal) x0 x26 x27 x29 : Vec Ideal S8x4x64x128 .f32) (ix4 b h i j) = gstate x0 x26 x27 x29 b h i j 9 :=
  step_gstate x0 x26 x27 x29 8 slices_S8x16x4x64_S8x1x4x64_0_8_0_0 slices_S8x16x4x128_S8x1x4x128_0_8_0_0 _ (state8 x0 x26 x27 x29) b h i j

theorem state10 (b : Fin 8) (h : Fin 4) (i : Fin 64) (j : Fin 128) :
    (val_main_v178 (F := Ideal) x0 x26 x27 x29 : Vec Ideal S8x4x64x128 .f32) (ix4 b h i j) = gstate x0 x26 x27 x29 b h i j 10 :=
  step_gstate x0 x26 x27 x29 9 slices_S8x16x4x64_S8x1x4x64_0_9_0_0 slices_S8x16x4x128_S8x1x4x128_0_9_0_0 _ (state9 x0 x26 x27 x29) b h i j

theorem state11 (b : Fin 8) (h : Fin 4) (i : Fin 64) (j : Fin 128) :
    (val_main_v194 (F := Ideal) x0 x26 x27 x29 : Vec Ideal S8x4x64x128 .f32) (ix4 b h i j) = gstate x0 x26 x27 x29 b h i j 11 :=
  step_gstate x0 x26 x27 x29 10 slices_S8x16x4x64_S8x1x4x64_0_10_0_0 slices_S8x16x4x128_S8x1x4x128_0_10_0_0 _ (state10 x0 x26 x27 x29) b h i j

theorem state12 (b : Fin 8) (h : Fin 4) (i : Fin 64) (j : Fin 128) :
    (val_main_v210 (F := Ideal) x0 x26 x27 x29 : Vec Ideal S8x4x64x128 .f32) (ix4 b h i j) = gstate x0 x26 x27 x29 b h i j 12 :=
  step_gstate x0 x26 x27 x29 11 slices_S8x16x4x64_S8x1x4x64_0_11_0_0 slices_S8x16x4x128_S8x1x4x128_0_11_0_0 _ (state11 x0 x26 x27 x29) b h i j

theorem state13 (b : Fin 8) (h : Fin 4) (i : Fin 64) (j : Fin 128) :
    (val_main_v226 (F := Ideal) x0 x26 x27 x29 : Vec Ideal S8x4x64x128 .f32) (ix4 b h i j) = gstate x0 x26 x27 x29 b h i j 13 :=
  step_gstate x0 x26 x27 x29 12 slices_S8x16x4x64_S8x1x4x64_0_12_0_0 slices_S8x16x4x128_S8x1x4x128_0_12_0_0 _ (state12 x0 x26 x27 x29) b h i j

theorem state14 (b : Fin 8) (h : Fin 4) (i : Fin 64) (j : Fin 128) :
    (val_main_v242 (F := Ideal) x0 x26 x27 x29 : Vec Ideal S8x4x64x128 .f32) (ix4 b h i j) = gstate x0 x26 x27 x29 b h i j 14 :=
  step_gstate x0 x26 x27 x29 13 slices_S8x16x4x64_S8x1x4x64_0_13_0_0 slices_S8x16x4x128_S8x1x4x128_0_13_0_0 _ (state13 x0 x26 x27 x29) b h i j

theorem state15 (b : Fin 8) (h : Fin 4) (i : Fin 64) (j : Fin 128) :
    (val_main_v258 (F := Ideal) x0 x26 x27 x29 : Vec Ideal S8x4x64x128 .f32) (ix4 b h i j) = gstate x0 x26 x27 x29 b h i j 15 :=
  step_gstate x0 x26 x27 x29 14 slices_S8x16x4x64_S8x1x4x64_0_14_0_0 slices_S8x16x4x128_S8x1x4x128_0_14_0_0 _ (state14 x0 x26 x27 x29) b h i j

theorem state16 (b : Fin 8) (h : Fin 4) (i : Fin 64) (j : Fin 128) :
    (val_main_v274 (F := Ideal) x0 x26 x27 x29 : Vec Ideal S8x4x64x128 .f32) (ix4 b h i j) = gstate x0 x26 x27 x29 b h i j 16 :=
  step_gstate x0 x26 x27 x29 15 slices_S8x16x4x64_S8x1x4x64_0_15_0_0 slices_S8x16x4x128_S8x1x4x128_0_15_0_0 _ (state15 x0 x26 x27 x29) b h i j

/-- The reference's gated state, two heads to a slab. -/
theorem ref_s (b : Fin 8) (p : Fin 2) (e : Fin 2) (i : Fin 64) (j : Fin 128) :
    (val_main_v275 (F := Ideal) x0 x26 x27 x29 : Vec Ideal S8x2x128x128 .f32)
        (ix4 b p ⟨e.val * 64 + i.val, by have := e.isLt; have := i.isLt; omega⟩ j)
      = gstate x0 x26 x27 x29 b ⟨p.val * 2 + e.val, by have := e.isLt; have := p.isLt; omega⟩ i j 16 := by
  unfold val_main_v275
  pointwise
  rw [← state16]
  have e' : p.val * 2 + (e.val * 64 + i.val) / 64 = p.val * 2 + e.val := by have := i.isLt; omega
  simp only [e']

/-- The shift's new cache: the last row of each sequence. -/
theorem ref_r (x2 : Vec Ideal S128x2560 .f32) (b : Fin 8) (n : Fin 2560) :
    (val_main_v3 (F := Ideal) x2 : Vec Ideal S8x1x2560 .f32) (ix3 b 0 n) = x2 (ix2 (row b 15) n) := by
  unfold val_main_v3 val_main_v2
  pointwise
  rfl

/-- The convolution's new cache: the last three rows of each sequence. -/
theorem ref_g (x1 : Vec Ideal S128x3072 .f32) (x24 : Vec Ideal S8x3x2304 .f32) (b : Fin 8) (d : Fin 3) (n : Fin 2304) :
    (val_main_v5 (F := Ideal) x1 x24 : Vec Ideal S8x3x2304 .f32) (ix3 b d n)
      = x1 (ix2 (row b ⟨13 + d.val, by have := d.isLt; omega⟩) ⟨n.val, by have := n.isLt; omega⟩) := by
  unfold val_main_v5 val_main_v4 val_main_v1 val_main_v0
  pointwise
  rw [dif_neg (by omega)]
  have e' : b.val * 16 + (16 + d.val - 3) = b.val * 16 + (13 + d.val) := by omega
  simp only [e']

end Cert.MixRef

end
-- ==== Proof.MixState.lean ====
/-
  The gated state of one pair of heads: the chunk's closed form, which the body computes, is the recurrence over its tokens.
-/
module

public import proofs.«01_k».proof.Proof.MixPay
public import proofs.«01_k».proof.Proof.MixHost
public import proofs.«01_k».proof.Proof.MixRef

@[expose] public section

set_option maxRecDepth 16384

noncomputable section

namespace Cert.MixState

open Cert.MixIdeal Cert.MixIdeal.Gen Idealize.ShloMosaic Idealize.ShloMosaic.TcCoe Cert.MixMath Cert.MixPay
open scoped BigOperators

variable (x0 : Vec Ideal S128x1664 .f32) (x26 : Vec Ideal S16x256 .f32) (x27 : Vec Ideal S256 .f32) (x29 : Vec Ideal S8x4x64x128 .f32)

/-- Where the decay's low-rank factor and the keys lie among the projection's columns. -/
def zcol (k : Fin 128) : Fin 1664 := ⟨1536 + k.val, by have := k.isLt; omega⟩
def kcol (n : Fin 256) : Fin 1664 := ⟨256 + n.val, by have := n.isLt; omega⟩

/-- The rows of zeros below the decay's second factor add nothing. -/
theorem sum_up (z : Fin 128 → EReal) (n : Fin 256) :
    ∑ k : Fin 128, z k * MixHost.up x26 k n = ∑ k : Fin 16, z ⟨k.val, by have := k.isLt; omega⟩ * x26 (ix2 k n) := by
  rw [show (∑ k : Fin 128, z k * MixHost.up x26 k n) = ∑ k : Fin (16 + 112), z k * MixHost.up x26 k n from rfl, Fin.sum_univ_add]
  have h2 : ∑ k : Fin 112, z (Fin.natAdd 16 k) * MixHost.up x26 (Fin.natAdd 16 k) n = 0 := by
    refine Finset.sum_eq_zero fun k _ => ?_
    unfold MixHost.up
    rw [dif_neg (by show ¬ 16 + k.val < 16; omega), mul_zero]
  rw [h2, add_zero]
  refine Finset.sum_congr rfl fun k _ => ?_
  unfold MixHost.up
  rw [dif_pos (show (Fin.castAdd 112 k).val < 16 from k.isLt)]
  rfl

section

variable (b : Fin 8) (zs : Vec Ideal S1x16x128 .f32) (w : Vec Ideal S128x256 .bf16) (bias : Vec Ideal S1x256 .f32)
  (hzs : ∀ r k, zs (ix3 0 r k) = x0 (ix2 (MixRef.row b r) (zcol k)))
  (hw : ∀ k n, w (ix2 k n) = MixHost.up x26 k n) (hb : ∀ n, bias (ix2 0 n) = x27 (ix1 n))

include hzs hw hb in
/-- The body's decays are the gates. -/
theorem la_eq (r : Fin 16) (n : Fin 256) :
    k0_pay17 (F := Ideal) (k0_pay16 (F := Ideal) zs w) bias (ix2 r n) = gate (MixRef.xa x0 x26 x27 b r n) := by
  rw [pay17_apply, pay16_apply, hb]
  unfold MixRef.xa
  refine congrArg (fun y => gate (y + x27 (ix1 n))) ?_
  refine Eq.trans (Finset.sum_congr rfl fun k _ => ?_)
    (sum_up x26 (fun k => x0 (ix2 (MixRef.row b r) (zcol k))) n)
  rw [hzs, hw]

include hzs hw hb in
theorem la_nonpos (i : S16x256.Idx) : k0_pay17 (F := Ideal) (k0_pay16 (F := Ideal) zs w) bias i ≤ 0 := by
  obtain ⟨r, n, rfl⟩ : ∃ (r : Fin 16) (n : Fin 256), i = ix2 r n :=
    ⟨i 0, i 1, funext fun a => match a with | ⟨0, _⟩ => rfl | ⟨1, _⟩ => rfl⟩
  rw [la_eq x0 x26 x27 b zs w bias hzs hw hb]
  exact gate_nonpos _

variable (mc : Vec Ideal S160x32 .bf16) (kk : Vec Ideal S1x16x256 .f32)
  (hmc : ∀ r n, mc (ix2 r n) = FloatOps.ofBits (F := Ideal) .bf16 (lit5 (S160x32.rowMajor (ix2 r n))))
  (hk : ∀ r n, kk (ix3 0 r n) = x0 (ix2 (MixRef.row b r) (kcol n)))

include hzs hw hb hmc hk in
/-- The body's decayed keys: each key times the decays after it. -/
theorem kd_eq (t : Fin 16) (n : Fin 256) :
    k0_pay85 (F := Ideal) (k0_pay30 (F := Ideal) (k0_pay17 (F := Ideal) (k0_pay16 (F := Ideal) zs w) bias) mc) kk (ix2 t n)
      = x0 (ix2 (MixRef.row b t) (kcol n))
        * Ideal.exp (∑ u : Fin 16, if t < u then gate (MixRef.xa x0 x26 x27 b u n) else 0) := by
  rw [pay85_apply, pay30_apply, hk]
  have e := hi_lo_mask (fun u => k0_pay17 (F := Ideal) (k0_pay16 (F := Ideal) zs w) bias (ix2 u n))
    (fun u => mc (ix2 (⟨16 + t.val, by have := t.isLt; omega⟩ : Fin 160) ⟨u.val, by have := u.isLt; omega⟩))
    (fun u => mc (ix2 (⟨16 + t.val, by have := t.isLt; omega⟩ : Fin 160) ⟨16 + u.val, by have := u.isLt; omega⟩)) t
    (fun u => la_nonpos x0 x26 x27 b zs w bias hzs hw hb _)
    (fun u => by rw [hmc, (mask_rows t u).1, lit_ite]) (fun u => by rw [hmc, (mask_rows t u).2, lit_ite])
  refine congrArg (fun y => x0 (ix2 (MixRef.row b t) (kcol n)) * Ideal.exp y) (e.trans ?_)
  refine Finset.sum_congr rfl fun u _ => ?_
  rw [la_eq x0 x26 x27 b zs w bias hzs hw hb]

end

theorem ext_nonpos (f : Fin 16 → EReal) (h : ∀ t, f t ≤ 0) (t : ℕ) : MixRef.ext f t ≤ 0 := by
  unfold MixRef.ext
  split
  · exact h _
  · exact le_refl _

/-- The chunk's closed form is the recurrence. -/
theorem closed (b : Fin 8) (h : Fin 4) (i : Fin 64) (j : Fin 128) (n : Fin 256) (hn : n = MixRef.lane h i)
    (la kd v : Fin 16 → EReal) (s : EReal)
    (hla : ∀ t, la t = gate (MixRef.xa x0 x26 x27 b t n))
    (hkd : ∀ t, kd t = x0 (ix2 (MixRef.row b t) (kcol n))
        * Ideal.exp (∑ u : Fin 16, if t < u then gate (MixRef.xa x0 x26 x27 b u n) else 0))
    (hv : ∀ t, v t = MixRef.gv x0 b t h j) (hs : s = x29 (ix4 b h i j)) :
    Ideal.exp (∑ t, la t) * s + ∑ t, kd t * v t = MixRef.gstate x0 x26 x27 x29 b h i j 16 := by
  subst hn
  unfold MixRef.gstate
  rw [state16 (x29 (ix4 b h i j)) (fun t => gate (MixRef.xa x0 x26 x27 b t (MixRef.lane h i))) (fun t => MixRef.gk x0 b t h i)
    (fun t => MixRef.gv x0 b t h j) (fun t => gate_nonpos _) _ _ _ (fun t => MixRef.ext_coe _ t) (fun t => MixRef.ext_coe _ t)
    (fun t => MixRef.ext_coe _ t) (ext_nonpos _ fun t => gate_nonpos _)]
  rw [hs]
  simp only [hla, hkd, hv]
  rfl

end Cert.MixState

end
-- ==== Proof.MixValue.lean ====
/-
  What the mixers leave in the three results whose value is claimed: the last row of the shift, the last three rows of the
  convolution, and the gated state.
-/
module

public import proofs.«01_k».proof.Proof.MixIdealFrame
public import proofs.«01_k».proof.Proof.MixHost
public import proofs.«01_k».proof.Proof.MixOut
public import proofs.«01_k».proof.Proof.MixState
public import Idealize.ShloMosaic.Lib.Pipeline.ValueKit

@[expose] public section

set_option maxRecDepth 16384

noncomputable section

namespace Cert.MixValue

open Cert.MixIdeal Cert.MixIdeal.Gen Idealize.ShloMosaic Idealize.ShloMosaic.TcCoe Idealize.ShloMosaic.Tactic Idealize.SL.Sem
open Cert.MixMath Cert.MixHost Cert.MixOut Cert.MixPay
open scoped BigOperators

variable (m : (ℓ : Loc nD τ sig) → Buf (Elt Ideal) ℓ)

set_option maxHeartbeats 2000000 in
/-- The shift's row for the next call is the sequence's last. -/
theorem left40_apply (c : Dev nD) (t : Fin cfg0.N) (n : Fin 2560) :
    (left40 m c t : Vec Ideal S1x1x2560 .f32) (ix3 0 0 n) = A2 m c (ix2 (row (seq t) 15) n) := by
  unfold left40 out0_A_40
  rw [View.read_writes_junk_eq_canon]
  unfold kernelRun0_A
  dsimp only
  sl_unfold_words
  refine (congrFun (View.canon_cons_unit_lit (Val := Elt Ideal) (S := S1x1x2560) _ _ [] (fun a => match a with | ⟨0, _⟩ => rfl | ⟨1, _⟩ => rfl | ⟨2, _⟩ => rfl)) _).trans ?_
  refine (pay7_apply _ n).trans ?_
  refine (last_rows (k := 1) (d := 15) _ _ _ rfl (by decide) _ _ 0 n).trans ?_
  refine (pay5_apply _ _ n).trans ?_
  simp only [View.readAt_eq_ld, (hs0_0 t).read_unread]
  refine (ld_lanes (k := 2560) (o := 0) _ (by decide) _ 0 _ n).trans ?_
  refine Eq.trans (congrArg _ ?_) (blk0 m c t 15 n)
  exact congrArg (fun z => ix3 0 15 z) (Fin.ext (Nat.zero_add n.val))

set_option maxHeartbeats 2000000 in
/-- The convolution's rows for the next call are the sequence's last three. -/
theorem left43_apply (c : Dev nD) (t : Fin cfg0.N) (d : Fin 3) (n : Fin 2304) :
    (left43 m c t : Vec Ideal S1x3x2304 .f32) (ix3 0 d n)
      = A1 m c (ix2 (row (seq t) ⟨13 + d.val, by have := d.isLt; omega⟩) ⟨n.val, by have := n.isLt; omega⟩) := by
  unfold left43 out0_A_43
  rw [View.read_writes_junk_eq_canon]
  unfold kernelRun0_A
  dsimp only
  sl_unfold_words
  refine (congrFun (View.canon_cons_unit_lit (Val := Elt Ideal) (S := S1x3x2304) _ _ [] (fun a => match a with | ⟨0, _⟩ => rfl | ⟨1, _⟩ => rfl | ⟨2, _⟩ => rfl)) _).trans ?_
  refine (pay14_apply _ d n).trans ?_
  refine (last_rows (k := 3) (d := 13) _ _ _ rfl (by decide) _ _ d n).trans ?_
  refine (pay11_apply _ _ n).trans ?_
  simp only [View.readAt_eq_ld, (hs0_20 t).read_unread]
  refine (ld_lanes (a := 1) (b := 16) (n := 3072) (k := 2304) (o := 0) _ (by decide) _ 0 _ n).trans ?_
  refine Eq.trans (congrArg _ ?_) (blk20 m c t ⟨13 + d.val, by have := d.isLt; omega⟩ ⟨n.val, by have := n.isLt; omega⟩)
  exact congrArg (fun z => ix3 0 (⟨13 + d.val, by have := d.isLt; omega⟩ : Fin 16) z) (Fin.ext (Nat.zero_add n.val))

section

variable (c : Dev nD) (t : Fin cfg0.N)

theorem zs_eq (r : Fin 16) (k : Fin 128) :
    (View.ld (iblk m c 32 t : Vec Ideal S1x16x128 .f32)
      (Rect.unit (s := S1x16x128) ![0, 0, 0] S1x16x128.size inb_S1x16x128_S1x16x128_0_0_0)) (ix3 0 r k)
      = A0 m c (ix2 (row (seq t) r) ⟨1536 + k.val, by have := k.isLt; omega⟩) := by
  refine (ld_lanes (a := 1) (b := 16) (n := 128) (k := 128) (o := 0) _ (by decide) _ 0 _ k).trans ?_
  refine Eq.trans (congrArg _ ?_) (blk32 m c t r k)
  exact congrArg (fun z => ix3 0 r z) (Fin.ext (Nat.zero_add k.val))

theorem up_eq (k : Fin 128) (n : Fin 256) :
    (View.ld (iblk m c 33 t : Vec Ideal S128x256 .bf16)
      (Rect.unit (s := S128x256) ![0, 0] S128x256.size inb_S128x256_S128x256_0_0)) (ix2 k n) = up (A26 m c) k n := by
  refine Eq.trans (congrArg (iblk m c 33 t : Vec Ideal S128x256 .bf16) (funext fun a => Fin.ext ?_)) (blk33 m c t k n)
  match a with
  | ⟨0, _⟩ => show 0 + 1 * k.val = k.val; omega
  | ⟨1, _⟩ => show 0 + 1 * n.val = n.val; omega

theorem bias_eq (n : Fin 256) :
    (View.ld (iblk m c 34 t : Vec Ideal S1x256 .f32)
      (Rect.unit (s := S1x256) ![0, 0] S1x256.size inb_S1x256_S1x256_0_0)) (ix2 0 n) = A27 m c (ix1 n) := by
  refine Eq.trans (congrArg (iblk m c 34 t : Vec Ideal S1x256 .f32) (funext fun a => Fin.ext ?_)) (blk34 m c t n)
  match a with
  | ⟨0, _⟩ => rfl
  | ⟨1, _⟩ => show 0 + 1 * n.val = n.val; omega

theorem mc_eq (r : Fin 160) (n : Fin 32) :
    (View.ld (iblk m c 37 t : Vec Ideal S160x32 .bf16)
      (Rect.unit (s := S160x32) ![0, 0] S160x32.size inb_S160x32_S160x32_0_0)) (ix2 r n)
      = FloatOps.ofBits (F := Ideal) .bf16 (lit5 (S160x32.rowMajor (ix2 r n))) := by
  refine Eq.trans (congrArg (iblk m c 37 t : Vec Ideal S160x32 .bf16) (funext fun a => Fin.ext ?_)) (blk37 m c t r n)
  match a with
  | ⟨0, _⟩ => show 0 + 1 * r.val = r.val; omega
  | ⟨1, _⟩ => show 0 + 1 * n.val = n.val; omega

theorem kk_eq (r : Fin 16) (n : Fin 256) :
    (View.ld (X0_31 m c t : Vec Ideal S1x16x1536 .f32)
      (Rect.unit (s := S1x16x1536) ![0, 0, 256] S1x16x256.size inb_S1x16x1536_S1x16x256_0_0_256)) (ix3 0 r n)
      = A0 m c (ix2 (row (seq t) r) ⟨256 + n.val, by have := n.isLt; omega⟩) :=
  (ld_lanes (a := 1) (b := 16) (n := 1536) (k := 256) (o := 256) _ (by decide) _ 0 _ n).trans
    (blk31 m c t r ⟨256 + n.val, by have := n.isLt; omega⟩)

theorem v_eq (o : ℕ) (ho : o + 128 ≤ 1536) (inb : ∀ a, (![0, 0, o] : Fin 3 → ℕ) a + S1x16x128.size a ≤ S1x16x1536.size a)
    (r : Fin 16) (j : Fin 128) :
    (View.ld (X0_31 m c t : Vec Ideal S1x16x1536 .f32) (Rect.unit (s := S1x16x1536) ![0, 0, o] S1x16x128.size inb)) (ix3 0 r j)
      = A0 m c (ix2 (row (seq t) r) ⟨o + j.val, by have := j.isLt; omega⟩) :=
  (ld_lanes (a := 1) (b := 16) (n := 1536) (k := 128) (o := o) _ ho _ 0 _ j).trans
    (blk31 m c t r ⟨o + j.val, by have := j.isLt; omega⟩)

theorem s0_eq (p : Fin 2) (l j : Fin 128) :
    (k0_pay15 (F := Ideal) (View.ld (iblk m c 36 t : Vec Ideal S1x2x128x128 .f32)
      (Rect.unit (s := S1x2x128x128) ![0, 0, 0, 0] S1x2x128x128.size inb_S1x2x128x128_S1x2x128x128_0_0_0_0))) (ix3 p l j)
      = A29 m c (ix4 (seq t) ⟨p.val * 2 + l.val / 64, by have := p.isLt; have := l.isLt; omega⟩
          ⟨l.val % 64, Nat.mod_lt _ (by decide)⟩ j) := by
  rw [pay15_apply]
  refine Eq.trans (congrArg (iblk m c 36 t : Vec Ideal S1x2x128x128 .f32) (funext fun a => Fin.ext ?_)) (blk36 m c t p l j)
  match a with
  | ⟨0, _⟩ => rfl
  | ⟨1, _⟩ => show 0 + 1 * p.val = p.val; omega
  | ⟨2, _⟩ => show 0 + 1 * l.val = l.val; omega
  | ⟨3, _⟩ => show 0 + 1 * j.val = j.val; omega

/-- A value's lane, by the half of the pair its row lies in. -/
theorem v_select (p : Fin 2) (l j : Fin 128) (r : Fin 16) (a b : EReal)
    (ha : a = A0 m c (ix2 (row (seq t) r) ⟨512 + (p.val * 2 * 128 + j.val), by have := p.isLt; have := j.isLt; omega⟩))
    (hb : b = A0 m c (ix2 (row (seq t) r) ⟨512 + ((p.val * 2 + 1) * 128 + j.val), by have := p.isLt; have := j.isLt; omega⟩)) :
    (if l.val < 64 then a else b)
      = MixRef.gv (A0 m c) (seq t) r ⟨p.val * 2 + l.val / 64, by have := p.isLt; have := l.isLt; omega⟩ j := by
  unfold MixRef.gv
  by_cases h : l.val < 64
  · rw [if_pos h, ha]
    refine congrArg (fun z => A0 m c (ix2 (row (seq t) r) z)) (Fin.ext ?_)
    show 512 + (p.val * 2 * 128 + j.val) = 512 + ((p.val * 2 + l.val / 64) * 128 + j.val)
    rw [Nat.div_eq_of_lt h, Nat.add_zero]
  · rw [if_neg h, hb]
    refine congrArg (fun z => A0 m c (ix2 (row (seq t) r) z)) (Fin.ext ?_)
    show 512 + ((p.val * 2 + 1) * 128 + j.val) = 512 + ((p.val * 2 + l.val / 64) * 128 + j.val)
    have e : l.val / 64 = 1 := by have := l.isLt; omega
    rw [e]

set_option maxHeartbeats 4000000 in
/-- The gated state after the sequence. -/
theorem left46_apply (p : Fin 2) (l j : Fin 128) :
    (left46 m c t : Vec Ideal S1x2x128x128 .f32) (ix4 0 p l j)
      = MixRef.gstate (A0 m c) (A26 m c) (A27 m c) (A29 m c) (seq t)
          ⟨p.val * 2 + l.val / 64, by have := p.isLt; have := l.isLt; omega⟩ ⟨l.val % 64, Nat.mod_lt _ (by decide)⟩ j 16 := by
  unfold left46 out0_A_46
  rw [View.read_writes_junk_eq_canon]
  unfold kernelRun0_A
  dsimp only
  sl_unfold_words
  refine (congrFun (View.canon_cons_unit_lit (Val := Elt Ideal) (S := S1x2x128x128) _ _ [] (fun a => match a with | ⟨0, _⟩ => rfl | ⟨1, _⟩ => rfl | ⟨2, _⟩ => rfl | ⟨3, _⟩ => rfl)) _).trans ?_
  refine (pay678_apply _ p l j).trans ?_
  refine (pairs _ _ _ _ p l j).trans ?_
  simp only [View.readAt_eq_ld, (hs0_31 t).read_unread, (hs0_32 t).read_unread, (hs0_33 t).read_unread, (hs0_34 t).read_unread,
    (hs0_36 t).read_unread, (hs0_37 t).read_unread]
  have hp : p.val = 0 ∨ p.val = 1 := by have := p.isLt; omega
  rcases hp with hp | hp
  · rw [if_pos hp]
    obtain rfl : p = 0 := Fin.ext hp
    refine (pay555_apply _ _ _ _ _ _ (MixState.la_nonpos (A0 m c) (A26 m c) (A27 m c) (seq t) _ _ _ (zs_eq m c t) (up_eq m c t) (bias_eq m c t))
      pay87_apply l j).trans ?_
    refine MixState.closed (A0 m c) (A26 m c) (A27 m c) (A29 m c) (seq t) _ _ j ⟨l.val, by have := l.isLt; omega⟩ (Fin.ext ?_) _ _ _ _
      (fun r => MixState.la_eq (A0 m c) (A26 m c) (A27 m c) (seq t) _ _ _ (zs_eq m c t) (up_eq m c t) (bias_eq m c t) r _)
      (fun r => MixState.kd_eq (A0 m c) (A26 m c) (A27 m c) (seq t) _ _ _ (zs_eq m c t) (up_eq m c t) (bias_eq m c t) _ _
        (mc_eq m c t) (kk_eq m c t) r _)
      (fun r => v_select m c t 0 l j r _ _ ?_ ?_) ?_
    · show l.val = (0 * 2 + l.val / 64) * 64 + l.val % 64
      omega
    · refine (pay90_apply _ r j).trans ((v_eq m c t 512 (by decide) _ r j).trans ?_)
      exact congrArg (fun z => A0 m c (ix2 (row (seq t) r) z)) (Fin.ext (by show 512 + j.val = 512 + (0 * 2 * 128 + j.val); omega))
    · refine (pay91_apply _ r j).trans ((v_eq m c t 640 (by decide) _ r j).trans ?_)
      exact congrArg (fun z => A0 m c (ix2 (row (seq t) r) z)) (Fin.ext (by show 640 + j.val = 512 + ((0 * 2 + 1) * 128 + j.val); omega))
    · exact (pay94_apply _ l j).trans ((first _ _ 0 (by decide) _ l j).trans (s0_eq m c t 0 l j))
  · rw [if_neg (by omega)]
    obtain rfl : p = 1 := Fin.ext hp
    refine (pay557_apply _ _ _ _ _ _ (MixState.la_nonpos (A0 m c) (A26 m c) (A27 m c) (seq t) _ _ _ (zs_eq m c t) (up_eq m c t) (bias_eq m c t))
      pay87_apply l j).trans ?_
    refine MixState.closed (A0 m c) (A26 m c) (A27 m c) (A29 m c) (seq t) _ _ j ⟨128 + l.val, by have := l.isLt; omega⟩ (Fin.ext ?_) _ _ _ _
      (fun r => MixState.la_eq (A0 m c) (A26 m c) (A27 m c) (seq t) _ _ _ (zs_eq m c t) (up_eq m c t) (bias_eq m c t) r _)
      (fun r => MixState.kd_eq (A0 m c) (A26 m c) (A27 m c) (seq t) _ _ _ (zs_eq m c t) (up_eq m c t) (bias_eq m c t) _ _
        (mc_eq m c t) (kk_eq m c t) r _)
      (fun r => v_select m c t 1 l j r _ _ ?_ ?_) ?_
    · show 128 + l.val = (1 * 2 + l.val / 64) * 64 + l.val % 64
      omega
    · refine (pay92_apply _ r j).trans ((v_eq m c t 768 (by decide) _ r j).trans ?_)
      exact congrArg (fun z => A0 m c (ix2 (row (seq t) r) z)) (Fin.ext (by show 768 + j.val = 512 + (1 * 2 * 128 + j.val); omega))
    · refine (pay93_apply _ r j).trans ((v_eq m c t 896 (by decide) _ r j).trans ?_)
      exact congrArg (fun z => A0 m c (ix2 (row (seq t) r) z)) (Fin.ext (by show 896 + j.val = 512 + ((1 * 2 + 1) * 128 + j.val); omega))
    · exact (pay95_apply _ l j).trans ((first _ _ 1 (by decide) _ l j).trans (s0_eq m c t 1 l j))

end

end Cert.MixValue

end
-- ==== Proof.MixClaim.lean ====
/-
  The mixers: the shift's row, the convolution's rows and the gated state that they leave for the next call are the reference's.
-/
module

public import proofs.«01_k».proof.Defs
public import proofs.«01_k».proof.Proof.MixValue
public import proofs.«01_k».proof.Proof.Gen.MixRefIdeal.Run
public import Idealize.ShloMosaic.Lib.Quiescent

@[expose] public section

set_option maxRecDepth 16384

noncomputable section

namespace Cert.MixValue

open Idealize.ShloMosaic
open Cert.MixIdeal Cert.MixIdeal.Gen Cert.MixHost

variable (m : (ℓ : Loc nD τ sig) → Buf (Elt Ideal) ℓ)

/-- Where the three results' blocks lie, decided over the grid. -/
theorem out_facts : ∀ t : Fin grid0.N,
    (win0_40.index t (0 : Fin 3) = t.val ∧ win0_40.index t (1 : Fin 3) = 0 ∧ win0_40.index t (2 : Fin 3) = 0)
    ∧ (win0_43.index t (0 : Fin 3) = t.val ∧ win0_43.index t (1 : Fin 3) = 0 ∧ win0_43.index t (2 : Fin 3) = 0)
    ∧ (win0_46.index t (0 : Fin 4) = t.val ∧ win0_46.index t (1 : Fin 4) = 0 ∧ win0_46.index t (2 : Fin 4) = 0
      ∧ win0_46.index t (3 : Fin 4) = 0) := by
  decide +kernel

/-- The three results as functions of the arguments. -/
def shiftRow (c : Dev nD) : Vec Ideal S8x1x2560 .f32 := fun i => A2 m c (ix2 (row (i 0) 15) (i 2))
def convRow (d : Fin 3) : Fin 16 := ⟨13 + d.val, by have := d.isLt; omega⟩
def convCol (n : Fin 2304) : Fin 3072 := ⟨n.val, by have := n.isLt; omega⟩
def convRows (c : Dev nD) : Vec Ideal S8x3x2304 .f32 := fun i => A1 m c (ix2 (row (i 0) (convRow (i 1))) (convCol (i 2)))
def head (p : Fin 2) (l : Fin 128) : Fin 4 := ⟨p.val * 2 + l.val / 64, by have := p.isLt; have := l.isLt; omega⟩
def lane (l : Fin 128) : Fin 64 := ⟨l.val % 64, Nat.mod_lt _ (by decide)⟩
def gatedOf (x0 : Vec Ideal S128x1664 .f32) (x26 : Vec Ideal S16x256 .f32) (x27 : Vec Ideal S256 .f32)
    (x29 : Vec Ideal S8x4x64x128 .f32) : Vec Ideal S8x2x128x128 .f32 := fun i =>
  MixRef.gstate x0 x26 x27 x29 (i 0) (head (i 1) (i 2)) (lane (i 2)) (i 3) 16
def gatedState (c : Dev nD) : Vec Ideal S8x2x128x128 .f32 := gatedOf (A0 m c) (A26 m c) (A27 m c) (A29 m c)

theorem gatedOf_congr {x0 y0 : Vec Ideal S128x1664 .f32} {x26 y26 : Vec Ideal S16x256 .f32} {x27 y27 : Vec Ideal S256 .f32}
    {x29 y29 : Vec Ideal S8x4x64x128 .f32} (h0 : x0 = y0) (h26 : x26 = y26) (h27 : x27 = y27) (h29 : x29 = y29) :
    gatedOf x0 x26 x27 x29 = gatedOf y0 y26 y27 y29 := by
  rw [h0, h26, h27, h29]

theorem final40 (c : Dev nD) : (dats m 0 c).arrAt 40 cfg0.N = shiftRow m c := by
  refine (dats m 0 c).arrAt_eq_of_covers 40 _ (by decide +kernel) fun t hf y => ?_
  have hi := (out_facts t).1
  blk_simp
  rw [after0_40]
  obtain ⟨n, rfl⟩ : ∃ (n : Fin 2560), y = ix3 (0 : Fin 1) (0 : Fin 1) n :=
    ⟨y 2, funext fun a => match a with | ⟨0, _⟩ => Subsingleton.elim (α := Fin 1) _ _ | ⟨1, _⟩ => Subsingleton.elim (α := Fin 1) _ _ | ⟨2, _⟩ => rfl⟩
  refine (left40_apply m c t n).trans ?_
  have e0 : ((((cfg0.win 40).blk t).view.emb (ix3 0 0 n)) 0 : Fin 8) = seq t := Fin.ext (by
    show win0_40.index t 0 * 1 + 1 * 0 = t.val; rw [hi.1]; omega)
  have e2 : ((((cfg0.win 40).blk t).view.emb (ix3 0 0 n)) 2 : Fin 2560) = n := Fin.ext (by
    show win0_40.index t 2 * 2560 + 1 * n.val = n.val; rw [hi.2.2]; omega)
  unfold shiftRow
  rw [e0, e2]

theorem final43 (c : Dev nD) : (dats m 0 c).arrAt 43 cfg0.N = convRows m c := by
  refine (dats m 0 c).arrAt_eq_of_covers 43 _ (by decide +kernel) fun t hf y => ?_
  have hi := (out_facts t).2.1
  blk_simp
  rw [after0_43]
  obtain ⟨d, n, rfl⟩ : ∃ (d : Fin 3) (n : Fin 2304), y = ix3 (0 : Fin 1) d n :=
    ⟨y 1, y 2, funext fun a => match a with | ⟨0, _⟩ => Subsingleton.elim (α := Fin 1) _ _ | ⟨1, _⟩ => rfl | ⟨2, _⟩ => rfl⟩
  refine (left43_apply m c t d n).trans ?_
  have e0 : ((((cfg0.win 43).blk t).view.emb (ix3 0 d n)) 0 : Fin 8) = seq t := Fin.ext (by
    show win0_43.index t 0 * 1 + 1 * 0 = t.val; rw [hi.1]; omega)
  have e1 : ((((cfg0.win 43).blk t).view.emb (ix3 0 d n)) 1 : Fin 3) = d := Fin.ext (by
    show win0_43.index t 1 * 3 + 1 * d.val = d.val; rw [hi.2.1]; omega)
  have e2 : ((((cfg0.win 43).blk t).view.emb (ix3 0 d n)) 2 : Fin 2304) = n := Fin.ext (by
    show win0_43.index t 2 * 2304 + 1 * n.val = n.val; rw [hi.2.2]; omega)
  unfold convRows
  rw [e0, e1, e2]
  rfl

theorem final46 (c : Dev nD) : (dats m 0 c).arrAt 46 cfg0.N = gatedState m c := by
  refine (dats m 0 c).arrAt_eq_of_covers 46 _ (by decide +kernel) fun t hf y => ?_
  have hi := (out_facts t).2.2
  blk_simp
  rw [after0_46]
  obtain ⟨p, l, j, rfl⟩ : ∃ (p : Fin 2) (l j : Fin 128), y = ix4 (0 : Fin 1) p l j :=
    ⟨y 1, y 2, y 3, funext fun a => match a with | ⟨0, _⟩ => Subsingleton.elim (α := Fin 1) _ _ | ⟨1, _⟩ => rfl | ⟨2, _⟩ => rfl | ⟨3, _⟩ => rfl⟩
  refine (left46_apply m c t p l j).trans ?_
  have e0 : ((((cfg0.win 46).blk t).view.emb (ix4 0 p l j)) 0 : Fin 8) = seq t := Fin.ext (by
    show win0_46.index t 0 * 1 + 1 * 0 = t.val; rw [hi.1]; omega)
  have e1 : ((((cfg0.win 46).blk t).view.emb (ix4 0 p l j)) 1 : Fin 2) = p := Fin.ext (by
    show win0_46.index t 1 * 2 + 1 * p.val = p.val; rw [hi.2.1]; omega)
  have e2 : ((((cfg0.win 46).blk t).view.emb (ix4 0 p l j)) 2 : Fin 128) = l := Fin.ext (by
    show win0_46.index t 2 * 128 + 1 * l.val = l.val; rw [hi.2.2.1]; omega)
  have e3 : ((((cfg0.win 46).blk t).view.emb (ix4 0 p l j)) 3 : Fin 128) = j := Fin.ext (by
    show win0_46.index t 3 * 128 + 1 * j.val = j.val; rw [hi.2.2.2]; omega)
  unfold gatedState gatedOf
  rw [e0, e1, e2, e3]
  rfl

/-- The kernel's run leaves those three results. -/
theorem results (ρ : Dev nD → PrngReg) :
    θ_run defs (onTc (τ := τ) (main (F := Ideal))) ⟨m, fun _ => 0, ρ⟩ (fun r => ∀ c : Dev nD,
      r.2.mem ((c.tc : Thread nD τ).loc main_v42_1) = shiftRow m c
      ∧ r.2.mem ((c.tc : Thread nD τ).loc main_v42_4) = convRows m c
      ∧ r.2.mem ((c.tc : Thread nD τ).loc main_v42_7) = gatedState m c) :=
  (θ_run defs _ _).mono (fun _ h c =>
    ⟨(((dats m 0 c).toRForget_arrAt_iff (fgt := forgets0) (w := 40) rfl _ _).mp ((h c).1 40)).trans (final40 m c),
      (((dats m 0 c).toRForget_arrAt_iff (fgt := forgets0) (w := 43) rfl _ _).mp ((h c).1 43)).trans (final43 m c),
      (((dats m 0 c).toRForget_arrAt_iff (fgt := forgets0) (w := 46) rfl _ _).mp ((h c).1 46)).trans (final46 m c)⟩)
    (run_main (F := Ideal) m ρ)

/-- The reference's three results, on any arrays. -/
theorem ref_shift (x2 : Vec Ideal S128x2560 .f32) :
    (Cert.MixRefIdeal.Read.val_main_v3 (F := Ideal) x2 : Vec Ideal S8x1x2560 .f32) = fun i => x2 (ix2 (row (i 0) 15) (i 2)) := by
  funext i
  obtain ⟨b, n, rfl⟩ : ∃ (b : Fin 8) (n : Fin 2560), i = ix3 b (0 : Fin 1) n :=
    ⟨i 0, i 2, funext fun a => match a with | ⟨0, _⟩ => rfl | ⟨1, _⟩ => Subsingleton.elim (α := Fin 1) _ _ | ⟨2, _⟩ => rfl⟩
  exact MixRef.ref_r x2 b n

theorem ref_conv (x1 : Vec Ideal S128x3072 .f32) (x24 : Vec Ideal S8x3x2304 .f32) :
    (Cert.MixRefIdeal.Read.val_main_v5 (F := Ideal) x1 x24 : Vec Ideal S8x3x2304 .f32)
      = fun i => x1 (ix2 (row (i 0) (convRow (i 1))) (convCol (i 2))) := by
  funext i
  obtain ⟨b, d, n, rfl⟩ : ∃ (b : Fin 8) (d : Fin 3) (n : Fin 2304), i = ix3 b d n :=
    ⟨i 0, i 1, i 2, funext fun a => match a with | ⟨0, _⟩ => rfl | ⟨1, _⟩ => rfl | ⟨2, _⟩ => rfl⟩
  exact MixRef.ref_g x1 x24 b d n

theorem ref_state (x0 : Vec Ideal S128x1664 .f32) (x26 : Vec Ideal S16x256 .f32) (x27 : Vec Ideal S256 .f32)
    (x29 : Vec Ideal S8x4x64x128 .f32) :
    (Cert.MixRefIdeal.Read.val_main_v275 (F := Ideal) x0 x26 x27 x29 : Vec Ideal S8x2x128x128 .f32)
      = gatedOf x0 x26 x27 x29 := by
  funext i
  obtain ⟨b, p, e, r, j, rfl⟩ : ∃ (b : Fin 8) (p e : Fin 2) (r : Fin 64) (j : Fin 128),
      i = ix4 b p (⟨e.val * 64 + r.val, by have := e.isLt; have := r.isLt; omega⟩ : Fin 128) j := by
    have h2 : (i 2).val < 128 := (i 2).isLt
    refine ⟨i 0, i 1, ⟨(i 2).val / 64, by omega⟩, ⟨(i 2).val % 64, by omega⟩, i 3, funext fun a => ?_⟩
    match a with
    | ⟨0, _⟩ => rfl
    | ⟨1, _⟩ => rfl
    | ⟨2, _⟩ => exact Fin.ext (by show (i 2).val = (i 2).val / 64 * 64 + (i 2).val % 64; omega)
    | ⟨3, _⟩ => rfl
  refine (MixRef.ref_s x0 x26 x27 x29 b p e r j).trans ?_
  have hh : (⟨p.val * 2 + e.val, by have := e.isLt; have := p.isLt; omega⟩ : Fin 4)
      = head p ⟨e.val * 64 + r.val, by have := e.isLt; have := r.isLt; omega⟩ := Fin.ext (by
    show p.val * 2 + e.val = p.val * 2 + (e.val * 64 + r.val) / 64
    have := r.isLt; omega)
  have hl : r = lane ⟨e.val * 64 + r.val, by have := e.isLt; have := r.isLt; omega⟩ := Fin.ext (by
    show r.val = (e.val * 64 + r.val) % 64
    have := r.isLt; omega)
  exact congrArg₂ (fun h i => MixRef.gstate x0 x26 x27 x29 b h i j 16) hh hl

/-- The reference runs to the end and leaves its arguments and its counters as they were. -/
theorem ref_frame : Cert.quiescent_MixRefIdeal (hMixRefIdeal := Cert.MixRefIdeal.Gen.facts) := fun m ρ _ =>
  (θ_run Cert.MixRefIdeal.defs _ _).mono
    (fun r h => ⟨fun c => (by obtain rfl : c = 0 := Subsingleton.elim _ _; exact (h 0).2.2.2), sem_eq_zero_of_no_sems (by decide) r.2⟩)
    (Cert.MixRefIdeal.Value.run (F := Ideal) m ρ)

set_option maxHeartbeats 2000000 in
/-- Over the extended reals the kernel computes the reference's three results. -/
theorem algebraic : Cert.algebraic_MixIdeal_MixRefIdeal (hMixIdeal := Cert.MixIdeal.Gen.facts)
    (hMixRefIdeal := Cert.MixRefIdeal.Gen.facts) := by
  intro m g m' g' _ hagree
  refine ⟨shiftRow m, convRows m, gatedState m,
    (θ_run defs _ _).mono (fun _ h c => ⟨(h.1 c).1, (h.1 c).2.1, (h.1 c).2.2, h.2 c⟩) (θ_run_and (results m g) (unchanged (F := Ideal) m g)),
    (θ_run Cert.MixRefIdeal.defs _ _).mono (fun _ h c => ⟨(h c).1.trans ?_, (h c).2.1.trans ?_, (h c).2.2.1.trans ?_, (h c).2.2.2⟩)
      (Cert.MixRefIdeal.Value.run (F := Ideal) m' g')⟩
  · have h2 := (hagree c).2.2.1
    refine (Cert.MixRefIdeal.Read.val_main_v3_eq (StableHlo.launchContents m' c)).trans ((ref_shift _).trans ?_)
    exact congrArg (fun x : Vec Ideal S128x2560 .f32 => (fun i => x (ix2 (row (i 0) 15) (i 2)) : Vec Ideal S8x1x2560 .f32)) h2
  · have h1 := (hagree c).2.1
    refine (Cert.MixRefIdeal.Read.val_main_v5_eq (StableHlo.launchContents m' c)).trans ((ref_conv _ _).trans ?_)
    exact congrArg (fun x : Vec Ideal S128x3072 .f32 => (fun i => x (ix2 (row (i 0) (convRow (i 1))) (convCol (i 2))) : Vec Ideal S8x3x2304 .f32)) h1
  · obtain ⟨h0, -, -, -, -, -, -, -, -, -, -, -, -, -, -, -, -, -, -, -, -, -, -, -, -, -, h26, h27, -, h29⟩ := hagree c
    refine (Cert.MixRefIdeal.Read.val_main_v275_eq (StableHlo.launchContents m' c)).trans ((ref_state _ _ _ _).trans ?_)
    exact gatedOf_congr h0 h26 h27 h29

end Cert.MixValue

end
-- ==== Proof.NormValue.lean ====
/-
  The first normalisation: what one grid point holds, and the kernel's result as the normalised rows of the whole array.
-/
module

public import proofs.«01_k».proof.Proof.Gen.NormIdeal.Value
public import Idealize.ShloMosaic.Lib.Pointwise
public import Idealize.ShloMosaic.Lib.Pipeline.ValueKit

@[expose] public section

set_option maxRecDepth 16384

noncomputable section

namespace Cert.NormValue

open Cert.NormIdeal Cert.NormIdeal.Gen Idealize.ShloMosaic Idealize.ShloMosaic.TcCoe Idealize.SL.Sem
open scoped BigOperators

variable (m : (ℓ : Loc nD τ sig) → Buf (Elt Ideal) ℓ)

/-- The program's arguments as arrays of extended reals. -/
abbrev A0 (c : Dev nD) : Vec Ideal S32768x2048 .f32 := m ((c : Thread nD τ).loc main_arg0)
abbrev A1 (c : Dev nD) : Vec Ideal S2048 .f32 := m ((c : Thread nD τ).loc main_arg1)

/-- A row divided by the root of its mean square, times `g`. -/
def normed (x : Vec Ideal S32768x2048 .f32) (g : Vec Ideal S2048 .f32) (R : Fin 32768) (l : Fin 2048) : EReal :=
  x (ix2 R l) * Ideal.rsqrt (Ideal.div (∑ k : Fin 2048, x (ix2 R k) * x (ix2 R k)) (Ideal.ofBits .f32 0x45000000#32)
    + Ideal.ofBits .f32 0x358637BD#32) * g (ix1 l)

/-- The scale the region finds: one row. -/
theorem V_g (c : Dev nD) : V m c main_v0 = shapeCast S1x2048 (A1 m c) shapeCasts_S2048_S1x2048 := by
  simp only [V, hostOps0]; after_results_simp <;> rfl

/-- Where each window's block lies, decided over the grid. -/
theorem index_facts : ∀ t : Fin grid0.N,
    (win0_0.index t (0 : Fin 2) = t.val ∧ win0_0.index t (1 : Fin 2) = 0)
    ∧ (win0_1.index t (0 : Fin 2) = 0 ∧ win0_1.index t (1 : Fin 2) = 0)
    ∧ (win0_2.index t (0 : Fin 2) = t.val ∧ win0_2.index t (1 : Fin 2) = 0) := by
  decide +kernel

/-- Row `r` of the 512 rows of point `t`. -/
abbrev row (t : Fin cfg0.N) (r : Fin 512) : Fin 32768 :=
  ⟨512 * t.val + r.val, by have := r.isLt; have h := lt_of_lt_of_eq t.isLt (show cfg0.N = 64 from N_0); omega⟩

theorem iblk0 (c : Dev nD) (t : Fin cfg0.N) (r : Fin 512) (l : Fin 2048) :
    (iblk m c 0 t : Vec Ideal S512x2048 .f32) (ix2 r l) = A0 m c (ix2 (row t r) l) := by
  have hi := (index_facts t).1
  unfold iblk
  rw [View.read_apply]
  show V m c main_arg0 _ = _
  rw [V_main_arg0]
  congr 1
  funext a
  apply Fin.ext
  match a with
  | ⟨0, _⟩ => show win0_0.index t 0 * 512 + 1 * r.val = 512 * t.val + r.val; rw [hi.1]; omega
  | ⟨1, _⟩ => show win0_0.index t 1 * 2048 + 1 * l.val = l.val; rw [hi.2]; omega

theorem iblk1 (c : Dev nD) (t : Fin cfg0.N) (l : Fin 2048) :
    (iblk m c 1 t : Vec Ideal S1x2048 .f32) (ix2 0 l) = A1 m c (ix1 l) := by
  have hi := (index_facts t).2.1
  unfold iblk
  rw [View.read_apply]
  show V m c main_v0 _ = _
  rw [V_g]
  have e : ((cfg0.win 1).blk t).view.emb (ix2 0 l) = (ix2 0 l : S1x2048.Idx) := funext fun a => Fin.ext (match a with
    | ⟨0, _⟩ => by show win0_1.index t 0 * 1 + 1 * 0 = 0; rw [hi.1]
    | ⟨1, _⟩ => by show win0_1.index t 1 * 2048 + 1 * l.val = l.val; rw [hi.2]; omega)
  rw [e]
  pointwise

/-- The body at an index. -/
theorem pay_apply (x : Vec Ideal S512x2048 .f32) (g : Vec Ideal S1x2048 .f32) (r : Fin 512) (l : Fin 2048) :
    k0_pay1 x g (ix2 r l) = x (ix2 r l) * Ideal.rsqrt (Ideal.div (∑ k : Fin 2048, x (ix2 r k) * x (ix2 r k))
      (Ideal.ofBits .f32 0x45000000#32) + Ideal.ofBits .f32 0x358637BD#32) * g (ix2 0 l) := by
  pointwise [k0_pay1]

/-- The kernel's result array holds the normalised rows. -/
theorem final (c : Dev nD) : (dats m 0 c).arrAt 2 cfg0.N = fun i => normed (A0 m c) (A1 m c) (i 0) (i 1) := by
  refine (dats m 0 c).arrAt_eq_of_covers 2 _ (by decide +kernel) fun t hf y => ?_
  have hi := (index_facts t).2.2
  blk_simp
  rw [after0_2]
  frame_out
  obtain ⟨r, l, rfl⟩ : ∃ (r : Fin 512) (l : Fin 2048), y = ix2 r l :=
    ⟨y 0, y 1, funext fun a => match a with | ⟨0, _⟩ => rfl | ⟨1, _⟩ => rfl⟩
  have e0 : ((((cfg0.win 2).blk t).view.emb (ix2 r l)) 0 : Fin 32768) = row t r := Fin.ext (by
    show win0_2.index t 0 * 512 + 1 * r.val = 512 * t.val + r.val; rw [hi.1]; omega)
  have e1 : ((((cfg0.win 2).blk t).view.emb (ix2 r l)) 1 : Fin 2048) = l := Fin.ext (by
    show win0_2.index t 1 * 2048 + 1 * l.val = l.val; rw [hi.2]; omega)
  refine Eq.trans ?_ (congrArg₂ (normed (A0 m c) (A1 m c)) e0 e1).symm
  refine (pay_apply _ _ r l).trans ?_
  have h := iblk0 m c t r
  unfold normed
  refine congrArg₂ (· * ·) (congrArg₂ (· * ·) (h l) (congrArg (fun s => Ideal.rsqrt (Ideal.div s _ + _)) ?_)) (iblk1 m c t l)
  exact Finset.sum_congr rfl fun k _ => congrArg₂ (· * ·) (h k) (h k)

end Cert.NormValue
-- ==== Proof.NormClaim.lean ====
/-
  The first normalisation: the kernel's result is the reference's, and the reference leaves its arguments alone.
-/
module

public import proofs.«01_k».proof.Defs
public import proofs.«01_k».proof.Proof.NormValue
public import proofs.«01_k».proof.Proof.Gen.NormRefIdeal.Run
public import proofs.«01_k».proof.Proof.Gen.NormRefIdeal.Read
public import Idealize.ShloMosaic.Lib.Quiescent

@[expose] public section

set_option maxRecDepth 16384

noncomputable section

namespace Cert.NormValue

open Idealize.ShloMosaic
open Cert.NormIdeal Cert.NormIdeal.Gen
open Cert.NormRefIdeal.Read

/-- The reference runs to the end and leaves its arguments and its counters as they were. -/
theorem ref_frame : Cert.quiescent_NormRefIdeal (hNormRefIdeal := Cert.NormRefIdeal.Gen.facts) := fun m ρ _ =>
  (θ_run Cert.NormRefIdeal.defs _ _).mono
    (fun r h => ⟨fun c => (by obtain rfl : c = 0 := Subsingleton.elim _ _; exact (h 0).2), sem_eq_zero_of_no_sems (by decide) r.2⟩)
    (Cert.NormRefIdeal.Value.run (F := Ideal) m ρ)

/-- The reference's result is the normalised row. -/
theorem ref_apply (x : Vec Ideal S32768x2048 .f32) (g : Vec Ideal S2048 .f32) (R : Fin 32768) (l : Fin 2048) :
    val_main_v13 (F := Ideal) x g (ix2 R l) = normed x g R l := by
  simp only [val_main_v13, val_main_v12, val_main_v11, val_main_v10, val_main_v9, val_main_v8, val_main_v7, val_main_v6,
    val_main_v5, val_main_v4, val_main_v3, val_main_v2, val_main_v1, val_main_v0, val_main_cst, val_main_cst_0, val_main_cst_1]
  pointwise
  unfold normed
  try simp only [zero_add]

/-- Over the extended reals the kernel computes the reference. -/
theorem algebraic : Cert.algebraic_NormIdeal_NormRefIdeal (hNormIdeal := Cert.NormIdeal.Gen.facts)
    (hNormRefIdeal := Cert.NormRefIdeal.Gen.facts) := by
  intro m g m' g' _ hagree
  refine ⟨fun c i => normed (A0 m c) (A1 m c) (i 0) (i 1),
    (θ_run defs _ _).mono (fun _ h c => ⟨(h c).1.trans (final m c), (h c).2⟩) (Value.run_blocks (F := Ideal) m g),
    (θ_run Cert.NormRefIdeal.defs _ _).mono (fun _ h c => ⟨(h c).1.trans ?_, (h c).2⟩)
      (Cert.NormRefIdeal.Value.run (F := Ideal) m' g')⟩
  obtain ⟨h0, h1⟩ := hagree c
  rw [h0, h1]
  refine (val_main_v13_eq _ _).trans (funext fun j => ?_)
  obtain ⟨R, l, rfl⟩ : ∃ (R : Fin 32768) (l : Fin 2048), j = ix2 R l :=
    ⟨j 0, j 1, funext fun a => match a with | ⟨0, _⟩ => rfl | ⟨1, _⟩ => rfl⟩
  exact ref_apply _ _ R l

end Cert.NormValue
-- ==== Proof.lean ====
/-
  The proof of `Cert.Claim`: for each call its frames, and that over the extended reals it computes its reference.
-/
module

public import proofs.«01_k».proof.Defs
public import proofs.«01_k».proof.Proof.Gen.Ffn
public import proofs.«01_k».proof.Proof.Gen.Ffn.Frame
public import proofs.«01_k».proof.Proof.Gen.FfnIdeal
public import proofs.«01_k».proof.Proof.Gen.FfnIdeal.Frame
public import proofs.«01_k».proof.Proof.Gen.FfnIdeal.Value
public import proofs.«01_k».proof.Proof.Gen.FfnRefIdeal
public import proofs.«01_k».proof.Proof.Gen.FfnRefIdeal.Run
public import proofs.«01_k».proof.Proof.Gen.FfnRefIdeal.Read
public import proofs.«01_k».proof.Proof.Gen.Last
public import proofs.«01_k».proof.Proof.Gen.Last.Frame
public import proofs.«01_k».proof.Proof.Gen.LastIdeal
public import proofs.«01_k».proof.Proof.Gen.LastIdeal.Frame
public import proofs.«01_k».proof.Proof.Gen.LastIdeal.Value
public import proofs.«01_k».proof.Proof.Gen.LastRefIdeal
public import proofs.«01_k».proof.Proof.Gen.LastRefIdeal.Run
public import proofs.«01_k».proof.Proof.Gen.LastRefIdeal.Read
public import proofs.«01_k».proof.Proof.Gen.Out
public import proofs.«01_k».proof.Proof.Gen.Out.Frame
public import proofs.«01_k».proof.Proof.Gen.OutIdeal
public import proofs.«01_k».proof.Proof.Gen.OutIdeal.Frame
public import proofs.«01_k».proof.Proof.Gen.OutIdeal.Value
public import proofs.«01_k».proof.Proof.Gen.OutRefIdeal
public import proofs.«01_k».proof.Proof.Gen.OutRefIdeal.Run
public import proofs.«01_k».proof.Proof.Gen.OutRefIdeal.Read
public import proofs.«01_k».proof.Proof.Gen.GlaProj
public import proofs.«01_k».proof.Proof.Gen.GlaProj.Frame
public import proofs.«01_k».proof.Proof.Gen.GlaProjIdeal
public import proofs.«01_k».proof.Proof.Gen.GlaProjIdeal.Frame
public import proofs.«01_k».proof.Proof.Gen.GlaProjIdeal.Value
public import proofs.«01_k».proof.Proof.Gen.GlaProjRefIdeal
public import proofs.«01_k».proof.Proof.Gen.GlaProjRefIdeal.Run
public import proofs.«01_k».proof.Proof.Gen.GlaProjRefIdeal.Read
public import proofs.«01_k».proof.Proof.Gen.GdnProj
public import proofs.«01_k».proof.Proof.Gen.GdnProj.Frame
public import proofs.«01_k».proof.Proof.Gen.GdnProjIdeal
public import proofs.«01_k».proof.Proof.Gen.GdnProjIdeal.Frame
public import proofs.«01_k».proof.Proof.Gen.GdnProjIdeal.Value
public import proofs.«01_k».proof.Proof.Gen.GdnProjRefIdeal
public import proofs.«01_k».proof.Proof.Gen.GdnProjRefIdeal.Run
public import proofs.«01_k».proof.Proof.Gen.GdnProjRefIdeal.Read
public import proofs.«01_k».proof.Proof.Gen.RwProj
public import proofs.«01_k».proof.Proof.Gen.RwProj.Frame
public import proofs.«01_k».proof.Proof.Gen.RwProjIdeal
public import proofs.«01_k».proof.Proof.Gen.RwProjIdeal.Frame
public import proofs.«01_k».proof.Proof.Gen.RwProjIdeal.Value
public import proofs.«01_k».proof.Proof.Gen.RwProjRefIdeal
public import proofs.«01_k».proof.Proof.Gen.RwProjRefIdeal.Run
public import proofs.«01_k».proof.Proof.Gen.RwProjRefIdeal.Read
public import proofs.«01_k».proof.Proof.Gen.Mix
public import proofs.«01_k».proof.Proof.MixFrame
public import proofs.«01_k».proof.Proof.Gen.MixIdeal
public import proofs.«01_k».proof.Proof.MixIdealFrame
public import proofs.«01_k».proof.Proof.Gen.MixRefIdeal
public import proofs.«01_k».proof.Proof.Gen.MixRefIdeal.Run
public import proofs.«01_k».proof.Proof.Gen.MixRefIdeal.Read
public import proofs.«01_k».proof.Proof.Gen.Norm
public import proofs.«01_k».proof.Proof.Gen.Norm.Frame
public import proofs.«01_k».proof.Proof.Gen.NormIdeal
public import proofs.«01_k».proof.Proof.Gen.NormIdeal.Frame
public import proofs.«01_k».proof.Proof.Gen.NormIdeal.Value
public import proofs.«01_k».proof.Proof.Gen.NormRefIdeal
public import proofs.«01_k».proof.Proof.Gen.NormRefIdeal.Run
public import proofs.«01_k».proof.Proof.Gen.NormRefIdeal.Read
public import proofs.«01_k».proof.Proof.FfnClaim
public import proofs.«01_k».proof.Proof.LastClaim
public import proofs.«01_k».proof.Proof.OutClaim
public import proofs.«01_k».proof.Proof.GlaProjClaim
public import proofs.«01_k».proof.Proof.GdnProjClaim
public import proofs.«01_k».proof.Proof.RwProjClaim
public import proofs.«01_k».proof.Proof.MixClaim
public import proofs.«01_k».proof.Proof.NormClaim

@[expose] public section

noncomputable section

namespace Cert.Proof

open Idealize.ShloMosaic

theorem claim : Cert.Claim := ⟨
  Cert.Ffn.Gen.facts,
  Cert.FfnIdeal.Gen.facts,
  Cert.FfnRefIdeal.Gen.facts,
  Cert.Last.Gen.facts,
  Cert.LastIdeal.Gen.facts,
  Cert.LastRefIdeal.Gen.facts,
  Cert.Out.Gen.facts,
  Cert.OutIdeal.Gen.facts,
  Cert.OutRefIdeal.Gen.facts,
  Cert.GlaProj.Gen.facts,
  Cert.GlaProjIdeal.Gen.facts,
  Cert.GlaProjRefIdeal.Gen.facts,
  Cert.GdnProj.Gen.facts,
  Cert.GdnProjIdeal.Gen.facts,
  Cert.GdnProjRefIdeal.Gen.facts,
  Cert.RwProj.Gen.facts,
  Cert.RwProjIdeal.Gen.facts,
  Cert.RwProjRefIdeal.Gen.facts,
  Cert.Mix.Gen.facts,
  Cert.MixIdeal.Gen.facts,
  Cert.MixRefIdeal.Gen.facts,
  Cert.Norm.Gen.facts,
  Cert.NormIdeal.Gen.facts,
  Cert.NormRefIdeal.Gen.facts,
  fun m ρ _ => Cert.Ffn.Gen.frame m ρ,
  fun m ρ _ => Cert.FfnIdeal.Gen.frame m ρ,
  Cert.FfnValue.ref_frame,
  fun m ρ _ => Cert.Last.Gen.frame m ρ,
  fun m ρ _ => Cert.LastIdeal.Gen.frame m ρ,
  Cert.LastValue.ref_frame,
  fun m ρ _ => Cert.Out.Gen.frame m ρ,
  fun m ρ _ => Cert.OutIdeal.Gen.frame m ρ,
  Cert.OutValue.ref_frame,
  fun m ρ _ => Cert.GlaProj.Gen.frame m ρ,
  fun m ρ _ => Cert.GlaProjIdeal.Gen.frame m ρ,
  Cert.GlaProjValue.ref_frame,
  fun m ρ _ => Cert.GdnProj.Gen.frame m ρ,
  fun m ρ _ => Cert.GdnProjIdeal.Gen.frame m ρ,
  Cert.GdnProjValue.ref_frame,
  fun m ρ _ => Cert.RwProj.Gen.frame m ρ,
  fun m ρ _ => Cert.RwProjIdeal.Gen.frame m ρ,
  Cert.RwProjValue.ref_frame,
  fun m ρ _ => Cert.Mix.Gen.frame m ρ,
  fun m ρ _ => Cert.MixIdeal.Gen.frame m ρ,
  Cert.MixValue.ref_frame,
  fun m ρ _ => Cert.Norm.Gen.frame m ρ,
  fun m ρ _ => Cert.NormIdeal.Gen.frame m ρ,
  Cert.NormValue.ref_frame,
  trivial,
  Cert.FfnValue.algebraic,
  trivial,
  Cert.LastValue.algebraic,
  trivial,
  Cert.OutValue.algebraic,
  trivial,
  Cert.GlaProjValue.algebraic,
  trivial,
  Cert.GdnProjValue.algebraic,
  trivial,
  Cert.RwProjValue.algebraic,
  trivial,
  Cert.MixValue.algebraic,
  trivial,
  Cert.NormValue.algebraic⟩

end Cert.Proof

end
